-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MoeDown [hPre_down_tiles : Cert.Pre_down_tiles.Facts] (m : (ℓ : Loc Cert.MoeDown.nD Cert.MoeDown.τ Cert.MoeDown.sig) → Buf (Elt Bits) ℓ) : Prop :=
  ∀ c : Dev Cert.MoeDown.nD,
    (Cert.Pre_down_tiles.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).1 = (fun _ => 1#1)
    ∧ (Cert.Pre_down_tiles.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.1 = (fun _ => 1#1)
    ∧ (Cert.Pre_down_tiles.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.1 = (fun _ => 1#1)
    ∧ (Cert.Pre_down_tiles.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.2.1 = (fun _ => 1#1)
    ∧ (Cert.Pre_down_tiles.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.2.2.1 = (fun _ => 1#1)
    ∧ (Cert.Pre_down_tiles.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.2.2.2.1 = (fun _ => 1#1)
    ∧ (Cert.Pre_down_tiles.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5))).2.2.2.2.2.2 = (fun _ => 1#1)

def Pre_MoeDownIdeal [hPre_down_tiles : Cert.Pre_down_tiles.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_down_tiles.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).1 = (fun _ => 1#1)
    ∧ (Cert.Pre_down_tiles.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.1 = (fun _ => 1#1)
    ∧ (Cert.Pre_down_tiles.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.1 = (fun _ => 1#1)
    ∧ (Cert.Pre_down_tiles.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.2.1 = (fun _ => 1#1)
    ∧ (Cert.Pre_down_tiles.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.2.2.1 = (fun _ => 1#1)
    ∧ (Cert.Pre_down_tiles.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.2.2.2.1 = (fun _ => 1#1)
    ∧ (Cert.Pre_down_tiles.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5))).2.2.2.2.2.2 = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_down_tiles [hPre_down_tiles : Cert.Pre_down_tiles.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_down_tiles.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).1 = (fun _ => 1#1)
    ∧ (Cert.Pre_down_tiles.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.1 = (fun _ => 1#1)
    ∧ (Cert.Pre_down_tiles.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.1 = (fun _ => 1#1)
    ∧ (Cert.Pre_down_tiles.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.2.1 = (fun _ => 1#1)
    ∧ (Cert.Pre_down_tiles.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.2.2.1 = (fun _ => 1#1)
    ∧ (Cert.Pre_down_tiles.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.2.2.2.1 = (fun _ => 1#1)
    ∧ (Cert.Pre_down_tiles.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3)) (m ((c.tc : Thread Cert.MoeDownRefIdeal.nD Cert.MoeDownRefIdeal.τ).loc Cert.MoeDownRefIdeal.main_arg4)) (m ((c.tc : Thread Cert.MoeDownRefIdeal.nD Cert.MoeDownRefIdeal.τ).loc Cert.MoeDownRefIdeal.main_arg5))).2.2.2.2.2.2 = (fun _ => 1#1)

def Pre_MoeUp [hPre_up_tiles : Cert.Pre_up_tiles.Facts] (m : (ℓ : Loc Cert.MoeUp.nD Cert.MoeUp.τ Cert.MoeUp.sig) → Buf (Elt Bits) ℓ) : Prop :=
  ∀ c : Dev Cert.MoeUp.nD,
    (Cert.Pre_up_tiles.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).1 = (fun _ => 1#1)
    ∧ (Cert.Pre_up_tiles.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.1 = (fun _ => 1#1)
    ∧ (Cert.Pre_up_tiles.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.1 = (fun _ => 1#1)
    ∧ (Cert.Pre_up_tiles.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.1 = (fun _ => 1#1)
    ∧ (Cert.Pre_up_tiles.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.2.1 = (fun _ => 1#1)
    ∧ (Cert.Pre_up_tiles.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.2.2.1 = (fun _ => 1#1)
    ∧ (Cert.Pre_up_tiles.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.2.2.2 = (fun _ => 1#1)

def Pre_MoeUpIdeal [hPre_up_tiles : Cert.Pre_up_tiles.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_up_tiles.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).1 = (fun _ => 1#1)
    ∧ (Cert.Pre_up_tiles.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.1 = (fun _ => 1#1)
    ∧ (Cert.Pre_up_tiles.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.1 = (fun _ => 1#1)
    ∧ (Cert.Pre_up_tiles.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.1 = (fun _ => 1#1)
    ∧ (Cert.Pre_up_tiles.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.2.1 = (fun _ => 1#1)
    ∧ (Cert.Pre_up_tiles.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.2.2.1 = (fun _ => 1#1)
    ∧ (Cert.Pre_up_tiles.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.2.2.2 = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_up_tiles [hPre_up_tiles : Cert.Pre_up_tiles.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_up_tiles.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5)) (m ((c.tc : Thread Cert.MoeUpRefIdeal.nD Cert.MoeUpRefIdeal.τ).loc Cert.MoeUpRefIdeal.main_arg6)) (m ((c.tc : Thread Cert.MoeUpRefIdeal.nD Cert.MoeUpRefIdeal.τ).loc Cert.MoeUpRefIdeal.main_arg7))).1 = (fun _ => 1#1)
    ∧ (Cert.Pre_up_tiles.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5)) (m ((c.tc : Thread Cert.MoeUpRefIdeal.nD Cert.MoeUpRefIdeal.τ).loc Cert.MoeUpRefIdeal.main_arg6)) (m ((c.tc : Thread Cert.MoeUpRefIdeal.nD Cert.MoeUpRefIdeal.τ).loc Cert.MoeUpRefIdeal.main_arg7))).2.1 = (fun _ => 1#1)
    ∧ (Cert.Pre_up_tiles.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5)) (m ((c.tc : Thread Cert.MoeUpRefIdeal.nD Cert.MoeUpRefIdeal.τ).loc Cert.MoeUpRefIdeal.main_arg6)) (m ((c.tc : Thread Cert.MoeUpRefIdeal.nD Cert.MoeUpRefIdeal.τ).loc Cert.MoeUpRefIdeal.main_arg7))).2.2.1 = (fun _ => 1#1)
    ∧ (Cert.Pre_up_tiles.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5)) (m ((c.tc : Thread Cert.MoeUpRefIdeal.nD Cert.MoeUpRefIdeal.τ).loc Cert.MoeUpRefIdeal.main_arg6)) (m ((c.tc : Thread Cert.MoeUpRefIdeal.nD Cert.MoeUpRefIdeal.τ).loc Cert.MoeUpRefIdeal.main_arg7))).2.2.2.1 = (fun _ => 1#1)
    ∧ (Cert.Pre_up_tiles.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5)) (m ((c.tc : Thread Cert.MoeUpRefIdeal.nD Cert.MoeUpRefIdeal.τ).loc Cert.MoeUpRefIdeal.main_arg6)) (m ((c.tc : Thread Cert.MoeUpRefIdeal.nD Cert.MoeUpRefIdeal.τ).loc Cert.MoeUpRefIdeal.main_arg7))).2.2.2.2.1 = (fun _ => 1#1)
    ∧ (Cert.Pre_up_tiles.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5)) (m ((c.tc : Thread Cert.MoeUpRefIdeal.nD Cert.MoeUpRefIdeal.τ).loc Cert.MoeUpRefIdeal.main_arg6)) (m ((c.tc : Thread Cert.MoeUpRefIdeal.nD Cert.MoeUpRefIdeal.τ).loc Cert.MoeUpRefIdeal.main_arg7))).2.2.2.2.2.1 = (fun _ => 1#1)
    ∧ (Cert.Pre_up_tiles.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5)) (m ((c.tc : Thread Cert.MoeUpRefIdeal.nD Cert.MoeUpRefIdeal.τ).loc Cert.MoeUpRefIdeal.main_arg6)) (m ((c.tc : Thread Cert.MoeUpRefIdeal.nD Cert.MoeUpRefIdeal.τ).loc Cert.MoeUpRefIdeal.main_arg7))).2.2.2.2.2.2 = (fun _ => 1#1)

def Pre_InProj2 (m : (ℓ : Loc Cert.InProj2.nD Cert.InProj2.τ Cert.InProj2.sig) → Buf (Elt Bits) ℓ) : Prop :=
  True

def Pre_InProj2Ideal (m : (ℓ : Loc Cert.InProj2Ideal.nD Cert.InProj2Ideal.τ Cert.InProj2Ideal.sig) → Buf (Elt Ideal) ℓ) : Prop :=
  True

def Pre_InProj2RefIdeal (m : (ℓ : Loc Cert.InProj2RefIdeal.nD Cert.InProj2RefIdeal.τ Cert.InProj2RefIdeal.sig) → Buf (Elt Ideal) ℓ) : Prop :=
  True

def Pre_OutProj2 (m : (ℓ : Loc Cert.OutProj2.nD Cert.OutProj2.τ Cert.OutProj2.sig) → Buf (Elt Bits) ℓ) : Prop :=
  True

def Pre_OutProj2Ideal (m : (ℓ : Loc Cert.OutProj2Ideal.nD Cert.OutProj2Ideal.τ Cert.OutProj2Ideal.sig) → Buf (Elt Ideal) ℓ) : Prop :=
  True

def Pre_OutProj2RefIdeal (m : (ℓ : Loc Cert.OutProj2RefIdeal.nD Cert.OutProj2RefIdeal.τ Cert.OutProj2RefIdeal.sig) → Buf (Elt Ideal) ℓ) : Prop :=
  True

def Pre_MoeUp2 [hPre_up_tiles : Cert.Pre_up_tiles.Facts] (m : (ℓ : Loc Cert.MoeUp2.nD Cert.MoeUp2.τ Cert.MoeUp2.sig) → Buf (Elt Bits) ℓ) : Prop :=
  ∀ c : Dev Cert.MoeUp2.nD,
    (Cert.Pre_up_tiles.fn (F := Bits) (m ((c.tc : Thread Cert.MoeUp2.nD Cert.MoeUp2.τ).loc Cert.MoeUp2.main_arg0)) (m ((c.tc : Thread Cert.MoeUp2.nD Cert.MoeUp2.τ).loc Cert.MoeUp2.main_arg1)) (m ((c.tc : Thread Cert.MoeUp2.nD Cert.MoeUp2.τ).loc Cert.MoeUp2.main_arg2)) (m ((c.tc : Thread Cert.MoeUp2.nD Cert.MoeUp2.τ).loc Cert.MoeUp2.main_arg3)) (m ((c.tc : Thread Cert.MoeUp2.nD Cert.MoeUp2.τ).loc Cert.MoeUp2.main_arg4)) (m ((c.tc : Thread Cert.MoeUp2.nD Cert.MoeUp2.τ).loc Cert.MoeUp2.main_arg5)) (m ((c.tc : Thread Cert.MoeUp2.nD Cert.MoeUp2.τ).loc Cert.MoeUp2.main_arg6)) (m ((c.tc : Thread Cert.MoeUp2.nD Cert.MoeUp2.τ).loc Cert.MoeUp2.main_arg7))).1 = (fun _ => 1#1)
    ∧ (Cert.Pre_up_tiles.fn (F := Bits) (m ((c.tc : Thread Cert.MoeUp2.nD Cert.MoeUp2.τ).loc Cert.MoeUp2.main_arg0)) (m ((c.tc : Thread Cert.MoeUp2.nD Cert.MoeUp2.τ).loc Cert.MoeUp2.main_arg1)) (m ((c.tc : Thread Cert.MoeUp2.nD Cert.MoeUp2.τ).loc Cert.MoeUp2.main_arg2)) (m ((c.tc : Thread Cert.MoeUp2.nD Cert.MoeUp2.τ).loc Cert.MoeUp2.main_arg3)) (m ((c.tc : Thread Cert.MoeUp2.nD Cert.MoeUp2.τ).loc Cert.MoeUp2.main_arg4)) (m ((c.tc : Thread Cert.MoeUp2.nD Cert.MoeUp2.τ).loc Cert.MoeUp2.main_arg5)) (m ((c.tc : Thread Cert.MoeUp2.nD Cert.MoeUp2.τ).loc Cert.MoeUp2.main_arg6)) (m ((c.tc : Thread Cert.MoeUp2.nD Cert.MoeUp2.τ).loc Cert.MoeUp2.main_arg7))).2.1 = (fun _ => 1#1)
    ∧ (Cert.Pre_up_tiles.fn (F := Bits) (m ((c.tc : Thread Cert.MoeUp2.nD Cert.MoeUp2.τ).loc Cert.MoeUp2.main_arg0)) (m ((c.tc : Thread Cert.MoeUp2.nD Cert.MoeUp2.τ).loc Cert.MoeUp2.main_arg1)) (m ((c.tc : Thread Cert.MoeUp2.nD Cert.MoeUp2.τ).loc Cert.MoeUp2.main_arg2)) (m ((c.tc : Thread Cert.MoeUp2.nD Cert.MoeUp2.τ).loc Cert.MoeUp2.main_arg3)) (m ((c.tc : Thread Cert.MoeUp2.nD Cert.MoeUp2.τ).loc Cert.MoeUp2.main_arg4)) (m ((c.tc : Thread Cert.MoeUp2.nD Cert.MoeUp2.τ).loc Cert.MoeUp2.main_arg5)) (m ((c.tc : Thread Cert.MoeUp2.nD Cert.MoeUp2.τ).loc Cert.MoeUp2.main_arg6)) (m ((c.tc : Thread Cert.MoeUp2.nD Cert.MoeUp2.τ).loc Cert.MoeUp2.main_arg7))).2.2.1 = (fun _ => 1#1)
    ∧ (Cert.Pre_up_tiles.fn (F := Bits) (m ((c.tc : Thread Cert.MoeUp2.nD Cert.MoeUp2.τ).loc Cert.MoeUp2.main_arg0)) (m ((c.tc : Thread Cert.MoeUp2.nD Cert.MoeUp2.τ).loc Cert.MoeUp2.main_arg1)) (m ((c.tc : Thread Cert.MoeUp2.nD Cert.MoeUp2.τ).loc Cert.MoeUp2.main_arg2)) (m ((c.tc : Thread Cert.MoeUp2.nD Cert.MoeUp2.τ).loc Cert.MoeUp2.main_arg3)) (m ((c.tc : Thread Cert.MoeUp2.nD Cert.MoeUp2.τ).loc Cert.MoeUp2.main_arg4)) (m ((c.tc : Thread Cert.MoeUp2.nD Cert.MoeUp2.τ).loc Cert.MoeUp2.main_arg5)) (m ((c.tc : Thread Cert.MoeUp2.nD Cert.MoeUp2.τ).loc Cert.MoeUp2.main_arg6)) (m ((c.tc : Thread Cert.MoeUp2.nD Cert.MoeUp2.τ).loc Cert.MoeUp2.main_arg7))).2.2.2.1 = (fun _ => 1#1)
    ∧ (Cert.Pre_up_tiles.fn (F := Bits) (m ((c.tc : Thread Cert.MoeUp2.nD Cert.MoeUp2.τ).loc Cert.MoeUp2.main_arg0)) (m ((c.tc : Thread Cert.MoeUp2.nD Cert.MoeUp2.τ).loc Cert.MoeUp2.main_arg1)) (m ((c.tc : Thread Cert.MoeUp2.nD Cert.MoeUp2.τ).loc Cert.MoeUp2.main_arg2)) (m ((c.tc : Thread Cert.MoeUp2.nD Cert.MoeUp2.τ).loc Cert.MoeUp2.main_arg3)) (m ((c.tc : Thread Cert.MoeUp2.nD Cert.MoeUp2.τ).loc Cert.MoeUp2.main_arg4)) (m ((c.tc : Thread Cert.MoeUp2.nD Cert.MoeUp2.τ).loc Cert.MoeUp2.main_arg5)) (m ((c.tc : Thread Cert.MoeUp2.nD Cert.MoeUp2.τ).loc Cert.MoeUp2.main_arg6)) (m ((c.tc : Thread Cert.MoeUp2.nD Cert.MoeUp2.τ).loc Cert.MoeUp2.main_arg7))).2.2.2.2.1 = (fun _ => 1#1)
    ∧ (Cert.Pre_up_tiles.fn (F := Bits) (m ((c.tc : Thread Cert.MoeUp2.nD Cert.MoeUp2.τ).loc Cert.MoeUp2.main_arg0)) (m ((c.tc : Thread Cert.MoeUp2.nD Cert.MoeUp2.τ).loc Cert.MoeUp2.main_arg1)) (m ((c.tc : Thread Cert.MoeUp2.nD Cert.MoeUp2.τ).loc Cert.MoeUp2.main_arg2)) (m ((c.tc : Thread Cert.MoeUp2.nD Cert.MoeUp2.τ).loc Cert.MoeUp2.main_arg3)) (m ((c.tc : Thread Cert.MoeUp2.nD Cert.MoeUp2.τ).loc Cert.MoeUp2.main_arg4)) (m ((c.tc : Thread Cert.MoeUp2.nD Cert.MoeUp2.τ).loc Cert.MoeUp2.main_arg5)) (m ((c.tc : Thread Cert.MoeUp2.nD Cert.MoeUp2.τ).loc Cert.MoeUp2.main_arg6)) (m ((c.tc : Thread Cert.MoeUp2.nD Cert.MoeUp2.τ).loc Cert.MoeUp2.main_arg7))).2.2.2.2.2.1 = (fun _ => 1#1)
    ∧ (Cert.Pre_up_tiles.fn (F := Bits) (m ((c.tc : Thread Cert.MoeUp2.nD Cert.MoeUp2.τ).loc Cert.MoeUp2.main_arg0)) (m ((c.tc : Thread Cert.MoeUp2.nD Cert.MoeUp2.τ).loc Cert.MoeUp2.main_arg1)) (m ((c.tc : Thread Cert.MoeUp2.nD Cert.MoeUp2.τ).loc Cert.MoeUp2.main_arg2)) (m ((c.tc : Thread Cert.MoeUp2.nD Cert.MoeUp2.τ).loc Cert.MoeUp2.main_arg3)) (m ((c.tc : Thread Cert.MoeUp2.nD Cert.MoeUp2.τ).loc Cert.MoeUp2.main_arg4)) (m ((c.tc : Thread Cert.MoeUp2.nD Cert.MoeUp2.τ).loc Cert.MoeUp2.main_arg5)) (m ((c.tc : Thread Cert.MoeUp2.nD Cert.MoeUp2.τ).loc Cert.MoeUp2.main_arg6)) (m ((c.tc : Thread Cert.MoeUp2.nD Cert.MoeUp2.τ).loc Cert.MoeUp2.main_arg7))).2.2.2.2.2.2 = (fun _ => 1#1)

def Pre_MoeUp2Ideal [hPre_up_tiles : Cert.Pre_up_tiles.Facts] (m : (ℓ : Loc Cert.MoeUp2Ideal.nD Cert.MoeUp2Ideal.τ Cert.MoeUp2Ideal.sig) → Buf (Elt Ideal) ℓ) : Prop :=
  ∀ c : Dev Cert.MoeUp2Ideal.nD,
    (Cert.Pre_up_tiles.fn (F := Ideal) (m ((c.tc : Thread Cert.MoeUp2Ideal.nD Cert.MoeUp2Ideal.τ).loc Cert.MoeUp2Ideal.main_arg0)) (m ((c.tc : Thread Cert.MoeUp2Ideal.nD Cert.MoeUp2Ideal.τ).loc Cert.MoeUp2Ideal.main_arg1)) (m ((c.tc : Thread Cert.MoeUp2Ideal.nD Cert.MoeUp2Ideal.τ).loc Cert.MoeUp2Ideal.main_arg2)) (m ((c.tc : Thread Cert.MoeUp2Ideal.nD Cert.MoeUp2Ideal.τ).loc Cert.MoeUp2Ideal.main_arg3)) (m ((c.tc : Thread Cert.MoeUp2Ideal.nD Cert.MoeUp2Ideal.τ).loc Cert.MoeUp2Ideal.main_arg4)) (m ((c.tc : Thread Cert.MoeUp2Ideal.nD Cert.MoeUp2Ideal.τ).loc Cert.MoeUp2Ideal.main_arg5)) (m ((c.tc : Thread Cert.MoeUp2Ideal.nD Cert.MoeUp2Ideal.τ).loc Cert.MoeUp2Ideal.main_arg6)) (m ((c.tc : Thread Cert.MoeUp2Ideal.nD Cert.MoeUp2Ideal.τ).loc Cert.MoeUp2Ideal.main_arg7))).1 = (fun _ => 1#1)
    ∧ (Cert.Pre_up_tiles.fn (F := Ideal) (m ((c.tc : Thread Cert.MoeUp2Ideal.nD Cert.MoeUp2Ideal.τ).loc Cert.MoeUp2Ideal.main_arg0)) (m ((c.tc : Thread Cert.MoeUp2Ideal.nD Cert.MoeUp2Ideal.τ).loc Cert.MoeUp2Ideal.main_arg1)) (m ((c.tc : Thread Cert.MoeUp2Ideal.nD Cert.MoeUp2Ideal.τ).loc Cert.MoeUp2Ideal.main_arg2)) (m ((c.tc : Thread Cert.MoeUp2Ideal.nD Cert.MoeUp2Ideal.τ).loc Cert.MoeUp2Ideal.main_arg3)) (m ((c.tc : Thread Cert.MoeUp2Ideal.nD Cert.MoeUp2Ideal.τ).loc Cert.MoeUp2Ideal.main_arg4)) (m ((c.tc : Thread Cert.MoeUp2Ideal.nD Cert.MoeUp2Ideal.τ).loc Cert.MoeUp2Ideal.main_arg5)) (m ((c.tc : Thread Cert.MoeUp2Ideal.nD Cert.MoeUp2Ideal.τ).loc Cert.MoeUp2Ideal.main_arg6)) (m ((c.tc : Thread Cert.MoeUp2Ideal.nD Cert.MoeUp2Ideal.τ).loc Cert.MoeUp2Ideal.main_arg7))).2.1 = (fun _ => 1#1)
    ∧ (Cert.Pre_up_tiles.fn (F := Ideal) (m ((c.tc : Thread Cert.MoeUp2Ideal.nD Cert.MoeUp2Ideal.τ).loc Cert.MoeUp2Ideal.main_arg0)) (m ((c.tc : Thread Cert.MoeUp2Ideal.nD Cert.MoeUp2Ideal.τ).loc Cert.MoeUp2Ideal.main_arg1)) (m ((c.tc : Thread Cert.MoeUp2Ideal.nD Cert.MoeUp2Ideal.τ).loc Cert.MoeUp2Ideal.main_arg2)) (m ((c.tc : Thread Cert.MoeUp2Ideal.nD Cert.MoeUp2Ideal.τ).loc Cert.MoeUp2Ideal.main_arg3)) (m ((c.tc : Thread Cert.MoeUp2Ideal.nD Cert.MoeUp2Ideal.τ).loc Cert.MoeUp2Ideal.main_arg4)) (m ((c.tc : Thread Cert.MoeUp2Ideal.nD Cert.MoeUp2Ideal.τ).loc Cert.MoeUp2Ideal.main_arg5)) (m ((c.tc : Thread Cert.MoeUp2Ideal.nD Cert.MoeUp2Ideal.τ).loc Cert.MoeUp2Ideal.main_arg6)) (m ((c.tc : Thread Cert.MoeUp2Ideal.nD Cert.MoeUp2Ideal.τ).loc Cert.MoeUp2Ideal.main_arg7))).2.2.1 = (fun _ => 1#1)
    ∧ (Cert.Pre_up_tiles.fn (F := Ideal) (m ((c.tc : Thread Cert.MoeUp2Ideal.nD Cert.MoeUp2Ideal.τ).loc Cert.MoeUp2Ideal.main_arg0)) (m ((c.tc : Thread Cert.MoeUp2Ideal.nD Cert.MoeUp2Ideal.τ).loc Cert.MoeUp2Ideal.main_arg1)) (m ((c.tc : Thread Cert.MoeUp2Ideal.nD Cert.MoeUp2Ideal.τ).loc Cert.MoeUp2Ideal.main_arg2)) (m ((c.tc : Thread Cert.MoeUp2Ideal.nD Cert.MoeUp2Ideal.τ).loc Cert.MoeUp2Ideal.main_arg3)) (m ((c.tc : Thread Cert.MoeUp2Ideal.nD Cert.MoeUp2Ideal.τ).loc Cert.MoeUp2Ideal.main_arg4)) (m ((c.tc : Thread Cert.MoeUp2Ideal.nD Cert.MoeUp2Ideal.τ).loc Cert.MoeUp2Ideal.main_arg5)) (m ((c.tc : Thread Cert.MoeUp2Ideal.nD Cert.MoeUp2Ideal.τ).loc Cert.MoeUp2Ideal.main_arg6)) (m ((c.tc : Thread Cert.MoeUp2Ideal.nD Cert.MoeUp2Ideal.τ).loc Cert.MoeUp2Ideal.main_arg7))).2.2.2.1 = (fun _ => 1#1)
    ∧ (Cert.Pre_up_tiles.fn (F := Ideal) (m ((c.tc : Thread Cert.MoeUp2Ideal.nD Cert.MoeUp2Ideal.τ).loc Cert.MoeUp2Ideal.main_arg0)) (m ((c.tc : Thread Cert.MoeUp2Ideal.nD Cert.MoeUp2Ideal.τ).loc Cert.MoeUp2Ideal.main_arg1)) (m ((c.tc : Thread Cert.MoeUp2Ideal.nD Cert.MoeUp2Ideal.τ).loc Cert.MoeUp2Ideal.main_arg2)) (m ((c.tc : Thread Cert.MoeUp2Ideal.nD Cert.MoeUp2Ideal.τ).loc Cert.MoeUp2Ideal.main_arg3)) (m ((c.tc : Thread Cert.MoeUp2Ideal.nD Cert.MoeUp2Ideal.τ).loc Cert.MoeUp2Ideal.main_arg4)) (m ((c.tc : Thread Cert.MoeUp2Ideal.nD Cert.MoeUp2Ideal.τ).loc Cert.MoeUp2Ideal.main_arg5)) (m ((c.tc : Thread Cert.MoeUp2Ideal.nD Cert.MoeUp2Ideal.τ).loc Cert.MoeUp2Ideal.main_arg6)) (m ((c.tc : Thread Cert.MoeUp2Ideal.nD Cert.MoeUp2Ideal.τ).loc Cert.MoeUp2Ideal.main_arg7))).2.2.2.2.1 = (fun _ => 1#1)
    ∧ (Cert.Pre_up_tiles.fn (F := Ideal) (m ((c.tc : Thread Cert.MoeUp2Ideal.nD Cert.MoeUp2Ideal.τ).loc Cert.MoeUp2Ideal.main_arg0)) (m ((c.tc : Thread Cert.MoeUp2Ideal.nD Cert.MoeUp2Ideal.τ).loc Cert.MoeUp2Ideal.main_arg1)) (m ((c.tc : Thread Cert.MoeUp2Ideal.nD Cert.MoeUp2Ideal.τ).loc Cert.MoeUp2Ideal.main_arg2)) (m ((c.tc : Thread Cert.MoeUp2Ideal.nD Cert.MoeUp2Ideal.τ).loc Cert.MoeUp2Ideal.main_arg3)) (m ((c.tc : Thread Cert.MoeUp2Ideal.nD Cert.MoeUp2Ideal.τ).loc Cert.MoeUp2Ideal.main_arg4)) (m ((c.tc : Thread Cert.MoeUp2Ideal.nD Cert.MoeUp2Ideal.τ).loc Cert.MoeUp2Ideal.main_arg5)) (m ((c.tc : Thread Cert.MoeUp2Ideal.nD Cert.MoeUp2Ideal.τ).loc Cert.MoeUp2Ideal.main_arg6)) (m ((c.tc : Thread Cert.MoeUp2Ideal.nD Cert.MoeUp2Ideal.τ).loc Cert.MoeUp2Ideal.main_arg7))).2.2.2.2.2.1 = (fun _ => 1#1)
    ∧ (Cert.Pre_up_tiles.fn (F := Ideal) (m ((c.tc : Thread Cert.MoeUp2Ideal.nD Cert.MoeUp2Ideal.τ).loc Cert.MoeUp2Ideal.main_arg0)) (m ((c.tc : Thread Cert.MoeUp2Ideal.nD Cert.MoeUp2Ideal.τ).loc Cert.MoeUp2Ideal.main_arg1)) (m ((c.tc : Thread Cert.MoeUp2Ideal.nD Cert.MoeUp2Ideal.τ).loc Cert.MoeUp2Ideal.main_arg2)) (m ((c.tc : Thread Cert.MoeUp2Ideal.nD Cert.MoeUp2Ideal.τ).loc Cert.MoeUp2Ideal.main_arg3)) (m ((c.tc : Thread Cert.MoeUp2Ideal.nD Cert.MoeUp2Ideal.τ).loc Cert.MoeUp2Ideal.main_arg4)) (m ((c.tc : Thread Cert.MoeUp2Ideal.nD Cert.MoeUp2Ideal.τ).loc Cert.MoeUp2Ideal.main_arg5)) (m ((c.tc : Thread Cert.MoeUp2Ideal.nD Cert.MoeUp2Ideal.τ).loc Cert.MoeUp2Ideal.main_arg6)) (m ((c.tc : Thread Cert.MoeUp2Ideal.nD Cert.MoeUp2Ideal.τ).loc Cert.MoeUp2Ideal.main_arg7))).2.2.2.2.2.2 = (fun _ => 1#1)

def Pre_MoeUp2RefIdeal (m : (ℓ : Loc Cert.MoeUp2RefIdeal.nD Cert.MoeUp2RefIdeal.τ Cert.MoeUp2RefIdeal.sig) → Buf (Elt Ideal) ℓ) : Prop :=
  True

def Pre_MoeUp2RefIdeal_up_tiles [hPre_up_tiles : Cert.Pre_up_tiles.Facts] (m : (ℓ : Loc Cert.MoeUp2RefIdeal.nD Cert.MoeUp2RefIdeal.τ Cert.MoeUp2RefIdeal.sig) → Buf (Elt Ideal) ℓ) : Prop :=
  ∀ c : Dev Cert.MoeUp2RefIdeal.nD,
    (Cert.Pre_up_tiles.fn (F := Ideal) (m ((c.tc : Thread Cert.MoeUp2RefIdeal.nD Cert.MoeUp2RefIdeal.τ).loc Cert.MoeUp2RefIdeal.main_arg0)) (m ((c.tc : Thread Cert.MoeUp2RefIdeal.nD Cert.MoeUp2RefIdeal.τ).loc Cert.MoeUp2RefIdeal.main_arg1)) (m ((c.tc : Thread Cert.MoeUp2RefIdeal.nD Cert.MoeUp2RefIdeal.τ).loc Cert.MoeUp2RefIdeal.main_arg2)) (m ((c.tc : Thread Cert.MoeUp2RefIdeal.nD Cert.MoeUp2RefIdeal.τ).loc Cert.MoeUp2RefIdeal.main_arg3)) (m ((c.tc : Thread Cert.MoeUp2RefIdeal.nD Cert.MoeUp2RefIdeal.τ).loc Cert.MoeUp2RefIdeal.main_arg4)) (m ((c.tc : Thread Cert.MoeUp2RefIdeal.nD Cert.MoeUp2RefIdeal.τ).loc Cert.MoeUp2RefIdeal.main_arg5)) (m ((c.tc : Thread Cert.MoeUp2RefIdeal.nD Cert.MoeUp2RefIdeal.τ).loc Cert.MoeUp2RefIdeal.main_arg6)) (m ((c.tc : Thread Cert.MoeUp2RefIdeal.nD Cert.MoeUp2RefIdeal.τ).loc Cert.MoeUp2RefIdeal.main_arg7))).1 = (fun _ => 1#1)
    ∧ (Cert.Pre_up_tiles.fn (F := Ideal) (m ((c.tc : Thread Cert.MoeUp2RefIdeal.nD Cert.MoeUp2RefIdeal.τ).loc Cert.MoeUp2RefIdeal.main_arg0)) (m ((c.tc : Thread Cert.MoeUp2RefIdeal.nD Cert.MoeUp2RefIdeal.τ).loc Cert.MoeUp2RefIdeal.main_arg1)) (m ((c.tc : Thread Cert.MoeUp2RefIdeal.nD Cert.MoeUp2RefIdeal.τ).loc Cert.MoeUp2RefIdeal.main_arg2)) (m ((c.tc : Thread Cert.MoeUp2RefIdeal.nD Cert.MoeUp2RefIdeal.τ).loc Cert.MoeUp2RefIdeal.main_arg3)) (m ((c.tc : Thread Cert.MoeUp2RefIdeal.nD Cert.MoeUp2RefIdeal.τ).loc Cert.MoeUp2RefIdeal.main_arg4)) (m ((c.tc : Thread Cert.MoeUp2RefIdeal.nD Cert.MoeUp2RefIdeal.τ).loc Cert.MoeUp2RefIdeal.main_arg5)) (m ((c.tc : Thread Cert.MoeUp2RefIdeal.nD Cert.MoeUp2RefIdeal.τ).loc Cert.MoeUp2RefIdeal.main_arg6)) (m ((c.tc : Thread Cert.MoeUp2RefIdeal.nD Cert.MoeUp2RefIdeal.τ).loc Cert.MoeUp2RefIdeal.main_arg7))).2.1 = (fun _ => 1#1)
    ∧ (Cert.Pre_up_tiles.fn (F := Ideal) (m ((c.tc : Thread Cert.MoeUp2RefIdeal.nD Cert.MoeUp2RefIdeal.τ).loc Cert.MoeUp2RefIdeal.main_arg0)) (m ((c.tc : Thread Cert.MoeUp2RefIdeal.nD Cert.MoeUp2RefIdeal.τ).loc Cert.MoeUp2RefIdeal.main_arg1)) (m ((c.tc : Thread Cert.MoeUp2RefIdeal.nD Cert.MoeUp2RefIdeal.τ).loc Cert.MoeUp2RefIdeal.main_arg2)) (m ((c.tc : Thread Cert.MoeUp2RefIdeal.nD Cert.MoeUp2RefIdeal.τ).loc Cert.MoeUp2RefIdeal.main_arg3)) (m ((c.tc : Thread Cert.MoeUp2RefIdeal.nD Cert.MoeUp2RefIdeal.τ).loc Cert.MoeUp2RefIdeal.main_arg4)) (m ((c.tc : Thread Cert.MoeUp2RefIdeal.nD Cert.MoeUp2RefIdeal.τ).loc Cert.MoeUp2RefIdeal.main_arg5)) (m ((c.tc : Thread Cert.MoeUp2RefIdeal.nD Cert.MoeUp2RefIdeal.τ).loc Cert.MoeUp2RefIdeal.main_arg6)) (m ((c.tc : Thread Cert.MoeUp2RefIdeal.nD Cert.MoeUp2RefIdeal.τ).loc Cert.MoeUp2RefIdeal.main_arg7))).2.2.1 = (fun _ => 1#1)
    ∧ (Cert.Pre_up_tiles.fn (F := Ideal) (m ((c.tc : Thread Cert.MoeUp2RefIdeal.nD Cert.MoeUp2RefIdeal.τ).loc Cert.MoeUp2RefIdeal.main_arg0)) (m ((c.tc : Thread Cert.MoeUp2RefIdeal.nD Cert.MoeUp2RefIdeal.τ).loc Cert.MoeUp2RefIdeal.main_arg1)) (m ((c.tc : Thread Cert.MoeUp2RefIdeal.nD Cert.MoeUp2RefIdeal.τ).loc Cert.MoeUp2RefIdeal.main_arg2)) (m ((c.tc : Thread Cert.MoeUp2RefIdeal.nD Cert.MoeUp2RefIdeal.τ).loc Cert.MoeUp2RefIdeal.main_arg3)) (m ((c.tc : Thread Cert.MoeUp2RefIdeal.nD Cert.MoeUp2RefIdeal.τ).loc Cert.MoeUp2RefIdeal.main_arg4)) (m ((c.tc : Thread Cert.MoeUp2RefIdeal.nD Cert.MoeUp2RefIdeal.τ).loc Cert.MoeUp2RefIdeal.main_arg5)) (m ((c.tc : Thread Cert.MoeUp2RefIdeal.nD Cert.MoeUp2RefIdeal.τ).loc Cert.MoeUp2RefIdeal.main_arg6)) (m ((c.tc : Thread Cert.MoeUp2RefIdeal.nD Cert.MoeUp2RefIdeal.τ).loc Cert.MoeUp2RefIdeal.main_arg7))).2.2.2.1 = (fun _ => 1#1)
    ∧ (Cert.Pre_up_tiles.fn (F := Ideal) (m ((c.tc : Thread Cert.MoeUp2RefIdeal.nD Cert.MoeUp2RefIdeal.τ).loc Cert.MoeUp2RefIdeal.main_arg0)) (m ((c.tc : Thread Cert.MoeUp2RefIdeal.nD Cert.MoeUp2RefIdeal.τ).loc Cert.MoeUp2RefIdeal.main_arg1)) (m ((c.tc : Thread Cert.MoeUp2RefIdeal.nD Cert.MoeUp2RefIdeal.τ).loc Cert.MoeUp2RefIdeal.main_arg2)) (m ((c.tc : Thread Cert.MoeUp2RefIdeal.nD Cert.MoeUp2RefIdeal.τ).loc Cert.MoeUp2RefIdeal.main_arg3)) (m ((c.tc : Thread Cert.MoeUp2RefIdeal.nD Cert.MoeUp2RefIdeal.τ).loc Cert.MoeUp2RefIdeal.main_arg4)) (m ((c.tc : Thread Cert.MoeUp2RefIdeal.nD Cert.MoeUp2RefIdeal.τ).loc Cert.MoeUp2RefIdeal.main_arg5)) (m ((c.tc : Thread Cert.MoeUp2RefIdeal.nD Cert.MoeUp2RefIdeal.τ).loc Cert.MoeUp2RefIdeal.main_arg6)) (m ((c.tc : Thread Cert.MoeUp2RefIdeal.nD Cert.MoeUp2RefIdeal.τ).loc Cert.MoeUp2RefIdeal.main_arg7))).2.2.2.2.1 = (fun _ => 1#1)
    ∧ (Cert.Pre_up_tiles.fn (F := Ideal) (m ((c.tc : Thread Cert.MoeUp2RefIdeal.nD Cert.MoeUp2RefIdeal.τ).loc Cert.MoeUp2RefIdeal.main_arg0)) (m ((c.tc : Thread Cert.MoeUp2RefIdeal.nD Cert.MoeUp2RefIdeal.τ).loc Cert.MoeUp2RefIdeal.main_arg1)) (m ((c.tc : Thread Cert.MoeUp2RefIdeal.nD Cert.MoeUp2RefIdeal.τ).loc Cert.MoeUp2RefIdeal.main_arg2)) (m ((c.tc : Thread Cert.MoeUp2RefIdeal.nD Cert.MoeUp2RefIdeal.τ).loc Cert.MoeUp2RefIdeal.main_arg3)) (m ((c.tc : Thread Cert.MoeUp2RefIdeal.nD Cert.MoeUp2RefIdeal.τ).loc Cert.MoeUp2RefIdeal.main_arg4)) (m ((c.tc : Thread Cert.MoeUp2RefIdeal.nD Cert.MoeUp2RefIdeal.τ).loc Cert.MoeUp2RefIdeal.main_arg5)) (m ((c.tc : Thread Cert.MoeUp2RefIdeal.nD Cert.MoeUp2RefIdeal.τ).loc Cert.MoeUp2RefIdeal.main_arg6)) (m ((c.tc : Thread Cert.MoeUp2RefIdeal.nD Cert.MoeUp2RefIdeal.τ).loc Cert.MoeUp2RefIdeal.main_arg7))).2.2.2.2.2.1 = (fun _ => 1#1)
    ∧ (Cert.Pre_up_tiles.fn (F := Ideal) (m ((c.tc : Thread Cert.MoeUp2RefIdeal.nD Cert.MoeUp2RefIdeal.τ).loc Cert.MoeUp2RefIdeal.main_arg0)) (m ((c.tc : Thread Cert.MoeUp2RefIdeal.nD Cert.MoeUp2RefIdeal.τ).loc Cert.MoeUp2RefIdeal.main_arg1)) (m ((c.tc : Thread Cert.MoeUp2RefIdeal.nD Cert.MoeUp2RefIdeal.τ).loc Cert.MoeUp2RefIdeal.main_arg2)) (m ((c.tc : Thread Cert.MoeUp2RefIdeal.nD Cert.MoeUp2RefIdeal.τ).loc Cert.MoeUp2RefIdeal.main_arg3)) (m ((c.tc : Thread Cert.MoeUp2RefIdeal.nD Cert.MoeUp2RefIdeal.τ).loc Cert.MoeUp2RefIdeal.main_arg4)) (m ((c.tc : Thread Cert.MoeUp2RefIdeal.nD Cert.MoeUp2RefIdeal.τ).loc Cert.MoeUp2RefIdeal.main_arg5)) (m ((c.tc : Thread Cert.MoeUp2RefIdeal.nD Cert.MoeUp2RefIdeal.τ).loc Cert.MoeUp2RefIdeal.main_arg6)) (m ((c.tc : Thread Cert.MoeUp2RefIdeal.nD Cert.MoeUp2RefIdeal.τ).loc Cert.MoeUp2RefIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_MoeDown [hMoeDown : Cert.MoeDown.Facts] [hPre_down_tiles : Cert.Pre_down_tiles.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4)
      ∧ r.2.mem ((c.tc : Thread Cert.MoeDown.nD Cert.MoeDown.τ).loc Cert.MoeDown.main_arg5) = m ((c.tc : Thread Cert.MoeDown.nD Cert.MoeDown.τ).loc Cert.MoeDown.main_arg5))
      ∧ r.2.sem = fun _ => 0)

def quiescent_MoeDownIdeal [hMoeDownIdeal : Cert.MoeDownIdeal.Facts] [hPre_down_tiles : Cert.Pre_down_tiles.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
      ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4)
      ∧ r.2.mem ((c.tc : Thread Cert.MoeDownRefIdeal.nD Cert.MoeDownRefIdeal.τ).loc Cert.MoeDownRefIdeal.main_arg5) = m ((c.tc : Thread Cert.MoeDownRefIdeal.nD Cert.MoeDownRefIdeal.τ).loc Cert.MoeDownRefIdeal.main_arg5))
      ∧ r.2.sem = fun _ => 0)

def quiescent_MoeDownRefIdeal_pre_down_tiles [hMoeDownRefIdeal : Cert.MoeDownRefIdeal.Facts] [hPre_down_tiles : Cert.Pre_down_tiles.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_down_tiles m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4)
      ∧ r.2.mem ((c.tc : Thread Cert.MoeDownRefIdeal.nD Cert.MoeDownRefIdeal.τ).loc Cert.MoeDownRefIdeal.main_arg5) = m ((c.tc : Thread Cert.MoeDownRefIdeal.nD Cert.MoeDownRefIdeal.τ).loc Cert.MoeDownRefIdeal.main_arg5))
      ∧ r.2.sem = fun _ => 0)

def quiescent_MoeUp [hMoeUp : Cert.MoeUp.Facts] [hPre_up_tiles : Cert.Pre_up_tiles.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4)
      ∧ r.2.mem ((c.tc : Thread Cert.MoeUp.nD Cert.MoeUp.τ).loc Cert.MoeUp.main_arg5) = m ((c.tc : Thread Cert.MoeUp.nD Cert.MoeUp.τ).loc Cert.MoeUp.main_arg5)
      ∧ r.2.mem ((c.tc : Thread Cert.MoeUp.nD Cert.MoeUp.τ).loc Cert.MoeUp.main_arg6) = m ((c.tc : Thread Cert.MoeUp.nD Cert.MoeUp.τ).loc Cert.MoeUp.main_arg6)
      ∧ r.2.mem ((c.tc : Thread Cert.MoeUp.nD Cert.MoeUp.τ).loc Cert.MoeUp.main_arg7) = m ((c.tc : Thread Cert.MoeUp.nD Cert.MoeUp.τ).loc Cert.MoeUp.main_arg7))
      ∧ r.2.sem = fun _ => 0)

def quiescent_MoeUpIdeal [hMoeUpIdeal : Cert.MoeUpIdeal.Facts] [hPre_up_tiles : Cert.Pre_up_tiles.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
      ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5)
      ∧ r.2.mem ((c.tc : Thread Cert.MoeUpIdeal.nD Cert.MoeUpIdeal.τ).loc Cert.MoeUpIdeal.main_arg6) = m ((c.tc : Thread Cert.MoeUpIdeal.nD Cert.MoeUpIdeal.τ).loc Cert.MoeUpIdeal.main_arg6)
      ∧ r.2.mem ((c.tc : Thread Cert.MoeUpIdeal.nD Cert.MoeUpIdeal.τ).loc Cert.MoeUpIdeal.main_arg7) = m ((c.tc : Thread Cert.MoeUpIdeal.nD Cert.MoeUpIdeal.τ).loc Cert.MoeUpIdeal.main_arg7))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4)
      ∧ r.2.mem ((c.tc : Thread Cert.MoeUpRefIdeal.nD Cert.MoeUpRefIdeal.τ).loc Cert.MoeUpRefIdeal.main_arg5) = m ((c.tc : Thread Cert.MoeUpRefIdeal.nD Cert.MoeUpRefIdeal.τ).loc Cert.MoeUpRefIdeal.main_arg5)
      ∧ r.2.mem ((c.tc : Thread Cert.MoeUpRefIdeal.nD Cert.MoeUpRefIdeal.τ).loc Cert.MoeUpRefIdeal.main_arg6) = m ((c.tc : Thread Cert.MoeUpRefIdeal.nD Cert.MoeUpRefIdeal.τ).loc Cert.MoeUpRefIdeal.main_arg6)
      ∧ r.2.mem ((c.tc : Thread Cert.MoeUpRefIdeal.nD Cert.MoeUpRefIdeal.τ).loc Cert.MoeUpRefIdeal.main_arg7) = m ((c.tc : Thread Cert.MoeUpRefIdeal.nD Cert.MoeUpRefIdeal.τ).loc Cert.MoeUpRefIdeal.main_arg7))
      ∧ r.2.sem = fun _ => 0)

def quiescent_MoeUpRefIdeal_pre_up_tiles [hMoeUpRefIdeal : Cert.MoeUpRefIdeal.Facts] [hPre_up_tiles : Cert.Pre_up_tiles.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_up_tiles m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4)
      ∧ r.2.mem ((c.tc : Thread Cert.MoeUpRefIdeal.nD Cert.MoeUpRefIdeal.τ).loc Cert.MoeUpRefIdeal.main_arg5) = m ((c.tc : Thread Cert.MoeUpRefIdeal.nD Cert.MoeUpRefIdeal.τ).loc Cert.MoeUpRefIdeal.main_arg5)
      ∧ r.2.mem ((c.tc : Thread Cert.MoeUpRefIdeal.nD Cert.MoeUpRefIdeal.τ).loc Cert.MoeUpRefIdeal.main_arg6) = m ((c.tc : Thread Cert.MoeUpRefIdeal.nD Cert.MoeUpRefIdeal.τ).loc Cert.MoeUpRefIdeal.main_arg6)
      ∧ r.2.mem ((c.tc : Thread Cert.MoeUpRefIdeal.nD Cert.MoeUpRefIdeal.τ).loc Cert.MoeUpRefIdeal.main_arg7) = m ((c.tc : Thread Cert.MoeUpRefIdeal.nD Cert.MoeUpRefIdeal.τ).loc Cert.MoeUpRefIdeal.main_arg7))
      ∧ r.2.sem = fun _ => 0)

def quiescent_InProj2 [hInProj2 : Cert.InProj2.Facts] : Prop :=
  ∀ (m : (ℓ : Loc Cert.InProj2.nD Cert.InProj2.τ Cert.InProj2.sig) → Buf (Elt Bits) ℓ) (g : Dev Cert.InProj2.nD → PrngReg), Pre_InProj2 m →
    θ_run (Cert.InProj2.defs (F := Bits)) (onTc (τ := Cert.InProj2.τ) (Cert.InProj2.main (F := Bits))) ⟨m, fun _ => 0, g⟩ (fun r => (∀ c : Dev Cert.InProj2.nD,
      r.2.mem ((c.tc : Thread Cert.InProj2.nD Cert.InProj2.τ).loc Cert.InProj2.main_arg0) = m ((c.tc : Thread Cert.InProj2.nD Cert.InProj2.τ).loc Cert.InProj2.main_arg0)
      ∧ r.2.mem ((c.tc : Thread Cert.InProj2.nD Cert.InProj2.τ).loc Cert.InProj2.main_arg1) = m ((c.tc : Thread Cert.InProj2.nD Cert.InProj2.τ).loc Cert.InProj2.main_arg1)
      ∧ r.2.mem ((c.tc : Thread Cert.InProj2.nD Cert.InProj2.τ).loc Cert.InProj2.main_arg2) = m ((c.tc : Thread Cert.InProj2.nD Cert.InProj2.τ).loc Cert.InProj2.main_arg2)
      ∧ r.2.mem ((c.tc : Thread Cert.InProj2.nD Cert.InProj2.τ).loc Cert.InProj2.main_arg3) = m ((c.tc : Thread Cert.InProj2.nD Cert.InProj2.τ).loc Cert.InProj2.main_arg3))
      ∧ r.2.sem = fun _ => 0)

def quiescent_InProj2Ideal [hInProj2Ideal : Cert.InProj2Ideal.Facts] : Prop :=
  ∀ (m : (ℓ : Loc Cert.InProj2Ideal.nD Cert.InProj2Ideal.τ Cert.InProj2Ideal.sig) → Buf (Elt Ideal) ℓ) (g : Dev Cert.InProj2Ideal.nD → PrngReg), Pre_InProj2Ideal m →
    θ_run (Cert.InProj2Ideal.defs (F := Ideal)) (onTc (τ := Cert.InProj2Ideal.τ) (Cert.InProj2Ideal.main (F := Ideal))) ⟨m, fun _ => 0, g⟩ (fun r => (∀ c : Dev Cert.InProj2Ideal.nD,
      r.2.mem ((c.tc : Thread Cert.InProj2Ideal.nD Cert.InProj2Ideal.τ).loc Cert.InProj2Ideal.main_arg0) = m ((c.tc : Thread Cert.InProj2Ideal.nD Cert.InProj2Ideal.τ).loc Cert.InProj2Ideal.main_arg0)
      ∧ r.2.mem ((c.tc : Thread Cert.InProj2Ideal.nD Cert.InProj2Ideal.τ).loc Cert.InProj2Ideal.main_arg1) = m ((c.tc : Thread Cert.InProj2Ideal.nD Cert.InProj2Ideal.τ).loc Cert.InProj2Ideal.main_arg1)
      ∧ r.2.mem ((c.tc : Thread Cert.InProj2Ideal.nD Cert.InProj2Ideal.τ).loc Cert.InProj2Ideal.main_arg2) = m ((c.tc : Thread Cert.InProj2Ideal.nD Cert.InProj2Ideal.τ).loc Cert.InProj2Ideal.main_arg2)
      ∧ r.2.mem ((c.tc : Thread Cert.InProj2Ideal.nD Cert.InProj2Ideal.τ).loc Cert.InProj2Ideal.main_arg3) = m ((c.tc : Thread Cert.InProj2Ideal.nD Cert.InProj2Ideal.τ).loc Cert.InProj2Ideal.main_arg3))
      ∧ r.2.sem = fun _ => 0)

def quiescent_InProj2RefIdeal [hInProj2RefIdeal : Cert.InProj2RefIdeal.Facts] : Prop :=
  ∀ (m : (ℓ : Loc Cert.InProj2RefIdeal.nD Cert.InProj2RefIdeal.τ Cert.InProj2RefIdeal.sig) → Buf (Elt Ideal) ℓ) (g : Dev Cert.InProj2RefIdeal.nD → PrngReg), Pre_InProj2RefIdeal m →
    θ_run (Cert.InProj2RefIdeal.defs (F := Ideal)) (onTc (τ := Cert.InProj2RefIdeal.τ) (Cert.InProj2RefIdeal.main (F := Ideal))) ⟨m, fun _ => 0, g⟩ (fun r => (∀ c : Dev Cert.InProj2RefIdeal.nD,
      r.2.mem ((c.tc : Thread Cert.InProj2RefIdeal.nD Cert.InProj2RefIdeal.τ).loc Cert.InProj2RefIdeal.main_arg0) = m ((c.tc : Thread Cert.InProj2RefIdeal.nD Cert.InProj2RefIdeal.τ).loc Cert.InProj2RefIdeal.main_arg0)
      ∧ r.2.mem ((c.tc : Thread Cert.InProj2RefIdeal.nD Cert.InProj2RefIdeal.τ).loc Cert.InProj2RefIdeal.main_arg1) = m ((c.tc : Thread Cert.InProj2RefIdeal.nD Cert.InProj2RefIdeal.τ).loc Cert.InProj2RefIdeal.main_arg1)
      ∧ r.2.mem ((c.tc : Thread Cert.InProj2RefIdeal.nD Cert.InProj2RefIdeal.τ).loc Cert.InProj2RefIdeal.main_arg2) = m ((c.tc : Thread Cert.InProj2RefIdeal.nD Cert.InProj2RefIdeal.τ).loc Cert.InProj2RefIdeal.main_arg2)
      ∧ r.2.mem ((c.tc : Thread Cert.InProj2RefIdeal.nD Cert.InProj2RefIdeal.τ).loc Cert.InProj2RefIdeal.main_arg3) = m ((c.tc : Thread Cert.InProj2RefIdeal.nD Cert.InProj2RefIdeal.τ).loc Cert.InProj2RefIdeal.main_arg3))
      ∧ r.2.sem = fun _ => 0)

def quiescent_OutProj2 [hOutProj2 : Cert.OutProj2.Facts] : Prop :=
  ∀ (m : (ℓ : Loc Cert.OutProj2.nD Cert.OutProj2.τ Cert.OutProj2.sig) → Buf (Elt Bits) ℓ) (g : Dev Cert.OutProj2.nD → PrngReg), Pre_OutProj2 m →
    θ_run (Cert.OutProj2.defs (F := Bits)) (onTc (τ := Cert.OutProj2.τ) (Cert.OutProj2.main (F := Bits))) ⟨m, fun _ => 0, g⟩ (fun r => (∀ c : Dev Cert.OutProj2.nD,
      r.2.mem ((c.tc : Thread Cert.OutProj2.nD Cert.OutProj2.τ).loc Cert.OutProj2.main_arg0) = m ((c.tc : Thread Cert.OutProj2.nD Cert.OutProj2.τ).loc Cert.OutProj2.main_arg0)
      ∧ r.2.mem ((c.tc : Thread Cert.OutProj2.nD Cert.OutProj2.τ).loc Cert.OutProj2.main_arg1) = m ((c.tc : Thread Cert.OutProj2.nD Cert.OutProj2.τ).loc Cert.OutProj2.main_arg1)
      ∧ r.2.mem ((c.tc : Thread Cert.OutProj2.nD Cert.OutProj2.τ).loc Cert.OutProj2.main_arg2) = m ((c.tc : Thread Cert.OutProj2.nD Cert.OutProj2.τ).loc Cert.OutProj2.main_arg2)
      ∧ r.2.mem ((c.tc : Thread Cert.OutProj2.nD Cert.OutProj2.τ).loc Cert.OutProj2.main_arg3) = m ((c.tc : Thread Cert.OutProj2.nD Cert.OutProj2.τ).loc Cert.OutProj2.main_arg3)
      ∧ r.2.mem ((c.tc : Thread Cert.OutProj2.nD Cert.OutProj2.τ).loc Cert.OutProj2.main_arg4) = m ((c.tc : Thread Cert.OutProj2.nD Cert.OutProj2.τ).loc Cert.OutProj2.main_arg4)
      ∧ r.2.mem ((c.tc : Thread Cert.OutProj2.nD Cert.OutProj2.τ).loc Cert.OutProj2.main_arg5) = m ((c.tc : Thread Cert.OutProj2.nD Cert.OutProj2.τ).loc Cert.OutProj2.main_arg5)
      ∧ r.2.mem ((c.tc : Thread Cert.OutProj2.nD Cert.OutProj2.τ).loc Cert.OutProj2.main_arg6) = m ((c.tc : Thread Cert.OutProj2.nD Cert.OutProj2.τ).loc Cert.OutProj2.main_arg6))
      ∧ r.2.sem = fun _ => 0)

def quiescent_OutProj2Ideal [hOutProj2Ideal : Cert.OutProj2Ideal.Facts] : Prop :=
  ∀ (m : (ℓ : Loc Cert.OutProj2Ideal.nD Cert.OutProj2Ideal.τ Cert.OutProj2Ideal.sig) → Buf (Elt Ideal) ℓ) (g : Dev Cert.OutProj2Ideal.nD → PrngReg), Pre_OutProj2Ideal m →
    θ_run (Cert.OutProj2Ideal.defs (F := Ideal)) (onTc (τ := Cert.OutProj2Ideal.τ) (Cert.OutProj2Ideal.main (F := Ideal))) ⟨m, fun _ => 0, g⟩ (fun r => (∀ c : Dev Cert.OutProj2Ideal.nD,
      r.2.mem ((c.tc : Thread Cert.OutProj2Ideal.nD Cert.OutProj2Ideal.τ).loc Cert.OutProj2Ideal.main_arg0) = m ((c.tc : Thread Cert.OutProj2Ideal.nD Cert.OutProj2Ideal.τ).loc Cert.OutProj2Ideal.main_arg0)
      ∧ r.2.mem ((c.tc : Thread Cert.OutProj2Ideal.nD Cert.OutProj2Ideal.τ).loc Cert.OutProj2Ideal.main_arg1) = m ((c.tc : Thread Cert.OutProj2Ideal.nD Cert.OutProj2Ideal.τ).loc Cert.OutProj2Ideal.main_arg1)
      ∧ r.2.mem ((c.tc : Thread Cert.OutProj2Ideal.nD Cert.OutProj2Ideal.τ).loc Cert.OutProj2Ideal.main_arg2) = m ((c.tc : Thread Cert.OutProj2Ideal.nD Cert.OutProj2Ideal.τ).loc Cert.OutProj2Ideal.main_arg2)
      ∧ r.2.mem ((c.tc : Thread Cert.OutProj2Ideal.nD Cert.OutProj2Ideal.τ).loc Cert.OutProj2Ideal.main_arg3) = m ((c.tc : Thread Cert.OutProj2Ideal.nD Cert.OutProj2Ideal.τ).loc Cert.OutProj2Ideal.main_arg3)
      ∧ r.2.mem ((c.tc : Thread Cert.OutProj2Ideal.nD Cert.OutProj2Ideal.τ).loc Cert.OutProj2Ideal.main_arg4) = m ((c.tc : Thread Cert.OutProj2Ideal.nD Cert.OutProj2Ideal.τ).loc Cert.OutProj2Ideal.main_arg4)
      ∧ r.2.mem ((c.tc : Thread Cert.OutProj2Ideal.nD Cert.OutProj2Ideal.τ).loc Cert.OutProj2Ideal.main_arg5) = m ((c.tc : Thread Cert.OutProj2Ideal.nD Cert.OutProj2Ideal.τ).loc Cert.OutProj2Ideal.main_arg5)
      ∧ r.2.mem ((c.tc : Thread Cert.OutProj2Ideal.nD Cert.OutProj2Ideal.τ).loc Cert.OutProj2Ideal.main_arg6) = m ((c.tc : Thread Cert.OutProj2Ideal.nD Cert.OutProj2Ideal.τ).loc Cert.OutProj2Ideal.main_arg6))
      ∧ r.2.sem = fun _ => 0)

def quiescent_OutProj2RefIdeal [hOutProj2RefIdeal : Cert.OutProj2RefIdeal.Facts] : Prop :=
  ∀ (m : (ℓ : Loc Cert.OutProj2RefIdeal.nD Cert.OutProj2RefIdeal.τ Cert.OutProj2RefIdeal.sig) → Buf (Elt Ideal) ℓ) (g : Dev Cert.OutProj2RefIdeal.nD → PrngReg), Pre_OutProj2RefIdeal m →
    θ_run (Cert.OutProj2RefIdeal.defs (F := Ideal)) (onTc (τ := Cert.OutProj2RefIdeal.τ) (Cert.OutProj2RefIdeal.main (F := Ideal))) ⟨m, fun _ => 0, g⟩ (fun r => (∀ c : Dev Cert.OutProj2RefIdeal.nD,
      r.2.mem ((c.tc : Thread Cert.OutProj2RefIdeal.nD Cert.OutProj2RefIdeal.τ).loc Cert.OutProj2RefIdeal.main_arg0) = m ((c.tc : Thread Cert.OutProj2RefIdeal.nD Cert.OutProj2RefIdeal.τ).loc Cert.OutProj2RefIdeal.main_arg0)
      ∧ r.2.mem ((c.tc : Thread Cert.OutProj2RefIdeal.nD Cert.OutProj2RefIdeal.τ).loc Cert.OutProj2RefIdeal.main_arg1) = m ((c.tc : Thread Cert.OutProj2RefIdeal.nD Cert.OutProj2RefIdeal.τ).loc Cert.OutProj2RefIdeal.main_arg1)
      ∧ r.2.mem ((c.tc : Thread Cert.OutProj2RefIdeal.nD Cert.OutProj2RefIdeal.τ).loc Cert.OutProj2RefIdeal.main_arg2) = m ((c.tc : Thread Cert.OutProj2RefIdeal.nD Cert.OutProj2RefIdeal.τ).loc Cert.OutProj2RefIdeal.main_arg2)
      ∧ r.2.mem ((c.tc : Thread Cert.OutProj2RefIdeal.nD Cert.OutProj2RefIdeal.τ).loc Cert.OutProj2RefIdeal.main_arg3) = m ((c.tc : Thread Cert.OutProj2RefIdeal.nD Cert.OutProj2RefIdeal.τ).loc Cert.OutProj2RefIdeal.main_arg3)
      ∧ r.2.mem ((c.tc : Thread Cert.OutProj2RefIdeal.nD Cert.OutProj2RefIdeal.τ).loc Cert.OutProj2RefIdeal.main_arg4) = m ((c.tc : Thread Cert.OutProj2RefIdeal.nD Cert.OutProj2RefIdeal.τ).loc Cert.OutProj2RefIdeal.main_arg4)
      ∧ r.2.mem ((c.tc : Thread Cert.OutProj2RefIdeal.nD Cert.OutProj2RefIdeal.τ).loc Cert.OutProj2RefIdeal.main_arg5) = m ((c.tc : Thread Cert.OutProj2RefIdeal.nD Cert.OutProj2RefIdeal.τ).loc Cert.OutProj2RefIdeal.main_arg5)
      ∧ r.2.mem ((c.tc : Thread Cert.OutProj2RefIdeal.nD Cert.OutProj2RefIdeal.τ).loc Cert.OutProj2RefIdeal.main_arg6) = m ((c.tc : Thread Cert.OutProj2RefIdeal.nD Cert.OutProj2RefIdeal.τ).loc Cert.OutProj2RefIdeal.main_arg6))
      ∧ r.2.sem = fun _ => 0)

def quiescent_MoeUp2 [hMoeUp2 : Cert.MoeUp2.Facts] [hPre_up_tiles : Cert.Pre_up_tiles.Facts] : Prop :=
  ∀ (m : (ℓ : Loc Cert.MoeUp2.nD Cert.MoeUp2.τ Cert.MoeUp2.sig) → Buf (Elt Bits) ℓ) (g : Dev Cert.MoeUp2.nD → PrngReg), Pre_MoeUp2 m →
    θ_run (Cert.MoeUp2.defs (F := Bits)) (onTc (τ := Cert.MoeUp2.τ) (Cert.MoeUp2.main (F := Bits))) ⟨m, fun _ => 0, g⟩ (fun r => (∀ c : Dev Cert.MoeUp2.nD,
      r.2.mem ((c.tc : Thread Cert.MoeUp2.nD Cert.MoeUp2.τ).loc Cert.MoeUp2.main_arg0) = m ((c.tc : Thread Cert.MoeUp2.nD Cert.MoeUp2.τ).loc Cert.MoeUp2.main_arg0)
      ∧ r.2.mem ((c.tc : Thread Cert.MoeUp2.nD Cert.MoeUp2.τ).loc Cert.MoeUp2.main_arg1) = m ((c.tc : Thread Cert.MoeUp2.nD Cert.MoeUp2.τ).loc Cert.MoeUp2.main_arg1)
      ∧ r.2.mem ((c.tc : Thread Cert.MoeUp2.nD Cert.MoeUp2.τ).loc Cert.MoeUp2.main_arg2) = m ((c.tc : Thread Cert.MoeUp2.nD Cert.MoeUp2.τ).loc Cert.MoeUp2.main_arg2)
      ∧ r.2.mem ((c.tc : Thread Cert.MoeUp2.nD Cert.MoeUp2.τ).loc Cert.MoeUp2.main_arg3) = m ((c.tc : Thread Cert.MoeUp2.nD Cert.MoeUp2.τ).loc Cert.MoeUp2.main_arg3)
      ∧ r.2.mem ((c.tc : Thread Cert.MoeUp2.nD Cert.MoeUp2.τ).loc Cert.MoeUp2.main_arg4) = m ((c.tc : Thread Cert.MoeUp2.nD Cert.MoeUp2.τ).loc Cert.MoeUp2.main_arg4)
      ∧ r.2.mem ((c.tc : Thread Cert.MoeUp2.nD Cert.MoeUp2.τ).loc Cert.MoeUp2.main_arg5) = m ((c.tc : Thread Cert.MoeUp2.nD Cert.MoeUp2.τ).loc Cert.MoeUp2.main_arg5)
      ∧ r.2.mem ((c.tc : Thread Cert.MoeUp2.nD Cert.MoeUp2.τ).loc Cert.MoeUp2.main_arg6) = m ((c.tc : Thread Cert.MoeUp2.nD Cert.MoeUp2.τ).loc Cert.MoeUp2.main_arg6)
      ∧ r.2.mem ((c.tc : Thread Cert.MoeUp2.nD Cert.MoeUp2.τ).loc Cert.MoeUp2.main_arg7) = m ((c.tc : Thread Cert.MoeUp2.nD Cert.MoeUp2.τ).loc Cert.MoeUp2.main_arg7))
      ∧ r.2.sem = fun _ => 0)

def quiescent_MoeUp2Ideal [hMoeUp2Ideal : Cert.MoeUp2Ideal.Facts] [hPre_up_tiles : Cert.Pre_up_tiles.Facts] : Prop :=
  ∀ (m : (ℓ : Loc Cert.MoeUp2Ideal.nD Cert.MoeUp2Ideal.τ Cert.MoeUp2Ideal.sig) → Buf (Elt Ideal) ℓ) (g : Dev Cert.MoeUp2Ideal.nD → PrngReg), Pre_MoeUp2Ideal m →
    θ_run (Cert.MoeUp2Ideal.defs (F := Ideal)) (onTc (τ := Cert.MoeUp2Ideal.τ) (Cert.MoeUp2Ideal.main (F := Ideal))) ⟨m, fun _ => 0, g⟩ (fun r => (∀ c : Dev Cert.MoeUp2Ideal.nD,
      r.2.mem ((c.tc : Thread Cert.MoeUp2Ideal.nD Cert.MoeUp2Ideal.τ).loc Cert.MoeUp2Ideal.main_arg0) = m ((c.tc : Thread Cert.MoeUp2Ideal.nD Cert.MoeUp2Ideal.τ).loc Cert.MoeUp2Ideal.main_arg0)
      ∧ r.2.mem ((c.tc : Thread Cert.MoeUp2Ideal.nD Cert.MoeUp2Ideal.τ).loc Cert.MoeUp2Ideal.main_arg1) = m ((c.tc : Thread Cert.MoeUp2Ideal.nD Cert.MoeUp2Ideal.τ).loc Cert.MoeUp2Ideal.main_arg1)
      ∧ r.2.mem ((c.tc : Thread Cert.MoeUp2Ideal.nD Cert.MoeUp2Ideal.τ).loc Cert.MoeUp2Ideal.main_arg2) = m ((c.tc : Thread Cert.MoeUp2Ideal.nD Cert.MoeUp2Ideal.τ).loc Cert.MoeUp2Ideal.main_arg2)
      ∧ r.2.mem ((c.tc : Thread Cert.MoeUp2Ideal.nD Cert.MoeUp2Ideal.τ).loc Cert.MoeUp2Ideal.main_arg3) = m ((c.tc : Thread Cert.MoeUp2Ideal.nD Cert.MoeUp2Ideal.τ).loc Cert.MoeUp2Ideal.main_arg3)
      ∧ r.2.mem ((c.tc : Thread Cert.MoeUp2Ideal.nD Cert.MoeUp2Ideal.τ).loc Cert.MoeUp2Ideal.main_arg4) = m ((c.tc : Thread Cert.MoeUp2Ideal.nD Cert.MoeUp2Ideal.τ).loc Cert.MoeUp2Ideal.main_arg4)
      ∧ r.2.mem ((c.tc : Thread Cert.MoeUp2Ideal.nD Cert.MoeUp2Ideal.τ).loc Cert.MoeUp2Ideal.main_arg5) = m ((c.tc : Thread Cert.MoeUp2Ideal.nD Cert.MoeUp2Ideal.τ).loc Cert.MoeUp2Ideal.main_arg5)
      ∧ r.2.mem ((c.tc : Thread Cert.MoeUp2Ideal.nD Cert.MoeUp2Ideal.τ).loc Cert.MoeUp2Ideal.main_arg6) = m ((c.tc : Thread Cert.MoeUp2Ideal.nD Cert.MoeUp2Ideal.τ).loc Cert.MoeUp2Ideal.main_arg6)
      ∧ r.2.mem ((c.tc : Thread Cert.MoeUp2Ideal.nD Cert.MoeUp2Ideal.τ).loc Cert.MoeUp2Ideal.main_arg7) = m ((c.tc : Thread Cert.MoeUp2Ideal.nD Cert.MoeUp2Ideal.τ).loc Cert.MoeUp2Ideal.main_arg7))
      ∧ r.2.sem = fun _ => 0)

def quiescent_MoeUp2RefIdeal [hMoeUp2RefIdeal : Cert.MoeUp2RefIdeal.Facts] : Prop :=
  ∀ (m : (ℓ : Loc Cert.MoeUp2RefIdeal.nD Cert.MoeUp2RefIdeal.τ Cert.MoeUp2RefIdeal.sig) → Buf (Elt Ideal) ℓ) (g : Dev Cert.MoeUp2RefIdeal.nD → PrngReg), Pre_MoeUp2RefIdeal m →
    θ_run (Cert.MoeUp2RefIdeal.defs (F := Ideal)) (onTc (τ := Cert.MoeUp2RefIdeal.τ) (Cert.MoeUp2RefIdeal.main (F := Ideal))) ⟨m, fun _ => 0, g⟩ (fun r => (∀ c : Dev Cert.MoeUp2RefIdeal.nD,
      r.2.mem ((c.tc : Thread Cert.MoeUp2RefIdeal.nD Cert.MoeUp2RefIdeal.τ).loc Cert.MoeUp2RefIdeal.main_arg0) = m ((c.tc : Thread Cert.MoeUp2RefIdeal.nD Cert.MoeUp2RefIdeal.τ).loc Cert.MoeUp2RefIdeal.main_arg0)
      ∧ r.2.mem ((c.tc : Thread Cert.MoeUp2RefIdeal.nD Cert.MoeUp2RefIdeal.τ).loc Cert.MoeUp2RefIdeal.main_arg1) = m ((c.tc : Thread Cert.MoeUp2RefIdeal.nD Cert.MoeUp2RefIdeal.τ).loc Cert.MoeUp2RefIdeal.main_arg1)
      ∧ r.2.mem ((c.tc : Thread Cert.MoeUp2RefIdeal.nD Cert.MoeUp2RefIdeal.τ).loc Cert.MoeUp2RefIdeal.main_arg2) = m ((c.tc : Thread Cert.MoeUp2RefIdeal.nD Cert.MoeUp2RefIdeal.τ).loc Cert.MoeUp2RefIdeal.main_arg2)
      ∧ r.2.mem ((c.tc : Thread Cert.MoeUp2RefIdeal.nD Cert.MoeUp2RefIdeal.τ).loc Cert.MoeUp2RefIdeal.main_arg3) = m ((c.tc : Thread Cert.MoeUp2RefIdeal.nD Cert.MoeUp2RefIdeal.τ).loc Cert.MoeUp2RefIdeal.main_arg3)
      ∧ r.2.mem ((c.tc : Thread Cert.MoeUp2RefIdeal.nD Cert.MoeUp2RefIdeal.τ).loc Cert.MoeUp2RefIdeal.main_arg4) = m ((c.tc : Thread Cert.MoeUp2RefIdeal.nD Cert.MoeUp2RefIdeal.τ).loc Cert.MoeUp2RefIdeal.main_arg4)
      ∧ r.2.mem ((c.tc : Thread Cert.MoeUp2RefIdeal.nD Cert.MoeUp2RefIdeal.τ).loc Cert.MoeUp2RefIdeal.main_arg5) = m ((c.tc : Thread Cert.MoeUp2RefIdeal.nD Cert.MoeUp2RefIdeal.τ).loc Cert.MoeUp2RefIdeal.main_arg5)
      ∧ r.2.mem ((c.tc : Thread Cert.MoeUp2RefIdeal.nD Cert.MoeUp2RefIdeal.τ).loc Cert.MoeUp2RefIdeal.main_arg6) = m ((c.tc : Thread Cert.MoeUp2RefIdeal.nD Cert.MoeUp2RefIdeal.τ).loc Cert.MoeUp2RefIdeal.main_arg6)
      ∧ r.2.mem ((c.tc : Thread Cert.MoeUp2RefIdeal.nD Cert.MoeUp2RefIdeal.τ).loc Cert.MoeUp2RefIdeal.main_arg7) = m ((c.tc : Thread Cert.MoeUp2RefIdeal.nD Cert.MoeUp2RefIdeal.τ).loc Cert.MoeUp2RefIdeal.main_arg7))
      ∧ r.2.sem = fun _ => 0)

def quiescent_MoeUp2RefIdeal_pre_up_tiles [hMoeUp2RefIdeal : Cert.MoeUp2RefIdeal.Facts] [hPre_up_tiles : Cert.Pre_up_tiles.Facts] : Prop :=
  ∀ (m : (ℓ : Loc Cert.MoeUp2RefIdeal.nD Cert.MoeUp2RefIdeal.τ Cert.MoeUp2RefIdeal.sig) → Buf (Elt Ideal) ℓ) (g : Dev Cert.MoeUp2RefIdeal.nD → PrngReg), Pre_MoeUp2RefIdeal_up_tiles m →
    θ_run (Cert.MoeUp2RefIdeal.defs (F := Ideal)) (onTc (τ := Cert.MoeUp2RefIdeal.τ) (Cert.MoeUp2RefIdeal.main (F := Ideal))) ⟨m, fun _ => 0, g⟩ (fun r => (∀ c : Dev Cert.MoeUp2RefIdeal.nD,
      r.2.mem ((c.tc : Thread Cert.MoeUp2RefIdeal.nD Cert.MoeUp2RefIdeal.τ).loc Cert.MoeUp2RefIdeal.main_arg0) = m ((c.tc : Thread Cert.MoeUp2RefIdeal.nD Cert.MoeUp2RefIdeal.τ).loc Cert.MoeUp2RefIdeal.main_arg0)
      ∧ r.2.mem ((c.tc : Thread Cert.MoeUp2RefIdeal.nD Cert.MoeUp2RefIdeal.τ).loc Cert.MoeUp2RefIdeal.main_arg1) = m ((c.tc : Thread Cert.MoeUp2RefIdeal.nD Cert.MoeUp2RefIdeal.τ).loc Cert.MoeUp2RefIdeal.main_arg1)
      ∧ r.2.mem ((c.tc : Thread Cert.MoeUp2RefIdeal.nD Cert.MoeUp2RefIdeal.τ).loc Cert.MoeUp2RefIdeal.main_arg2) = m ((c.tc : Thread Cert.MoeUp2RefIdeal.nD Cert.MoeUp2RefIdeal.τ).loc Cert.MoeUp2RefIdeal.main_arg2)
      ∧ r.2.mem ((c.tc : Thread Cert.MoeUp2RefIdeal.nD Cert.MoeUp2RefIdeal.τ).loc Cert.MoeUp2RefIdeal.main_arg3) = m ((c.tc : Thread Cert.MoeUp2RefIdeal.nD Cert.MoeUp2RefIdeal.τ).loc Cert.MoeUp2RefIdeal.main_arg3)
      ∧ r.2.mem ((c.tc : Thread Cert.MoeUp2RefIdeal.nD Cert.MoeUp2RefIdeal.τ).loc Cert.MoeUp2RefIdeal.main_arg4) = m ((c.tc : Thread Cert.MoeUp2RefIdeal.nD Cert.MoeUp2RefIdeal.τ).loc Cert.MoeUp2RefIdeal.main_arg4)
      ∧ r.2.mem ((c.tc : Thread Cert.MoeUp2RefIdeal.nD Cert.MoeUp2RefIdeal.τ).loc Cert.MoeUp2RefIdeal.main_arg5) = m ((c.tc : Thread Cert.MoeUp2RefIdeal.nD Cert.MoeUp2RefIdeal.τ).loc Cert.MoeUp2RefIdeal.main_arg5)
      ∧ r.2.mem ((c.tc : Thread Cert.MoeUp2RefIdeal.nD Cert.MoeUp2RefIdeal.τ).loc Cert.MoeUp2RefIdeal.main_arg6) = m ((c.tc : Thread Cert.MoeUp2RefIdeal.nD Cert.MoeUp2RefIdeal.τ).loc Cert.MoeUp2RefIdeal.main_arg6)
      ∧ r.2.mem ((c.tc : Thread Cert.MoeUp2RefIdeal.nD Cert.MoeUp2RefIdeal.τ).loc Cert.MoeUp2RefIdeal.main_arg7) = m ((c.tc : Thread Cert.MoeUp2RefIdeal.nD Cert.MoeUp2RefIdeal.τ).loc Cert.MoeUp2RefIdeal.main_arg7))
      ∧ r.2.sem = fun _ => 0)

def preserves_Kernel_KernelIdeal : Prop :=
  True

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v12)) (v1 : (c : Dev Cert.InProjIdeal.nD) → Buf (Elt Ideal) ((c.tc : Thread Cert.InProjIdeal.nD Cert.InProjIdeal.τ).loc Cert.InProjIdeal.main_v14)) (v2 : (c : Dev Cert.InProjIdeal.nD) → Buf (Elt Ideal) ((c.tc : Thread Cert.InProjIdeal.nD Cert.InProjIdeal.τ).loc Cert.InProjIdeal.main_v16)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12) = v0 c
          ∧ r.2.mem ((c.tc : Thread Cert.InProjIdeal.nD Cert.InProjIdeal.τ).loc Cert.InProjIdeal.main_v14) = v1 c
          ∧ r.2.mem ((c.tc : Thread Cert.InProjIdeal.nD Cert.InProjIdeal.τ).loc Cert.InProjIdeal.main_v16) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v69) = v0 c
          ∧ r.2.mem ((c.tc : Thread Cert.InProjRefIdeal.nD Cert.InProjRefIdeal.τ).loc Cert.InProjRefIdeal.main_v71) = v1 c
          ∧ r.2.mem ((c.tc : Thread Cert.InProjRefIdeal.nD Cert.InProjRefIdeal.τ).loc Cert.InProjRefIdeal.main_v72) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v26) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_down_tiles : Cert.Pre_down_tiles.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)
      ∧ m' ((c.tc : Thread Cert.MoeDownRefIdeal.nD Cert.MoeDownRefIdeal.τ).loc Cert.MoeDownRefIdeal.main_arg4) = m ((c.tc : Thread Cert.MoeDownIdeal.nD Cert.MoeDownIdeal.τ).loc Cert.MoeDownIdeal.main_arg4)
      ∧ m' ((c.tc : Thread Cert.MoeDownRefIdeal.nD Cert.MoeDownRefIdeal.τ).loc Cert.MoeDownRefIdeal.main_arg5) = m ((c.tc : Thread Cert.MoeDownIdeal.nD Cert.MoeDownIdeal.τ).loc Cert.MoeDownIdeal.main_arg5)) →
    ∃ (v0 : (c : Dev Cert.MoeDownIdeal.nD) → Buf (Elt Ideal) ((c.tc : Thread Cert.MoeDownIdeal.nD Cert.MoeDownIdeal.τ).loc Cert.MoeDownIdeal.main_v69)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v69) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
          ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v27) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3)
          ∧ r.2.mem ((c.tc : Thread Cert.MoeDownRefIdeal.nD Cert.MoeDownRefIdeal.τ).loc Cert.MoeDownRefIdeal.main_arg4) = m' ((c.tc : Thread Cert.MoeDownRefIdeal.nD Cert.MoeDownRefIdeal.τ).loc Cert.MoeDownRefIdeal.main_arg4)
          ∧ r.2.mem ((c.tc : Thread Cert.MoeDownRefIdeal.nD Cert.MoeDownRefIdeal.τ).loc Cert.MoeDownRefIdeal.main_arg5) = m' ((c.tc : Thread Cert.MoeDownRefIdeal.nD Cert.MoeDownRefIdeal.τ).loc Cert.MoeDownRefIdeal.main_arg5))

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_up_tiles : Cert.Pre_up_tiles.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)
      ∧ m' ((c.tc : Thread Cert.MoeUpRefIdeal.nD Cert.MoeUpRefIdeal.τ).loc Cert.MoeUpRefIdeal.main_arg5) = m ((c.tc : Thread Cert.MoeUpIdeal.nD Cert.MoeUpIdeal.τ).loc Cert.MoeUpIdeal.main_arg5)
      ∧ m' ((c.tc : Thread Cert.MoeUpRefIdeal.nD Cert.MoeUpRefIdeal.τ).loc Cert.MoeUpRefIdeal.main_arg6) = m ((c.tc : Thread Cert.MoeUpIdeal.nD Cert.MoeUpIdeal.τ).loc Cert.MoeUpIdeal.main_arg6)
      ∧ m' ((c.tc : Thread Cert.MoeUpRefIdeal.nD Cert.MoeUpRefIdeal.τ).loc Cert.MoeUpRefIdeal.main_arg7) = m ((c.tc : Thread Cert.MoeUpIdeal.nD Cert.MoeUpIdeal.τ).loc Cert.MoeUpIdeal.main_arg7)) →
    ∃ (v0 : (c : Dev Cert.MoeUpIdeal.nD) → Buf (Elt Ideal) ((c.tc : Thread Cert.MoeUpIdeal.nD Cert.MoeUpIdeal.τ).loc Cert.MoeUpIdeal.main_v70)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v70) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
          ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5)
          ∧ r.2.mem ((c.tc : Thread Cert.MoeUpIdeal.nD Cert.MoeUpIdeal.τ).loc Cert.MoeUpIdeal.main_arg6) = m ((c.tc : Thread Cert.MoeUpIdeal.nD Cert.MoeUpIdeal.τ).loc Cert.MoeUpIdeal.main_arg6)
          ∧ r.2.mem ((c.tc : Thread Cert.MoeUpIdeal.nD Cert.MoeUpIdeal.τ).loc Cert.MoeUpIdeal.main_arg7) = m ((c.tc : Thread Cert.MoeUpIdeal.nD Cert.MoeUpIdeal.τ).loc Cert.MoeUpIdeal.main_arg7))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v52) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4)
          ∧ r.2.mem ((c.tc : Thread Cert.MoeUpRefIdeal.nD Cert.MoeUpRefIdeal.τ).loc Cert.MoeUpRefIdeal.main_arg5) = m' ((c.tc : Thread Cert.MoeUpRefIdeal.nD Cert.MoeUpRefIdeal.τ).loc Cert.MoeUpRefIdeal.main_arg5)
          ∧ r.2.mem ((c.tc : Thread Cert.MoeUpRefIdeal.nD Cert.MoeUpRefIdeal.τ).loc Cert.MoeUpRefIdeal.main_arg6) = m' ((c.tc : Thread Cert.MoeUpRefIdeal.nD Cert.MoeUpRefIdeal.τ).loc Cert.MoeUpRefIdeal.main_arg6)
          ∧ r.2.mem ((c.tc : Thread Cert.MoeUpRefIdeal.nD Cert.MoeUpRefIdeal.τ).loc Cert.MoeUpRefIdeal.main_arg7) = m' ((c.tc : Thread Cert.MoeUpRefIdeal.nD Cert.MoeUpRefIdeal.τ).loc Cert.MoeUpRefIdeal.main_arg7))

def preserves_InProj2_InProj2Ideal : Prop :=
  True

def algebraic_InProj2Ideal_InProj2RefIdeal [hInProj2Ideal : Cert.InProj2Ideal.Facts] [hInProj2RefIdeal : Cert.InProj2RefIdeal.Facts] : Prop :=
  ∀ (m : (ℓ : Loc Cert.InProj2Ideal.nD Cert.InProj2Ideal.τ Cert.InProj2Ideal.sig) → Buf (Elt Ideal) ℓ) (g : Dev Cert.InProj2Ideal.nD → PrngReg)
    (m' : (ℓ : Loc Cert.InProj2RefIdeal.nD Cert.InProj2RefIdeal.τ Cert.InProj2RefIdeal.sig) → Buf (Elt Ideal) ℓ) (g' : Dev Cert.InProj2RefIdeal.nD → PrngReg), Pre_InProj2Ideal m →
    (∀ c : Dev Cert.InProj2Ideal.nD,
      m' ((c.tc : Thread Cert.InProj2RefIdeal.nD Cert.InProj2RefIdeal.τ).loc Cert.InProj2RefIdeal.main_arg0) = m ((c.tc : Thread Cert.InProj2Ideal.nD Cert.InProj2Ideal.τ).loc Cert.InProj2Ideal.main_arg0)
      ∧ m' ((c.tc : Thread Cert.InProj2RefIdeal.nD Cert.InProj2RefIdeal.τ).loc Cert.InProj2RefIdeal.main_arg1) = m ((c.tc : Thread Cert.InProj2Ideal.nD Cert.InProj2Ideal.τ).loc Cert.InProj2Ideal.main_arg1)
      ∧ m' ((c.tc : Thread Cert.InProj2RefIdeal.nD Cert.InProj2RefIdeal.τ).loc Cert.InProj2RefIdeal.main_arg2) = m ((c.tc : Thread Cert.InProj2Ideal.nD Cert.InProj2Ideal.τ).loc Cert.InProj2Ideal.main_arg2)
      ∧ m' ((c.tc : Thread Cert.InProj2RefIdeal.nD Cert.InProj2RefIdeal.τ).loc Cert.InProj2RefIdeal.main_arg3) = m ((c.tc : Thread Cert.InProj2Ideal.nD Cert.InProj2Ideal.τ).loc Cert.InProj2Ideal.main_arg3)) →
    ∃ (v0 : (c : Dev Cert.InProj2Ideal.nD) → Buf (Elt Ideal) ((c.tc : Thread Cert.InProj2Ideal.nD Cert.InProj2Ideal.τ).loc Cert.InProj2Ideal.main_v12)) (v1 : (c : Dev Cert.InProj2Ideal.nD) → Buf (Elt Ideal) ((c.tc : Thread Cert.InProj2Ideal.nD Cert.InProj2Ideal.τ).loc Cert.InProj2Ideal.main_v14)) (v2 : (c : Dev Cert.InProj2Ideal.nD) → Buf (Elt Ideal) ((c.tc : Thread Cert.InProj2Ideal.nD Cert.InProj2Ideal.τ).loc Cert.InProj2Ideal.main_v16)),
      θ_run (Cert.InProj2Ideal.defs (F := Ideal)) (onTc (τ := Cert.InProj2Ideal.τ) (Cert.InProj2Ideal.main (F := Ideal))) ⟨m, fun _ => 0, g⟩ (fun r => ∀ c : Dev Cert.InProj2Ideal.nD,
          r.2.mem ((c.tc : Thread Cert.InProj2Ideal.nD Cert.InProj2Ideal.τ).loc Cert.InProj2Ideal.main_v12) = v0 c
          ∧ r.2.mem ((c.tc : Thread Cert.InProj2Ideal.nD Cert.InProj2Ideal.τ).loc Cert.InProj2Ideal.main_v14) = v1 c
          ∧ r.2.mem ((c.tc : Thread Cert.InProj2Ideal.nD Cert.InProj2Ideal.τ).loc Cert.InProj2Ideal.main_v16) = v2 c
          ∧ r.2.mem ((c.tc : Thread Cert.InProj2Ideal.nD Cert.InProj2Ideal.τ).loc Cert.InProj2Ideal.main_arg0) = m ((c.tc : Thread Cert.InProj2Ideal.nD Cert.InProj2Ideal.τ).loc Cert.InProj2Ideal.main_arg0)
          ∧ r.2.mem ((c.tc : Thread Cert.InProj2Ideal.nD Cert.InProj2Ideal.τ).loc Cert.InProj2Ideal.main_arg1) = m ((c.tc : Thread Cert.InProj2Ideal.nD Cert.InProj2Ideal.τ).loc Cert.InProj2Ideal.main_arg1)
          ∧ r.2.mem ((c.tc : Thread Cert.InProj2Ideal.nD Cert.InProj2Ideal.τ).loc Cert.InProj2Ideal.main_arg2) = m ((c.tc : Thread Cert.InProj2Ideal.nD Cert.InProj2Ideal.τ).loc Cert.InProj2Ideal.main_arg2)
          ∧ r.2.mem ((c.tc : Thread Cert.InProj2Ideal.nD Cert.InProj2Ideal.τ).loc Cert.InProj2Ideal.main_arg3) = m ((c.tc : Thread Cert.InProj2Ideal.nD Cert.InProj2Ideal.τ).loc Cert.InProj2Ideal.main_arg3))
      ∧ θ_run (Cert.InProj2RefIdeal.defs (F := Ideal)) (onTc (τ := Cert.InProj2RefIdeal.τ) (Cert.InProj2RefIdeal.main (F := Ideal))) ⟨m', fun _ => 0, g'⟩ (fun r => ∀ c : Dev Cert.InProj2RefIdeal.nD,
          r.2.mem ((c.tc : Thread Cert.InProj2RefIdeal.nD Cert.InProj2RefIdeal.τ).loc Cert.InProj2RefIdeal.main_v69) = v0 c
          ∧ r.2.mem ((c.tc : Thread Cert.InProj2RefIdeal.nD Cert.InProj2RefIdeal.τ).loc Cert.InProj2RefIdeal.main_v71) = v1 c
          ∧ r.2.mem ((c.tc : Thread Cert.InProj2RefIdeal.nD Cert.InProj2RefIdeal.τ).loc Cert.InProj2RefIdeal.main_v72) = v2 c
          ∧ r.2.mem ((c.tc : Thread Cert.InProj2RefIdeal.nD Cert.InProj2RefIdeal.τ).loc Cert.InProj2RefIdeal.main_arg0) = m' ((c.tc : Thread Cert.InProj2RefIdeal.nD Cert.InProj2RefIdeal.τ).loc Cert.InProj2RefIdeal.main_arg0)
          ∧ r.2.mem ((c.tc : Thread Cert.InProj2RefIdeal.nD Cert.InProj2RefIdeal.τ).loc Cert.InProj2RefIdeal.main_arg1) = m' ((c.tc : Thread Cert.InProj2RefIdeal.nD Cert.InProj2RefIdeal.τ).loc Cert.InProj2RefIdeal.main_arg1)
          ∧ r.2.mem ((c.tc : Thread Cert.InProj2RefIdeal.nD Cert.InProj2RefIdeal.τ).loc Cert.InProj2RefIdeal.main_arg2) = m' ((c.tc : Thread Cert.InProj2RefIdeal.nD Cert.InProj2RefIdeal.τ).loc Cert.InProj2RefIdeal.main_arg2)
          ∧ r.2.mem ((c.tc : Thread Cert.InProj2RefIdeal.nD Cert.InProj2RefIdeal.τ).loc Cert.InProj2RefIdeal.main_arg3) = m' ((c.tc : Thread Cert.InProj2RefIdeal.nD Cert.InProj2RefIdeal.τ).loc Cert.InProj2RefIdeal.main_arg3))

def preserves_OutProj2_OutProj2Ideal : Prop :=
  True

def algebraic_OutProj2Ideal_OutProj2RefIdeal [hOutProj2Ideal : Cert.OutProj2Ideal.Facts] [hOutProj2RefIdeal : Cert.OutProj2RefIdeal.Facts] : Prop :=
  ∀ (m : (ℓ : Loc Cert.OutProj2Ideal.nD Cert.OutProj2Ideal.τ Cert.OutProj2Ideal.sig) → Buf (Elt Ideal) ℓ) (g : Dev Cert.OutProj2Ideal.nD → PrngReg)
    (m' : (ℓ : Loc Cert.OutProj2RefIdeal.nD Cert.OutProj2RefIdeal.τ Cert.OutProj2RefIdeal.sig) → Buf (Elt Ideal) ℓ) (g' : Dev Cert.OutProj2RefIdeal.nD → PrngReg), Pre_OutProj2Ideal m →
    (∀ c : Dev Cert.OutProj2Ideal.nD,
      m' ((c.tc : Thread Cert.OutProj2RefIdeal.nD Cert.OutProj2RefIdeal.τ).loc Cert.OutProj2RefIdeal.main_arg0) = m ((c.tc : Thread Cert.OutProj2Ideal.nD Cert.OutProj2Ideal.τ).loc Cert.OutProj2Ideal.main_arg0)
      ∧ m' ((c.tc : Thread Cert.OutProj2RefIdeal.nD Cert.OutProj2RefIdeal.τ).loc Cert.OutProj2RefIdeal.main_arg1) = m ((c.tc : Thread Cert.OutProj2Ideal.nD Cert.OutProj2Ideal.τ).loc Cert.OutProj2Ideal.main_arg1)
      ∧ m' ((c.tc : Thread Cert.OutProj2RefIdeal.nD Cert.OutProj2RefIdeal.τ).loc Cert.OutProj2RefIdeal.main_arg2) = m ((c.tc : Thread Cert.OutProj2Ideal.nD Cert.OutProj2Ideal.τ).loc Cert.OutProj2Ideal.main_arg2)
      ∧ m' ((c.tc : Thread Cert.OutProj2RefIdeal.nD Cert.OutProj2RefIdeal.τ).loc Cert.OutProj2RefIdeal.main_arg3) = m ((c.tc : Thread Cert.OutProj2Ideal.nD Cert.OutProj2Ideal.τ).loc Cert.OutProj2Ideal.main_arg3)
      ∧ m' ((c.tc : Thread Cert.OutProj2RefIdeal.nD Cert.OutProj2RefIdeal.τ).loc Cert.OutProj2RefIdeal.main_arg4) = m ((c.tc : Thread Cert.OutProj2Ideal.nD Cert.OutProj2Ideal.τ).loc Cert.OutProj2Ideal.main_arg4)
      ∧ m' ((c.tc : Thread Cert.OutProj2RefIdeal.nD Cert.OutProj2RefIdeal.τ).loc Cert.OutProj2RefIdeal.main_arg5) = m ((c.tc : Thread Cert.OutProj2Ideal.nD Cert.OutProj2Ideal.τ).loc Cert.OutProj2Ideal.main_arg5)
      ∧ m' ((c.tc : Thread Cert.OutProj2RefIdeal.nD Cert.OutProj2RefIdeal.τ).loc Cert.OutProj2RefIdeal.main_arg6) = m ((c.tc : Thread Cert.OutProj2Ideal.nD Cert.OutProj2Ideal.τ).loc Cert.OutProj2Ideal.main_arg6)) →
    ∃ (v0 : (c : Dev Cert.OutProj2Ideal.nD) → Buf (Elt Ideal) ((c.tc : Thread Cert.OutProj2Ideal.nD Cert.OutProj2Ideal.τ).loc Cert.OutProj2Ideal.main_v2)),
      θ_run (Cert.OutProj2Ideal.defs (F := Ideal)) (onTc (τ := Cert.OutProj2Ideal.τ) (Cert.OutProj2Ideal.main (F := Ideal))) ⟨m, fun _ => 0, g⟩ (fun r => ∀ c : Dev Cert.OutProj2Ideal.nD,
          r.2.mem ((c.tc : Thread Cert.OutProj2Ideal.nD Cert.OutProj2Ideal.τ).loc Cert.OutProj2Ideal.main_v2) = v0 c
          ∧ r.2.mem ((c.tc : Thread Cert.OutProj2Ideal.nD Cert.OutProj2Ideal.τ).loc Cert.OutProj2Ideal.main_arg0) = m ((c.tc : Thread Cert.OutProj2Ideal.nD Cert.OutProj2Ideal.τ).loc Cert.OutProj2Ideal.main_arg0)
          ∧ r.2.mem ((c.tc : Thread Cert.OutProj2Ideal.nD Cert.OutProj2Ideal.τ).loc Cert.OutProj2Ideal.main_arg1) = m ((c.tc : Thread Cert.OutProj2Ideal.nD Cert.OutProj2Ideal.τ).loc Cert.OutProj2Ideal.main_arg1)
          ∧ r.2.mem ((c.tc : Thread Cert.OutProj2Ideal.nD Cert.OutProj2Ideal.τ).loc Cert.OutProj2Ideal.main_arg2) = m ((c.tc : Thread Cert.OutProj2Ideal.nD Cert.OutProj2Ideal.τ).loc Cert.OutProj2Ideal.main_arg2)
          ∧ r.2.mem ((c.tc : Thread Cert.OutProj2Ideal.nD Cert.OutProj2Ideal.τ).loc Cert.OutProj2Ideal.main_arg3) = m ((c.tc : Thread Cert.OutProj2Ideal.nD Cert.OutProj2Ideal.τ).loc Cert.OutProj2Ideal.main_arg3)
          ∧ r.2.mem ((c.tc : Thread Cert.OutProj2Ideal.nD Cert.OutProj2Ideal.τ).loc Cert.OutProj2Ideal.main_arg4) = m ((c.tc : Thread Cert.OutProj2Ideal.nD Cert.OutProj2Ideal.τ).loc Cert.OutProj2Ideal.main_arg4)
          ∧ r.2.mem ((c.tc : Thread Cert.OutProj2Ideal.nD Cert.OutProj2Ideal.τ).loc Cert.OutProj2Ideal.main_arg5) = m ((c.tc : Thread Cert.OutProj2Ideal.nD Cert.OutProj2Ideal.τ).loc Cert.OutProj2Ideal.main_arg5)
          ∧ r.2.mem ((c.tc : Thread Cert.OutProj2Ideal.nD Cert.OutProj2Ideal.τ).loc Cert.OutProj2Ideal.main_arg6) = m ((c.tc : Thread Cert.OutProj2Ideal.nD Cert.OutProj2Ideal.τ).loc Cert.OutProj2Ideal.main_arg6))
      ∧ θ_run (Cert.OutProj2RefIdeal.defs (F := Ideal)) (onTc (τ := Cert.OutProj2RefIdeal.τ) (Cert.OutProj2RefIdeal.main (F := Ideal))) ⟨m', fun _ => 0, g'⟩ (fun r => ∀ c : Dev Cert.OutProj2RefIdeal.nD,
          r.2.mem ((c.tc : Thread Cert.OutProj2RefIdeal.nD Cert.OutProj2RefIdeal.τ).loc Cert.OutProj2RefIdeal.main_v26) = v0 c
          ∧ r.2.mem ((c.tc : Thread Cert.OutProj2RefIdeal.nD Cert.OutProj2RefIdeal.τ).loc Cert.OutProj2RefIdeal.main_arg0) = m' ((c.tc : Thread Cert.OutProj2RefIdeal.nD Cert.OutProj2RefIdeal.τ).loc Cert.OutProj2RefIdeal.main_arg0)
          ∧ r.2.mem ((c.tc : Thread Cert.OutProj2RefIdeal.nD Cert.OutProj2RefIdeal.τ).loc Cert.OutProj2RefIdeal.main_arg1) = m' ((c.tc : Thread Cert.OutProj2RefIdeal.nD Cert.OutProj2RefIdeal.τ).loc Cert.OutProj2RefIdeal.main_arg1)
          ∧ r.2.mem ((c.tc : Thread Cert.OutProj2RefIdeal.nD Cert.OutProj2RefIdeal.τ).loc Cert.OutProj2RefIdeal.main_arg2) = m' ((c.tc : Thread Cert.OutProj2RefIdeal.nD Cert.OutProj2RefIdeal.τ).loc Cert.OutProj2RefIdeal.main_arg2)
          ∧ r.2.mem ((c.tc : Thread Cert.OutProj2RefIdeal.nD Cert.OutProj2RefIdeal.τ).loc Cert.OutProj2RefIdeal.main_arg3) = m' ((c.tc : Thread Cert.OutProj2RefIdeal.nD Cert.OutProj2RefIdeal.τ).loc Cert.OutProj2RefIdeal.main_arg3)
          ∧ r.2.mem ((c.tc : Thread Cert.OutProj2RefIdeal.nD Cert.OutProj2RefIdeal.τ).loc Cert.OutProj2RefIdeal.main_arg4) = m' ((c.tc : Thread Cert.OutProj2RefIdeal.nD Cert.OutProj2RefIdeal.τ).loc Cert.OutProj2RefIdeal.main_arg4)
          ∧ r.2.mem ((c.tc : Thread Cert.OutProj2RefIdeal.nD Cert.OutProj2RefIdeal.τ).loc Cert.OutProj2RefIdeal.main_arg5) = m' ((c.tc : Thread Cert.OutProj2RefIdeal.nD Cert.OutProj2RefIdeal.τ).loc Cert.OutProj2RefIdeal.main_arg5)
          ∧ r.2.mem ((c.tc : Thread Cert.OutProj2RefIdeal.nD Cert.OutProj2RefIdeal.τ).loc Cert.OutProj2RefIdeal.main_arg6) = m' ((c.tc : Thread Cert.OutProj2RefIdeal.nD Cert.OutProj2RefIdeal.τ).loc Cert.OutProj2RefIdeal.main_arg6))

def preserves_MoeUp2_MoeUp2Ideal : Prop :=
  True

def algebraic_MoeUp2Ideal_MoeUp2RefIdeal [hMoeUp2Ideal : Cert.MoeUp2Ideal.Facts] [hMoeUp2RefIdeal : Cert.MoeUp2RefIdeal.Facts] [hPre_up_tiles : Cert.Pre_up_tiles.Facts] : Prop :=
  ∀ (m : (ℓ : Loc Cert.MoeUp2Ideal.nD Cert.MoeUp2Ideal.τ Cert.MoeUp2Ideal.sig) → Buf (Elt Ideal) ℓ) (g : Dev Cert.MoeUp2Ideal.nD → PrngReg)
    (m' : (ℓ : Loc Cert.MoeUp2RefIdeal.nD Cert.MoeUp2RefIdeal.τ Cert.MoeUp2RefIdeal.sig) → Buf (Elt Ideal) ℓ) (g' : Dev Cert.MoeUp2RefIdeal.nD → PrngReg), Pre_MoeUp2Ideal m →
    (∀ c : Dev Cert.MoeUp2Ideal.nD,
      m' ((c.tc : Thread Cert.MoeUp2RefIdeal.nD Cert.MoeUp2RefIdeal.τ).loc Cert.MoeUp2RefIdeal.main_arg0) = m ((c.tc : Thread Cert.MoeUp2Ideal.nD Cert.MoeUp2Ideal.τ).loc Cert.MoeUp2Ideal.main_arg0)
      ∧ m' ((c.tc : Thread Cert.MoeUp2RefIdeal.nD Cert.MoeUp2RefIdeal.τ).loc Cert.MoeUp2RefIdeal.main_arg1) = m ((c.tc : Thread Cert.MoeUp2Ideal.nD Cert.MoeUp2Ideal.τ).loc Cert.MoeUp2Ideal.main_arg1)
      ∧ m' ((c.tc : Thread Cert.MoeUp2RefIdeal.nD Cert.MoeUp2RefIdeal.τ).loc Cert.MoeUp2RefIdeal.main_arg2) = m ((c.tc : Thread Cert.MoeUp2Ideal.nD Cert.MoeUp2Ideal.τ).loc Cert.MoeUp2Ideal.main_arg2)
      ∧ m' ((c.tc : Thread Cert.MoeUp2RefIdeal.nD Cert.MoeUp2RefIdeal.τ).loc Cert.MoeUp2RefIdeal.main_arg3) = m ((c.tc : Thread Cert.MoeUp2Ideal.nD Cert.MoeUp2Ideal.τ).loc Cert.MoeUp2Ideal.main_arg3)
      ∧ m' ((c.tc : Thread Cert.MoeUp2RefIdeal.nD Cert.MoeUp2RefIdeal.τ).loc Cert.MoeUp2RefIdeal.main_arg4) = m ((c.tc : Thread Cert.MoeUp2Ideal.nD Cert.MoeUp2Ideal.τ).loc Cert.MoeUp2Ideal.main_arg4)
      ∧ m' ((c.tc : Thread Cert.MoeUp2RefIdeal.nD Cert.MoeUp2RefIdeal.τ).loc Cert.MoeUp2RefIdeal.main_arg5) = m ((c.tc : Thread Cert.MoeUp2Ideal.nD Cert.MoeUp2Ideal.τ).loc Cert.MoeUp2Ideal.main_arg5)
      ∧ m' ((c.tc : Thread Cert.MoeUp2RefIdeal.nD Cert.MoeUp2RefIdeal.τ).loc Cert.MoeUp2RefIdeal.main_arg6) = m ((c.tc : Thread Cert.MoeUp2Ideal.nD Cert.MoeUp2Ideal.τ).loc Cert.MoeUp2Ideal.main_arg6)
      ∧ m' ((c.tc : Thread Cert.MoeUp2RefIdeal.nD Cert.MoeUp2RefIdeal.τ).loc Cert.MoeUp2RefIdeal.main_arg7) = m ((c.tc : Thread Cert.MoeUp2Ideal.nD Cert.MoeUp2Ideal.τ).loc Cert.MoeUp2Ideal.main_arg7)) →
    ∃ (v0 : (c : Dev Cert.MoeUp2Ideal.nD) → Buf (Elt Ideal) ((c.tc : Thread Cert.MoeUp2Ideal.nD Cert.MoeUp2Ideal.τ).loc Cert.MoeUp2Ideal.main_v70)),
      θ_run (Cert.MoeUp2Ideal.defs (F := Ideal)) (onTc (τ := Cert.MoeUp2Ideal.τ) (Cert.MoeUp2Ideal.main (F := Ideal))) ⟨m, fun _ => 0, g⟩ (fun r => ∀ c : Dev Cert.MoeUp2Ideal.nD,
          r.2.mem ((c.tc : Thread Cert.MoeUp2Ideal.nD Cert.MoeUp2Ideal.τ).loc Cert.MoeUp2Ideal.main_v70) = v0 c
          ∧ r.2.mem ((c.tc : Thread Cert.MoeUp2Ideal.nD Cert.MoeUp2Ideal.τ).loc Cert.MoeUp2Ideal.main_arg0) = m ((c.tc : Thread Cert.MoeUp2Ideal.nD Cert.MoeUp2Ideal.τ).loc Cert.MoeUp2Ideal.main_arg0)
          ∧ r.2.mem ((c.tc : Thread Cert.MoeUp2Ideal.nD Cert.MoeUp2Ideal.τ).loc Cert.MoeUp2Ideal.main_arg1) = m ((c.tc : Thread Cert.MoeUp2Ideal.nD Cert.MoeUp2Ideal.τ).loc Cert.MoeUp2Ideal.main_arg1)
          ∧ r.2.mem ((c.tc : Thread Cert.MoeUp2Ideal.nD Cert.MoeUp2Ideal.τ).loc Cert.MoeUp2Ideal.main_arg2) = m ((c.tc : Thread Cert.MoeUp2Ideal.nD Cert.MoeUp2Ideal.τ).loc Cert.MoeUp2Ideal.main_arg2)
          ∧ r.2.mem ((c.tc : Thread Cert.MoeUp2Ideal.nD Cert.MoeUp2Ideal.τ).loc Cert.MoeUp2Ideal.main_arg3) = m ((c.tc : Thread Cert.MoeUp2Ideal.nD Cert.MoeUp2Ideal.τ).loc Cert.MoeUp2Ideal.main_arg3)
          ∧ r.2.mem ((c.tc : Thread Cert.MoeUp2Ideal.nD Cert.MoeUp2Ideal.τ).loc Cert.MoeUp2Ideal.main_arg4) = m ((c.tc : Thread Cert.MoeUp2Ideal.nD Cert.MoeUp2Ideal.τ).loc Cert.MoeUp2Ideal.main_arg4)
          ∧ r.2.mem ((c.tc : Thread Cert.MoeUp2Ideal.nD Cert.MoeUp2Ideal.τ).loc Cert.MoeUp2Ideal.main_arg5) = m ((c.tc : Thread Cert.MoeUp2Ideal.nD Cert.MoeUp2Ideal.τ).loc Cert.MoeUp2Ideal.main_arg5)
          ∧ r.2.mem ((c.tc : Thread Cert.MoeUp2Ideal.nD Cert.MoeUp2Ideal.τ).loc Cert.MoeUp2Ideal.main_arg6) = m ((c.tc : Thread Cert.MoeUp2Ideal.nD Cert.MoeUp2Ideal.τ).loc Cert.MoeUp2Ideal.main_arg6)
          ∧ r.2.mem ((c.tc : Thread Cert.MoeUp2Ideal.nD Cert.MoeUp2Ideal.τ).loc Cert.MoeUp2Ideal.main_arg7) = m ((c.tc : Thread Cert.MoeUp2Ideal.nD Cert.MoeUp2Ideal.τ).loc Cert.MoeUp2Ideal.main_arg7))
      ∧ θ_run (Cert.MoeUp2RefIdeal.defs (F := Ideal)) (onTc (τ := Cert.MoeUp2RefIdeal.τ) (Cert.MoeUp2RefIdeal.main (F := Ideal))) ⟨m', fun _ => 0, g'⟩ (fun r => ∀ c : Dev Cert.MoeUp2RefIdeal.nD,
          r.2.mem ((c.tc : Thread Cert.MoeUp2RefIdeal.nD Cert.MoeUp2RefIdeal.τ).loc Cert.MoeUp2RefIdeal.main_v52) = v0 c
          ∧ r.2.mem ((c.tc : Thread Cert.MoeUp2RefIdeal.nD Cert.MoeUp2RefIdeal.τ).loc Cert.MoeUp2RefIdeal.main_arg0) = m' ((c.tc : Thread Cert.MoeUp2RefIdeal.nD Cert.MoeUp2RefIdeal.τ).loc Cert.MoeUp2RefIdeal.main_arg0)
          ∧ r.2.mem ((c.tc : Thread Cert.MoeUp2RefIdeal.nD Cert.MoeUp2RefIdeal.τ).loc Cert.MoeUp2RefIdeal.main_arg1) = m' ((c.tc : Thread Cert.MoeUp2RefIdeal.nD Cert.MoeUp2RefIdeal.τ).loc Cert.MoeUp2RefIdeal.main_arg1)
          ∧ r.2.mem ((c.tc : Thread Cert.MoeUp2RefIdeal.nD Cert.MoeUp2RefIdeal.τ).loc Cert.MoeUp2RefIdeal.main_arg2) = m' ((c.tc : Thread Cert.MoeUp2RefIdeal.nD Cert.MoeUp2RefIdeal.τ).loc Cert.MoeUp2RefIdeal.main_arg2)
          ∧ r.2.mem ((c.tc : Thread Cert.MoeUp2RefIdeal.nD Cert.MoeUp2RefIdeal.τ).loc Cert.MoeUp2RefIdeal.main_arg3) = m' ((c.tc : Thread Cert.MoeUp2RefIdeal.nD Cert.MoeUp2RefIdeal.τ).loc Cert.MoeUp2RefIdeal.main_arg3)
          ∧ r.2.mem ((c.tc : Thread Cert.MoeUp2RefIdeal.nD Cert.MoeUp2RefIdeal.τ).loc Cert.MoeUp2RefIdeal.main_arg4) = m' ((c.tc : Thread Cert.MoeUp2RefIdeal.nD Cert.MoeUp2RefIdeal.τ).loc Cert.MoeUp2RefIdeal.main_arg4)
          ∧ r.2.mem ((c.tc : Thread Cert.MoeUp2RefIdeal.nD Cert.MoeUp2RefIdeal.τ).loc Cert.MoeUp2RefIdeal.main_arg5) = m' ((c.tc : Thread Cert.MoeUp2RefIdeal.nD Cert.MoeUp2RefIdeal.τ).loc Cert.MoeUp2RefIdeal.main_arg5)
          ∧ r.2.mem ((c.tc : Thread Cert.MoeUp2RefIdeal.nD Cert.MoeUp2RefIdeal.τ).loc Cert.MoeUp2RefIdeal.main_arg6) = m' ((c.tc : Thread Cert.MoeUp2RefIdeal.nD Cert.MoeUp2RefIdeal.τ).loc Cert.MoeUp2RefIdeal.main_arg6)
          ∧ r.2.mem ((c.tc : Thread Cert.MoeUp2RefIdeal.nD Cert.MoeUp2RefIdeal.τ).loc Cert.MoeUp2RefIdeal.main_arg7) = m' ((c.tc : Thread Cert.MoeUp2RefIdeal.nD Cert.MoeUp2RefIdeal.τ).loc Cert.MoeUp2RefIdeal.main_arg7))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMoeDown : Cert.MoeDown.Facts) (hMoeDownIdeal : Cert.MoeDownIdeal.Facts) (hMoeDownRefIdeal : Cert.MoeDownRefIdeal.Facts) (hMoeUp : Cert.MoeUp.Facts) (hMoeUpIdeal : Cert.MoeUpIdeal.Facts) (hMoeUpRefIdeal : Cert.MoeUpRefIdeal.Facts) (hInProj2 : Cert.InProj2.Facts) (hInProj2Ideal : Cert.InProj2Ideal.Facts) (hInProj2RefIdeal : Cert.InProj2RefIdeal.Facts) (hOutProj2 : Cert.OutProj2.Facts) (hOutProj2Ideal : Cert.OutProj2Ideal.Facts) (hOutProj2RefIdeal : Cert.OutProj2RefIdeal.Facts) (hMoeUp2 : Cert.MoeUp2.Facts) (hMoeUp2Ideal : Cert.MoeUp2Ideal.Facts) (hMoeUp2RefIdeal : Cert.MoeUp2RefIdeal.Facts) (hPre_finite_gains : Cert.Pre_finite_gains.Facts) (hPre_down_tiles : Cert.Pre_down_tiles.Facts) (hPre_up_tiles : Cert.Pre_up_tiles.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MoeDown (hMoeDown := hMoeDown) (hPre_down_tiles := hPre_down_tiles)
    ∧ quiescent_MoeDownIdeal (hMoeDownIdeal := hMoeDownIdeal) (hPre_down_tiles := hPre_down_tiles)
    ∧ quiescent_MoeDownRefIdeal (hMoeDownRefIdeal := hMoeDownRefIdeal)
    ∧ quiescent_MoeDownRefIdeal_pre_down_tiles (hMoeDownRefIdeal := hMoeDownRefIdeal) (hPre_down_tiles := hPre_down_tiles)
    ∧ quiescent_MoeUp (hMoeUp := hMoeUp) (hPre_up_tiles := hPre_up_tiles)
    ∧ quiescent_MoeUpIdeal (hMoeUpIdeal := hMoeUpIdeal) (hPre_up_tiles := hPre_up_tiles)
    ∧ quiescent_MoeUpRefIdeal (hMoeUpRefIdeal := hMoeUpRefIdeal)
    ∧ quiescent_MoeUpRefIdeal_pre_up_tiles (hMoeUpRefIdeal := hMoeUpRefIdeal) (hPre_up_tiles := hPre_up_tiles)
    ∧ quiescent_InProj2 (hInProj2 := hInProj2)
    ∧ quiescent_InProj2Ideal (hInProj2Ideal := hInProj2Ideal)
    ∧ quiescent_InProj2RefIdeal (hInProj2RefIdeal := hInProj2RefIdeal)
    ∧ quiescent_OutProj2 (hOutProj2 := hOutProj2)
    ∧ quiescent_OutProj2Ideal (hOutProj2Ideal := hOutProj2Ideal)
    ∧ quiescent_OutProj2RefIdeal (hOutProj2RefIdeal := hOutProj2RefIdeal)
    ∧ quiescent_MoeUp2 (hMoeUp2 := hMoeUp2) (hPre_up_tiles := hPre_up_tiles)
    ∧ quiescent_MoeUp2Ideal (hMoeUp2Ideal := hMoeUp2Ideal) (hPre_up_tiles := hPre_up_tiles)
    ∧ quiescent_MoeUp2RefIdeal (hMoeUp2RefIdeal := hMoeUp2RefIdeal)
    ∧ quiescent_MoeUp2RefIdeal_pre_up_tiles (hMoeUp2RefIdeal := hMoeUp2RefIdeal) (hPre_up_tiles := hPre_up_tiles)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MoeDown_MoeDownIdeal
    ∧ algebraic_MoeDownIdeal_MoeDownRefIdeal (hMoeDownIdeal := hMoeDownIdeal) (hMoeDownRefIdeal := hMoeDownRefIdeal) (hPre_down_tiles := hPre_down_tiles)
    ∧ preserves_MoeUp_MoeUpIdeal
    ∧ algebraic_MoeUpIdeal_MoeUpRefIdeal (hMoeUpIdeal := hMoeUpIdeal) (hMoeUpRefIdeal := hMoeUpRefIdeal) (hPre_up_tiles := hPre_up_tiles)
    ∧ preserves_InProj2_InProj2Ideal
    ∧ algebraic_InProj2Ideal_InProj2RefIdeal (hInProj2Ideal := hInProj2Ideal) (hInProj2RefIdeal := hInProj2RefIdeal)
    ∧ preserves_OutProj2_OutProj2Ideal
    ∧ algebraic_OutProj2Ideal_OutProj2RefIdeal (hOutProj2Ideal := hOutProj2Ideal) (hOutProj2RefIdeal := hOutProj2RefIdeal)
    ∧ preserves_MoeUp2_MoeUp2Ideal
    ∧ algebraic_MoeUp2Ideal_MoeUp2RefIdeal (hMoeUp2Ideal := hMoeUp2Ideal) (hMoeUp2RefIdeal := hMoeUp2RefIdeal) (hPre_up_tiles := hPre_up_tiles)
-- ==== Pre_down_tiles.lean ====
abbrev S32 : Shape := ⟨1, ![32]⟩
abbrev S81920x2048 : Shape := ⟨2, ![81920, 2048]⟩
abbrev S2x32x2048x4096 : Shape := ⟨4, ![2, 32, 2048, 4096]⟩
abbrev S2x32x4096 : Shape := ⟨3, ![2, 32, 4096]⟩
abbrev S_ : Shape := ⟨0, ![]⟩
abbrev S31 : Shape := ⟨1, ![31]⟩
abbrev S1 : Shape := ⟨1, ![1]⟩

class Facts : Prop where
  bcast_S_S32 : S_.BroadcastsInDim S32 (![] : Fin 0 → Fin S32.rank)
  slices_S32_S31_1 : S32.Slices ![1] S31
  slices_S32_S31_0 : S32.Slices ![0] S31
  slices_S32_S1_0 : S32.Slices ![0] S1
  bcast_S_S1 : S_.BroadcastsInDim S1 (![] : Fin 0 → Fin S1.rank)
  slices_S32_S1_31 : S32.Slices ![31] S1

variable [Facts]

def fn_part1 {F : FTy → Type} [FloatOps F] (main_arg1 : IVec S32 32) (main_arg2 : IVec S32 32) (main_v4 : IVec S32 1) (main_v9 : IVec S32 1) (main_v14 : IVec S32 1) (main_v16 : IVec S32 1) (main_v17 : IVec S31 32) : IVec S32 1 × IVec S32 1 × IVec S32 1 × IVec S32 1 × IVec S31 1 × IVec S1 1 × IVec S1 1 :=
  let main_v18 : IVec S31 32 := (extractStridedSlice S31 ![0] · slices_S32_S31_0) main_arg2
  let main_v19 : IVec S31 1 := cmpi .eq main_v17 main_v18
  let main_v20 : IVec S1 32 := (extractStridedSlice S1 ![0] · slices_S32_S1_0) main_arg1
  let main_c_5 : IVec S_ 32 := constantI S_ 32 0#32
  let main_v21 : IVec S1 32 := broadcastInDim S1 ![] bcast_S_S1 main_c_5
  let main_v22 : IVec S1 1 := cmpi .eq main_v20 main_v21
  let main_v23 : IVec S1 32 := (extractStridedSlice S1 ![31] · slices_S32_S1_31) main_arg2
  let main_c_6 : IVec S_ 32 := constantI S_ 32 1#32
  let main_v24 : IVec S1 32 := broadcastInDim S1 ![] bcast_S_S1 main_c_6
  let main_v25 : IVec S1 1 := cmpi .sge main_v23 main_v24
  (main_v4, main_v9, main_v14, main_v16, main_v19, main_v22, main_v25)

def fn {F : FTy → Type} [FloatOps F] (main_arg0 : IVec S32 32) (main_arg1 : IVec S32 32) (main_arg2 : IVec S32 32) (main_arg3 : FVec F S81920x2048 .bf16) (main_arg4 : FVec F S2x32x2048x4096 .f32) (main_arg5 : FVec F S2x32x4096 .f32) : IVec S32 1 × IVec S32 1 × IVec S32 1 × IVec S32 1 × IVec S31 1 × IVec S1 1 × IVec S1 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 160#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 32 := constantI S_ 32 0#32
  let main_v5 : IVec S32 32 := broadcastInDim S32 ![] bcast_S_S32 main_c_1
  let main_v6 : IVec S32 1 := cmpi .sge main_arg1 main_v5
  let main_c_2 : IVec S_ 32 := constantI S_ 32 160#32
  let main_v7 : IVec S32 32 := broadcastInDim S32 ![] bcast_S_S32 main_c_2
  let main_v8 : IVec S32 1 := cmpi .sle main_arg1 main_v7
  let main_v9 : IVec S32 1 := andi main_v6 main_v8
  let main_c_3 : IVec S_ 32 := constantI S_ 32 0#32
  let main_v10 : IVec S32 32 := broadcastInDim S32 ![] bcast_S_S32 main_c_3
  let main_v11 : IVec S32 1 := cmpi .sge main_arg2 main_v10
  let main_c_4 : IVec S_ 32 := constantI S_ 32 160#32
  let main_v12 : IVec S32 32 := broadcastInDim S32 ![] bcast_S_S32 main_c_4
  let main_v13 : IVec S32 1 := cmpi .sle main_arg2 main_v12
  let main_v14 : IVec S32 1 := andi main_v11 main_v13
  let main_v15 : IVec S32 32 := addi main_arg1 main_arg0
  let main_v16 : IVec S32 1 := cmpi .eq main_arg2 main_v15
  let main_v17 : IVec S31 32 := (extractStridedSlice S31 ![1] · slices_S32_S31_1) main_arg1
  fn_part1 (F := F) main_arg1 main_arg2 main_v4 main_v9 main_v14 main_v16 main_v17
-- ==== Pre_finite_gains.lean ====
abbrev S16384x8192 : Shape := ⟨2, ![16384, 8192]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S16384x8192 .f32) (main_arg1 : FVec F S128 .f32) (main_arg2 : FVec F S128 .f32) : IVec S128 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : IVec S128 1 := andi main_v2 main_v5
  main_v6
-- ==== Pre_up_tiles.lean ====
abbrev S32 : Shape := ⟨1, ![32]⟩
abbrev S81920x4096 : Shape := ⟨2, ![81920, 4096]⟩
abbrev S2x32x4096x2048 : Shape := ⟨4, ![2, 32, 4096, 2048]⟩
abbrev S2x32x2048 : Shape := ⟨3, ![2, 32, 2048]⟩
abbrev S_ : Shape := ⟨0, ![]⟩
abbrev S31 : Shape := ⟨1, ![31]⟩
abbrev S1 : Shape := ⟨1, ![1]⟩

class Facts : Prop where
  bcast_S_S32 : S_.BroadcastsInDim S32 (![] : Fin 0 → Fin S32.rank)
  slices_S32_S31_1 : S32.Slices ![1] S31
  slices_S32_S31_0 : S32.Slices ![0] S31
  slices_S32_S1_0 : S32.Slices ![0] S1
  bcast_S_S1 : S_.BroadcastsInDim S1 (![] : Fin 0 → Fin S1.rank)
  slices_S32_S1_31 : S32.Slices ![31] S1

variable [Facts]

def fn_part1 {F : FTy → Type} [FloatOps F] (main_arg1 : IVec S32 32) (main_arg2 : IVec S32 32) (main_v4 : IVec S32 1) (main_v9 : IVec S32 1) (main_v14 : IVec S32 1) (main_v16 : IVec S32 1) (main_v17 : IVec S31 32) : IVec S32 1 × IVec S32 1 × IVec S32 1 × IVec S32 1 × IVec S31 1 × IVec S1 1 × IVec S1 1 :=
  let main_v18 : IVec S31 32 := (extractStridedSlice S31 ![0] · slices_S32_S31_0) main_arg2
  let main_v19 : IVec S31 1 := cmpi .eq main_v17 main_v18
  let main_v20 : IVec S1 32 := (extractStridedSlice S1 ![0] · slices_S32_S1_0) main_arg1
  let main_c_5 : IVec S_ 32 := constantI S_ 32 0#32
  let main_v21 : IVec S1 32 := broadcastInDim S1 ![] bcast_S_S1 main_c_5
  let main_v22 : IVec S1 1 := cmpi .eq main_v20 main_v21
  let main_v23 : IVec S1 32 := (extractStridedSlice S1 ![31] · slices_S32_S1_31) main_arg2
  let main_c_6 : IVec S_ 32 := constantI S_ 32 1#32
  let main_v24 : IVec S1 32 := broadcastInDim S1 ![] bcast_S_S1 main_c_6
  let main_v25 : IVec S1 1 := cmpi .sge main_v23 main_v24
  (main_v4, main_v9, main_v14, main_v16, main_v19, main_v22, main_v25)

def fn {F : FTy → Type} [FloatOps F] (main_arg0 : IVec S32 32) (main_arg1 : IVec S32 32) (main_arg2 : IVec S32 32) (main_arg3 : FVec F S81920x4096 .bf16) (main_arg4 : FVec F S2x32x4096x2048 .f32) (main_arg5 : FVec F S2x32x4096x2048 .f32) (main_arg6 : FVec F S2x32x2048 .f32) (main_arg7 : FVec F S2x32x2048 .f32) : IVec S32 1 × IVec S32 1 × IVec S32 1 × IVec S32 1 × IVec S31 1 × IVec S1 1 × IVec S1 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 160#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 32 := constantI S_ 32 0#32
  let main_v5 : IVec S32 32 := broadcastInDim S32 ![] bcast_S_S32 main_c_1
  let main_v6 : IVec S32 1 := cmpi .sge main_arg1 main_v5
  let main_c_2 : IVec S_ 32 := constantI S_ 32 160#32
  let main_v7 : IVec S32 32 := broadcastInDim S32 ![] bcast_S_S32 main_c_2
  let main_v8 : IVec S32 1 := cmpi .sle main_arg1 main_v7
  let main_v9 : IVec S32 1 := andi main_v6 main_v8
  let main_c_3 : IVec S_ 32 := constantI S_ 32 0#32
  let main_v10 : IVec S32 32 := broadcastInDim S32 ![] bcast_S_S32 main_c_3
  let main_v11 : IVec S32 1 := cmpi .sge main_arg2 main_v10
  let main_c_4 : IVec S_ 32 := constantI S_ 32 160#32
  let main_v12 : IVec S32 32 := broadcastInDim S32 ![] bcast_S_S32 main_c_4
  let main_v13 : IVec S32 1 := cmpi .sle main_arg2 main_v12
  let main_v14 : IVec S32 1 := andi main_v11 main_v13
  let main_v15 : IVec S32 32 := addi main_arg1 main_arg0
  let main_v16 : IVec S32 1 := cmpi .eq main_arg2 main_v15
  let main_v17 : IVec S31 32 := (extractStridedSlice S31 ![1] · slices_S32_S31_1) main_arg1
  fn_part1 (F := F) main_arg1 main_arg2 main_v4 main_v9 main_v14 main_v16 main_v17
-- ==== Kernel.lean ====
abbrev S16384x8192 : Shape := ⟨2, ![16384, 8192]⟩
abbrev S128 : Shape := ⟨1, ![128]⟩
abbrev S1x128 : Shape := ⟨2, ![1, 128]⟩
abbrev S8192x1024 : Shape := ⟨2, ![8192, 1024]⟩
abbrev S8192x256 : Shape := ⟨2, ![8192, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 7
  | .vmem => 15
  | .smem => 0
  | _ => 0

abbrev bufTy : (tb : Table) → Fin (tcTables nBuf tb) → BufTy
  | .hbm, ⟨0, _⟩ => ⟨S16384x8192, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S8192x1024, .bf16⟩
  | .hbm, ⟨6, _⟩ => ⟨S8192x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_mult1 : BitVec 32 :=
  let c0_i32 : BitVec 32 := 0#32
  let c256_i32 : BitVec 32 := 256#32
  let v46 : BitVec 32 := Scalar.muli c0_i32 c256_i32
  v46
def k0_off1 : Fin 2 → Nat :=
  let c0_i32 : BitVec 32 := 0#32
  let c256_i32 : BitVec 32 := 256#32
  let v46 : BitVec 32 := Scalar.muli c0_i32 c256_i32
  let v47 : BitVec 32 := v46
  let v48 : Index := Scalar.indexCast v47
  let c0_23 : Index := 0#32
  ![v48.toNat, 0]
def k0_off2 : Fin 2 → Nat :=
  let c0_i32 : BitVec 32 := 0#32
  let c256_i32 : BitVec 32 := 256#32
  let v46 : BitVec 32 := Scalar.muli c0_i32 c256_i32
  let v47 : BitVec 32 := v46
  let v67 : Index := Scalar.indexCast v47
  let c0_33 : Index := 0#32
  ![v67.toNat, 0]
def k0_mult2 : BitVec 32 :=
  let c0_i32_43 : BitVec 32 := 0#32
  let c256_i32_44 : BitVec 32 := 256#32
  let v90 : BitVec 32 := Scalar.muli c0_i32_43 c256_i32_44
  v90
def k0_off3 : Fin 2 → Nat :=
  let c0_i32_43 : BitVec 32 := 0#32
  let c256_i32_44 : BitVec 32 := 256#32
  let v90 : BitVec 32 := Scalar.muli c0_i32_43 c256_i32_44
  let v91 : BitVec 32 := v90
  let v111 : Index := Scalar.indexCast v91
  let c128_55 : Index := 128#32
  ![v111.toNat, 128]
def k0_mult3 : BitVec 32 :=
  let c0_i32_66 : BitVec 32 := 0#32
  let c256_i32_67 : BitVec 32 := 256#32
  let v134 : BitVec 32 := Scalar.muli c0_i32_66 c256_i32_67
  v134
def k0_off4 : Fin 2 → Nat :=
  let c0_i32_66 : BitVec 32 := 0#32
  let c256_i32_67 : BitVec 32 := 256#32
  let v134 : BitVec 32 := Scalar.muli c0_i32_66 c256_i32_67
  let v135 : BitVec 32 := v134
  let v155 : Index := Scalar.indexCast v135
  let c256_78 : Index := 256#32
  ![v155.toNat, 256]
def k0_mult4 : BitVec 32 :=
  let c0_i32_89 : BitVec 32 := 0#32
  let c256_i32_90 : BitVec 32 := 256#32
  let v178 : BitVec 32 := Scalar.muli c0_i32_89 c256_i32_90
  v178
def k0_off5 : Fin 2 → Nat :=
  let c0_i32_89 : BitVec 32 := 0#32
  let c256_i32_90 : BitVec 32 := 256#32
  let v178 : BitVec 32 := Scalar.muli c0_i32_89 c256_i32_90
  let v179 : BitVec 32 := v178
  let v199 : Index := Scalar.indexCast v179
  let c384_101 : Index := 384#32
  ![v199.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c10_i32 : BitVec 32 := 10#32
  let v1 : BitVec 32 := Scalar.addi c10_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c48_i32 : BitVec 32 := 48#32
  let v1 : BitVec 32 := Scalar.addi c48_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c50_i32 : BitVec 32 := 50#32
  let v1 : BitVec 32 := Scalar.addi c50_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x8192 : Shape := ⟨2, ![16384, 8192]⟩
abbrev S128 : Shape := ⟨1, ![128]⟩
abbrev S8192x1536 : Shape := ⟨2, ![8192, 1536]⟩
abbrev S32x256x1536 : Shape := ⟨3, ![32, 256, 1536]⟩
abbrev S32x256x1024 : Shape := ⟨3, ![32, 256, 1024]⟩
abbrev S32x256x8x128 : Shape := ⟨4, ![32, 256, 8, 128]⟩
abbrev S_ : Shape := ⟨0, ![]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x256 : Shape := ⟨3, ![32, 256, 256]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S32x256x2x4x128 : Shape := ⟨5, ![32, 256, 2, 4, 128]⟩
abbrev S32x2x256x256x4 : Shape := ⟨5, ![32, 2, 256, 256, 4]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x2x128x4x256 : Shape := ⟨5, ![32, 2, 128, 4, 256]⟩
abbrev S8192x1024 : Shape := ⟨2, ![8192, 1024]⟩
abbrev S8192x256 : Shape := ⟨2, ![8192, 256]⟩

abbrev nBuf : Space → Nat
  | .hbm => 68
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S128, .f32⟩
  | .hbm, ⟨2, _⟩ => ⟨S128, .f32⟩
  | .hbm, ⟨3, _⟩ => ⟨S8192x1536, .f32⟩
  | .hbm, ⟨4, _⟩ => ⟨S32x256x1536, .f32⟩
  | .hbm, ⟨5, _⟩ => ⟨S32x256x1024, .f32⟩
  | .hbm, ⟨6, _⟩ => ⟨S32x256x8x128, .f32⟩
  | .hbm, ⟨7, _⟩ => ⟨S32x256x8x128, .f32⟩
  | .hbm, ⟨8, _⟩ => ⟨S_, .f32⟩
  | .hbm, ⟨9, _⟩ => ⟨S32x256x8, .f32⟩
  | .hbm, ⟨10, _⟩ => ⟨S32x256x8x1, .f32⟩
  | .hbm, ⟨11, _⟩ => ⟨S_, .f32⟩
  | .hbm, ⟨12, _⟩ => ⟨S32x256x8x1, .f32⟩
  | .hbm, ⟨13, _⟩ => ⟨S32x256x8x1, .f32⟩
  | .hbm, ⟨14, _⟩ => ⟨S_, .f32⟩
  | .hbm, ⟨15, _⟩ => ⟨S32x256x8x1, .f32⟩
  | .hbm, ⟨16, _⟩ => ⟨S32x256x8x1, .f32⟩
  | .hbm, ⟨17, _⟩ => ⟨S32x256x8x1, .f32⟩
  | .hbm, ⟨18, _⟩ => ⟨S32x256x8x128, .f32⟩
  | .hbm, ⟨19, _⟩ => ⟨S32x256x8x128, .f32⟩
  | .hbm, ⟨20, _⟩ => ⟨S1x1x1x128, .f32⟩
  | .hbm, ⟨21, _⟩ => ⟨S32x256x8x128, .f32⟩
  | .hbm, ⟨22, _⟩ => ⟨S32x256x8x128, .f32⟩
  | .hbm, ⟨23, _⟩ => ⟨S32x256x256, .f32⟩
  | .hbm, ⟨24, _⟩ => ⟨S32x256x2x128, .f32⟩
  | .hbm, ⟨25, _⟩ => ⟨S32x256x2x128, .f32⟩
  | .hbm, ⟨26, _⟩ => ⟨S_, .f32⟩
  | .hbm, ⟨27, _⟩ => ⟨S32x256x2, .f32⟩
  | .hbm, ⟨28, _⟩ => ⟨S32x256x2x1, .f32⟩
  | .hbm, ⟨29, _⟩ => ⟨S_, .f32⟩
  | .hbm, ⟨30, _⟩ => ⟨S32x256x2x1, .f32⟩
  | .hbm, ⟨31, _⟩ => ⟨S32x256x2x1, .f32⟩
  | .hbm, ⟨32, _⟩ => ⟨S_, .f32⟩
  | .hbm, ⟨33, _⟩ => ⟨S32x256x2x1, .f32⟩
  | .hbm, ⟨34, _⟩ => ⟨S32x256x2x1, .f32⟩
  | .hbm, ⟨35, _⟩ => ⟨S32x256x2x1, .f32⟩
  | .hbm, ⟨36, _⟩ => ⟨S32x256x2x128, .f32⟩
  | .hbm, ⟨37, _⟩ => ⟨S32x256x2x128, .f32⟩
  | .hbm, ⟨38, _⟩ => ⟨S1x1x1x128, .f32⟩
  | .hbm, ⟨39, _⟩ => ⟨S32x256x2x128, .f32⟩
  | .hbm, ⟨40, _⟩ => ⟨S32x256x2x128, .f32⟩
  | .hbm, ⟨41, _⟩ => ⟨S32x256x256, .f32⟩
  | .hbm, ⟨42, _⟩ => ⟨S32x256x2x128, .f32⟩
  | .hbm, ⟨43, _⟩ => ⟨S32x256x2x4x128, .f32⟩
  | .hbm, ⟨44, _⟩ => ⟨S32x2x256x256x4, .f32⟩
  | .hbm, ⟨45, _⟩ => ⟨S32x2x4x256x256, .f32⟩
  | .hbm, ⟨46, _⟩ => ⟨S_, .f32⟩
  | .hbm, ⟨47, _⟩ => ⟨S32x2x4x256x256, .f32⟩
  | .hbm, ⟨48, _⟩ => ⟨S32x2x4x256x256, .f32⟩
  | .hbm, ⟨49, _⟩ => ⟨S_, .f32⟩
  | .hbm, ⟨50, _⟩ => ⟨S32x2x4x256, .f32⟩
  | .hbm, ⟨51, _⟩ => ⟨S_, .f32⟩
  | .hbm, ⟨52, _⟩ => ⟨S32x2x4x256, .f32⟩
  | .hbm, ⟨53, _⟩ => ⟨S32x2x4x256, .f32⟩
  | .hbm, ⟨54, _⟩ => ⟨S32x2x4x256x1, .f32⟩
  | .hbm, ⟨55, _⟩ => ⟨S32x2x4x256x256, .f32⟩
  | .hbm, ⟨56, _⟩ => ⟨S32x2x4x256x256, .f32⟩
  | .hbm, ⟨57, _⟩ => ⟨S32x2x4x256x256, .f32⟩
  | .hbm, ⟨58, _⟩ => ⟨S_, .f32⟩
  | .hbm, ⟨59, _⟩ => ⟨S32x2x4x256, .f32⟩
  | .hbm, ⟨60, _⟩ => ⟨S32x2x4x256x1, .f32⟩
  | .hbm, ⟨61, _⟩ => ⟨S32x2x4x256x256, .f32⟩
  | .hbm, ⟨62, _⟩ => ⟨S32x2x4x256x256, .f32⟩
  | .hbm, ⟨63, _⟩ => ⟨S32x2x128x4x256, .f32⟩
  | .hbm, ⟨64, _⟩ => ⟨S32x256x2x4x128, .f32⟩
  | .hbm, ⟨65, _⟩ => ⟨S8192x1024, .f32⟩
  | .hbm, ⟨66, _⟩ => ⟨S8192x1024, .bf16⟩
  | .hbm, ⟨67, _⟩ => ⟨S8192x256, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== InProj.lean ====
abbrev S16384x4096 : Shape := ⟨2, ![16384, 4096]⟩
abbrev S16x24576 : Shape := ⟨2, ![16, 24576]⟩
abbrev S4096 : Shape := ⟨1, ![4096]⟩
abbrev S2x4096x7776 : Shape := ⟨3, ![2, 4096, 7776]⟩
abbrev S2x4096x4096 : Shape := ⟨3, ![2, 4096, 4096]⟩
abbrev S2x4096x1024 : Shape := ⟨3, ![2, 4096, 1024]⟩
abbrev S2x4096x1536 : Shape := ⟨3, ![2, 4096, 1536]⟩
abbrev S_ : Shape := ⟨0, ![]⟩
abbrev S2x4096x256 : Shape := ⟨3, ![2, 4096, 256]⟩
abbrev S2x4096x64 : Shape := ⟨3, ![2, 4096, 64]⟩
abbrev S2x4096x32 : Shape := ⟨3, ![2, 4096, 32]⟩
abbrev S2x4096x160 : Shape := ⟨3, ![2, 4096, 160]⟩
abbrev S2x4096x8192 : Shape := ⟨3, ![2, 4096, 8192]⟩
abbrev S16x6x1x4096 : Shape := ⟨4, ![16, 6, 1, 4096]⟩
abbrev S1x4096 : Shape := ⟨2, ![1, 4096]⟩
abbrev S16384x8192 : Shape := ⟨2, ![16384, 8192]⟩
abbrev S512x4096 : Shape := ⟨2, ![512, 4096]⟩
abbrev S1x1x1x4096 : Shape := ⟨4, ![1, 1, 1, 4096]⟩
abbrev S1x4096x512 : Shape := ⟨3, ![1, 4096, 512]⟩
abbrev S512x512 : Shape := ⟨2, ![512, 512]⟩
abbrev S512 : Shape := ⟨1, ![512]⟩
abbrev S512x1 : Shape := ⟨2, ![512, 1]⟩
abbrev S4096x512 : Shape := ⟨2, ![4096, 512]⟩
abbrev S8192x256 : Shape := ⟨2, ![8192, 256]⟩
abbrev S32x256x2x128 : Shape := ⟨4, ![32, 256, 2, 128]⟩
abbrev S8192x64 : Shape := ⟨2, ![8192, 64]⟩
abbrev S32x256x64 : Shape := ⟨3, ![32, 256, 64]⟩

abbrev nBuf : Space → Nat
  | .hbm => 23
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16x24576, .f32⟩
  | .hbm, ⟨2, _⟩ => ⟨S4096, .f32⟩
  | .hbm, ⟨3, _⟩ => ⟨S2x4096x7776, .f32⟩
  | .hbm, ⟨4, _⟩ => ⟨S2x4096x4096, .f32⟩
  | .hbm, ⟨5, _⟩ => ⟨S2x4096x1024, .f32⟩
  | .hbm, ⟨6, _⟩ => ⟨S2x4096x1536, .f32⟩
  | .hbm, ⟨7, _⟩ => ⟨S_, .f32⟩
  | .hbm, ⟨8, _⟩ => ⟨S2x4096x256, .f32⟩
  | .hbm, ⟨9, _⟩ => ⟨S2x4096x1024, .f32⟩
  | .hbm, ⟨10, _⟩ => ⟨S2x4096x64, .f32⟩
  | .hbm, ⟨11, _⟩ => ⟨S2x4096x32, .f32⟩
  | .hbm, ⟨12, _⟩ => ⟨S_, .f32⟩
  | .hbm, ⟨13, _⟩ => ⟨S2x4096x160, .f32⟩
  | .hbm, ⟨14, _⟩ => ⟨S2x4096x8192, .f32⟩
  | .hbm, ⟨15, _⟩ => ⟨S2x4096x8192, .bf16⟩
  | .hbm, ⟨16, _⟩ => ⟨S16x6x1x4096, .f32⟩
  | .hbm, ⟨17, _⟩ => ⟨S1x4096, .f32⟩
  | .hbm, ⟨18, _⟩ => ⟨S16384x8192, .f32⟩
  | .hbm, ⟨19, _⟩ => ⟨S8192x256, .f32⟩
  | .hbm, ⟨20, _⟩ => ⟨S32x256x2x128, .f32⟩
  | .hbm, ⟨21, _⟩ => ⟨S8192x64, .f32⟩
  | .hbm, ⟨22, _⟩ => ⟨S32x256x64, .f32⟩
  | .local _ .vmem, ⟨0, _⟩ => ⟨S512x4096, .f32⟩
  | .local _ .vmem, ⟨1, _⟩ => ⟨S512x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x4096, .f32⟩
  | .local _ .vmem, ⟨7, _⟩ => ⟨S1x4096x512, .bf16⟩
  | .local _ .vmem, ⟨8, _⟩ => ⟨S1x4096x512, .bf16⟩
  | .local _ .vmem, ⟨9, _⟩ => ⟨S512x512, .f32⟩
  | .local _ .vmem, ⟨10, _⟩ => ⟨S512x512, .f32⟩
  | .local _ .vmem, ⟨11, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  let c0_i32_10 : BitVec 32 := 0#32
  ![v21.toNat, c0_i32_7.toNat, c0_i32_8.toNat, c0_i32_9.toNat]

def cc0_transform_2 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c0_i32_8 : BitVec 32 := 0#32
  let c0_i32_9 : BitVec 32 := 0#32
  let c0_i32_10 : BitVec 32 := 0#32
  ![v21.toNat, c1_i32_7.toNat, c0_i32_8.toNat, c0_i32_9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S16384x4096 : Shape := ⟨2, ![16384, 4096]⟩
abbrev S16x24576 : Shape := ⟨2, ![16, 24576]⟩
abbrev S4096 : Shape := ⟨1, ![4096]⟩
abbrev S2x4096x7776 : Shape := ⟨3, ![2, 4096, 7776]⟩
abbrev S8192x4096 : Shape := ⟨2, ![8192, 4096]⟩
abbrev S32x256x4096 : Shape := ⟨3, ![32, 256, 4096]⟩
abbrev S8x1024x4096 : Shape := ⟨3, ![8, 1024, 4096]⟩
abbrev S1x24576 : Shape := ⟨2, ![1, 24576]⟩
abbrev S1x4096 : Shape := ⟨2, ![1, 4096]⟩
abbrev S1x1x4096 : Shape := ⟨3, ![1, 1, 4096]⟩
abbrev S_ : Shape := ⟨0, ![]⟩
abbrev S32x256 : Shape := ⟨2, ![32, 256]⟩
abbrev S32x256x1 : Shape := ⟨3, ![32, 256, 1]⟩
abbrev S1x4096x7776 : Shape := ⟨3, ![1, 4096, 7776]⟩
abbrev S4096x7776 : Shape := ⟨2, ![4096, 7776]⟩
abbrev S32x256x7776 : Shape := ⟨3, ![32, 256, 7776]⟩
abbrev S8x24576 : Shape := ⟨2, ![8, 24576]⟩
abbrev S8x4096 : Shape := ⟨2, ![8, 4096]⟩
abbrev S8x1x4096 : Shape := ⟨3, ![8, 1, 4096]⟩
abbrev S8x1024 : Shape := ⟨2, ![8, 1024]⟩
abbrev S8x1024x1 : Shape := ⟨3, ![8, 1024, 1]⟩
abbrev S8x1024x7776 : Shape := ⟨3, ![8, 1024, 7776]⟩
abbrev S8192x7776 : Shape := ⟨2, ![8192, 7776]⟩
abbrev S16384x7776 : Shape := ⟨2, ![16384, 7776]⟩
abbrev S16384x1024 : Shape := ⟨2, ![16384, 1024]⟩
abbrev S16384x1536 : Shape := ⟨2, ![16384, 1536]⟩
abbrev S16384x256 : Shape := ⟨2, ![16384, 256]⟩
abbrev S16384x64 : Shape := ⟨2, ![16384, 64]⟩
abbrev S16384x32 : Shape := ⟨2, ![16384, 32]⟩
abbrev S16384x160 : Shape := ⟨2, ![16384, 160]⟩
abbrev S16384x8192 : Shape := ⟨2, ![16384, 8192]⟩
abbrev S32x256x256 : Shape := ⟨3, ![32, 256, 256]⟩
abbrev S32x256x2x128 : Shape := ⟨4, ![32, 256, 2, 128]⟩
abbrev S32x256x64 : Shape := ⟨3, ![32, 256, 64]⟩

abbrev nBuf : Space → Nat
  | .hbm => 87
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16x24576, .f32⟩
  | .hbm, ⟨2, _⟩ => ⟨S4096, .f32⟩
  | .hbm, ⟨3, _⟩ => ⟨S2x4096x7776, .f32⟩
  | .hbm, ⟨4, _⟩ => ⟨S8192x4096, .f32⟩
  | .hbm, ⟨5, _⟩ => ⟨S32x256x4096, .f32⟩
  | .hbm, ⟨6, _⟩ => ⟨S8192x4096, .f32⟩
  | .hbm, ⟨7, _⟩ => ⟨S8x1024x4096, .f32⟩
  | .hbm, ⟨8, _⟩ => ⟨S1x24576, .f32⟩
  | .hbm, ⟨9, _⟩ => ⟨S1x4096, .f32⟩
  | .hbm, ⟨10, _⟩ => ⟨S1x1x4096, .f32⟩
  | .hbm, ⟨11, _⟩ => ⟨S1x4096, .f32⟩
  | .hbm, ⟨12, _⟩ => ⟨S1x1x4096, .f32⟩
  | .hbm, ⟨13, _⟩ => ⟨S32x256x4096, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x4096, .f32⟩
  | .hbm, ⟨25, _⟩ => ⟨S32x256x4096, .f32⟩
  | .hbm, ⟨26, _⟩ => ⟨S1x1x4096, .f32⟩
  | .hbm, ⟨27, _⟩ => ⟨S32x256x4096, .f32⟩
  | .hbm, ⟨28, _⟩ => ⟨S32x256x4096, .f32⟩
  | .hbm, ⟨29, _⟩ => ⟨S_, .f32⟩
  | .hbm, ⟨30, _⟩ => ⟨S1x1x4096, .f32⟩
  | .hbm, ⟨31, _⟩ => ⟨S1x1x4096, .f32⟩
  | .hbm, ⟨32, _⟩ => ⟨S32x256x4096, .f32⟩
  | .hbm, ⟨33, _⟩ => ⟨S32x256x4096, .f32⟩
  | .hbm, ⟨34, _⟩ => ⟨S32x256x4096, .f32⟩
  | .hbm, ⟨35, _⟩ => ⟨S32x256x4096, .f32⟩
  | .hbm, ⟨36, _⟩ => ⟨S1x4096x7776, .f32⟩
  | .hbm, ⟨37, _⟩ => ⟨S4096x7776, .f32⟩
  | .hbm, ⟨38, _⟩ => ⟨S32x256x7776, .f32⟩
  | .hbm, ⟨39, _⟩ => ⟨S8x24576, .f32⟩
  | .hbm, ⟨40, _⟩ => ⟨S8x4096, .f32⟩
  | .hbm, ⟨41, _⟩ => ⟨S8x1x4096, .f32⟩
  | .hbm, ⟨42, _⟩ => ⟨S8x4096, .f32⟩
  | .hbm, ⟨43, _⟩ => ⟨S8x1x4096, .f32⟩
  | .hbm, ⟨44, _⟩ => ⟨S8x1024x4096, .f32⟩
  | .hbm, ⟨45, _⟩ => ⟨S_, .f32⟩
  | .hbm, ⟨46, _⟩ => ⟨S8x1024, .f32⟩
  | .hbm, ⟨47, _⟩ => ⟨S8x1024x1, .f32⟩
  | .hbm, ⟨48, _⟩ => ⟨S_, .f32⟩
  | .hbm, ⟨49, _⟩ => ⟨S8x1024x1, .f32⟩
  | .hbm, ⟨50, _⟩ => ⟨S8x1024x1, .f32⟩
  | .hbm, ⟨51, _⟩ => ⟨S_, .f32⟩
  | .hbm, ⟨52, _⟩ => ⟨S8x1024x1, .f32⟩
  | .hbm, ⟨53, _⟩ => ⟨S8x1024x1, .f32⟩
  | .hbm, ⟨54, _⟩ => ⟨S8x1024x1, .f32⟩
  | .hbm, ⟨55, _⟩ => ⟨S8x1024x4096, .f32⟩
  | .hbm, ⟨56, _⟩ => ⟨S8x1024x4096, .f32⟩
  | .hbm, ⟨57, _⟩ => ⟨S1x1x4096, .f32⟩
  | .hbm, ⟨58, _⟩ => ⟨S8x1024x4096, .f32⟩
  | .hbm, ⟨59, _⟩ => ⟨S8x1024x4096, .f32⟩
  | .hbm, ⟨60, _⟩ => ⟨S_, .f32⟩
  | .hbm, ⟨61, _⟩ => ⟨S8x1x4096, .f32⟩
  | .hbm, ⟨62, _⟩ => ⟨S8x1x4096, .f32⟩
  | .hbm, ⟨63, _⟩ => ⟨S8x1024x4096, .f32⟩
  | .hbm, ⟨64, _⟩ => ⟨S8x1024x4096, .f32⟩
  | .hbm, ⟨65, _⟩ => ⟨S8x1024x4096, .f32⟩
  | .hbm, ⟨66, _⟩ => ⟨S8x1024x4096, .f32⟩
  | .hbm, ⟨67, _⟩ => ⟨S1x4096x7776, .f32⟩
  | .hbm, ⟨68, _⟩ => ⟨S4096x7776, .f32⟩
  | .hbm, ⟨69, _⟩ => ⟨S8x1024x7776, .f32⟩
  | .hbm, ⟨70, _⟩ => ⟨S8192x7776, .f32⟩
  | .hbm, ⟨71, _⟩ => ⟨S8192x7776, .f32⟩
  | .hbm, ⟨72, _⟩ => ⟨S16384x7776, .f32⟩
  | .hbm, ⟨73, _⟩ => ⟨S16384x4096, .f32⟩
  | .hbm, ⟨74, _⟩ => ⟨S16384x1024, .f32⟩
  | .hbm, ⟨75, _⟩ => ⟨S16384x1536, .f32⟩
  | .hbm, ⟨76, _⟩ => ⟨S_, .f32⟩
  | .hbm, ⟨77, _⟩ => ⟨S16384x256, .f32⟩
  | .hbm, ⟨78, _⟩ => ⟨S16384x1024, .f32⟩
  | .hbm, ⟨79, _⟩ => ⟨S16384x64, .f32⟩
  | .hbm, ⟨80, _⟩ => ⟨S16384x32, .f32⟩
  | .hbm, ⟨81, _⟩ => ⟨S_, .f32⟩
  | .hbm, ⟨82, _⟩ => ⟨S16384x160, .f32⟩
  | .hbm, ⟨83, _⟩ => ⟨S16384x8192, .f32⟩
  | .hbm, ⟨84, _⟩ => ⟨S32x256x256, .f32⟩
  | .hbm, ⟨85, _⟩ => ⟨S32x256x2x128, .f32⟩
  | .hbm, ⟨86, _⟩ => ⟨S32x256x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩

abbrev nD : Nat := 1
abbrev τ : Topo := Topo.v7x

variable {F : FTy → Type} [FloatOps F]
-- ==== OutProj.lean ====
abbrev S16384x1024 : Shape := ⟨2, ![16384, 1024]⟩
abbrev S2x4096x4096 : Shape := ⟨3, ![2, 4096, 4096]⟩
abbrev S16384x4096 : Shape := ⟨2, ![16384, 4096]⟩
abbrev S16x24576 : Shape := ⟨2, ![16, 24576]⟩
abbrev S16x6x1x4096 : Shape := ⟨4, ![16, 6, 1, 4096]⟩
abbrev S512x1024 : Shape := ⟨2, ![512, 1024]⟩
abbrev S1x4096x512 : Shape := ⟨3, ![1, 4096, 512]⟩
abbrev S512x512 : Shape := ⟨2, ![512, 512]⟩
abbrev S1x1x1x512 : Shape := ⟨4, ![1, 1, 1, 512]⟩
abbrev S1x1024x512 : Shape := ⟨3, ![1, 1024, 512]⟩
abbrev S1024x512 : Shape := ⟨2, ![1024, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2x4096x4096, .f32⟩
  | .hbm, ⟨5, _⟩ => ⟨S16384x4096, .f32⟩
  | .hbm, ⟨6, _⟩ => ⟨S16x24576, .f32⟩
  | .hbm, ⟨7, _⟩ => ⟨S2x4096x4096, .bf16⟩
  | .hbm, ⟨8, _⟩ => ⟨S16x6x1x4096, .f32⟩
  | .hbm, ⟨9, _⟩ => ⟨S16384x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x4096x512, .bf16⟩
  | .local _ .vmem, ⟨9, _⟩ => ⟨S1x4096x512, .bf16⟩
  | .local _ .vmem, ⟨10, _⟩ => ⟨S512x512, .f32⟩
  | .local _ .vmem, ⟨11, _⟩ => ⟨S512x512, .f32⟩
  | .local _ .vmem, ⟨12, _⟩ => ⟨S1x1x1x512, .f32⟩
  | .local _ .vmem, ⟨13, _⟩ => ⟨S1x1x1x512, .f32⟩
  | .local _ .vmem, ⟨14, _⟩ => ⟨S512x512, .f32⟩
  | .local _ .vmem, ⟨15, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c2_i32 : BitVec 32 := 2#32
  let c0_i32_7 : BitVec 32 := 0#32
  let c0_i32_8 : BitVec 32 := 0#32
  ![v21.toNat, c2_i32.toNat, c0_i32_7.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProjRefIdeal.lean ====
abbrev S16384x1024 : Shape := ⟨2, ![16384, 1024]⟩
abbrev S2x4096x4096 : Shape := ⟨3, ![2, 4096, 4096]⟩
abbrev S16384x4096 : Shape := ⟨2, ![16384, 4096]⟩
abbrev S16x24576 : Shape := ⟨2, ![16, 24576]⟩
abbrev S1x4096x4096 : Shape := ⟨3, ![1, 4096, 4096]⟩
abbrev S4096x4096 : Shape := ⟨2, ![4096, 4096]⟩
abbrev S16x4096 : Shape := ⟨2, ![16, 4096]⟩
abbrev S8192x4096 : Shape := ⟨2, ![8192, 4096]⟩
abbrev S32x256x4096 : Shape := ⟨3, ![32, 256, 4096]⟩
abbrev S1x4096 : Shape := ⟨2, ![1, 4096]⟩
abbrev S1x1x4096 : Shape := ⟨3, ![1, 1, 4096]⟩
abbrev S8x1024x4096 : Shape := ⟨3, ![8, 1024, 4096]⟩
abbrev S8x4096 : Shape := ⟨2, ![8, 4096]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2x4096x4096, .f32⟩
  | .hbm, ⟨5, _⟩ => ⟨S16384x4096, .f32⟩
  | .hbm, ⟨6, _⟩ => ⟨S16x24576, .f32⟩
  | .hbm, ⟨7, _⟩ => ⟨S16384x4096, .bf16⟩
  | .hbm, ⟨8, _⟩ => ⟨S16384x4096, .f32⟩
  | .hbm, ⟨9, _⟩ => ⟨S1x4096x4096, .f32⟩
  | .hbm, ⟨10, _⟩ => ⟨S4096x4096, .f32⟩
  | .hbm, ⟨11, _⟩ => ⟨S16384x4096, .f32⟩
  | .hbm, ⟨12, _⟩ => ⟨S16x4096, .f32⟩
  | .hbm, ⟨13, _⟩ => ⟨S8192x4096, .f32⟩
  | .hbm, ⟨14, _⟩ => ⟨S32x256x4096, .f32⟩
  | .hbm, ⟨15, _⟩ => ⟨S1x4096, .f32⟩
  | .hbm, ⟨16, _⟩ => ⟨S1x1x4096, .f32⟩
  | .hbm, ⟨17, _⟩ => ⟨S8192x4096, .f32⟩
  | .hbm, ⟨18, _⟩ => ⟨S32x256x4096, .f32⟩
  | .hbm, ⟨19, _⟩ => ⟨S32x256x4096, .f32⟩
  | .hbm, ⟨20, _⟩ => ⟨S32x256x4096, .f32⟩
  | .hbm, ⟨21, _⟩ => ⟨S32x256x4096, .f32⟩
  | .hbm, ⟨22, _⟩ => ⟨S8192x4096, .f32⟩
  | .hbm, ⟨23, _⟩ => ⟨S8x1024x4096, .f32⟩
  | .hbm, ⟨24, _⟩ => ⟨S8x4096, .f32⟩
  | .hbm, ⟨25, _⟩ => ⟨S8x1x4096, .f32⟩
  | .hbm, ⟨26, _⟩ => ⟨S8192x4096, .f32⟩
  | .hbm, ⟨27, _⟩ => ⟨S8x1024x4096, .f32⟩
  | .hbm, ⟨28, _⟩ => ⟨S8x1024x4096, .f32⟩
  | .hbm, ⟨29, _⟩ => ⟨S8x1024x4096, .f32⟩
  | .hbm, ⟨30, _⟩ => ⟨S8x1024x4096, .f32⟩
  | .hbm, ⟨31, _⟩ => ⟨S8192x4096, .f32⟩
  | .hbm, ⟨32, _⟩ => ⟨S8192x4096, .f32⟩
  | .hbm, ⟨33, _⟩ => ⟨S16384x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== MoeDown.lean ====
abbrev S32 : Shape := ⟨1, ![32]⟩
abbrev S81920x2048 : Shape := ⟨2, ![81920, 2048]⟩
abbrev S2x32x2048x4096 : Shape := ⟨4, ![2, 32, 2048, 4096]⟩
abbrev S2x32x4096 : Shape := ⟨3, ![2, 32, 4096]⟩
abbrev S1 : Shape := ⟨1, ![1]⟩
abbrev S_ : Shape := ⟨0, ![]⟩
abbrev S640 : Shape := ⟨1, ![640]⟩
abbrev S640x1 : Shape := ⟨2, ![640, 1]⟩
abbrev S1x32 : Shape := ⟨2, ![1, 32]⟩
abbrev S640x32 : Shape := ⟨2, ![640, 32]⟩
abbrev S2x32x1x4096 : Shape := ⟨4, ![2, 32, 1, 4096]⟩
abbrev S81920x4096 : Shape := ⟨2, ![81920, 4096]⟩
abbrev S512x2048 : Shape := ⟨2, ![512, 2048]⟩
abbrev S1x1x2048x1024 : Shape := ⟨4, ![1, 1, 2048, 1024]⟩
abbrev S1x1x1x1024 : Shape := ⟨4, ![1, 1, 1, 1024]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 141
  | .vmem => 9
  | .smem => 6
  | _ => 0

abbrev hbmTy0_0 (i : Nat) : BufTy := match i % 128 with
  | 0 => ⟨S32, .i32⟩
  | 1 => ⟨S32, .i32⟩
  | 2 => ⟨S32, .i32⟩
  | 3 => ⟨S81920x2048, .bf16⟩
  | 4 => ⟨S2x32x2048x4096, .f32⟩
  | 5 => ⟨S2x32x4096, .f32⟩
  | 6 => ⟨S1, .i32⟩
  | 7 => ⟨S_, .i32⟩
  | 8 => ⟨S640, .i32⟩
  | 9 => ⟨S_, .i32⟩
  | 10 => ⟨S_, .i32⟩
  | 11 => ⟨S_, .i32⟩
  | 12 => ⟨S_, .i32⟩
  | 13 => ⟨S640, .i32⟩
  | 14 => ⟨S640, .i32⟩
  | 15 => ⟨S640x1, .i32⟩
  | 16 => ⟨S_, .i32⟩
  | 17 => ⟨S32, .i32⟩
  | 18 => ⟨S32, .i32⟩
  | 19 => ⟨S1x32, .i32⟩
  | 20 => ⟨S640x32, .i32⟩
  | 21 => ⟨S640x32, .i32⟩
  | 22 => ⟨S640x32, .i1⟩
  | 23 => ⟨S640x32, .i32⟩
  | 24 => ⟨S_, .i32⟩
  | 25 => ⟨S640, .i32⟩
  | 26 => ⟨S_, .i32⟩
  | 27 => ⟨S640, .i32⟩
  | 28 => ⟨S_, .i32⟩
  | 29 => ⟨S640, .i32⟩
  | 30 => ⟨S640, .i1⟩
  | 31 => ⟨S_, .i32⟩
  | 32 => ⟨S640, .i32⟩
  | 33 => ⟨S640, .i32⟩
  | 34 => ⟨S640, .i32⟩
  | 35 => ⟨S640x1, .i32⟩
  | 36 => ⟨S640, .i32⟩
  | 37 => ⟨S_, .i32⟩
  | 38 => ⟨S640, .i32⟩
  | 39 => ⟨S640, .i32⟩
  | 40 => ⟨S640, .i32⟩
  | 41 => ⟨S_, .i32⟩
  | 42 => ⟨S640, .i32⟩
  | 43 => ⟨S640, .i1⟩
  | 44 => ⟨S_, .i32⟩
  | 45 => ⟨S640, .i32⟩
  | 46 => ⟨S640, .i32⟩
  | 47 => ⟨S640, .i32⟩
  | 48 => ⟨S640x1, .i32⟩
  | 49 => ⟨S640, .i32⟩
  | 50 => ⟨S_, .i32⟩
  | 51 => ⟨S640, .i32⟩
  | 52 => ⟨S640, .i32⟩
  | 53 => ⟨S640, .i32⟩
  | 54 => ⟨S640, .i32⟩
  | 55 => ⟨S640, .i32⟩
  | 56 => ⟨S640, .i1⟩
  | 57 => ⟨S640, .i32⟩
  | 58 => ⟨S_, .i32⟩
  | 59 => ⟨S640, .i32⟩
  | 60 => ⟨S640, .i1⟩
  | 61 => ⟨S640, .i1⟩
  | 62 => ⟨S_, .i32⟩
  | 63 => ⟨S640, .i32⟩
  | 64 => ⟨S640, .i32⟩
  | 65 => ⟨S640, .i32⟩
  | 66 => ⟨S640, .i32⟩
  | 67 => ⟨S_, .i32⟩
  | 68 => ⟨S640, .i32⟩
  | 69 => ⟨S640, .i1⟩
  | 70 => ⟨S_, .i32⟩
  | 71 => ⟨S640, .i32⟩
  | 72 => ⟨S640, .i32⟩
  | 73 => ⟨S640, .i32⟩
  | 74 => ⟨S640x1, .i32⟩
  | 75 => ⟨S640, .i32⟩
  | 76 => ⟨S_, .i32⟩
  | 77 => ⟨S_, .i32⟩
  | 78 => ⟨S640, .i32⟩
  | 79 => ⟨S640, .i1⟩
  | 80 => ⟨S_, .i32⟩
  | 81 => ⟨S_, .i32⟩
  | 82 => ⟨S640, .i32⟩
  | 83 => ⟨S640, .i32⟩
  | 84 => ⟨S_, .i32⟩
  | 85 => ⟨S_, .i32⟩
  | 86 => ⟨S640, .i32⟩
  | 87 => ⟨S640, .i32⟩
  | 88 => ⟨S640, .i32⟩
  | 89 => ⟨S_, .i32⟩
  | 90 => ⟨S640, .i32⟩
  | 91 => ⟨S640, .i1⟩
  | 92 => ⟨S640, .i32⟩
  | 93 => ⟨S640, .i32⟩
  | 94 => ⟨S_, .i32⟩
  | 95 => ⟨S640, .i32⟩
  | 96 => ⟨S640, .i1⟩
  | 97 => ⟨S640, .i1⟩
  | 98 => ⟨S_, .i32⟩
  | 99 => ⟨S640, .i32⟩
  | 100 => ⟨S640, .i32⟩
  | 101 => ⟨S640, .i32⟩
  | 102 => ⟨S640, .i32⟩
  | 103 => ⟨S640, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S640, .i32⟩
  | 111 => ⟨S640, .i32⟩
  | 112 => ⟨S_, .i32⟩
  | 113 => ⟨S640, .i32⟩
  | 114 => ⟨S640, .i1⟩
  | 115 => ⟨S_, .i32⟩
  | 116 => ⟨S640, .i32⟩
  | 117 => ⟨S640, .i1⟩
  | 118 => ⟨S_, .i32⟩
  | 119 => ⟨S_, .i1⟩
  | 120 => ⟨S640, .i1⟩
  | 121 => ⟨S640, .i1⟩
  | 122 => ⟨S640, .i1⟩
  | 123 => ⟨S640, .i32⟩
  | 124 => ⟨S640, .i32⟩
  | 125 => ⟨S640, .i32⟩
  | 126 => ⟨S_, .i32⟩
  | 127 => ⟨S640, .i32⟩
  | _ => ⟨S32, .i32⟩

abbrev hbmTy0_1 (i : Nat) : BufTy := match i % 128 with
  | 0 => ⟨S640, .i1⟩
  | 1 => ⟨S640, .i32⟩
  | 2 => ⟨S_, .i32⟩
  | 3 => ⟨S640, .i32⟩
  | 4 => ⟨S640, .i32⟩
  | 5 => ⟨S_, .i32⟩
  | 6 => ⟨S640, .i32⟩
  | 7 => ⟨S640, .i32⟩
  | 8 => ⟨S_, .i32⟩
  | 9 => ⟨S_, .i32⟩
  | 10 => ⟨S640, .i32⟩
  | 11 => ⟨S2x32x1x4096, .f32⟩
  | 12 => ⟨S81920x4096, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .smem, ⟨0, _⟩ => ⟨S640, .i32⟩
  | .local _ .smem, ⟨1, _⟩ => ⟨S640, .i32⟩
  | .local _ .smem, ⟨2, _⟩ => ⟨S640, .i32⟩
  | .local _ .smem, ⟨3, _⟩ => ⟨S640, .i32⟩
  | .local _ .smem, ⟨4, _⟩ => ⟨S640, .i32⟩
  | .local _ .smem, ⟨5, _⟩ => ⟨S640, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_c_0 : Ref sig .tc := ⟨.hbm, 62, rfl⟩
abbrev main_call0_v8 : Ref sig .tc := ⟨.hbm, 63, rfl⟩
abbrev main_call0_v9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_c : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_0 : Ref sig .tc := ⟨.hbm, 98, rfl⟩
abbrev main_call1_v12 : Ref sig .tc := ⟨.hbm, 99, rfl⟩
abbrev main_call1_v13 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_c_15 : Ref sig .tc := ⟨.hbm, 104, rfl⟩
abbrev main_call3_v0 : Ref sig .tc := ⟨.hbm, 105, rfl⟩
abbrev main_call3_c : Ref sig .tc := ⟨.hbm, 106, rfl⟩
abbrev main_call3_v1 : Ref sig .tc := ⟨.hbm, 107, rfl⟩
abbrev main_call3_c_0 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_c_1 : Ref sig .tc := ⟨.hbm, 112, rfl⟩
abbrev main_call3_v5 : Ref sig .tc := ⟨.hbm, 113, rfl⟩
abbrev main_call3_v6 : Ref sig .tc := ⟨.hbm, 114, rfl⟩
abbrev main_call3_c_2 : Ref sig .tc := ⟨.hbm, 115, rfl⟩
abbrev main_call3_v7 : Ref sig .tc := ⟨.hbm, 116, rfl⟩
abbrev main_call3_v8 : Ref sig .tc := ⟨.hbm, 117, rfl⟩
abbrev main_call3_c_3 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_v12 : Ref sig .tc := ⟨.hbm, 122, rfl⟩
abbrev main_call3_v13 : Ref sig .tc := ⟨.hbm, 123, rfl⟩
abbrev main_call3_v14 : Ref sig .tc := ⟨.hbm, 124, rfl⟩
abbrev main_v58 : Ref sig .tc := ⟨.hbm, 125, rfl⟩
abbrev main_c_16 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_c_17 : Ref sig .tc := ⟨.hbm, 130, rfl⟩
abbrev main_v63 : Ref sig .tc := ⟨.hbm, 131, rfl⟩
abbrev main_v64 : Ref sig .tc := ⟨.hbm, 132, rfl⟩
abbrev main_c_18 : Ref sig .tc := ⟨.hbm, 133, rfl⟩
abbrev main_v65 : Ref sig .tc := ⟨.hbm, 134, rfl⟩
abbrev main_v66 : Ref sig .tc := ⟨.hbm, 135, rfl⟩
abbrev main_c_19 : Ref sig .tc := ⟨.hbm, 136, rfl⟩
abbrev main_call5_v0 : Ref sig .tc := ⟨.hbm, 137, rfl⟩
abbrev main_call5_v1 : Ref sig .tc := ⟨.hbm, 138, rfl⟩
abbrev main_v68 : Ref sig .tc := ⟨.hbm, 139, rfl⟩
abbrev main_v69 : Ref sig .tc := ⟨.hbm, 140, rfl⟩
abbrev main_v17 : Ref sig .tc := ⟨.smem, 0, rfl⟩
abbrev main_v37 : Ref sig .tc := ⟨.smem, 1, rfl⟩
abbrev main_v47 : Ref sig .tc := ⟨.smem, 2, rfl⟩
abbrev main_v57 : Ref sig .tc := ⟨.smem, 3, rfl⟩
abbrev main_v59 : Ref sig .tc := ⟨.smem, 4, rfl⟩
abbrev main_v67 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![640], ![false]⟩

abbrev pre0 : Pipeline.Prefetch sig := ⟨6, ![main_v17.idx, main_v37.idx, main_v47.idx, main_v57.idx, main_v59.idx, main_v67.idx], fun | 0 => main_v17.names | 1 => main_v37.names | 2 => main_v47.names | 3 => main_v57.names | 4 => main_v59.names | 5 => main_v67.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c4_i32 : BitVec 32 := 4#32
  let v2 : BitVec 32 := Scalar.andi v1 c4_i32
  let c0_i32 : BitVec 32 := 0#32
  let v3 : BitVec 1 := Scalar.cmpi .ne v2 c0_i32
  let v4 : BitVec 32 := Scalar.extui v3
  let c0_i32_0 : BitVec 32 := 0#32
  let v5 : BitVec 1 := Scalar.cmpi .ne v4 c0_i32_0
  v5

def k0_cond3 (v1 : BitVec 32) : BitVec 1 :=
  let c1_i32 : BitVec 32 := 1#32
  let v10 : BitVec 32 := Scalar.andi v1 c1_i32
  let c0_i32_3 : BitVec 32 := 0#32
  let v11 : BitVec 1 := Scalar.cmpi .ne v10 c0_i32_3
  let v12 : BitVec 32 := Scalar.extui v11
  let c0_i32_4 : BitVec 32 := 0#32
  let v13 : BitVec 1 := Scalar.cmpi .ne v12 c0_i32_4
  v13

def cc0_transform_0 (k0_off1_inb : ∀ i : grid0.Coords, ∀ a, (k0_off1 i) a + S1.size a ≤ S640.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S640) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_2 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_3 (k0_off1_inb : ∀ i : grid0.Coords, ∀ a, (k0_off1 i) a + S1.size a ≤ S640.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S640) ![v0.toNat] S1.size (k0_off1_inb i)) numel1_S1
  let v2 : Index := Scalar.indexCast arg0
  let v3 : BitVec 32 := pf.at 4 (Rect.unit (s := S640) ![v2.toNat] S1.size (k0_off1_inb i)) numel1_S1
  let c0_i32 : BitVec 32 := 0#32
  ![v1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MoeDownRefIdeal.lean ====
abbrev S32 : Shape := ⟨1, ![32]⟩
abbrev S81920x2048 : Shape := ⟨2, ![81920, 2048]⟩
abbrev S2x32x2048x4096 : Shape := ⟨4, ![2, 32, 2048, 4096]⟩
abbrev S2x32x4096 : Shape := ⟨3, ![2, 32, 4096]⟩
abbrev S1x32x2048x4096 : Shape := ⟨4, ![1, 32, 2048, 4096]⟩
abbrev S32x2048x4096 : Shape := ⟨3, ![32, 2048, 4096]⟩
abbrev S32x4096x81920 : Shape := ⟨3, ![32, 4096, 81920]⟩
abbrev S32x81920x4096 : Shape := ⟨3, ![32, 81920, 4096]⟩
abbrev S1x32x4096 : Shape := ⟨3, ![1, 32, 4096]⟩
abbrev S32x4096 : Shape := ⟨2, ![32, 4096]⟩
abbrev S32x1x4096 : Shape := ⟨3, ![32, 1, 4096]⟩
abbrev S81920 : Shape := ⟨1, ![81920]⟩
abbrev S1x81920 : Shape := ⟨2, ![1, 81920]⟩
abbrev S32x1 : Shape := ⟨2, ![32, 1]⟩
abbrev S_ : Shape := ⟨0, ![]⟩
abbrev S32x81920 : Shape := ⟨2, ![32, 81920]⟩
abbrev S32x81920x1 : Shape := ⟨3, ![32, 81920, 1]⟩
abbrev S81920x4096 : Shape := ⟨2, ![81920, 4096]⟩

abbrev nBuf : Space → Nat
  | .hbm => 41
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S32, .i32⟩
  | .hbm, ⟨3, _⟩ => ⟨S81920x2048, .bf16⟩
  | .hbm, ⟨4, _⟩ => ⟨S2x32x2048x4096, .f32⟩
  | .hbm, ⟨5, _⟩ => ⟨S2x32x4096, .f32⟩
  | .hbm, ⟨6, _⟩ => ⟨S81920x2048, .f32⟩
  | .hbm, ⟨7, _⟩ => ⟨S1x32x2048x4096, .f32⟩
  | .hbm, ⟨8, _⟩ => ⟨S32x2048x4096, .f32⟩
  | .hbm, ⟨9, _⟩ => ⟨S32x4096x81920, .f32⟩
  | .hbm, ⟨10, _⟩ => ⟨S32x81920x4096, .f32⟩
  | .hbm, ⟨11, _⟩ => ⟨S1x32x4096, .f32⟩
  | .hbm, ⟨12, _⟩ => ⟨S32x4096, .f32⟩
  | .hbm, ⟨13, _⟩ => ⟨S32x1x4096, .f32⟩
  | .hbm, ⟨14, _⟩ => ⟨S32x81920x4096, .f32⟩
  | .hbm, ⟨15, _⟩ => ⟨S32x81920x4096, .f32⟩
  | .hbm, ⟨16, _⟩ => ⟨S81920, .i32⟩
  | .hbm, ⟨17, _⟩ => ⟨S1x81920, .i32⟩
  | .hbm, ⟨18, _⟩ => ⟨S32x1, .i32⟩
  | .hbm, ⟨19, _⟩ => ⟨S_, .i32⟩
  | .hbm, ⟨20, _⟩ => ⟨S32x1, .i32⟩
  | .hbm, ⟨21, _⟩ => ⟨S32x1, .i32⟩
  | .hbm, ⟨22, _⟩ => ⟨S32x81920, .i32⟩
  | .hbm, ⟨23, _⟩ => ⟨S32x81920, .i32⟩
  | .hbm, ⟨24, _⟩ => ⟨S32x81920, .i1⟩
  | .hbm, ⟨25, _⟩ => ⟨S32x1, .i32⟩
  | .hbm, ⟨26, _⟩ => ⟨S_, .i32⟩
  | .hbm, ⟨27, _⟩ => ⟨S32x1, .i32⟩
  | .hbm, ⟨28, _⟩ => ⟨S32x1, .i32⟩
  | .hbm, ⟨29, _⟩ => ⟨S32x81920, .i32⟩
  | .hbm, ⟨30, _⟩ => ⟨S32x81920, .i32⟩
  | .hbm, ⟨31, _⟩ => ⟨S32x81920, .i1⟩
  | .hbm, ⟨32, _⟩ => ⟨S32x81920, .i1⟩
  | .hbm, ⟨33, _⟩ => ⟨S32x81920x1, .i1⟩
  | .hbm, ⟨34, _⟩ => ⟨S_, .f32⟩
  | .hbm, ⟨35, _⟩ => ⟨S_, .f32⟩
  | .hbm, ⟨36, _⟩ => ⟨S32x81920x4096, .i1⟩
  | .hbm, ⟨37, _⟩ => ⟨S32x81920x4096, .f32⟩
  | .hbm, ⟨38, _⟩ => ⟨S32x81920x4096, .f32⟩
  | .hbm, ⟨39, _⟩ => ⟨S_, .f32⟩
  | .hbm, ⟨40, _⟩ => ⟨S81920x4096, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== MoeUp.lean ====
abbrev S32 : Shape := ⟨1, ![32]⟩
abbrev S81920x4096 : Shape := ⟨2, ![81920, 4096]⟩
abbrev S2x32x4096x2048 : Shape := ⟨4, ![2, 32, 4096, 2048]⟩
abbrev S2x32x2048 : Shape := ⟨3, ![2, 32, 2048]⟩
abbrev S1 : Shape := ⟨1, ![1]⟩
abbrev S_ : Shape := ⟨0, ![]⟩
abbrev S640 : Shape := ⟨1, ![640]⟩
abbrev S640x1 : Shape := ⟨2, ![640, 1]⟩
abbrev S1x32 : Shape := ⟨2, ![1, 32]⟩
abbrev S640x32 : Shape := ⟨2, ![640, 32]⟩
abbrev S2x32x1x2048 : Shape := ⟨4, ![2, 32, 1, 2048]⟩
abbrev S81920x2048 : Shape := ⟨2, ![81920, 2048]⟩
abbrev S512x4096 : Shape := ⟨2, ![512, 4096]⟩
abbrev S1x1x4096x512 : Shape := ⟨4, ![1, 1, 4096, 512]⟩
abbrev S1x1x1x512 : Shape := ⟨4, ![1, 1, 1, 512]⟩
abbrev S512x512 : Shape := ⟨2, ![512, 512]⟩
abbrev S4096x512 : Shape := ⟨2, ![4096, 512]⟩
abbrev S1x512 : Shape := ⟨2, ![1, 512]⟩

abbrev nBuf : Space → Nat
  | .hbm => 144
  | .vmem => 14
  | .smem => 6
  | _ => 0

abbrev hbmTy0_0 (i : Nat) : BufTy := match i % 128 with
  | 0 => ⟨S32, .i32⟩
  | 1 => ⟨S32, .i32⟩
  | 2 => ⟨S32, .i32⟩
  | 3 => ⟨S81920x4096, .bf16⟩
  | 4 => ⟨S2x32x4096x2048, .f32⟩
  | 5 => ⟨S2x32x4096x2048, .f32⟩
  | 6 => ⟨S2x32x2048, .f32⟩
  | 7 => ⟨S2x32x2048, .f32⟩
  | 8 => ⟨S1, .i32⟩
  | 9 => ⟨S_, .i32⟩
  | 10 => ⟨S640, .i32⟩
  | 11 => ⟨S_, .i32⟩
  | 12 => ⟨S_, .i32⟩
  | 13 => ⟨S_, .i32⟩
  | 14 => ⟨S_, .i32⟩
  | 15 => ⟨S640, .i32⟩
  | 16 => ⟨S640, .i32⟩
  | 17 => ⟨S640x1, .i32⟩
  | 18 => ⟨S_, .i32⟩
  | 19 => ⟨S32, .i32⟩
  | 20 => ⟨S32, .i32⟩
  | 21 => ⟨S1x32, .i32⟩
  | 22 => ⟨S640x32, .i32⟩
  | 23 => ⟨S640x32, .i32⟩
  | 24 => ⟨S640x32, .i1⟩
  | 25 => ⟨S640x32, .i32⟩
  | 26 => ⟨S_, .i32⟩
  | 27 => ⟨S640, .i32⟩
  | 28 => ⟨S_, .i32⟩
  | 29 => ⟨S640, .i32⟩
  | 30 => ⟨S_, .i32⟩
  | 31 => ⟨S640, .i32⟩
  | 32 => ⟨S640, .i1⟩
  | 33 => ⟨S_, .i32⟩
  | 34 => ⟨S640, .i32⟩
  | 35 => ⟨S640, .i32⟩
  | 36 => ⟨S640, .i32⟩
  | 37 => ⟨S640x1, .i32⟩
  | 38 => ⟨S640, .i32⟩
  | 39 => ⟨S_, .i32⟩
  | 40 => ⟨S640, .i32⟩
  | 41 => ⟨S640, .i32⟩
  | 42 => ⟨S640, .i32⟩
  | 43 => ⟨S_, .i32⟩
  | 44 => ⟨S640, .i32⟩
  | 45 => ⟨S640, .i1⟩
  | 46 => ⟨S_, .i32⟩
  | 47 => ⟨S640, .i32⟩
  | 48 => ⟨S640, .i32⟩
  | 49 => ⟨S640, .i32⟩
  | 50 => ⟨S640x1, .i32⟩
  | 51 => ⟨S640, .i32⟩
  | 52 => ⟨S_, .i32⟩
  | 53 => ⟨S640, .i32⟩
  | 54 => ⟨S640, .i32⟩
  | 55 => ⟨S640, .i32⟩
  | 56 => ⟨S640, .i32⟩
  | 57 => ⟨S640, .i32⟩
  | 58 => ⟨S640, .i1⟩
  | 59 => ⟨S640, .i32⟩
  | 60 => ⟨S_, .i32⟩
  | 61 => ⟨S640, .i32⟩
  | 62 => ⟨S640, .i1⟩
  | 63 => ⟨S640, .i1⟩
  | 64 => ⟨S_, .i32⟩
  | 65 => ⟨S640, .i32⟩
  | 66 => ⟨S640, .i32⟩
  | 67 => ⟨S640, .i32⟩
  | 68 => ⟨S640, .i32⟩
  | 69 => ⟨S_, .i32⟩
  | 70 => ⟨S640, .i32⟩
  | 71 => ⟨S640, .i1⟩
  | 72 => ⟨S_, .i32⟩
  | 73 => ⟨S640, .i32⟩
  | 74 => ⟨S640, .i32⟩
  | 75 => ⟨S640, .i32⟩
  | 76 => ⟨S640x1, .i32⟩
  | 77 => ⟨S640, .i32⟩
  | 78 => ⟨S_, .i32⟩
  | 79 => ⟨S_, .i32⟩
  | 80 => ⟨S640, .i32⟩
  | 81 => ⟨S640, .i1⟩
  | 82 => ⟨S_, .i32⟩
  | 83 => ⟨S_, .i32⟩
  | 84 => ⟨S640, .i32⟩
  | 85 => ⟨S640, .i32⟩
  | 86 => ⟨S_, .i32⟩
  | 87 => ⟨S_, .i32⟩
  | 88 => ⟨S640, .i32⟩
  | 89 => ⟨S640, .i32⟩
  | 90 => ⟨S640, .i32⟩
  | 91 => ⟨S_, .i32⟩
  | 92 => ⟨S640, .i32⟩
  | 93 => ⟨S640, .i1⟩
  | 94 => ⟨S640, .i32⟩
  | 95 => ⟨S640, .i32⟩
  | 96 => ⟨S_, .i32⟩
  | 97 => ⟨S640, .i32⟩
  | 98 => ⟨S640, .i1⟩
  | 99 => ⟨S640, .i1⟩
  | 100 => ⟨S_, .i32⟩
  | 101 => ⟨S640, .i32⟩
  | 102 => ⟨S640, .i32⟩
  | 103 => ⟨S640, .i32⟩
  | 104 => ⟨S640, .i32⟩
  | 105 => ⟨S640, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S640, .i32⟩
  | 113 => ⟨S640, .i32⟩
  | 114 => ⟨S_, .i32⟩
  | 115 => ⟨S640, .i32⟩
  | 116 => ⟨S640, .i1⟩
  | 117 => ⟨S_, .i32⟩
  | 118 => ⟨S640, .i32⟩
  | 119 => ⟨S640, .i1⟩
  | 120 => ⟨S_, .i32⟩
  | 121 => ⟨S_, .i1⟩
  | 122 => ⟨S640, .i1⟩
  | 123 => ⟨S640, .i1⟩
  | 124 => ⟨S640, .i1⟩
  | 125 => ⟨S640, .i32⟩
  | 126 => ⟨S640, .i32⟩
  | 127 => ⟨S640, .i32⟩
  | _ => ⟨S32, .i32⟩

abbrev hbmTy0_1 (i : Nat) : BufTy := match i % 128 with
  | 0 => ⟨S_, .i32⟩
  | 1 => ⟨S640, .i32⟩
  | 2 => ⟨S640, .i1⟩
  | 3 => ⟨S640, .i32⟩
  | 4 => ⟨S_, .i32⟩
  | 5 => ⟨S640, .i32⟩
  | 6 => ⟨S640, .i32⟩
  | 7 => ⟨S_, .i32⟩
  | 8 => ⟨S640, .i32⟩
  | 9 => ⟨S640, .i32⟩
  | 10 => ⟨S_, .i32⟩
  | 11 => ⟨S_, .i32⟩
  | 12 => ⟨S640, .i32⟩
  | 13 => ⟨S2x32x1x2048, .f32⟩
  | 14 => ⟨S2x32x1x2048, .f32⟩
  | 15 => ⟨S81920x2048, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .vmem, ⟨12, _⟩ => ⟨S4096x512, .bf16⟩
  | .local _ .vmem, ⟨13, _⟩ => ⟨S4096x512, .bf16⟩
  | .local _ .smem, ⟨0, _⟩ => ⟨S640, .i32⟩
  | .local _ .smem, ⟨1, _⟩ => ⟨S640, .i32⟩
  | .local _ .smem, ⟨2, _⟩ => ⟨S640, .i32⟩
  | .local _ .smem, ⟨3, _⟩ => ⟨S640, .i32⟩
  | .local _ .smem, ⟨4, _⟩ => ⟨S640, .i32⟩
  | .local _ .smem, ⟨5, _⟩ => ⟨S640, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_c_0 : Ref sig .tc := ⟨.hbm, 64, rfl⟩
abbrev main_call0_v8 : Ref sig .tc := ⟨.hbm, 65, rfl⟩
abbrev main_call0_v9 : Ref sig .tc := ⟨.hbm, 66, rfl⟩
abbrev main_v38 : Ref sig .tc := ⟨.hbm, 67, rfl⟩
abbrev main_v39 : Ref sig .tc := ⟨.hbm, 68, rfl⟩
abbrev main_c_10 : Ref sig .tc := ⟨.hbm, 69, rfl⟩
abbrev main_v40 : Ref sig .tc := ⟨.hbm, 70, rfl⟩
abbrev main_v41 : Ref sig .tc := ⟨.hbm, 71, rfl⟩
abbrev main_c_11 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_14 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_c : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_0 : Ref sig .tc := ⟨.hbm, 100, rfl⟩
abbrev main_call1_v12 : Ref sig .tc := ⟨.hbm, 101, rfl⟩
abbrev main_call1_v13 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_15 : Ref sig .tc := ⟨.hbm, 106, rfl⟩
abbrev main_call3_v0 : Ref sig .tc := ⟨.hbm, 107, rfl⟩
abbrev main_call3_c : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_c_1 : Ref sig .tc := ⟨.hbm, 114, rfl⟩
abbrev main_call3_v5 : Ref sig .tc := ⟨.hbm, 115, rfl⟩
abbrev main_call3_v6 : Ref sig .tc := ⟨.hbm, 116, rfl⟩
abbrev main_call3_c_2 : Ref sig .tc := ⟨.hbm, 117, rfl⟩
abbrev main_call3_v7 : Ref sig .tc := ⟨.hbm, 118, rfl⟩
abbrev main_call3_v8 : Ref sig .tc := ⟨.hbm, 119, rfl⟩
abbrev main_call3_c_3 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_v58 : Ref sig .tc := ⟨.hbm, 127, rfl⟩
abbrev main_c_16 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_c_17 : Ref sig .tc := ⟨.hbm, 132, rfl⟩
abbrev main_v63 : Ref sig .tc := ⟨.hbm, 133, rfl⟩
abbrev main_v64 : Ref sig .tc := ⟨.hbm, 134, rfl⟩
abbrev main_c_18 : Ref sig .tc := ⟨.hbm, 135, rfl⟩
abbrev main_v65 : Ref sig .tc := ⟨.hbm, 136, rfl⟩
abbrev main_v66 : Ref sig .tc := ⟨.hbm, 137, rfl⟩
abbrev main_c_19 : Ref sig .tc := ⟨.hbm, 138, rfl⟩
abbrev main_call5_v0 : Ref sig .tc := ⟨.hbm, 139, rfl⟩
abbrev main_call5_v1 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v17 : Ref sig .tc := ⟨.smem, 0, rfl⟩
abbrev main_v37 : Ref sig .tc := ⟨.smem, 1, rfl⟩
abbrev main_v47 : Ref sig .tc := ⟨.smem, 2, rfl⟩
abbrev main_v57 : Ref sig .tc := ⟨.smem, 3, rfl⟩
abbrev main_v59 : Ref sig .tc := ⟨.smem, 4, rfl⟩
abbrev main_v67 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![640], ![false]⟩

abbrev pre0 : Pipeline.Prefetch sig := ⟨6, ![main_v17.idx, main_v37.idx, main_v47.idx, main_v57.idx, main_v59.idx, main_v67.idx], fun | 0 => main_v17.names | 1 => main_v37.names | 2 => main_v47.names | 3 => main_v57.names | 4 => main_v59.names | 5 => main_v67.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c4_i32 : BitVec 32 := 4#32
  let v2 : BitVec 32 := Scalar.andi v1 c4_i32
  let c0_i32 : BitVec 32 := 0#32
  let v3 : BitVec 1 := Scalar.cmpi .ne v2 c0_i32
  let v4 : BitVec 32 := Scalar.extui v3
  let c0_i32_0 : BitVec 32 := 0#32
  let v5 : BitVec 1 := Scalar.cmpi .ne v4 c0_i32_0
  v5

def k0_cond3 (v1 : BitVec 32) : BitVec 1 :=
  let c1_i32 : BitVec 32 := 1#32
  let v10 : BitVec 32 := Scalar.andi v1 c1_i32
  let c0_i32_3 : BitVec 32 := 0#32
  let v11 : BitVec 1 := Scalar.cmpi .ne v10 c0_i32_3
  let v12 : BitVec 32 := Scalar.extui v11
  let c0_i32_4 : BitVec 32 := 0#32
  let v13 : BitVec 1 := Scalar.cmpi .ne v12 c0_i32_4
  v13

def cc0_transform_0 (k0_off1_inb : ∀ i : grid0.Coords, ∀ a, (k0_off1 i) a + S1.size a ≤ S640.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S640) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_2 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_3 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_4 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_5 (k0_off1_inb : ∀ i : grid0.Coords, ∀ a, (k0_off1 i) a + S1.size a ≤ S640.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S640) ![v0.toNat] S1.size (k0_off1_inb i)) numel1_S1
  let v2 : Index := Scalar.indexCast arg0
  let v3 : BitVec 32 := pf.at 4 (Rect.unit (s := S640) ![v2.toNat] S1.size (k0_off1_inb i)) numel1_S1
  let c0_i32 : BitVec 32 := 0#32
  ![v1.toNat, v3.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeUpRefIdeal.lean ====
abbrev S32 : Shape := ⟨1, ![32]⟩
abbrev S81920x4096 : Shape := ⟨2, ![81920, 4096]⟩
abbrev S2x32x4096x2048 : Shape := ⟨4, ![2, 32, 4096, 2048]⟩
abbrev S2x32x2048 : Shape := ⟨3, ![2, 32, 2048]⟩
abbrev S1x32x4096x2048 : Shape := ⟨4, ![1, 32, 4096, 2048]⟩
abbrev S32x4096x2048 : Shape := ⟨3, ![32, 4096, 2048]⟩
abbrev S32x2048x81920 : Shape := ⟨3, ![32, 2048, 81920]⟩
abbrev S32x81920x2048 : Shape := ⟨3, ![32, 81920, 2048]⟩
abbrev S1x32x2048 : Shape := ⟨3, ![1, 32, 2048]⟩
abbrev S32x2048 : Shape := ⟨2, ![32, 2048]⟩
abbrev S32x1x2048 : Shape := ⟨3, ![32, 1, 2048]⟩
abbrev S81920 : Shape := ⟨1, ![81920]⟩
abbrev S1x81920 : Shape := ⟨2, ![1, 81920]⟩
abbrev S32x1 : Shape := ⟨2, ![32, 1]⟩
abbrev S_ : Shape := ⟨0, ![]⟩
abbrev S32x81920 : Shape := ⟨2, ![32, 81920]⟩
abbrev S32x81920x1 : Shape := ⟨3, ![32, 81920, 1]⟩
abbrev S81920x2048 : Shape := ⟨2, ![81920, 2048]⟩

abbrev nBuf : Space → Nat
  | .hbm => 80
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S32, .i32⟩
  | .hbm, ⟨3, _⟩ => ⟨S81920x4096, .bf16⟩
  | .hbm, ⟨4, _⟩ => ⟨S2x32x4096x2048, .f32⟩
  | .hbm, ⟨5, _⟩ => ⟨S2x32x4096x2048, .f32⟩
  | .hbm, ⟨6, _⟩ => ⟨S2x32x2048, .f32⟩
  | .hbm, ⟨7, _⟩ => ⟨S2x32x2048, .f32⟩
  | .hbm, ⟨8, _⟩ => ⟨S81920x4096, .f32⟩
  | .hbm, ⟨9, _⟩ => ⟨S1x32x4096x2048, .f32⟩
  | .hbm, ⟨10, _⟩ => ⟨S32x4096x2048, .f32⟩
  | .hbm, ⟨11, _⟩ => ⟨S32x2048x81920, .f32⟩
  | .hbm, ⟨12, _⟩ => ⟨S32x81920x2048, .f32⟩
  | .hbm, ⟨13, _⟩ => ⟨S1x32x2048, .f32⟩
  | .hbm, ⟨14, _⟩ => ⟨S32x2048, .f32⟩
  | .hbm, ⟨15, _⟩ => ⟨S32x1x2048, .f32⟩
  | .hbm, ⟨16, _⟩ => ⟨S32x81920x2048, .f32⟩
  | .hbm, ⟨17, _⟩ => ⟨S32x81920x2048, .f32⟩
  | .hbm, ⟨18, _⟩ => ⟨S1x32x4096x2048, .f32⟩
  | .hbm, ⟨19, _⟩ => ⟨S32x4096x2048, .f32⟩
  | .hbm, ⟨20, _⟩ => ⟨S32x2048x81920, .f32⟩
  | .hbm, ⟨21, _⟩ => ⟨S32x81920x2048, .f32⟩
  | .hbm, ⟨22, _⟩ => ⟨S1x32x2048, .f32⟩
  | .hbm, ⟨23, _⟩ => ⟨S32x2048, .f32⟩
  | .hbm, ⟨24, _⟩ => ⟨S32x1x2048, .f32⟩
  | .hbm, ⟨25, _⟩ => ⟨S32x81920x2048, .f32⟩
  | .hbm, ⟨26, _⟩ => ⟨S32x81920x2048, .f32⟩
  | .hbm, ⟨27, _⟩ => ⟨S81920, .i32⟩
  | .hbm, ⟨28, _⟩ => ⟨S1x81920, .i32⟩
  | .hbm, ⟨29, _⟩ => ⟨S32x1, .i32⟩
  | .hbm, ⟨30, _⟩ => ⟨S_, .i32⟩
  | .hbm, ⟨31, _⟩ => ⟨S32x1, .i32⟩
  | .hbm, ⟨32, _⟩ => ⟨S32x1, .i32⟩
  | .hbm, ⟨33, _⟩ => ⟨S32x81920, .i32⟩
  | .hbm, ⟨34, _⟩ => ⟨S32x81920, .i32⟩
  | .hbm, ⟨35, _⟩ => ⟨S32x81920, .i1⟩
  | .hbm, ⟨36, _⟩ => ⟨S32x1, .i32⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S32x81920, .i32⟩
  | .hbm, ⟨41, _⟩ => ⟨S32x81920, .i32⟩
  | .hbm, ⟨42, _⟩ => ⟨S32x81920, .i1⟩
  | .hbm, ⟨43, _⟩ => ⟨S32x81920, .i1⟩
  | .hbm, ⟨44, _⟩ => ⟨S32x81920x1, .i1⟩
  | .hbm, ⟨45, _⟩ => ⟨S_, .f32⟩
  | .hbm, ⟨46, _⟩ => ⟨S32x81920x2048, .f32⟩
  | .hbm, ⟨47, _⟩ => ⟨S32x81920x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S32x81920x2048, .f32⟩
  | .hbm, ⟨52, _⟩ => ⟨S32x81920x2048, .f32⟩
  | .hbm, ⟨53, _⟩ => ⟨S_, .f32⟩
  | .hbm, ⟨54, _⟩ => ⟨S32x81920x2048, .f32⟩
  | .hbm, ⟨55, _⟩ => ⟨S32x81920x2048, .f32⟩
  | .hbm, ⟨56, _⟩ => ⟨S_, .f32⟩
  | .hbm, ⟨57, _⟩ => ⟨S32x81920x2048, .f32⟩
  | .hbm, ⟨58, _⟩ => ⟨S32x81920x2048, .f32⟩
  | .hbm, ⟨59, _⟩ => ⟨S32x81920x2048, .f32⟩
  | .hbm, ⟨60, _⟩ => ⟨S_, .f32⟩
  | .hbm, ⟨61, _⟩ => ⟨S32x81920x2048, .f32⟩
  | .hbm, ⟨62, _⟩ => ⟨S32x81920x2048, .f32⟩
  | .hbm, ⟨63, _⟩ => ⟨S32x81920x2048, .f32⟩
  | .hbm, ⟨64, _⟩ => ⟨S32x81920x2048, .f32⟩
  | .hbm, ⟨65, _⟩ => ⟨S_, .f32⟩
  | .hbm, ⟨66, _⟩ => ⟨S32x81920x2048, .f32⟩
  | .hbm, ⟨67, _⟩ => ⟨S32x81920x2048, .f32⟩
  | .hbm, ⟨68, _⟩ => ⟨S_, .f32⟩
  | .hbm, ⟨69, _⟩ => ⟨S32x81920x2048, .f32⟩
  | .hbm, ⟨70, _⟩ => ⟨S32x81920x2048, .f32⟩
  | .hbm, ⟨71, _⟩ => ⟨S32x81920x2048, .f32⟩
  | .hbm, ⟨72, _⟩ => ⟨S_, .f32⟩
  | .hbm, ⟨73, _⟩ => ⟨S_, .f32⟩
  | .hbm, ⟨74, _⟩ => ⟨S32x81920x2048, .i1⟩
  | .hbm, ⟨75, _⟩ => ⟨S32x81920x2048, .f32⟩
  | .hbm, ⟨76, _⟩ => ⟨S32x81920x2048, .f32⟩
  | .hbm, ⟨77, _⟩ => ⟨S_, .f32⟩
  | .hbm, ⟨78, _⟩ => ⟨S81920x2048, .f32⟩
  | .hbm, ⟨79, _⟩ => ⟨S81920x2048, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_cst_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== InProj2.lean ====
abbrev S16384x4096 : Shape := ⟨2, ![16384, 4096]⟩
abbrev S16x24576 : Shape := ⟨2, ![16, 24576]⟩
abbrev S4096 : Shape := ⟨1, ![4096]⟩
abbrev S2x4096x7776 : Shape := ⟨3, ![2, 4096, 7776]⟩
abbrev S2x4096x4096 : Shape := ⟨3, ![2, 4096, 4096]⟩
abbrev S2x4096x1024 : Shape := ⟨3, ![2, 4096, 1024]⟩
abbrev S2x4096x1536 : Shape := ⟨3, ![2, 4096, 1536]⟩
abbrev S_ : Shape := ⟨0, ![]⟩
abbrev S2x4096x256 : Shape := ⟨3, ![2, 4096, 256]⟩
abbrev S2x4096x64 : Shape := ⟨3, ![2, 4096, 64]⟩
abbrev S2x4096x32 : Shape := ⟨3, ![2, 4096, 32]⟩
abbrev S2x4096x160 : Shape := ⟨3, ![2, 4096, 160]⟩
abbrev S2x4096x8192 : Shape := ⟨3, ![2, 4096, 8192]⟩
abbrev S16x6x1x4096 : Shape := ⟨4, ![16, 6, 1, 4096]⟩
abbrev S1x4096 : Shape := ⟨2, ![1, 4096]⟩
abbrev S16384x8192 : Shape := ⟨2, ![16384, 8192]⟩
abbrev S512x4096 : Shape := ⟨2, ![512, 4096]⟩
abbrev S1x1x1x4096 : Shape := ⟨4, ![1, 1, 1, 4096]⟩
abbrev S1x4096x512 : Shape := ⟨3, ![1, 4096, 512]⟩
abbrev S512x512 : Shape := ⟨2, ![512, 512]⟩
abbrev S512 : Shape := ⟨1, ![512]⟩
abbrev S512x1 : Shape := ⟨2, ![512, 1]⟩
abbrev S4096x512 : Shape := ⟨2, ![4096, 512]⟩
abbrev S8192x256 : Shape := ⟨2, ![8192, 256]⟩
abbrev S32x256x2x128 : Shape := ⟨4, ![32, 256, 2, 128]⟩
abbrev S8192x64 : Shape := ⟨2, ![8192, 64]⟩
abbrev S32x256x64 : Shape := ⟨3, ![32, 256, 64]⟩

abbrev nBuf : Space → Nat
  | .hbm => 23
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16x24576, .f32⟩
  | .hbm, ⟨2, _⟩ => ⟨S4096, .f32⟩
  | .hbm, ⟨3, _⟩ => ⟨S2x4096x7776, .f32⟩
  | .hbm, ⟨4, _⟩ => ⟨S2x4096x4096, .f32⟩
  | .hbm, ⟨5, _⟩ => ⟨S2x4096x1024, .f32⟩
  | .hbm, ⟨6, _⟩ => ⟨S2x4096x1536, .f32⟩
  | .hbm, ⟨7, _⟩ => ⟨S_, .f32⟩
  | .hbm, ⟨8, _⟩ => ⟨S2x4096x256, .f32⟩
  | .hbm, ⟨9, _⟩ => ⟨S2x4096x1024, .f32⟩
  | .hbm, ⟨10, _⟩ => ⟨S2x4096x64, .f32⟩
  | .hbm, ⟨11, _⟩ => ⟨S2x4096x32, .f32⟩
  | .hbm, ⟨12, _⟩ => ⟨S_, .f32⟩
  | .hbm, ⟨13, _⟩ => ⟨S2x4096x160, .f32⟩
  | .hbm, ⟨14, _⟩ => ⟨S2x4096x8192, .f32⟩
  | .hbm, ⟨15, _⟩ => ⟨S2x4096x8192, .bf16⟩
  | .hbm, ⟨16, _⟩ => ⟨S16x6x1x4096, .f32⟩
  | .hbm, ⟨17, _⟩ => ⟨S1x4096, .f32⟩
  | .hbm, ⟨18, _⟩ => ⟨S16384x8192, .f32⟩
  | .hbm, ⟨19, _⟩ => ⟨S8192x256, .f32⟩
  | .hbm, ⟨20, _⟩ => ⟨S32x256x2x128, .f32⟩
  | .hbm, ⟨21, _⟩ => ⟨S8192x64, .f32⟩
  | .hbm, ⟨22, _⟩ => ⟨S32x256x64, .f32⟩
  | .local _ .vmem, ⟨0, _⟩ => ⟨S512x4096, .f32⟩
  | .local _ .vmem, ⟨1, _⟩ => ⟨S512x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x4096, .f32⟩
  | .local _ .vmem, ⟨7, _⟩ => ⟨S1x4096x512, .bf16⟩
  | .local _ .vmem, ⟨8, _⟩ => ⟨S1x4096x512, .bf16⟩
  | .local _ .vmem, ⟨9, _⟩ => ⟨S512x512, .f32⟩
  | .local _ .vmem, ⟨10, _⟩ => ⟨S512x512, .f32⟩
  | .local _ .vmem, ⟨11, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  let c0_i32_10 : BitVec 32 := 0#32
  ![v21.toNat, c0_i32_7.toNat, c0_i32_8.toNat, c0_i32_9.toNat]

def cc0_transform_2 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c0_i32_8 : BitVec 32 := 0#32
  let c0_i32_9 : BitVec 32 := 0#32
  let c0_i32_10 : BitVec 32 := 0#32
  ![v21.toNat, c1_i32_7.toNat, c0_i32_8.toNat, c0_i32_9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProj2RefIdeal.lean ====
abbrev S16384x4096 : Shape := ⟨2, ![16384, 4096]⟩
abbrev S16x24576 : Shape := ⟨2, ![16, 24576]⟩
abbrev S4096 : Shape := ⟨1, ![4096]⟩
abbrev S2x4096x7776 : Shape := ⟨3, ![2, 4096, 7776]⟩
abbrev S8192x4096 : Shape := ⟨2, ![8192, 4096]⟩
abbrev S32x256x4096 : Shape := ⟨3, ![32, 256, 4096]⟩
abbrev S8x1024x4096 : Shape := ⟨3, ![8, 1024, 4096]⟩
abbrev S1x24576 : Shape := ⟨2, ![1, 24576]⟩
abbrev S1x4096 : Shape := ⟨2, ![1, 4096]⟩
abbrev S1x1x4096 : Shape := ⟨3, ![1, 1, 4096]⟩
abbrev S_ : Shape := ⟨0, ![]⟩
abbrev S32x256 : Shape := ⟨2, ![32, 256]⟩
abbrev S32x256x1 : Shape := ⟨3, ![32, 256, 1]⟩
abbrev S1x4096x7776 : Shape := ⟨3, ![1, 4096, 7776]⟩
abbrev S4096x7776 : Shape := ⟨2, ![4096, 7776]⟩
abbrev S32x256x7776 : Shape := ⟨3, ![32, 256, 7776]⟩
abbrev S8x24576 : Shape := ⟨2, ![8, 24576]⟩
abbrev S8x4096 : Shape := ⟨2, ![8, 4096]⟩
abbrev S8x1x4096 : Shape := ⟨3, ![8, 1, 4096]⟩
abbrev S8x1024 : Shape := ⟨2, ![8, 1024]⟩
abbrev S8x1024x1 : Shape := ⟨3, ![8, 1024, 1]⟩
abbrev S8x1024x7776 : Shape := ⟨3, ![8, 1024, 7776]⟩
abbrev S8192x7776 : Shape := ⟨2, ![8192, 7776]⟩
abbrev S16384x7776 : Shape := ⟨2, ![16384, 7776]⟩
abbrev S16384x1024 : Shape := ⟨2, ![16384, 1024]⟩
abbrev S16384x1536 : Shape := ⟨2, ![16384, 1536]⟩
abbrev S16384x256 : Shape := ⟨2, ![16384, 256]⟩
abbrev S16384x64 : Shape := ⟨2, ![16384, 64]⟩
abbrev S16384x32 : Shape := ⟨2, ![16384, 32]⟩
abbrev S16384x160 : Shape := ⟨2, ![16384, 160]⟩
abbrev S16384x8192 : Shape := ⟨2, ![16384, 8192]⟩
abbrev S32x256x256 : Shape := ⟨3, ![32, 256, 256]⟩
abbrev S32x256x2x128 : Shape := ⟨4, ![32, 256, 2, 128]⟩
abbrev S32x256x64 : Shape := ⟨3, ![32, 256, 64]⟩

abbrev nBuf : Space → Nat
  | .hbm => 87
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16x24576, .f32⟩
  | .hbm, ⟨2, _⟩ => ⟨S4096, .f32⟩
  | .hbm, ⟨3, _⟩ => ⟨S2x4096x7776, .f32⟩
  | .hbm, ⟨4, _⟩ => ⟨S8192x4096, .f32⟩
  | .hbm, ⟨5, _⟩ => ⟨S32x256x4096, .f32⟩
  | .hbm, ⟨6, _⟩ => ⟨S8192x4096, .f32⟩
  | .hbm, ⟨7, _⟩ => ⟨S8x1024x4096, .f32⟩
  | .hbm, ⟨8, _⟩ => ⟨S1x24576, .f32⟩
  | .hbm, ⟨9, _⟩ => ⟨S1x4096, .f32⟩
  | .hbm, ⟨10, _⟩ => ⟨S1x1x4096, .f32⟩
  | .hbm, ⟨11, _⟩ => ⟨S1x4096, .f32⟩
  | .hbm, ⟨12, _⟩ => ⟨S1x1x4096, .f32⟩
  | .hbm, ⟨13, _⟩ => ⟨S32x256x4096, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x4096, .f32⟩
  | .hbm, ⟨25, _⟩ => ⟨S32x256x4096, .f32⟩
  | .hbm, ⟨26, _⟩ => ⟨S1x1x4096, .f32⟩
  | .hbm, ⟨27, _⟩ => ⟨S32x256x4096, .f32⟩
  | .hbm, ⟨28, _⟩ => ⟨S32x256x4096, .f32⟩
  | .hbm, ⟨29, _⟩ => ⟨S_, .f32⟩
  | .hbm, ⟨30, _⟩ => ⟨S1x1x4096, .f32⟩
  | .hbm, ⟨31, _⟩ => ⟨S1x1x4096, .f32⟩
  | .hbm, ⟨32, _⟩ => ⟨S32x256x4096, .f32⟩
  | .hbm, ⟨33, _⟩ => ⟨S32x256x4096, .f32⟩
  | .hbm, ⟨34, _⟩ => ⟨S32x256x4096, .f32⟩
  | .hbm, ⟨35, _⟩ => ⟨S32x256x4096, .f32⟩
  | .hbm, ⟨36, _⟩ => ⟨S1x4096x7776, .f32⟩
  | .hbm, ⟨37, _⟩ => ⟨S4096x7776, .f32⟩
  | .hbm, ⟨38, _⟩ => ⟨S32x256x7776, .f32⟩
  | .hbm, ⟨39, _⟩ => ⟨S8x24576, .f32⟩
  | .hbm, ⟨40, _⟩ => ⟨S8x4096, .f32⟩
  | .hbm, ⟨41, _⟩ => ⟨S8x1x4096, .f32⟩
  | .hbm, ⟨42, _⟩ => ⟨S8x4096, .f32⟩
  | .hbm, ⟨43, _⟩ => ⟨S8x1x4096, .f32⟩
  | .hbm, ⟨44, _⟩ => ⟨S8x1024x4096, .f32⟩
  | .hbm, ⟨45, _⟩ => ⟨S_, .f32⟩
  | .hbm, ⟨46, _⟩ => ⟨S8x1024, .f32⟩
  | .hbm, ⟨47, _⟩ => ⟨S8x1024x1, .f32⟩
  | .hbm, ⟨48, _⟩ => ⟨S_, .f32⟩
  | .hbm, ⟨49, _⟩ => ⟨S8x1024x1, .f32⟩
  | .hbm, ⟨50, _⟩ => ⟨S8x1024x1, .f32⟩
  | .hbm, ⟨51, _⟩ => ⟨S_, .f32⟩
  | .hbm, ⟨52, _⟩ => ⟨S8x1024x1, .f32⟩
  | .hbm, ⟨53, _⟩ => ⟨S8x1024x1, .f32⟩
  | .hbm, ⟨54, _⟩ => ⟨S8x1024x1, .f32⟩
  | .hbm, ⟨55, _⟩ => ⟨S8x1024x4096, .f32⟩
  | .hbm, ⟨56, _⟩ => ⟨S8x1024x4096, .f32⟩
  | .hbm, ⟨57, _⟩ => ⟨S1x1x4096, .f32⟩
  | .hbm, ⟨58, _⟩ => ⟨S8x1024x4096, .f32⟩
  | .hbm, ⟨59, _⟩ => ⟨S8x1024x4096, .f32⟩
  | .hbm, ⟨60, _⟩ => ⟨S_, .f32⟩
  | .hbm, ⟨61, _⟩ => ⟨S8x1x4096, .f32⟩
  | .hbm, ⟨62, _⟩ => ⟨S8x1x4096, .f32⟩
  | .hbm, ⟨63, _⟩ => ⟨S8x1024x4096, .f32⟩
  | .hbm, ⟨64, _⟩ => ⟨S8x1024x4096, .f32⟩
  | .hbm, ⟨65, _⟩ => ⟨S8x1024x4096, .f32⟩
  | .hbm, ⟨66, _⟩ => ⟨S8x1024x4096, .f32⟩
  | .hbm, ⟨67, _⟩ => ⟨S1x4096x7776, .f32⟩
  | .hbm, ⟨68, _⟩ => ⟨S4096x7776, .f32⟩
  | .hbm, ⟨69, _⟩ => ⟨S8x1024x7776, .f32⟩
  | .hbm, ⟨70, _⟩ => ⟨S8192x7776, .f32⟩
  | .hbm, ⟨71, _⟩ => ⟨S8192x7776, .f32⟩
  | .hbm, ⟨72, _⟩ => ⟨S16384x7776, .f32⟩
  | .hbm, ⟨73, _⟩ => ⟨S16384x4096, .f32⟩
  | .hbm, ⟨74, _⟩ => ⟨S16384x1024, .f32⟩
  | .hbm, ⟨75, _⟩ => ⟨S16384x1536, .f32⟩
  | .hbm, ⟨76, _⟩ => ⟨S_, .f32⟩
  | .hbm, ⟨77, _⟩ => ⟨S16384x256, .f32⟩
  | .hbm, ⟨78, _⟩ => ⟨S16384x1024, .f32⟩
  | .hbm, ⟨79, _⟩ => ⟨S16384x64, .f32⟩
  | .hbm, ⟨80, _⟩ => ⟨S16384x32, .f32⟩
  | .hbm, ⟨81, _⟩ => ⟨S_, .f32⟩
  | .hbm, ⟨82, _⟩ => ⟨S16384x160, .f32⟩
  | .hbm, ⟨83, _⟩ => ⟨S16384x8192, .f32⟩
  | .hbm, ⟨84, _⟩ => ⟨S32x256x256, .f32⟩
  | .hbm, ⟨85, _⟩ => ⟨S32x256x2x128, .f32⟩
  | .hbm, ⟨86, _⟩ => ⟨S32x256x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩

abbrev nD : Nat := 1
abbrev τ : Topo := Topo.v7x

variable {F : FTy → Type} [FloatOps F]
-- ==== OutProj2.lean ====
abbrev S16384x1024 : Shape := ⟨2, ![16384, 1024]⟩
abbrev S2x4096x4096 : Shape := ⟨3, ![2, 4096, 4096]⟩
abbrev S16384x4096 : Shape := ⟨2, ![16384, 4096]⟩
abbrev S16x24576 : Shape := ⟨2, ![16, 24576]⟩
abbrev S16x6x1x4096 : Shape := ⟨4, ![16, 6, 1, 4096]⟩
abbrev S512x1024 : Shape := ⟨2, ![512, 1024]⟩
abbrev S1x4096x512 : Shape := ⟨3, ![1, 4096, 512]⟩
abbrev S512x512 : Shape := ⟨2, ![512, 512]⟩
abbrev S1x1x1x512 : Shape := ⟨4, ![1, 1, 1, 512]⟩
abbrev S1x1024x512 : Shape := ⟨3, ![1, 1024, 512]⟩
abbrev S1024x512 : Shape := ⟨2, ![1024, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2x4096x4096, .f32⟩
  | .hbm, ⟨5, _⟩ => ⟨S16384x4096, .f32⟩
  | .hbm, ⟨6, _⟩ => ⟨S16x24576, .f32⟩
  | .hbm, ⟨7, _⟩ => ⟨S2x4096x4096, .bf16⟩
  | .hbm, ⟨8, _⟩ => ⟨S16x6x1x4096, .f32⟩
  | .hbm, ⟨9, _⟩ => ⟨S16384x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x4096x512, .bf16⟩
  | .local _ .vmem, ⟨9, _⟩ => ⟨S1x4096x512, .bf16⟩
  | .local _ .vmem, ⟨10, _⟩ => ⟨S512x512, .f32⟩
  | .local _ .vmem, ⟨11, _⟩ => ⟨S512x512, .f32⟩
  | .local _ .vmem, ⟨12, _⟩ => ⟨S1x1x1x512, .f32⟩
  | .local _ .vmem, ⟨13, _⟩ => ⟨S1x1x1x512, .f32⟩
  | .local _ .vmem, ⟨14, _⟩ => ⟨S512x512, .f32⟩
  | .local _ .vmem, ⟨15, _⟩ => ⟨S512x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c2_i32 : BitVec 32 := 2#32
  let c0_i32_7 : BitVec 32 := 0#32
  let c0_i32_8 : BitVec 32 := 0#32
  ![v21.toNat, c2_i32.toNat, c0_i32_7.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProj2RefIdeal.lean ====
abbrev S16384x1024 : Shape := ⟨2, ![16384, 1024]⟩
abbrev S2x4096x4096 : Shape := ⟨3, ![2, 4096, 4096]⟩
abbrev S16384x4096 : Shape := ⟨2, ![16384, 4096]⟩
abbrev S16x24576 : Shape := ⟨2, ![16, 24576]⟩
abbrev S1x4096x4096 : Shape := ⟨3, ![1, 4096, 4096]⟩
abbrev S4096x4096 : Shape := ⟨2, ![4096, 4096]⟩
abbrev S16x4096 : Shape := ⟨2, ![16, 4096]⟩
abbrev S8192x4096 : Shape := ⟨2, ![8192, 4096]⟩
abbrev S32x256x4096 : Shape := ⟨3, ![32, 256, 4096]⟩
abbrev S1x4096 : Shape := ⟨2, ![1, 4096]⟩
abbrev S1x1x4096 : Shape := ⟨3, ![1, 1, 4096]⟩
abbrev S8x1024x4096 : Shape := ⟨3, ![8, 1024, 4096]⟩
abbrev S8x4096 : Shape := ⟨2, ![8, 4096]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S2x4096x4096, .f32⟩
  | .hbm, ⟨5, _⟩ => ⟨S16384x4096, .f32⟩
  | .hbm, ⟨6, _⟩ => ⟨S16x24576, .f32⟩
  | .hbm, ⟨7, _⟩ => ⟨S16384x4096, .bf16⟩
  | .hbm, ⟨8, _⟩ => ⟨S16384x4096, .f32⟩
  | .hbm, ⟨9, _⟩ => ⟨S1x4096x4096, .f32⟩
  | .hbm, ⟨10, _⟩ => ⟨S4096x4096, .f32⟩
  | .hbm, ⟨11, _⟩ => ⟨S16384x4096, .f32⟩
  | .hbm, ⟨12, _⟩ => ⟨S16x4096, .f32⟩
  | .hbm, ⟨13, _⟩ => ⟨S8192x4096, .f32⟩
  | .hbm, ⟨14, _⟩ => ⟨S32x256x4096, .f32⟩
  | .hbm, ⟨15, _⟩ => ⟨S1x4096, .f32⟩
  | .hbm, ⟨16, _⟩ => ⟨S1x1x4096, .f32⟩
  | .hbm, ⟨17, _⟩ => ⟨S8192x4096, .f32⟩
  | .hbm, ⟨18, _⟩ => ⟨S32x256x4096, .f32⟩
  | .hbm, ⟨19, _⟩ => ⟨S32x256x4096, .f32⟩
  | .hbm, ⟨20, _⟩ => ⟨S32x256x4096, .f32⟩
  | .hbm, ⟨21, _⟩ => ⟨S32x256x4096, .f32⟩
  | .hbm, ⟨22, _⟩ => ⟨S8192x4096, .f32⟩
  | .hbm, ⟨23, _⟩ => ⟨S8x1024x4096, .f32⟩
  | .hbm, ⟨24, _⟩ => ⟨S8x4096, .f32⟩
  | .hbm, ⟨25, _⟩ => ⟨S8x1x4096, .f32⟩
  | .hbm, ⟨26, _⟩ => ⟨S8192x4096, .f32⟩
  | .hbm, ⟨27, _⟩ => ⟨S8x1024x4096, .f32⟩
  | .hbm, ⟨28, _⟩ => ⟨S8x1024x4096, .f32⟩
  | .hbm, ⟨29, _⟩ => ⟨S8x1024x4096, .f32⟩
  | .hbm, ⟨30, _⟩ => ⟨S8x1024x4096, .f32⟩
  | .hbm, ⟨31, _⟩ => ⟨S8192x4096, .f32⟩
  | .hbm, ⟨32, _⟩ => ⟨S8192x4096, .f32⟩
  | .hbm, ⟨33, _⟩ => ⟨S16384x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== MoeUp2.lean ====
abbrev S32 : Shape := ⟨1, ![32]⟩
abbrev S81920x4096 : Shape := ⟨2, ![81920, 4096]⟩
abbrev S2x32x4096x2048 : Shape := ⟨4, ![2, 32, 4096, 2048]⟩
abbrev S2x32x2048 : Shape := ⟨3, ![2, 32, 2048]⟩
abbrev S1 : Shape := ⟨1, ![1]⟩
abbrev S_ : Shape := ⟨0, ![]⟩
abbrev S640 : Shape := ⟨1, ![640]⟩
abbrev S640x1 : Shape := ⟨2, ![640, 1]⟩
abbrev S1x32 : Shape := ⟨2, ![1, 32]⟩
abbrev S640x32 : Shape := ⟨2, ![640, 32]⟩
abbrev S2x32x1x2048 : Shape := ⟨4, ![2, 32, 1, 2048]⟩
abbrev S81920x2048 : Shape := ⟨2, ![81920, 2048]⟩
abbrev S512x4096 : Shape := ⟨2, ![512, 4096]⟩
abbrev S1x1x4096x512 : Shape := ⟨4, ![1, 1, 4096, 512]⟩
abbrev S1x1x1x512 : Shape := ⟨4, ![1, 1, 1, 512]⟩
abbrev S512x512 : Shape := ⟨2, ![512, 512]⟩
abbrev S4096x512 : Shape := ⟨2, ![4096, 512]⟩
abbrev S1x512 : Shape := ⟨2, ![1, 512]⟩

abbrev nBuf : Space → Nat
  | .hbm => 144
  | .vmem => 14
  | .smem => 6
  | _ => 0

abbrev hbmTy0_0 (i : Nat) : BufTy := match i % 128 with
  | 0 => ⟨S32, .i32⟩
  | 1 => ⟨S32, .i32⟩
  | 2 => ⟨S32, .i32⟩
  | 3 => ⟨S81920x4096, .bf16⟩
  | 4 => ⟨S2x32x4096x2048, .f32⟩
  | 5 => ⟨S2x32x4096x2048, .f32⟩
  | 6 => ⟨S2x32x2048, .f32⟩
  | 7 => ⟨S2x32x2048, .f32⟩
  | 8 => ⟨S1, .i32⟩
  | 9 => ⟨S_, .i32⟩
  | 10 => ⟨S640, .i32⟩
  | 11 => ⟨S_, .i32⟩
  | 12 => ⟨S_, .i32⟩
  | 13 => ⟨S_, .i32⟩
  | 14 => ⟨S_, .i32⟩
  | 15 => ⟨S640, .i32⟩
  | 16 => ⟨S640, .i32⟩
  | 17 => ⟨S640x1, .i32⟩
  | 18 => ⟨S_, .i32⟩
  | 19 => ⟨S32, .i32⟩
  | 20 => ⟨S32, .i32⟩
  | 21 => ⟨S1x32, .i32⟩
  | 22 => ⟨S640x32, .i32⟩
  | 23 => ⟨S640x32, .i32⟩
  | 24 => ⟨S640x32, .i1⟩
  | 25 => ⟨S640x32, .i32⟩
  | 26 => ⟨S_, .i32⟩
  | 27 => ⟨S640, .i32⟩
  | 28 => ⟨S_, .i32⟩
  | 29 => ⟨S640, .i32⟩
  | 30 => ⟨S_, .i32⟩
  | 31 => ⟨S640, .i32⟩
  | 32 => ⟨S640, .i1⟩
  | 33 => ⟨S_, .i32⟩
  | 34 => ⟨S640, .i32⟩
  | 35 => ⟨S640, .i32⟩
  | 36 => ⟨S640, .i32⟩
  | 37 => ⟨S640x1, .i32⟩
  | 38 => ⟨S640, .i32⟩
  | 39 => ⟨S_, .i32⟩
  | 40 => ⟨S640, .i32⟩
  | 41 => ⟨S640, .i32⟩
  | 42 => ⟨S640, .i32⟩
  | 43 => ⟨S_, .i32⟩
  | 44 => ⟨S640, .i32⟩
  | 45 => ⟨S640, .i1⟩
  | 46 => ⟨S_, .i32⟩
  | 47 => ⟨S640, .i32⟩
  | 48 => ⟨S640, .i32⟩
  | 49 => ⟨S640, .i32⟩
  | 50 => ⟨S640x1, .i32⟩
  | 51 => ⟨S640, .i32⟩
  | 52 => ⟨S_, .i32⟩
  | 53 => ⟨S640, .i32⟩
  | 54 => ⟨S640, .i32⟩
  | 55 => ⟨S640, .i32⟩
  | 56 => ⟨S640, .i32⟩
  | 57 => ⟨S640, .i32⟩
  | 58 => ⟨S640, .i1⟩
  | 59 => ⟨S640, .i32⟩
  | 60 => ⟨S_, .i32⟩
  | 61 => ⟨S640, .i32⟩
  | 62 => ⟨S640, .i1⟩
  | 63 => ⟨S640, .i1⟩
  | 64 => ⟨S_, .i32⟩
  | 65 => ⟨S640, .i32⟩
  | 66 => ⟨S640, .i32⟩
  | 67 => ⟨S640, .i32⟩
  | 68 => ⟨S640, .i32⟩
  | 69 => ⟨S_, .i32⟩
  | 70 => ⟨S640, .i32⟩
  | 71 => ⟨S640, .i1⟩
  | 72 => ⟨S_, .i32⟩
  | 73 => ⟨S640, .i32⟩
  | 74 => ⟨S640, .i32⟩
  | 75 => ⟨S640, .i32⟩
  | 76 => ⟨S640x1, .i32⟩
  | 77 => ⟨S640, .i32⟩
  | 78 => ⟨S_, .i32⟩
  | 79 => ⟨S_, .i32⟩
  | 80 => ⟨S640, .i32⟩
  | 81 => ⟨S640, .i1⟩
  | 82 => ⟨S_, .i32⟩
  | 83 => ⟨S_, .i32⟩
  | 84 => ⟨S640, .i32⟩
  | 85 => ⟨S640, .i32⟩
  | 86 => ⟨S_, .i32⟩
  | 87 => ⟨S_, .i32⟩
  | 88 => ⟨S640, .i32⟩
  | 89 => ⟨S640, .i32⟩
  | 90 => ⟨S640, .i32⟩
  | 91 => ⟨S_, .i32⟩
  | 92 => ⟨S640, .i32⟩
  | 93 => ⟨S640, .i1⟩
  | 94 => ⟨S640, .i32⟩
  | 95 => ⟨S640, .i32⟩
  | 96 => ⟨S_, .i32⟩
  | 97 => ⟨S640, .i32⟩
  | 98 => ⟨S640, .i1⟩
  | 99 => ⟨S640, .i1⟩
  | 100 => ⟨S_, .i32⟩
  | 101 => ⟨S640, .i32⟩
  | 102 => ⟨S640, .i32⟩
  | 103 => ⟨S640, .i32⟩
  | 104 => ⟨S640, .i32⟩
  | 105 => ⟨S640, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S640, .i32⟩
  | 113 => ⟨S640, .i32⟩
  | 114 => ⟨S_, .i32⟩
  | 115 => ⟨S640, .i32⟩
  | 116 => ⟨S640, .i1⟩
  | 117 => ⟨S_, .i32⟩
  | 118 => ⟨S640, .i32⟩
  | 119 => ⟨S640, .i1⟩
  | 120 => ⟨S_, .i32⟩
  | 121 => ⟨S_, .i1⟩
  | 122 => ⟨S640, .i1⟩
  | 123 => ⟨S640, .i1⟩
  | 124 => ⟨S640, .i1⟩
  | 125 => ⟨S640, .i32⟩
  | 126 => ⟨S640, .i32⟩
  | 127 => ⟨S640, .i32⟩
  | _ => ⟨S32, .i32⟩

abbrev hbmTy0_1 (i : Nat) : BufTy := match i % 128 with
  | 0 => ⟨S_, .i32⟩
  | 1 => ⟨S640, .i32⟩
  | 2 => ⟨S640, .i1⟩
  | 3 => ⟨S640, .i32⟩
  | 4 => ⟨S_, .i32⟩
  | 5 => ⟨S640, .i32⟩
  | 6 => ⟨S640, .i32⟩
  | 7 => ⟨S_, .i32⟩
  | 8 => ⟨S640, .i32⟩
  | 9 => ⟨S640, .i32⟩
  | 10 => ⟨S_, .i32⟩
  | 11 => ⟨S_, .i32⟩
  | 12 => ⟨S640, .i32⟩
  | 13 => ⟨S2x32x1x2048, .f32⟩
  | 14 => ⟨S2x32x1x2048, .f32⟩
  | 15 => ⟨S81920x2048, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .vmem, ⟨12, _⟩ => ⟨S4096x512, .bf16⟩
  | .local _ .vmem, ⟨13, _⟩ => ⟨S4096x512, .bf16⟩
  | .local _ .smem, ⟨0, _⟩ => ⟨S640, .i32⟩
  | .local _ .smem, ⟨1, _⟩ => ⟨S640, .i32⟩
  | .local _ .smem, ⟨2, _⟩ => ⟨S640, .i32⟩
  | .local _ .smem, ⟨3, _⟩ => ⟨S640, .i32⟩
  | .local _ .smem, ⟨4, _⟩ => ⟨S640, .i32⟩
  | .local _ .smem, ⟨5, _⟩ => ⟨S640, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_c_0 : Ref sig .tc := ⟨.hbm, 64, rfl⟩
abbrev main_call0_v8 : Ref sig .tc := ⟨.hbm, 65, rfl⟩
abbrev main_call0_v9 : Ref sig .tc := ⟨.hbm, 66, rfl⟩
abbrev main_v38 : Ref sig .tc := ⟨.hbm, 67, rfl⟩
abbrev main_v39 : Ref sig .tc := ⟨.hbm, 68, rfl⟩
abbrev main_c_10 : Ref sig .tc := ⟨.hbm, 69, rfl⟩
abbrev main_v40 : Ref sig .tc := ⟨.hbm, 70, rfl⟩
abbrev main_v41 : Ref sig .tc := ⟨.hbm, 71, rfl⟩
abbrev main_c_11 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_14 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_c : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_0 : Ref sig .tc := ⟨.hbm, 100, rfl⟩
abbrev main_call1_v12 : Ref sig .tc := ⟨.hbm, 101, rfl⟩
abbrev main_call1_v13 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_15 : Ref sig .tc := ⟨.hbm, 106, rfl⟩
abbrev main_call3_v0 : Ref sig .tc := ⟨.hbm, 107, rfl⟩
abbrev main_call3_c : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_c_1 : Ref sig .tc := ⟨.hbm, 114, rfl⟩
abbrev main_call3_v5 : Ref sig .tc := ⟨.hbm, 115, rfl⟩
abbrev main_call3_v6 : Ref sig .tc := ⟨.hbm, 116, rfl⟩
abbrev main_call3_c_2 : Ref sig .tc := ⟨.hbm, 117, rfl⟩
abbrev main_call3_v7 : Ref sig .tc := ⟨.hbm, 118, rfl⟩
abbrev main_call3_v8 : Ref sig .tc := ⟨.hbm, 119, rfl⟩
abbrev main_call3_c_3 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_v58 : Ref sig .tc := ⟨.hbm, 127, rfl⟩
abbrev main_c_16 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_c_17 : Ref sig .tc := ⟨.hbm, 132, rfl⟩
abbrev main_v63 : Ref sig .tc := ⟨.hbm, 133, rfl⟩
abbrev main_v64 : Ref sig .tc := ⟨.hbm, 134, rfl⟩
abbrev main_c_18 : Ref sig .tc := ⟨.hbm, 135, rfl⟩
abbrev main_v65 : Ref sig .tc := ⟨.hbm, 136, rfl⟩
abbrev main_v66 : Ref sig .tc := ⟨.hbm, 137, rfl⟩
abbrev main_c_19 : Ref sig .tc := ⟨.hbm, 138, rfl⟩
abbrev main_call5_v0 : Ref sig .tc := ⟨.hbm, 139, rfl⟩
abbrev main_call5_v1 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v17 : Ref sig .tc := ⟨.smem, 0, rfl⟩
abbrev main_v37 : Ref sig .tc := ⟨.smem, 1, rfl⟩
abbrev main_v47 : Ref sig .tc := ⟨.smem, 2, rfl⟩
abbrev main_v57 : Ref sig .tc := ⟨.smem, 3, rfl⟩
abbrev main_v59 : Ref sig .tc := ⟨.smem, 4, rfl⟩
abbrev main_v67 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![640], ![false]⟩

abbrev pre0 : Pipeline.Prefetch sig := ⟨6, ![main_v17.idx, main_v37.idx, main_v47.idx, main_v57.idx, main_v59.idx, main_v67.idx], fun | 0 => main_v17.names | 1 => main_v37.names | 2 => main_v47.names | 3 => main_v57.names | 4 => main_v59.names | 5 => main_v67.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c4_i32 : BitVec 32 := 4#32
  let v2 : BitVec 32 := Scalar.andi v1 c4_i32
  let c0_i32 : BitVec 32 := 0#32
  let v3 : BitVec 1 := Scalar.cmpi .ne v2 c0_i32
  let v4 : BitVec 32 := Scalar.extui v3
  let c0_i32_0 : BitVec 32 := 0#32
  let v5 : BitVec 1 := Scalar.cmpi .ne v4 c0_i32_0
  v5

def k0_cond3 (v1 : BitVec 32) : BitVec 1 :=
  let c1_i32 : BitVec 32 := 1#32
  let v10 : BitVec 32 := Scalar.andi v1 c1_i32
  let c0_i32_3 : BitVec 32 := 0#32
  let v11 : BitVec 1 := Scalar.cmpi .ne v10 c0_i32_3
  let v12 : BitVec 32 := Scalar.extui v11
  let c0_i32_4 : BitVec 32 := 0#32
  let v13 : BitVec 1 := Scalar.cmpi .ne v12 c0_i32_4
  v13

def cc0_transform_0 (k0_off1_inb : ∀ i : grid0.Coords, ∀ a, (k0_off1 i) a + S1.size a ≤ S640.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S640) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, v3.toNat]

def cc0_transform_2 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, v3.toNat]

def cc0_transform_3 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, v3.toNat]

def cc0_transform_4 (k0_off1_inb : ∀ i : grid0.Coords, ∀ a, (k0_off1 i) a + S1.size a ≤ S640.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S640) ![v0.toNat] S1.size (k0_off1_inb i)) numel1_S1
  let v2 : Index := Scalar.indexCast arg0
  let v3 : BitVec 32 := pf.at 1 (Rect.unit (s := S640) ![v2.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, v3.toNat]

def cc0_transform_5 (k0_off1_inb : ∀ i : grid0.Coords, ∀ a, (k0_off1 i) a + S1.size a ≤ S640.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S640) ![v0.toNat] S1.size (k0_off1_inb i)) numel1_S1
  let v2 : Index := Scalar.indexCast arg0
  let v3 : BitVec 32 := pf.at 4 (Rect.unit (s := S640) ![v2.toNat] S1.size (k0_off1_inb i)) numel1_S1
  let c0_i32 : BitVec 32 := 0#32
  ![v1.toNat, v3.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeUp2RefIdeal.lean ====
abbrev S32 : Shape := ⟨1, ![32]⟩
abbrev S81920x4096 : Shape := ⟨2, ![81920, 4096]⟩
abbrev S2x32x4096x2048 : Shape := ⟨4, ![2, 32, 4096, 2048]⟩
abbrev S2x32x2048 : Shape := ⟨3, ![2, 32, 2048]⟩
abbrev S1x32x4096x2048 : Shape := ⟨4, ![1, 32, 4096, 2048]⟩
abbrev S32x4096x2048 : Shape := ⟨3, ![32, 4096, 2048]⟩
abbrev S32x2048x81920 : Shape := ⟨3, ![32, 2048, 81920]⟩
abbrev S32x81920x2048 : Shape := ⟨3, ![32, 81920, 2048]⟩
abbrev S1x32x2048 : Shape := ⟨3, ![1, 32, 2048]⟩
abbrev S32x2048 : Shape := ⟨2, ![32, 2048]⟩
abbrev S32x1x2048 : Shape := ⟨3, ![32, 1, 2048]⟩
abbrev S81920 : Shape := ⟨1, ![81920]⟩
abbrev S1x81920 : Shape := ⟨2, ![1, 81920]⟩
abbrev S32x1 : Shape := ⟨2, ![32, 1]⟩
abbrev S_ : Shape := ⟨0, ![]⟩
abbrev S32x81920 : Shape := ⟨2, ![32, 81920]⟩
abbrev S32x81920x1 : Shape := ⟨3, ![32, 81920, 1]⟩
abbrev S81920x2048 : Shape := ⟨2, ![81920, 2048]⟩

abbrev nBuf : Space → Nat
  | .hbm => 80
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S32, .i32⟩
  | .hbm, ⟨3, _⟩ => ⟨S81920x4096, .bf16⟩
  | .hbm, ⟨4, _⟩ => ⟨S2x32x4096x2048, .f32⟩
  | .hbm, ⟨5, _⟩ => ⟨S2x32x4096x2048, .f32⟩
  | .hbm, ⟨6, _⟩ => ⟨S2x32x2048, .f32⟩
  | .hbm, ⟨7, _⟩ => ⟨S2x32x2048, .f32⟩
  | .hbm, ⟨8, _⟩ => ⟨S81920x4096, .f32⟩
  | .hbm, ⟨9, _⟩ => ⟨S1x32x4096x2048, .f32⟩
  | .hbm, ⟨10, _⟩ => ⟨S32x4096x2048, .f32⟩
  | .hbm, ⟨11, _⟩ => ⟨S32x2048x81920, .f32⟩
  | .hbm, ⟨12, _⟩ => ⟨S32x81920x2048, .f32⟩
  | .hbm, ⟨13, _⟩ => ⟨S1x32x2048, .f32⟩
  | .hbm, ⟨14, _⟩ => ⟨S32x2048, .f32⟩
  | .hbm, ⟨15, _⟩ => ⟨S32x1x2048, .f32⟩
  | .hbm, ⟨16, _⟩ => ⟨S32x81920x2048, .f32⟩
  | .hbm, ⟨17, _⟩ => ⟨S32x81920x2048, .f32⟩
  | .hbm, ⟨18, _⟩ => ⟨S1x32x4096x2048, .f32⟩
  | .hbm, ⟨19, _⟩ => ⟨S32x4096x2048, .f32⟩
  | .hbm, ⟨20, _⟩ => ⟨S32x2048x81920, .f32⟩
  | .hbm, ⟨21, _⟩ => ⟨S32x81920x2048, .f32⟩
  | .hbm, ⟨22, _⟩ => ⟨S1x32x2048, .f32⟩
  | .hbm, ⟨23, _⟩ => ⟨S32x2048, .f32⟩
  | .hbm, ⟨24, _⟩ => ⟨S32x1x2048, .f32⟩
  | .hbm, ⟨25, _⟩ => ⟨S32x81920x2048, .f32⟩
  | .hbm, ⟨26, _⟩ => ⟨S32x81920x2048, .f32⟩
  | .hbm, ⟨27, _⟩ => ⟨S81920, .i32⟩
  | .hbm, ⟨28, _⟩ => ⟨S1x81920, .i32⟩
  | .hbm, ⟨29, _⟩ => ⟨S32x1, .i32⟩
  | .hbm, ⟨30, _⟩ => ⟨S_, .i32⟩
  | .hbm, ⟨31, _⟩ => ⟨S32x1, .i32⟩
  | .hbm, ⟨32, _⟩ => ⟨S32x1, .i32⟩
  | .hbm, ⟨33, _⟩ => ⟨S32x81920, .i32⟩
  | .hbm, ⟨34, _⟩ => ⟨S32x81920, .i32⟩
  | .hbm, ⟨35, _⟩ => ⟨S32x81920, .i1⟩
  | .hbm, ⟨36, _⟩ => ⟨S32x1, .i32⟩
  | .hbm, ⟨37, _⟩ => ⟨S_, .i32⟩
  | .hbm, ⟨38, _⟩ => ⟨S32x1, .i32⟩
  | .hbm, ⟨39, _⟩ => ⟨S32x1, .i32⟩
  | .hbm, ⟨40, _⟩ => ⟨S32x81920, .i32⟩
  | .hbm, ⟨41, _⟩ => ⟨S32x81920, .i32⟩
  | .hbm, ⟨42, _⟩ => ⟨S32x81920, .i1⟩
  | .hbm, ⟨43, _⟩ => ⟨S32x81920, .i1⟩
  | .hbm, ⟨44, _⟩ => ⟨S32x81920x1, .i1⟩
  | .hbm, ⟨45, _⟩ => ⟨S_, .f32⟩
  | .hbm, ⟨46, _⟩ => ⟨S32x81920x2048, .f32⟩
  | .hbm, ⟨47, _⟩ => ⟨S32x81920x2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S32x81920x2048, .f32⟩
  | .hbm, ⟨52, _⟩ => ⟨S32x81920x2048, .f32⟩
  | .hbm, ⟨53, _⟩ => ⟨S_, .f32⟩
  | .hbm, ⟨54, _⟩ => ⟨S32x81920x2048, .f32⟩
  | .hbm, ⟨55, _⟩ => ⟨S32x81920x2048, .f32⟩
  | .hbm, ⟨56, _⟩ => ⟨S_, .f32⟩
  | .hbm, ⟨57, _⟩ => ⟨S32x81920x2048, .f32⟩
  | .hbm, ⟨58, _⟩ => ⟨S32x81920x2048, .f32⟩
  | .hbm, ⟨59, _⟩ => ⟨S32x81920x2048, .f32⟩
  | .hbm, ⟨60, _⟩ => ⟨S_, .f32⟩
  | .hbm, ⟨61, _⟩ => ⟨S32x81920x2048, .f32⟩
  | .hbm, ⟨62, _⟩ => ⟨S32x81920x2048, .f32⟩
  | .hbm, ⟨63, _⟩ => ⟨S32x81920x2048, .f32⟩
  | .hbm, ⟨64, _⟩ => ⟨S32x81920x2048, .f32⟩
  | .hbm, ⟨65, _⟩ => ⟨S_, .f32⟩
  | .hbm, ⟨66, _⟩ => ⟨S32x81920x2048, .f32⟩
  | .hbm, ⟨67, _⟩ => ⟨S32x81920x2048, .f32⟩
  | .hbm, ⟨68, _⟩ => ⟨S_, .f32⟩
  | .hbm, ⟨69, _⟩ => ⟨S32x81920x2048, .f32⟩
  | .hbm, ⟨70, _⟩ => ⟨S32x81920x2048, .f32⟩
  | .hbm, ⟨71, _⟩ => ⟨S32x81920x2048, .f32⟩
  | .hbm, ⟨72, _⟩ => ⟨S_, .f32⟩
  | .hbm, ⟨73, _⟩ => ⟨S_, .f32⟩
  | .hbm, ⟨74, _⟩ => ⟨S32x81920x2048, .i1⟩
  | .hbm, ⟨75, _⟩ => ⟨S32x81920x2048, .f32⟩
  | .hbm, ⟨76, _⟩ => ⟨S32x81920x2048, .f32⟩
  | .hbm, ⟨77, _⟩ => ⟨S_, .f32⟩
  | .hbm, ⟨78, _⟩ => ⟨S81920x2048, .f32⟩
  | .hbm, ⟨79, _⟩ => ⟨S81920x2048, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_cst_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Proof.Gqa.Softmax.lean ====
/-
  The mathematics of one attention row over the extended reals: a normalised vector is real whatever it normalises, a
  positive real factor moves through a sum, and a softmax row times the values may be divided by the row's sum before
  or after the sum over the keys.
-/
module

public import Idealize.ShloMosaic.Lib.Pointwise
public import Idealize.ShloMosaic.Lib.IdealHost

@[expose] public section

noncomputable section

open Idealize.ShloMosaic

namespace Cert.Attention

/-- The extended real is a real number. -/
def IsReal (x : EReal) : Prop := ∃ r : ℝ, x = r

theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- A finite sum of real numbers is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (hf : ∀ i, IsReal (f i)) : IsReal (∑ i ∈ s, f i) := by
  choose g hg using hf
  exact ⟨∑ i ∈ s, g i, by rw [← sum_coe]; exact Finset.sum_congr rfl fun i _ => hg i⟩

/-- A real factor that is not negative moves through a sum, whatever the terms. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-! ## The constants the programs print -/

/-- The pattern of `128.0`. -/
theorem width_pos : ∃ r : ℝ, 0 < r ∧ Ideal.ofBits .f32 0x43000000#32 = (r : EReal) :=
  ⟨128, by norm_num, by simp [Ideal.ofBits, Ideal.ieee, -EReal.coe_mul]; norm_num⟩

/-- The pattern of the small number added under the root: a positive real. -/
theorem eps_pos : ∃ r : ℝ, 0 < r ∧ Ideal.ofBits .f32 0x358637BD#32 = (r : EReal) :=
  ⟨8796093 * (2 : ℝ) ^ (-43 : ℤ), by positivity, by simp [Ideal.ofBits, Ideal.ieee, -EReal.coe_mul]⟩

/-- The pattern of the scores' scale `1 / √128`: a positive real. -/
theorem scale_pos : ∃ r : ℝ, 0 < r ∧ Ideal.ofBits .f32 0x3DB504F3#32 = (r : EReal) :=
  ⟨11863283 * (2 : ℝ) ^ (-27 : ℤ), by positivity, by simp [Ideal.ofBits, Ideal.ieee, -EReal.coe_mul]⟩

/-- The pattern of minus infinity. -/
theorem neg_inf : Ideal.ofBits .f32 0xFF800000#32 = (⊥ : EReal) := by simp [Ideal.ofBits, Ideal.ieee]

/-! ## The normalisation -/

/-- Entry `d` of the vector `x` divided by its root mean square and multiplied by the gains `g`. -/
def normed (x g : Fin 128 → EReal) (d : Fin 128) : EReal :=
  x d * Ideal.rsqrt (Ideal.div (∑ k, x k * x k) (Ideal.ofBits .f32 0x43000000#32) + Ideal.ofBits .f32 0x358637BD#32) * g d

theorem mul_self_nonneg' (x : EReal) : 0 ≤ x * x := by
  induction x with
  | bot => simp
  | top => simp
  | coe r => rw [← EReal.coe_mul]; exact EReal.coe_nonneg.mpr (mul_self_nonneg r)

/-- The reciprocal root of a positive real is a real. -/
theorem rsqrt_real {r : ℝ} (hr : 0 < r) : IsReal (Ideal.rsqrt (r : EReal)) := by
  refine ⟨(Real.sqrt r)⁻¹, ?_⟩
  show (if r < 0 then (⊥ : EReal) else if r = 0 then ⊤ else ((Real.sqrt r)⁻¹ : ℝ)) = _
  rw [if_neg (not_lt.mpr hr.le), if_neg hr.ne']

/-- A normalised vector is real whatever the vector is, provided the gain is: an infinite entry makes the mean square
    infinite, so the factor is zero. -/
theorem normed_real (x g : Fin 128 → EReal) (d : Fin 128) (hg : IsReal (g d)) : IsReal (normed x g d) := by
  obtain ⟨w, hw, ew⟩ := width_pos
  obtain ⟨e, he, ee⟩ := eps_pos
  unfold normed
  rw [ew, ee]
  have hw0 : (w : EReal) ≠ 0 := by exact_mod_cast hw.ne'
  by_cases h : ∀ k, IsReal (x k)
  · choose y hy using h
    have hs : ∑ k, x k * x k = ((∑ k, y k * y k : ℝ) : EReal) := by
      rw [← sum_coe]; exact Finset.sum_congr rfl fun k _ => by rw [hy k, EReal.coe_mul]
    have hn : 0 ≤ ∑ k, y k * y k := Finset.sum_nonneg fun k _ => mul_self_nonneg _
    have hd : Ideal.div (∑ k, x k * x k) (w : EReal) + (e : EReal) = (((∑ k, y k * y k) * w⁻¹ + e : ℝ) : EReal) := by
      unfold Ideal.div
      rw [if_neg hw0, hs, ← EReal.coe_inv, ← EReal.coe_mul, ← EReal.coe_add]
    rw [hd]
    exact IsReal.mul (IsReal.mul ⟨y d, hy d⟩ (rsqrt_real (by positivity))) hg
  · push Not at h
    obtain ⟨k, hk⟩ := h
    have hkk : x k * x k = ⊤ := by
      have := (not_congr (isReal_iff (x k))).mp hk
      generalize x k = z at *
      induction z with
      | bot => simp
      | top => simp
      | coe r => exact absurd ⟨r, rfl⟩ hk
    have hs : ∑ k, x k * x k = (⊤ : EReal) :=
      top_le_iff.mp (hkk ▸ Finset.single_le_sum (f := fun k => x k * x k) (fun i _ => mul_self_nonneg' (x i)) (Finset.mem_univ k))
    have hd : Ideal.div (∑ k, x k * x k) (w : EReal) + (e : EReal) = ⊤ := by
      unfold Ideal.div
      rw [if_neg hw0, hs, ← EReal.coe_inv, EReal.top_mul_coe_of_pos (by positivity)]
      exact EReal.top_add_coe e
    rw [hd]
    show IsReal (x d * 0 * g d)
    rw [mul_zero, zero_mul]
    exact ⟨0, rfl⟩

/-! ## The scores and the softmax -/

/-- Scaling the query before the product with the key, or the product, is the same. -/
theorem score_eq {ι : Type} [Fintype ι] (q k : ι → EReal) :
    ∑ c, q c * Ideal.ofBits .f32 0x3DB504F3#32 * k c = (∑ c, k c * q c) * Ideal.ofBits .f32 0x3DB504F3#32 := by
  obtain ⟨r, hr, e⟩ := scale_pos
  rw [e, sum_mul_coe _ _ r hr.le]
  refine Finset.sum_congr rfl fun c _ => ?_
  rw [mul_assoc, mul_comm (r : EReal), ← mul_assoc, mul_comm (q c)]

/-- The greatest of finitely many reals, at least one, is a real. -/
theorem fold_max_real {n : ℕ} (hn : 0 < n) (s : Fin n → EReal) (hs : ∀ j, IsReal (s j)) :
    IsReal (Finset.fold max (⊥ : EReal) s Finset.univ) := by
  rw [isReal_iff]
  refine ⟨?_, ?_⟩
  · have : (⊥ : EReal) < Finset.fold max (⊥ : EReal) s Finset.univ :=
      (Finset.lt_fold_max _).mpr (.inr ⟨⟨0, hn⟩, Finset.mem_univ _, bot_lt_iff_ne_bot.mpr ((isReal_iff _).mp (hs _)).1⟩)
    exact this.ne'
  · have : Finset.fold max (⊥ : EReal) s Finset.univ < ⊤ :=
      (Finset.fold_max_lt _).mpr ⟨bot_lt_top, fun j _ => lt_top_iff_ne_top.mpr ((isReal_iff _).mp (hs j)).2⟩
    exact this.ne

/-- Row `s` of scores against the values `v`: dividing the weighted sum by the weights' sum, as the kernel does, is
    weighting by the divided weights, as the reference does. -/
theorem softmax_eq {n : ℕ} (hn : 0 < n) (s v : Fin n → EReal) (hs : ∀ j, IsReal (s j)) :
    (∑ j, Ideal.exp (s j - Finset.fold max (Ideal.ofBits .f32 0xFF800000#32) s Finset.univ) * v j)
        * Ideal.div 1 (∑ j, Ideal.exp (s j - Finset.fold max (Ideal.ofBits .f32 0xFF800000#32) s Finset.univ))
      = ∑ j, v j * Ideal.div
          (Ideal.exp (s j - max (Ideal.ofBits .f32 0xFF800000#32) (Finset.fold max (Ideal.ofBits .f32 0xFF800000#32) s Finset.univ)))
          (∑ j, Ideal.exp (s j - max (Ideal.ofBits .f32 0xFF800000#32) (Finset.fold max (Ideal.ofBits .f32 0xFF800000#32) s Finset.univ))) := by
  rw [neg_inf, max_eq_right bot_le]
  obtain ⟨M, hM⟩ := fold_max_real hn s hs
  rw [hM]
  choose y hy using hs
  have he : ∀ j, Ideal.exp (s j - (M : EReal)) = ((Real.exp (y j - M) : ℝ) : EReal) := fun j => by
    rw [hy j, ← EReal.coe_sub]; rfl
  simp only [he]
  rw [sum_coe]
  have hS : 0 < ∑ j, Real.exp (y j - M) :=
    Finset.sum_pos (fun j _ => Real.exp_pos _) ⟨⟨0, hn⟩, Finset.mem_univ _⟩
  generalize (∑ j, Real.exp (y j - M)) = S at hS
  have hS0 : (S : EReal) ≠ 0 := by exact_mod_cast hS.ne'
  unfold Ideal.div
  simp only [if_neg hS0, ← EReal.coe_inv, one_mul]
  rw [sum_mul_coe _ _ _ (by positivity)]
  refine Finset.sum_congr rfl fun j _ => ?_
  rw [mul_comm ((Real.exp (y j - M) : ℝ) : EReal) (v j), mul_assoc]

end Cert.Attention

end
-- ==== Proof.Gqa.Block.lean ====
/-
  What one grid point of the attention kernel leaves in its two output blocks, entry by entry: the normalised keys, and
  for each of its four query heads the attention of the head's normalised queries over the block's keys and values.
-/
module

public import proofs.«01_k».proof.Proof.Gen.KernelIdeal.Value
public import proofs.«01_k».proof.Proof.Gqa.Softmax
public import Idealize.ShloMosaic.Lib.Pipeline.ValueKit.Tiles
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Value

open Cert.KernelIdeal Cert.KernelIdeal.Gen Cert.Attention

theorem hz : (![0, 0] : Fin 2 → Nat) = fun _ => 0 := funext fun a => by fin_cases a <;> rfl

/-- A scratch read back whole after a whole store holds what was stored last, whatever was stored before. -/
theorem scratch_read (v : View sig .tc .vmem S256x128 .bf16) {off off' : Fin 2 → Nat} (h : off = fun _ => 0) (h' : off' = fun _ => 0)
    (inb : ∀ a, off a + S256x128.size a ≤ S256x128.size a) (inb' : ∀ a, off' a + S256x128.size a ≤ S256x128.size a)
    (w : S256x128.Idx → Elt Ideal .bf16) (L : List (View.Piece (Elt Ideal) S256x128 .bf16)) :
    v.readCov ((⟨Rect.unit off S256x128.size inb, w⟩ : View.Piece (Elt Ideal) S256x128 .bf16) :: L) (Rect.unit off' S256x128.size inb').toLoadRect = w :=
  View.readCov_cons_unit_lit' v inb inb' w L (congrFun h) (congrFun h')

/-- Query head `g` of a grid point at row `r`, column `d`, in the kernel's order of operations. -/
def attended (x0 : FVec Ideal S256x512 .f32) (x1 x2 : FVec Ideal S256x128 .f32) (x3 x4 : FVec Ideal S1x128 .f32)
    (g : Fin 4) (r : Fin 256) (d : Fin 128) : EReal :=
  let q := normed (fun k => x0 (ix2 r ⟨128 * g.val + k.val, by omega⟩)) (fun k => x3 (ix2 0 k))
  let s : Fin 256 → EReal := fun j => ∑ k, q k * Ideal.ofBits .f32 0x3DB504F3#32 *
    normed (fun k => x1 (ix2 j k)) (fun k => x4 (ix2 0 k)) k
  (∑ j, Ideal.exp (s j - Finset.fold max (Ideal.ofBits .f32 0xFF800000#32) s Finset.univ) * x2 (ix2 j d))
    * Ideal.div 1 (∑ j, Ideal.exp (s j - Finset.fold max (Ideal.ofBits .f32 0xFF800000#32) s Finset.univ))

/-- The second output block holds the normalised keys. -/
theorem out_6 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S256x128 .f32) (harg8 : arg8.IsWhole)
    (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole)
    (x0 : Vec Ideal S256x512 .f32) (x1 : Vec Ideal S256x128 .f32) (x2 : Vec Ideal S256x128 .f32) (x3 : Vec Ideal S1x128 .f32) (x4 : Vec Ideal S1x128 .f32) (r : Fin 256) (d : Fin 128) :
    out0_A_6 (F := Ideal) c i arg2 harg2 arg3 harg3 arg4 harg4 arg5 harg5 arg6 harg6 arg7 harg7 arg8 harg8 arg9 harg9 arg10 harg10 arg11 harg11 x0 x1 x2 x3 x4 (ix2 r d)
      = normed (fun k => x1 (ix2 r k)) (fun k => x4 (ix2 0 k)) d := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4)]
  unfold kernelRun0_A
  dsimp only
  sl_unfold_words
  rw [View.canon_unit_zero hz]
  simp only [View.readAt_eq_ld, harg3.read_unread, harg6.read_unread, View.ld_unit_zero (S := S256x128) hz, View.ld_unit_zero (S := S1x128) hz]
  pointwise [k0_pay2, normed]

/-- The block of the four heads side by side: column `128 g + d` is column `d` of head `g`. -/
def block (x0 : FVec Ideal S256x512 .f32) (x1 x2 : FVec Ideal S256x128 .f32) (x3 x4 : FVec Ideal S1x128 .f32) (y : S256x512.Idx) : EReal :=
  attended x0 x1 x2 x3 x4 ⟨(y 1).val / 128, by have : (y 1).val < 512 := (y 1).isLt; omega⟩ (y 0) ⟨(y 1).val % 128, by omega⟩

/-- The block through the rectangle of head `g`'s columns is head `g`. -/
theorem block_tile (x0 : FVec Ideal S256x512 .f32) (x1 x2 : FVec Ideal S256x128 .f32) (x3 x4 : FVec Ideal S1x128 .f32)
    (g : Fin 4) {off : Fin 2 → Nat} (h : off = ![0, 128 * g.val]) (inb : ∀ a, off a + S256x128.size a ≤ S256x512.size a) (r : Fin 256) (d : Fin 128) :
    block x0 x1 x2 x3 x4 ((Rect.unit (s := S256x512) off S256x128.size inb).emb (ix2 r d)) = attended x0 x1 x2 x3 x4 g r d := by
  subst h
  have e0 : ((Rect.unit (s := S256x512) ![0, 128 * g.val] S256x128.size inb).emb (ix2 r d) 0).val = 0 + 1 * r.val := rfl
  have e1 : ((Rect.unit (s := S256x512) ![0, 128 * g.val] S256x128.size inb).emb (ix2 r d) 1).val = 128 * g.val + 1 * d.val := rfl
  unfold block
  congr 1
  · apply Fin.ext; show _ / 128 = _; rw [e1]; omega
  · apply Fin.ext; rw [e0]; omega
  · apply Fin.ext; show _ % 128 = _; rw [e1]; omega

/-- The first output block holds the four heads side by side. -/
theorem out_5 (c : Dev nD) (i : grid0.Coords) (arg2 : Memref sig .tc .vmem S256x512 .f32) (harg2 : arg2.IsWhole) (arg3 : Memref sig .tc .vmem S256x128 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S256x128 .f32) (harg8 : arg8.IsWhole)
    (arg9 : Memref sig .tc .vmem S256x128 .bf16) (harg9 : arg9.IsWhole) (arg10 : Memref sig .tc .vmem S256x128 .bf16) (harg10 : arg10.IsWhole) (arg11 : Memref sig .tc .vmem S256x128 .bf16) (harg11 : arg11.IsWhole)
    (x0 : Vec Ideal S256x512 .f32) (x1 : Vec Ideal S256x128 .f32) (x2 : Vec Ideal S256x128 .f32) (x3 : Vec Ideal S1x128 .f32) (x4 : Vec Ideal S1x128 .f32) (y : S256x512.Idx) :
    out0_A_5 (F := Ideal) c i arg2 harg2 arg3 harg3 arg4 harg4 arg5 harg5 arg6 harg6 arg7 harg7 arg8 harg8 arg9 harg9 arg10 harg10 arg11 harg11 x0 x1 x2 x3 x4 y
      = block x0 x1 x2 x3 x4 y := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 x0 x1 x2 x3 x4)]
  refine View.canon_apply_of_pieces (block x0 x1 x2 x3 x4) _ ?_ y (cover0_A_5 c i arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  simp only [View.readAt_eq_ld, harg2.read_unread, harg4.read_unread, harg5.read_unread, harg3.read_unread, harg6.read_unread, View.ld_unit_zero (S := S256x128) hz, View.ld_unit_zero (S := S1x128) hz, scratch_read _ hz hz]
  have hz' : k0_off1 = fun _ => 0 := funext fun a => by fin_cases a <;> decide
  refine List.forall_mem_cons.mpr ⟨?_, List.forall_mem_cons.mpr ⟨?_, List.forall_mem_cons.mpr ⟨?_, List.forall_mem_cons.mpr ⟨?_, by simp⟩⟩⟩⟩
  · intro x
    obtain ⟨r, d, rfl⟩ : ∃ (r : Fin 256) (d : Fin 128), x = ix2 r d := ⟨x 0, x 1, eq_ix2 x⟩
    refine Eq.trans ?_ (block_tile x0 x1 x2 x3 x4 3 (funext fun a => by fin_cases a <;> decide) k0_off5_inb r d).symm
    refine (congrArg (fun z => k0_pay1 (F := Ideal) (k0_pay16 z (k0_pay3 x1 x4)) (k0_pay4 x2) (ix2 r d)) (scratch_read arg9.view hz hz' _ _ _ _)).trans ?_
    pointwise [k0_pay1, k0_pay16, k0_pay15, k0_pay3, k0_pay2, k0_pay4, attended, normed]
  · intro x
    obtain ⟨r, d, rfl⟩ : ∃ (r : Fin 256) (d : Fin 128), x = ix2 r d := ⟨x 0, x 1, eq_ix2 x⟩
    refine Eq.trans ?_ (block_tile x0 x1 x2 x3 x4 2 (funext fun a => by fin_cases a <;> decide) k0_off4_inb r d).symm
    refine (congrArg (fun z => k0_pay14 (F := Ideal) (k0_pay12 z (k0_pay3 x1 x4)) (k0_pay13 z (k0_pay3 x1 x4)) (k0_pay4 x2) (constant S256x128 FTy.f32 0#32) (ix2 r d)) (scratch_read arg9.view hz hz' _ _ _ _)).trans ?_
    pointwise [k0_pay14, k0_pay12, k0_pay13, k0_pay11, k0_pay3, k0_pay2, k0_pay4, attended, normed]
  · intro x
    obtain ⟨r, d, rfl⟩ : ∃ (r : Fin 256) (d : Fin 128), x = ix2 r d := ⟨x 0, x 1, eq_ix2 x⟩
    refine Eq.trans ?_ (block_tile x0 x1 x2 x3 x4 1 (funext fun a => by fin_cases a <;> decide) k0_off3_inb r d).symm
    refine (congrArg (fun z => k0_pay10 (F := Ideal) z (k0_pay3 x1 x4) (k0_pay4 x2) (ix2 r d)) (scratch_read arg9.view hz hz' _ _ _ _)).trans ?_
    pointwise [k0_pay10, k0_pay9, k0_pay3, k0_pay2, k0_pay4, attended, normed]
  · intro x
    obtain ⟨r, d, rfl⟩ : ∃ (r : Fin 256) (d : Fin 128), x = ix2 r d := ⟨x 0, x 1, eq_ix2 x⟩
    refine Eq.trans ?_ (block_tile x0 x1 x2 x3 x4 0 (funext fun a => by fin_cases a <;> decide) k0_off2_inb r d).symm
    refine (congrArg (fun z => k0_pay8 (F := Ideal) z (k0_pay3 x1 x4) (k0_pay4 x2) (ix2 r d)) (scratch_read arg9.view hz hz' _ _ _ _)).trans ?_
    pointwise [k0_pay8, k0_pay7, k0_pay5, k0_pay6, k0_pay3, k0_pay2, k0_pay4, attended, normed]

end Cert.KernelIdeal.Value

end
-- ==== Proof.Gqa.Array.lean ====
/-
  The attention kernel's two result arrays as functions of its arguments: every grid point reads the blocks of the
  packed projection that belong to its sequence and its key head, and the blocks it writes tile the two results.
-/
module

public import proofs.«01_k».proof.Proof.Gqa.Block

@[expose] public section

set_option maxRecDepth 16384

noncomputable section

open Idealize.ShloMosaic Idealize.ShloMosaic.TcCoe Idealize.SL.Sem

namespace Cert.KernelIdeal.Value

open Cert.KernelIdeal Cert.KernelIdeal.Gen Cert.Attention

/-- The four heads' queries of sequence `i`, key head `h`, before normalisation. -/
def queries (x : FVec Ideal S16384x8192 .f32) (i : Fin 32) (h : Fin 2) : FVec Ideal S256x512 .f32 :=
  fun z => x (ix2 ⟨256 * i.val + (z 0).val, by have : (z 0).val < 256 := (z 0).isLt; omega⟩
    ⟨5120 + 512 * h.val + (z 1).val, by have : (z 1).val < 512 := (z 1).isLt; omega⟩)

/-- The keys of sequence `i`, key head `h`, before normalisation. -/
def keys (x : FVec Ideal S16384x8192 .f32) (i : Fin 32) (h : Fin 2) : FVec Ideal S256x128 .f32 :=
  fun z => x (ix2 ⟨256 * i.val + (z 0).val, by have : (z 0).val < 256 := (z 0).isLt; omega⟩
    ⟨6144 + 128 * h.val + (z 1).val, by have : (z 1).val < 128 := (z 1).isLt; omega⟩)

/-- The values of sequence `i`, key head `h`. -/
def vals (x : FVec Ideal S16384x8192 .f32) (i : Fin 32) (h : Fin 2) : FVec Ideal S256x128 .f32 :=
  fun z => x (ix2 ⟨256 * i.val + (z 0).val, by have : (z 0).val < 256 := (z 0).isLt; omega⟩
    ⟨6400 + 128 * h.val + (z 1).val, by have : (z 1).val < 128 := (z 1).isLt; omega⟩)

/-- A gain laid out as one row. -/
def asRow (g : FVec Ideal S128 .f32) : FVec Ideal S1x128 .f32 := fun z => g (ix1 (z 1))

/-- The attention result, over the packed projection and the two gains. -/
def attentionArray (x : FVec Ideal S16384x8192 .f32) (qn kn : FVec Ideal S128 .f32) (y : S8192x1024.Idx) : EReal :=
  let i : Fin 32 := ⟨(y 0).val / 256, by have : (y 0).val < 8192 := (y 0).isLt; omega⟩
  let h : Fin 2 := ⟨(y 1).val / 512, by have : (y 1).val < 1024 := (y 1).isLt; omega⟩
  block (queries x i h) (keys x i h) (vals x i h) (asRow qn) (asRow kn) (ix2 ⟨(y 0).val % 256, by omega⟩ ⟨(y 1).val % 512, by omega⟩)

/-- The normalised keys, over the packed projection and the keys' gain. -/
def keyArray (x : FVec Ideal S16384x8192 .f32) (kn : FVec Ideal S128 .f32) (y : S8192x256.Idx) : EReal :=
  let i : Fin 32 := ⟨(y 0).val / 256, by have : (y 0).val < 8192 := (y 0).isLt; omega⟩
  let h : Fin 2 := ⟨(y 1).val / 128, by have : (y 1).val < 256 := (y 1).isLt; omega⟩
  normed (fun k => keys x i h (ix2 ⟨(y 0).val % 256, by omega⟩ k)) (fun k => kn (ix1 k)) ⟨(y 1).val % 128, by omega⟩

/-! ### Which blocks a grid point reads and writes -/

theorem index_0 : ∀ t : Fin cfg0.N, win0_0.index t 0 = t.val / 2 ∧ win0_0.index t 1 = 10 + t.val % 2 :=
  (by decide +kernel : ∀ t : Fin grid0.N, win0_0.index t 0 = t.val / 2 ∧ win0_0.index t 1 = 10 + t.val % 2)
theorem index_1 : ∀ t : Fin cfg0.N, win0_1.index t 0 = t.val / 2 ∧ win0_1.index t 1 = 48 + t.val % 2 :=
  (by decide +kernel : ∀ t : Fin grid0.N, win0_1.index t 0 = t.val / 2 ∧ win0_1.index t 1 = 48 + t.val % 2)
theorem index_2 : ∀ t : Fin cfg0.N, win0_2.index t 0 = t.val / 2 ∧ win0_2.index t 1 = 50 + t.val % 2 :=
  (by decide +kernel : ∀ t : Fin grid0.N, win0_2.index t 0 = t.val / 2 ∧ win0_2.index t 1 = 50 + t.val % 2)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = t.val / 2 ∧ win0_5.index t 1 = t.val % 2 :=
  (by decide +kernel : ∀ t : Fin grid0.N, win0_5.index t 0 = t.val / 2 ∧ win0_5.index t 1 = t.val % 2)
theorem index_6 : ∀ t : Fin cfg0.N, win0_6.index t 0 = t.val / 2 ∧ win0_6.index t 1 = t.val % 2 :=
  (by decide +kernel : ∀ t : Fin grid0.N, win0_6.index t 0 = t.val / 2 ∧ win0_6.index t 1 = t.val % 2)

theorem points (t : Fin cfg0.N) : t.val < 64 := t.isLt

/-- The sequence of grid point `t`. -/
def seq (t : Fin cfg0.N) : Fin 32 := ⟨t.val / 2, by have := points t; omega⟩
/-- The key head of grid point `t`. -/
def head (t : Fin cfg0.N) : Fin 2 := ⟨t.val % 2, by omega⟩

variable (m : (ℓ : Loc nD τ sig) → Buf (Elt Ideal) ℓ) (ρ : Dev nD → PrngReg)

theorem read_queries (c : Dev nD) (t : Fin cfg0.N) :
    (iblk m c 0 t : Vec Ideal S256x512 .f32) = queries (m ((c : Thread nD τ).loc main_arg0)) (seq t) (head t) := by
  funext j
  unfold iblk queries
  rw [View.read_apply]
  show V m c main_arg0 _ = m ((c : Thread nD τ).loc main_arg0) _
  rw [V_main_arg0]
  congr 1
  funext a
  apply Fin.ext
  match a with
  | ⟨0, _⟩ => show win0_0.index t 0 * 256 + 1 * (j 0).val = 256 * (t.val / 2) + (j 0).val; rw [(index_0 t).1]; omega
  | ⟨1, _⟩ => show win0_0.index t 1 * 512 + 1 * (j 1).val = 5120 + 512 * (t.val % 2) + (j 1).val; rw [(index_0 t).2]; omega

theorem read_keys (c : Dev nD) (t : Fin cfg0.N) :
    (iblk m c 1 t : Vec Ideal S256x128 .f32) = keys (m ((c : Thread nD τ).loc main_arg0)) (seq t) (head t) := by
  funext j
  unfold iblk keys
  rw [View.read_apply]
  show V m c main_arg0 _ = m ((c : Thread nD τ).loc main_arg0) _
  rw [V_main_arg0]
  congr 1
  funext a
  apply Fin.ext
  match a with
  | ⟨0, _⟩ => show win0_1.index t 0 * 256 + 1 * (j 0).val = 256 * (t.val / 2) + (j 0).val; rw [(index_1 t).1]; omega
  | ⟨1, _⟩ => show win0_1.index t 1 * 128 + 1 * (j 1).val = 6144 + 128 * (t.val % 2) + (j 1).val; rw [(index_1 t).2]; omega

theorem read_vals (c : Dev nD) (t : Fin cfg0.N) :
    (iblk m c 2 t : Vec Ideal S256x128 .f32) = vals (m ((c : Thread nD τ).loc main_arg0)) (seq t) (head t) := by
  funext j
  unfold iblk vals
  rw [View.read_apply]
  show V m c main_arg0 _ = m ((c : Thread nD τ).loc main_arg0) _
  rw [V_main_arg0]
  congr 1
  funext a
  apply Fin.ext
  match a with
  | ⟨0, _⟩ => show win0_2.index t 0 * 256 + 1 * (j 0).val = 256 * (t.val / 2) + (j 0).val; rw [(index_2 t).1]; omega
  | ⟨1, _⟩ => show win0_2.index t 1 * 128 + 1 * (j 1).val = 6400 + 128 * (t.val % 2) + (j 1).val; rw [(index_2 t).2]; omega

/-- The host lays the queries' gain out as one row. -/
theorem gain_q (c : Dev nD) : (V m c main_v0 : Vec Ideal S1x128 .f32) = asRow (m ((c : Thread nD τ).loc main_arg1)) := by
  funext z
  rw [eq_ix2 z]
  show shapeCast S1x128 (m ((c : Thread nD τ).loc main_arg1)) _ _ = _
  pointwise [asRow]

/-- The host lays the keys' gain out as one row. -/
theorem gain_k (c : Dev nD) : (V m c main_v1 : Vec Ideal S1x128 .f32) = asRow (m ((c : Thread nD τ).loc main_arg2)) := by
  funext z
  rw [eq_ix2 z]
  show shapeCast S1x128 (m ((c : Thread nD τ).loc main_arg2)) _ _ = _
  pointwise [asRow]

theorem read_gain_q (c : Dev nD) (t : Fin cfg0.N) :
    (iblk m c 3 t : Vec Ideal S1x128 .f32) = asRow (m ((c : Thread nD τ).loc main_arg1)) := by
  rw [← gain_q m c]
  funext j
  unfold iblk
  rw [View.read_apply]
  show V m c main_v0 _ = V m c main_v0 _
  congr 1
  funext a
  apply Fin.ext
  match a with
  | ⟨0, _⟩ => show win0_3.index t 0 * 1 + 1 * (j 0).val = (j 0).val; rw [(index_3 t).1]; omega
  | ⟨1, _⟩ => show win0_3.index t 1 * 128 + 1 * (j 1).val = (j 1).val; rw [(index_3 t).2]; omega

theorem read_gain_k (c : Dev nD) (t : Fin cfg0.N) :
    (iblk m c 4 t : Vec Ideal S1x128 .f32) = asRow (m ((c : Thread nD τ).loc main_arg2)) := by
  rw [← gain_k m c]
  funext j
  unfold iblk
  rw [View.read_apply]
  show V m c main_v1 _ = V m c main_v1 _
  congr 1
  funext a
  apply Fin.ext
  match a with
  | ⟨0, _⟩ => show win0_4.index t 0 * 1 + 1 * (j 0).val = (j 0).val; rw [(index_4 t).1]; omega
  | ⟨1, _⟩ => show win0_4.index t 1 * 128 + 1 * (j 1).val = (j 1).val; rw [(index_4 t).2]; omega

/-! ### The result arrays -/

/-- The attention result inside the block of grid point `t`. -/
theorem attention_in_block (x : FVec Ideal S16384x8192 .f32) (qn kn : FVec Ideal S128 .f32) (t : Fin cfg0.N) (j : S256x512.Idx)
    (y : S8192x1024.Idx) (e0 : (y 0).val = 256 * (t.val / 2) + (j 0).val) (e1 : (y 1).val = 512 * (t.val % 2) + (j 1).val) :
    attentionArray x qn kn y = block (queries x (seq t) (head t)) (keys x (seq t) (head t)) (vals x (seq t) (head t)) (asRow qn) (asRow kn) j := by
  have h0 : (j 0).val < 256 := (j 0).isLt
  have h1 : (j 1).val < 512 := (j 1).isLt
  have hN := points t
  have s : (⟨(y 0).val / 256, by omega⟩ : Fin 32) = seq t := Fin.ext (by show _ / 256 = t.val / 2; omega)
  have g : (⟨(y 1).val / 512, by omega⟩ : Fin 2) = head t := Fin.ext (by show _ / 512 = t.val % 2; omega)
  have z : (ix2 ⟨(y 0).val % 256, by omega⟩ ⟨(y 1).val % 512, by omega⟩ : S256x512.Idx) = j := by
    conv_rhs => rw [eq_ix2 j]
    congr 1
    · exact Fin.ext (by show _ % 256 = (j 0).val; omega)
    · exact Fin.ext (by show _ % 512 = (j 1).val; omega)
  unfold attentionArray
  dsimp only
  rw [s, g, z]

/-- The attention result after the run. -/
theorem array_5 (c : Dev nD) : (dats m 0 c).arrAt 5 cfg0.N
    = attentionArray (m ((c : Thread nD τ).loc main_arg0)) (m ((c : Thread nD τ).loc main_arg1)) (m ((c : Thread nD τ).loc main_arg2)) := by
  refine (dats m 0 c).arrAt_eq_of_cover 5 _ (fun t _ => ?_) (fun (y : S8192x1024.Idx) => ?_)
  · rw [flushed5_A]
    have key : ∀ j : S256x512.Idx, out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) j
        = attentionArray (m ((c : Thread nD τ).loc main_arg0)) (m ((c : Thread nD τ).loc main_arg1)) (m ((c : Thread nD τ).loc main_arg2)) (((cfg0.win 5).blk t).view.emb j) := by
      intro j
      rw [attention_in_block _ _ _ t j]
      · rw [out_5, read_queries, read_keys, read_vals, read_gain_q, read_gain_k]
      · show win0_5.index t 0 * 256 + 1 * (j 0).val = _
        rw [(index_5 t).1]; omega
      · show win0_5.index t 1 * 512 + 1 * (j 1).val = _
        rw [(index_5 t).2]; omega
    exact funext key
  · have h0 : (y 0).val < 8192 := (y 0).isLt
    have h1 : (y 1).val < 1024 := (y 1).isLt
    obtain ⟨t, ht⟩ : ∃ t : Fin cfg0.N, t.val = (y 0).val / 256 * 2 + (y 1).val / 512 := ⟨⟨_, by show _ < 64; omega⟩, rfl⟩
    refine ⟨t, flush0_5 _, ?_⟩
    show y ∈ ((View.whole main_v2_0).slice (win0_5.rect t)).set
    rw [View.set_slice_whole, Rect.mem_set_unit]
    intro a
    match a with
    | ⟨0, _⟩ =>
      show win0_5.index t 0 * 256 ≤ (y 0).val ∧ (y 0).val < win0_5.index t 0 * 256 + 256
      rw [(index_5 _).1]; omega
    | ⟨1, _⟩ =>
      show win0_5.index t 1 * 512 ≤ (y 1).val ∧ (y 1).val < win0_5.index t 1 * 512 + 512
      rw [(index_5 _).2]; omega

/-- The normalised keys inside the block of grid point `t`. -/
theorem keys_in_block (x : FVec Ideal S16384x8192 .f32) (kn : FVec Ideal S128 .f32) (t : Fin cfg0.N) (r : Fin 256) (d : Fin 128)
    (y : S8192x256.Idx) (e0 : (y 0).val = 256 * (t.val / 2) + r.val) (e1 : (y 1).val = 128 * (t.val % 2) + d.val) :
    keyArray x kn y = normed (fun k => keys x (seq t) (head t) (ix2 r k)) (fun k => asRow kn (ix2 0 k)) d := by
  have hN := points t
  have s : (⟨(y 0).val / 256, by omega⟩ : Fin 32) = seq t := Fin.ext (by show _ / 256 = t.val / 2; omega)
  have g : (⟨(y 1).val / 128, by omega⟩ : Fin 2) = head t := Fin.ext (by show _ / 128 = t.val % 2; omega)
  have z0 : (⟨(y 0).val % 256, by omega⟩ : Fin 256) = r := Fin.ext (by show _ % 256 = r.val; omega)
  have z1 : (⟨(y 1).val % 128, by omega⟩ : Fin 128) = d := Fin.ext (by show _ % 128 = d.val; omega)
  unfold keyArray
  dsimp only
  rw [s, g, z0, z1]
  rfl

/-- The normalised keys after the run. -/
theorem array_6 (c : Dev nD) : (dats m 0 c).arrAt 6 cfg0.N
    = keyArray (m ((c : Thread nD τ).loc main_arg0)) (m ((c : Thread nD τ).loc main_arg2)) := by
  refine (dats m 0 c).arrAt_eq_of_cover 6 _ (fun t _ => ?_) (fun (y : S8192x256.Idx) => ?_)
  · rw [flushed6_A]
    have key : ∀ (r : Fin 256) (d : Fin 128), out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (ix2 r d)
        = keyArray (m ((c : Thread nD τ).loc main_arg0)) (m ((c : Thread nD τ).loc main_arg2)) (((cfg0.win 6).blk t).view.emb (ix2 r d)) := by
      intro r d
      rw [keys_in_block _ _ t r d]
      · rw [out_6, read_keys, read_gain_k]
      · show win0_6.index t 0 * 256 + 1 * r.val = _
        rw [(index_6 t).1]; omega
      · show win0_6.index t 1 * 128 + 1 * d.val = _
        rw [(index_6 t).2]; omega
    exact funext fun (j : S256x128.Idx) => (congrArg _ (eq_ix2 j)).trans ((key (j 0) (j 1)).trans (congrArg (fun z : S256x128.Idx => keyArray (m ((c : Thread nD τ).loc main_arg0)) (m ((c : Thread nD τ).loc main_arg2)) (((cfg0.win 6).blk t).view.emb z)) (eq_ix2 j).symm))
  · have h0 : (y 0).val < 8192 := (y 0).isLt
    have h1 : (y 1).val < 256 := (y 1).isLt
    obtain ⟨t, ht⟩ : ∃ t : Fin cfg0.N, t.val = (y 0).val / 256 * 2 + (y 1).val / 128 := ⟨⟨_, by show _ < 64; omega⟩, rfl⟩
    refine ⟨t, flush0_6 _, ?_⟩
    show y ∈ ((View.whole main_v2_1).slice (win0_6.rect t)).set
    rw [View.set_slice_whole, Rect.mem_set_unit]
    intro a
    match a with
    | ⟨0, _⟩ =>
      show win0_6.index t 0 * 256 ≤ (y 0).val ∧ (y 0).val < win0_6.index t 0 * 256 + 256
      rw [(index_6 _).1]; omega
    | ⟨1, _⟩ =>
      show win0_6.index t 1 * 128 ≤ (y 1).val ∧ (y 1).val < win0_6.index t 1 * 128 + 128
      rw [(index_6 _).2]; omega

end Cert.KernelIdeal.Value

end
-- ==== Proof.Gqa.Ref.lean ====
/-
  The reference attention, stage by stage: the heads cut from the packed projection, their normalisation, the scores,
  the softmax over the keys and the weighted sum of the values, each read at an index.
-/
module

public import proofs.«01_k».proof.Proof.Gen.ReferenceIdeal.Run
public import proofs.«01_k».proof.Proof.Gqa.Softmax
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Attention Facts

variable {F : FTy → Type} [FloatOps F]

/-- The packed projection of the prompt's rows, by sequence. -/
def packed (x : FVec F S16384x8192 .f32) : FVec F S32x256x1536 .f32 :=
  shapeCast _ (extractStridedSlice S8192x1536 ![0, 5120] x slices_S16384x8192_S8192x1536_0_5120) shapeCasts_S8192x1536_S32x256x1536

/-- The queries, by head. -/
def queryHeads (x : FVec F S16384x8192 .f32) : FVec F S32x256x8x128 .f32 :=
  shapeCast _ (extractStridedSlice S32x256x1024 ![0, 0, 0] (packed x) slices_S32x256x1536_S32x256x1024_0_0_0) shapeCasts_S32x256x1024_S32x256x8x128

/-- The keys, by head. -/
def keyHeads (x : FVec F S16384x8192 .f32) : FVec F S32x256x2x128 .f32 :=
  shapeCast _ (extractStridedSlice S32x256x256 ![0, 0, 1024] (packed x) slices_S32x256x1536_S32x256x256_0_0_1024) shapeCasts_S32x256x256_S32x256x2x128

/-- The values, by head. -/
def valueHeads (x : FVec F S16384x8192 .f32) : FVec F S32x256x2x128 .f32 :=
  shapeCast _ (extractStridedSlice S32x256x256 ![0, 0, 1280] (packed x) slices_S32x256x1536_S32x256x256_0_0_1280) shapeCasts_S32x256x256_S32x256x2x128

/-- Root-mean-square normalisation of the eight query heads. -/
def normQueries (q : FVec F S32x256x8x128 .f32) (g : FVec F S128 .f32) : FVec F S32x256x8x128 .f32 :=
  mulf (mulf q (broadcastInDim S32x256x8x128 ![0, 1, 2, 3] bcast_S32x256x8x1_S32x256x8x128_0_1_2_3 (Host.rsqrt (addf (Host.divf (broadcastInDim S32x256x8x1 ![0, 1, 2] bcast_S32x256x8_S32x256x8x1_0_1_2 (Host.reduceAdd (mulf q q) (constant S_ .f32 0x00000000#32) reducesTo_S32x256x8x128_S32x256x8_d3 h_S_)) (broadcastInDim S32x256x8x1 ![] bcast_S_S32x256x8x1 (constant S_ .f32 0x43000000#32))) (broadcastInDim S32x256x8x1 ![] bcast_S_S32x256x8x1 (constant S_ .f32 0x358637BD#32)))))) (broadcastInDim S32x256x8x128 ![0, 1, 2, 3] bcast_S1x1x1x128_S32x256x8x128_0_1_2_3 (broadcastInDim S1x1x1x128 ![3] bcast_S128_S1x1x1x128_3 g))

/-- Root-mean-square normalisation of the two key heads. -/
def normKeys (k : FVec F S32x256x2x128 .f32) (g : FVec F S128 .f32) : FVec F S32x256x2x128 .f32 :=
  mulf (mulf k (broadcastInDim S32x256x2x128 ![0, 1, 2, 3] bcast_S32x256x2x1_S32x256x2x128_0_1_2_3 (Host.rsqrt (addf (Host.divf (broadcastInDim S32x256x2x1 ![0, 1, 2] bcast_S32x256x2_S32x256x2x1_0_1_2 (Host.reduceAdd (mulf k k) (constant S_ .f32 0x00000000#32) reducesTo_S32x256x2x128_S32x256x2_d3 h_S_)) (broadcastInDim S32x256x2x1 ![] bcast_S_S32x256x2x1 (constant S_ .f32 0x43000000#32))) (broadcastInDim S32x256x2x1 ![] bcast_S_S32x256x2x1 (constant S_ .f32 0x358637BD#32)))))) (broadcastInDim S32x256x2x128 ![0, 1, 2, 3] bcast_S1x1x1x128_S32x256x2x128_0_1_2_3 (broadcastInDim S1x1x1x128 ![3] bcast_S128_S1x1x1x128_3 g))

/-- The scaled scores: by sequence, key head, query head of the group, query, key. -/
def scores (q : FVec F S32x256x8x128 .f32) (k : FVec F S32x256x2x128 .f32) : FVec F S32x2x4x256x256 .f32 :=
  mulf (transpose S32x2x4x256x256 [0, 1, 4, 3, 2] (Host.dotGeneral dot_S32x256x2x128_S32x256x2x4x128_S32x2x256x256x4_3_4_1_13_02_02 none k (shapeCast _ q shapeCasts_S32x256x8x128_S32x256x2x4x128)) transposes_S32x2x256x256x4_S32x2x4x256x256_0_1_4_3_2) (broadcastInDim S32x2x4x256x256 ![] bcast_S_S32x2x4x256x256 (constant S_ .f32 0x3DB504F3#32))

/-- Every query's largest score over the keys. -/
def rowMax (s : FVec F S32x2x4x256x256 .f32) : FVec F S32x2x4x256 .f32 :=
  Host.reduce FloatOps.maximumf s (constant S_ .f32 0xFF800000#32) reducesTo_S32x2x4x256x256_S32x2x4x256_d4 h_S_

/-- The shift of every query's scores: the largest score, from minus infinity. -/
def shift (s : FVec F S32x2x4x256x256 .f32) : FVec F S32x2x4x256 .f32 :=
  maximumf (broadcastInDim S32x2x4x256 ![] bcast_S_S32x2x4x256 (constant S_ .f32 0xFF800000#32)) (rowMax s)

/-- The exponentials of the scores, each row shifted by its largest score. -/
def weights (s : FVec F S32x2x4x256x256 .f32) : FVec F S32x2x4x256x256 .f32 :=
  Host.exp (subf s (broadcastInDim S32x2x4x256x256 ![0, 1, 2, 3, 4] bcast_S32x2x4x256x1_S32x2x4x256x256_0_1_2_3_4 (broadcastInDim S32x2x4x256x1 ![0, 1, 2, 3] bcast_S32x2x4x256_S32x2x4x256x1_0_1_2_3 (shift s))))

/-- The weights divided by their sum over the keys. -/
def probs (e : FVec F S32x2x4x256x256 .f32) : FVec F S32x2x4x256x256 .f32 :=
  Host.divf e (broadcastInDim S32x2x4x256x256 ![0, 1, 2, 3, 4] bcast_S32x2x4x256x1_S32x2x4x256x256_0_1_2_3_4 (broadcastInDim S32x2x4x256x1 ![0, 1, 2, 3] bcast_S32x2x4x256_S32x2x4x256x1_0_1_2_3 (Host.reduceAdd e (constant S_ .f32 0x00000000#32) reducesTo_S32x2x4x256x256_S32x2x4x256_d4 h_S_)))

/-- The values weighted by the probabilities, heads side by side. -/
def weighted (v : FVec F S32x256x2x128 .f32) (p : FVec F S32x2x4x256x256 .f32) : FVec F S8192x1024 .bf16 :=
  truncf .bf16 (shapeCast _ (transpose S32x256x2x4x128 [0, 4, 1, 3, 2] (Host.dotGeneral dot_S32x256x2x128_S32x2x4x256x256_S32x2x128x4x256_1_4_3_23_02_01 none v p) transposes_S32x2x128x4x256_S32x256x2x4x128_0_4_1_3_2) shapeCasts_S32x256x2x4x128_S8192x1024) bitsLt_bf16_f32

/-- The normalised keys, heads side by side. -/
def keyRows (k : FVec F S32x256x2x128 .f32) : FVec F S8192x256 .f32 := shapeCast _ k shapeCasts_S32x256x2x128_S8192x256

/-! ### Each stage at an index -/

theorem queryHeads_at (x : FVec Ideal S16384x8192 .f32) (b : Fin 32) (t : Fin 256) (h : Fin 8) (d : Fin 128) :
    queryHeads x (ix4 b t h d) = x (ix2 ⟨256 * b.val + t.val, by omega⟩ ⟨5120 + 128 * h.val + d.val, by omega⟩) := by
  pointwise [queryHeads, packed]
  congr 2 <;> (apply Fin.ext; dsimp only; omega)

theorem keyHeads_at (x : FVec Ideal S16384x8192 .f32) (b : Fin 32) (t : Fin 256) (h : Fin 2) (d : Fin 128) :
    keyHeads x (ix4 b t h d) = x (ix2 ⟨256 * b.val + t.val, by omega⟩ ⟨6144 + 128 * h.val + d.val, by omega⟩) := by
  pointwise [keyHeads, packed]
  congr 2 <;> (apply Fin.ext; dsimp only; omega)

theorem valueHeads_at (x : FVec Ideal S16384x8192 .f32) (b : Fin 32) (t : Fin 256) (h : Fin 2) (d : Fin 128) :
    valueHeads x (ix4 b t h d) = x (ix2 ⟨256 * b.val + t.val, by omega⟩ ⟨6400 + 128 * h.val + d.val, by omega⟩) := by
  pointwise [valueHeads, packed]
  congr 2 <;> (apply Fin.ext; dsimp only; omega)

theorem normQueries_at (q : FVec Ideal S32x256x8x128 .f32) (g : FVec Ideal S128 .f32) (b : Fin 32) (t : Fin 256) (h : Fin 8) (d : Fin 128) :
    normQueries q g (ix4 b t h d) = normed (fun k => q (ix4 b t h k)) (fun k => g (ix1 k)) d := by
  pointwise [normQueries, normed]

theorem normKeys_at (k : FVec Ideal S32x256x2x128 .f32) (g : FVec Ideal S128 .f32) (b : Fin 32) (t : Fin 256) (h : Fin 2) (d : Fin 128) :
    normKeys k g (ix4 b t h d) = normed (fun e => k (ix4 b t h e)) (fun e => g (ix1 e)) d := by
  pointwise [normKeys, normed]

theorem scores_at (q : FVec Ideal S32x256x8x128 .f32) (k : FVec Ideal S32x256x2x128 .f32) (b : Fin 32) (h : Fin 2) (g : Fin 4) (t j : Fin 256) :
    scores q k (ix5 b h g t j) = (∑ e, k (ix4 b j h e) * q (ix4 b t ⟨h.val * 4 + g.val, by omega⟩ e)) * Ideal.ofBits .f32 0x3DB504F3#32 := by
  pointwise [scores]

/-- A maximum taken along the last of five axes. -/
theorem reduce_max {n0 n1 n2 n3 n4 : Nat} (h : (⟨5, ![n0, n1, n2, n3, n4]⟩ : Shape).ReducesTo [4] ⟨4, ![n0, n1, n2, n3]⟩)
    (hu : 0 < S_.numel) (s : FVec Ideal ⟨5, ![n0, n1, n2, n3, n4]⟩ .f32) (w : FVec Ideal S_ .f32) (a : Fin n0) (b : Fin n1) (c : Fin n2) (d : Fin n3) :
    Host.reduce (FloatOps.maximumf (F := Ideal) (φ := .f32)) s w h hu (ix4 a b c d) = Finset.fold max (w (Shape.Idx.first hu)) (fun i => s (ix5 a b c d i)) Finset.univ := by
  rw [Host.reduce_eq_fold, h.fold_fiber_r5_a4]
  rfl

theorem rowMax_at (s : FVec Ideal S32x2x4x256x256 .f32) (b : Fin 32) (h : Fin 2) (g : Fin 4) (t : Fin 256) :
    rowMax s (ix4 b h g t) = Finset.fold max (Ideal.ofBits .f32 0xFF800000#32) (fun i => s (ix5 b h g t i)) Finset.univ :=
  reduce_max (n0 := 32) (n1 := 2) (n2 := 4) (n3 := 256) (n4 := 256) reducesTo_S32x2x4x256x256_S32x2x4x256_d4 h_S_ s (constant S_ .f32 0xFF800000#32) b h g t

theorem above_neg_inf (r : FVec Ideal S32x2x4x256 .f32) (i : S32x2x4x256.Idx) :
    maximumf (broadcastInDim S32x2x4x256 ![] bcast_S_S32x2x4x256 (constant (F := Ideal) S_ .f32 0xFF800000#32)) r i
      = max (Ideal.ofBits .f32 0xFF800000#32) (r i) := rfl

theorem shift_eq (s : FVec Ideal S32x2x4x256x256 .f32) (i : S32x2x4x256.Idx) :
    shift s i = max (Ideal.ofBits .f32 0xFF800000#32) (rowMax s i) :=
  above_neg_inf (rowMax s) i

theorem shift_at (s : FVec Ideal S32x2x4x256x256 .f32) (b : Fin 32) (h : Fin 2) (g : Fin 4) (t : Fin 256) :
    shift s (ix4 b h g t) = max (Ideal.ofBits .f32 0xFF800000#32)
      (Finset.fold max (Ideal.ofBits .f32 0xFF800000#32) (fun i => s (ix5 b h g t i)) Finset.univ) :=
  (shift_eq s (ix4 b h g t)).trans (congrArg (max (Ideal.ofBits .f32 0xFF800000#32)) (rowMax_at s b h g t))

theorem weights_of_shift (s : FVec Ideal S32x2x4x256x256 .f32) (b : Fin 32) (h : Fin 2) (g : Fin 4) (t j : Fin 256) :
    weights s (ix5 b h g t j) = Ideal.exp (s (ix5 b h g t j) - shift s (ix4 b h g t)) := by
  pointwise [weights]

theorem weights_at (s : FVec Ideal S32x2x4x256x256 .f32) (b : Fin 32) (h : Fin 2) (g : Fin 4) (t j : Fin 256) :
    weights s (ix5 b h g t j) = Ideal.exp (s (ix5 b h g t j) - max (Ideal.ofBits .f32 0xFF800000#32)
      (Finset.fold max (Ideal.ofBits .f32 0xFF800000#32) (fun i => s (ix5 b h g t i)) Finset.univ)) := by
  rw [weights_of_shift, shift_at]

theorem probs_at (e : FVec Ideal S32x2x4x256x256 .f32) (b : Fin 32) (h : Fin 2) (g : Fin 4) (t j : Fin 256) :
    probs e (ix5 b h g t j) = Ideal.div (e (ix5 b h g t j)) (∑ i, e (ix5 b h g t i)) := by
  pointwise [probs]

theorem weighted_at (v : FVec Ideal S32x256x2x128 .f32) (p : FVec Ideal S32x2x4x256x256 .f32) (r : Fin 8192) (d : Fin 1024) :
    weighted v p (ix2 r d) = ∑ j, v (ix4 ⟨r.val / 256, by omega⟩ j ⟨d.val / 512, by omega⟩ ⟨d.val % 128, by omega⟩)
      * p (ix5 ⟨r.val / 256, by omega⟩ ⟨d.val / 512, by omega⟩ ⟨d.val / 128 % 4, by omega⟩ ⟨r.val % 256, by omega⟩ j) := by
  pointwise [weighted]

theorem keyRows_at (k : FVec Ideal S32x256x2x128 .f32) (r : Fin 8192) (d : Fin 256) :
    keyRows k (ix2 r d) = k (ix4 ⟨r.val / 256, by omega⟩ ⟨r.val % 256, by omega⟩ ⟨d.val / 128, by omega⟩ ⟨d.val % 128, by omega⟩) := by
  pointwise [keyRows]

/-! ### The whole -/

/-- The reference's first result as its stages. -/
theorem stages (m : (ℓ : Loc nD τ sig) → Buf (Elt F) ℓ) (c : Dev nD) :
    res_main_v53 m c = weighted (valueHeads (m ((c.tc : Thread nD τ).loc main_arg0))) (probs (weights (scores
      (normQueries (queryHeads (m ((c.tc : Thread nD τ).loc main_arg0))) (m ((c.tc : Thread nD τ).loc main_arg1)))
      (normKeys (keyHeads (m ((c.tc : Thread nD τ).loc main_arg0))) (m ((c.tc : Thread nD τ).loc main_arg2)))))) := by
  unfold res_main_v53
  rfl

end Cert.ReferenceIdeal.Value

end
-- ==== Proof.Gqa.Value.lean ====
/-
  The attention kernel's results are the reference's, whenever every gain is finite: a finite gain makes every
  normalised query and key finite, hence every score, and on finite scores the kernel's late division by the sum of the
  weights is the reference's early one.
-/
module

public import proofs.«01_k».proof.Proof.Gqa.Array
public import proofs.«01_k».proof.Proof.Gqa.Ref
public import proofs.«01_k».proof.Pre_finite_gains

@[expose] public section

set_option maxRecDepth 16384

noncomputable section

open Idealize.ShloMosaic Idealize.ShloMosaic.TcCoe Idealize.SL.Sem

namespace Cert.Attention

open Cert.KernelIdeal.Value Cert.ReferenceIdeal.Value

/-- An entry of the kernel's attention result is the reference's. -/
theorem attention_at (x : FVec Ideal Cert.KernelIdeal.S16384x8192 .f32) (qn kn : FVec Ideal Cert.KernelIdeal.S128 .f32)
    (hq : ∀ k, IsReal (qn (ix1 k))) (hk : ∀ k, IsReal (kn (ix1 k))) (r : Fin 8192) (d : Fin 1024) :
    attentionArray x qn kn (ix2 r d)
      = weighted (valueHeads x) (probs (weights (scores (normQueries (queryHeads x) qn) (normKeys (keyHeads x) kn)))) (ix2 r d) := by
  have hr : r.val < 8192 := r.isLt
  have hd : d.val < 1024 := d.isLt
  -- the queries, keys and values of this entry's sequence and head
  let qr : Fin 128 → EReal := normed (fun k => x (ix2 ⟨256 * (r.val / 256) + r.val % 256, by omega⟩ ⟨5120 + 128 * (d.val / 512 * 4 + d.val / 128 % 4) + k.val, by omega⟩)) (fun k => qn (ix1 k))
  let kr : Fin 256 → Fin 128 → EReal := fun j => normed (fun k => x (ix2 ⟨256 * (r.val / 256) + j.val, by omega⟩ ⟨6144 + 128 * (d.val / 512) + k.val, by omega⟩)) (fun k => kn (ix1 k))
  let vr : Fin 256 → EReal := fun j => x (ix2 ⟨256 * (r.val / 256) + j.val, by omega⟩ ⟨6400 + 128 * (d.val / 512) + d.val % 128, by omega⟩)
  let s : Fin 256 → EReal := fun j => ∑ k, qr k * Ideal.ofBits .f32 0x3DB504F3#32 * kr j k
  have hs : ∀ j, IsReal (s j) := fun j => by
    obtain ⟨w, _, hw⟩ := scale_pos
    exact IsReal.sum _ fun k => IsReal.mul (IsReal.mul (normed_real _ _ k (hq k)) ⟨w, hw⟩)
      (normed_real (fun k => x (ix2 ⟨256 * (r.val / 256) + j.val, by omega⟩ ⟨6144 + 128 * (d.val / 512) + k.val, by omega⟩)) (fun k => kn (ix1 k)) k (hk k))
  have kernel_side : attentionArray x qn kn (ix2 r d)
      = (∑ j, Ideal.exp (s j - Finset.fold max (Ideal.ofBits .f32 0xFF800000#32) s Finset.univ) * vr j)
        * Ideal.div 1 (∑ j, Ideal.exp (s j - Finset.fold max (Ideal.ofBits .f32 0xFF800000#32) s Finset.univ)) := by
    have eq : ∀ k : Fin 128, (⟨5120 + 512 * (d.val / 512) + (128 * (d.val % 512 / 128) + k.val), by omega⟩ : Fin 8192)
        = ⟨5120 + 128 * (d.val / 512 * 4 + d.val / 128 % 4) + k.val, by omega⟩ := fun k => Fin.ext (by dsimp only; omega)
    have ed : (⟨d.val % 512 % 128, by omega⟩ : Fin 128) = ⟨d.val % 128, by omega⟩ := Fin.ext (by dsimp only; omega)
    show attended _ _ _ _ _ ⟨d.val % 512 / 128, _⟩ ⟨r.val % 256, _⟩ ⟨d.val % 512 % 128, _⟩ = _
    rw [ed]
    let q' : Fin 128 → EReal := normed (fun k => x (ix2 ⟨256 * (r.val / 256) + r.val % 256, by omega⟩
      ⟨5120 + 512 * (d.val / 512) + (128 * (d.val % 512 / 128) + k.val), by omega⟩)) (fun k => qn (ix1 k))
    let s' : Fin 256 → EReal := fun j => ∑ k, q' k * Ideal.ofBits .f32 0x3DB504F3#32 * kr j k
    have hq' : q' = qr := congrArg (fun f => normed f (fun k => qn (ix1 k))) (funext fun k => by rw [eq k])
    have hs' : s' = s := funext fun j => Finset.sum_congr rfl fun k _ => by rw [hq']
    show (∑ j, Ideal.exp (s' j - Finset.fold max (Ideal.ofBits .f32 0xFF800000#32) s' Finset.univ) * vr j)
        * Ideal.div 1 (∑ j, Ideal.exp (s' j - Finset.fold max (Ideal.ofBits .f32 0xFF800000#32) s' Finset.univ)) = _
    rw [hs']
  have reference_side : weighted (valueHeads x) (probs (weights (scores (normQueries (queryHeads x) qn) (normKeys (keyHeads x) kn)))) (ix2 r d)
      = ∑ j, vr j * Ideal.div (Ideal.exp (s j - max (Ideal.ofBits .f32 0xFF800000#32) (Finset.fold max (Ideal.ofBits .f32 0xFF800000#32) s Finset.univ)))
        (∑ j, Ideal.exp (s j - max (Ideal.ofBits .f32 0xFF800000#32) (Finset.fold max (Ideal.ofBits .f32 0xFF800000#32) s Finset.univ))) := by
    have score : ∀ j, scores (normQueries (queryHeads x) qn) (normKeys (keyHeads x) kn)
        (ix5 ⟨r.val / 256, by omega⟩ ⟨d.val / 512, by omega⟩ ⟨d.val / 128 % 4, by omega⟩ ⟨r.val % 256, by omega⟩ j) = s j := by
      intro j
      simp only [scores_at, normQueries_at, normKeys_at, queryHeads_at, keyHeads_at]
      exact (score_eq qr (kr j)).symm
    simp only [weighted_at, probs_at, weights_at, score, valueHeads_at]
    rfl
  rw [kernel_side, reference_side]
  exact softmax_eq (by omega) s vr hs

/-- The kernel's attention result is the reference's. -/
theorem attention_eq (x : FVec Ideal Cert.KernelIdeal.S16384x8192 .f32) (qn kn : FVec Ideal Cert.KernelIdeal.S128 .f32)
    (hq : ∀ k, IsReal (qn (ix1 k))) (hk : ∀ k, IsReal (kn (ix1 k))) :
    attentionArray x qn kn = weighted (valueHeads x) (probs (weights (scores (normQueries (queryHeads x) qn) (normKeys (keyHeads x) kn)))) :=
  funext fun y => by rw [eq_ix2 y]; exact attention_at x qn kn hq hk _ _

theorem keys_at (x : FVec Ideal Cert.KernelIdeal.S16384x8192 .f32) (kn : FVec Ideal Cert.KernelIdeal.S128 .f32) (r : Fin 8192) (d : Fin 256) :
    keyArray x kn (ix2 r d) = keyRows (normKeys (keyHeads x) kn) (ix2 r d) := by
  rw [keyRows_at, normKeys_at]
  simp only [keyHeads_at]
  rfl

/-- The kernel's normalised keys are the reference's, whatever the gain. -/
theorem keys_eq (x : FVec Ideal Cert.KernelIdeal.S16384x8192 .f32) (kn : FVec Ideal Cert.KernelIdeal.S128 .f32) :
    keyArray x kn = keyRows (normKeys (keyHeads x) kn) :=
  funext fun y => by
    rw [eq_ix2 y]; exact keys_at x kn _ _

/-- A value whose magnitude is below infinity is a real number. -/
theorem isReal_of_abs_lt {a : EReal} (h : Ideal.cmp .olt (max a (-a)) (Ideal.ofBits .f32 0x7F800000#32) = 1#1) : IsReal a := by
  have top : Ideal.ofBits .f32 0x7F800000#32 = (⊤ : EReal) := by simp [Ideal.ofBits, Ideal.ieee]
  rw [top] at h
  rw [isReal_iff]
  constructor
  · rintro rfl; simp [Ideal.cmp] at h
  · rintro rfl; simp [Ideal.cmp] at h

/-- The side conditions of the finiteness test hold. -/
theorem finite_gains_facts : Cert.Pre_finite_gains.Facts := ⟨by decide⟩

/-- The finiteness test says what its name says: both gains are real numbers throughout. -/
theorem gains_real [Cert.Pre_finite_gains.Facts] (x : FVec Ideal Cert.KernelIdeal.S16384x8192 .f32) (qn kn : FVec Ideal Cert.KernelIdeal.S128 .f32)
    (h : Cert.Pre_finite_gains.fn (F := Ideal) x qn kn = fun _ => 1#1) (k : Fin 128) : IsReal (qn (ix1 k)) ∧ IsReal (kn (ix1 k)) := by
  have e : IntOp.andi (Ideal.cmp .olt (max (qn (ix1 k)) (-(qn (ix1 k)))) (Ideal.ofBits .f32 0x7F800000#32))
      (Ideal.cmp .olt (max (kn (ix1 k)) (-(kn (ix1 k)))) (Ideal.ofBits .f32 0x7F800000#32)) = 1#1 := congrFun h (ix1 k)
  have both : ∀ a b : BitVec 1, IntOp.andi a b = 1#1 → a = 1#1 ∧ b = 1#1 := by decide
  exact ⟨isReal_of_abs_lt (both _ _ e).1, isReal_of_abs_lt (both _ _ e).2⟩

end Cert.Attention

end
-- ==== Proof.Inproj.Block.lean ====
/-
  What one grid point of the input projection leaves, entry by entry: at a row block's first point the scratch takes the
  normalised and modulated token rows; at every point the block is the scratch's rows times the weight's columns.
-/
module

public import proofs.«01_k».proof.Proof.Gen.InProjIdeal.Frame
public import Idealize.ShloMosaic.Lib.Pipeline.Value
public import Idealize.ShloMosaic.Lib.Pipeline.ValueKit.Tiles
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProjIdeal.Value

open Cert.InProjIdeal Cert.InProjIdeal.Gen

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A token row, root-mean-square normalised with gain `g`, scaled by `1 + sc` and shifted by `sh`. -/
def modulated (x g sc sh : Fin 4096 → EReal) (k : Fin 4096) : EReal :=
  x k * Ideal.rsqrt (Ideal.div (∑ l, x l * x l) (Ideal.ofBits .f32 0x45800000#32) + Ideal.ofBits .f32 0x358637BD#32) * g k * (1 + sc k) + sh k

variable (c : Dev nD) (i : grid0.Coords) (arg2 : Memref sig .tc .vmem S512x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S1x4096 .f32) (harg5 : arg5.IsWhole) (arg6 : Memref sig .tc .vmem S1x4096x512 .bf16) (harg6 : arg6.IsWhole) (arg7 : Memref sig .tc .vmem S512x512 .f32) (harg7 : arg7.IsWhole) (arg8 : Memref sig .tc .vmem S512x4096 .bf16) (harg8 : arg8.IsWhole)

/-- The scratch after a row block's first point. -/
theorem scratch_A (hc0 : cond0_0 i)
    (x0 : Vec Ideal S512x4096 .f32) (x1 : Vec Ideal S1x1x1x4096 .f32) (x2 : Vec Ideal S1x1x1x4096 .f32) (x3 : Vec Ideal S1x4096 .f32) (x4 : Vec Ideal S1x4096x512 .bf16) (r : Fin 512) (k : Fin 4096) :
    sout0_A_0 (F := Ideal) c i arg2 harg2 arg3 harg3 arg4 harg4 arg5 harg5 arg6 harg6 arg7 harg7 arg8 harg8 hc0 x0 x1 x2 x3 x4 (ix2 r k)
      = modulated (fun l => x0 (ix2 r l)) (fun l => x3 (ix2 0 l)) (fun l => x2 (ix4 0 0 0 l)) (fun l => x1 (ix4 0 0 0 l)) k := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread, View.ld_unit_zero (S := S512x4096) hz, View.ld_unit_zero (S := S1x4096) hz, View.ld_unit_zero (S := S1x1x1x4096) hz4]
  pointwise [k0_pay1, modulated]

/-- The block at a row block's first point: the scratch it has just filled, times the weight. -/
theorem block_A (hc0 : cond0_0 i)
    (x0 : Vec Ideal S512x4096 .f32) (x1 : Vec Ideal S1x1x1x4096 .f32) (x2 : Vec Ideal S1x1x1x4096 .f32) (x3 : Vec Ideal S1x4096 .f32) (x4 : Vec Ideal S1x4096x512 .bf16) (r d : Fin 512) :
    out0_A_5 (F := Ideal) c i arg2 harg2 arg3 harg3 arg4 harg4 arg5 harg5 arg6 harg6 arg7 harg7 arg8 harg8 hc0 x0 x1 x2 x3 x4 (ix2 r d)
      = ∑ k : Fin 4096, modulated (fun l => x0 (ix2 r l)) (fun l => x3 (ix2 0 l)) (fun l => x2 (ix4 0 0 0 l)) (fun l => x1 (ix4 0 0 0 l)) k * x4 (ix3 0 k d) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz, View.readCov_cons_unit_lit' _ _ _ _ _ (congrFun hz) (congrFun hz)]
  simp only [View.readAt_eq_ld, harg2.read_unread, harg3.read_unread, harg4.read_unread, harg5.read_unread, harg6.read_unread, View.ld_unit_zero (S := S512x4096) hz, View.ld_unit_zero (S := S1x4096) hz, View.ld_unit_zero (S := S1x1x1x4096) hz4, View.ld_unit_zero (S := S1x4096x512) hz3]
  pointwise [k0_pay1, k0_pay2, modulated]

/-- The block at any other point: the scratch as the point before left it, times the weight. -/
theorem block_B (hc0 : ¬cond0_0 i)
    (x0 : Vec Ideal S512x4096 .f32) (x1 : Vec Ideal S1x1x1x4096 .f32) (x2 : Vec Ideal S1x1x1x4096 .f32) (x3 : Vec Ideal S1x4096 .f32) (x4 : Vec Ideal S1x4096x512 .bf16) (xs0 : Vec Ideal S512x4096 .bf16) (r d : Fin 512) :
    out0_B_5 (F := Ideal) c i arg2 harg2 arg3 harg3 arg4 harg4 arg5 harg5 arg6 harg6 arg7 harg7 arg8 harg8 hc0 x0 x1 x2 x3 x4 xs0 (ix2 r d)
      = ∑ k : Fin 4096, xs0 (ix2 r k) * x4 (ix3 0 k d) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg8.read_unread, harg6.read_unread, View.ld_unit_zero (S := S512x4096) hz, View.ld_unit_zero (S := S1x4096x512) hz3]
  pointwise [k0_pay2]

end Cert.InProjIdeal.Value

end
-- ==== Proof.Rows.lean ====
/-
  How the layer's rows and columns are laid out. Which modulation row a token row uses: row 0 for the prompt pass (the first 8192 token rows), one further row for each
  sequence of 1024 token rows of the sample pass. In which order the input projection packs its columns.
-/
module

public import Idealize.ShloMosaic.Lib.Pointwise
public import Idealize.ShloMosaic.Lib.Pipeline.Value
public import Idealize.ShloMosaic.Lib.Tactic

@[expose] public section

namespace Cert.Layer

/-- The modulation row of token row `r`. -/
def modRow (r : Fin 16384) : Fin 16 :=
  ⟨if r.val < 8192 then 0 else 1 + (r.val - 8192) / 1024, by have := r.isLt; split <;> omega⟩

/-- A token row of the prompt pass uses modulation row 0. -/
theorem modRow_prompt (r : Fin 16384) (h : r.val < 8192) : modRow r = 0 := Fin.ext (by simp [modRow, h])

/-- A token row of the sample pass uses its sequence's modulation row. -/
theorem modRow_sample (r : Fin 16384) (h : 8192 ≤ r.val) : (modRow r).val = 1 + (r.val - 8192) / 1024 := by
  have : ¬ r.val < 8192 := by omega
  simp [modRow, this]

open Idealize.ShloMosaic in
/-- The six modulations of a condition, laid out as six rows of 4096. -/
theorem modulation_cast {α : Type} (x : (⟨2, ![16, 24576]⟩ : Shape).Idx → α) (h : (⟨2, ![16, 24576]⟩ : Shape).ShapeCasts ⟨4, ![16, 6, 1, 4096]⟩)
    (i : Fin 16) (q : Fin 6) (d : Fin 4096) :
    shapeCast ⟨4, ![16, 6, 1, 4096]⟩ x h (ix4 i q 0 d) = x (ix2 i ⟨4096 * q.val + d.val, by omega⟩) := by
  refine shapeCast_apply _ _ _ _ ?_
  rw [Shape.rowMajor_val_two, Shape.rowMajor_val_four]
  show i.val * 24576 + (4096 * q.val + d.val) = ((i.val * 6 + q.val) * 1 + 0) * 4096 + d.val
  omega

/-- The projection's columns in the order the call packs them: the delta-net's and the state-space mixer's columns, the
    attentions' in groups of whole tiles with columns of zeros between, the delta-net's gates last. -/
noncomputable def packed (f : Fin 7776 → EReal) (j : Fin 8192) : EReal :=
  if h : j.val < 4096 then f ⟨j.val, by omega⟩
  else if h : j.val < 6656 then f ⟨j.val + 32, by omega⟩
  else if h : j.val < 6912 then 0
  else if h : j.val < 8000 then f ⟨j.val - 224, by omega⟩
  else if h : j.val < 8032 then f ⟨j.val - 3904, by omega⟩
  else 0

/-- A product with packed columns is the packed product: a column of zeros gives zero. -/
theorem packed_sum (h : Fin 4096 → EReal) (w : Fin 4096 → Fin 7776 → EReal) (j : Fin 8192) :
    (∑ k, h k * packed (w k) j) = packed (fun q => ∑ k, h k * w k q) j := by
  unfold packed
  split_ifs <;> first | rfl | exact (Finset.sum_congr rfl fun k _ => mul_zero (h k)).trans Finset.sum_const_zero

end Cert.Layer

end
-- ==== Proof.Inproj.Ref.lean ====
/-
  The input projection's reference, read off entry by entry: each pass's token rows normalised, modulated and multiplied with
  the weight, then both passes' columns in the packed order.
-/
module

public import proofs.«01_k».proof.Proof.Gen.InProjRefIdeal.Run
public import proofs.«01_k».proof.Proof.Rows
public import proofs.«01_k».proof.Proof.Inproj.Array
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProjRefIdeal.Value

open Cert.InProjRefIdeal Cert.InProjRefIdeal.Gen Cert.Layer Facts
open Cert.InProjIdeal.Value (modulated)

variable {F : FTy → Type} [FloatOps F]

/-- The prompt pass's token rows. -/
def promptRows (x : FVec F S16384x4096 .f32) : FVec F S32x256x4096 .f32 :=
  shapeCast _ (extractStridedSlice S8192x4096 ![0, 0] x slices_S16384x4096_S8192x4096_0_0) shapeCasts_S8192x4096_S32x256x4096

/-- The prompt pass's reciprocal root mean squares. -/
def promptScale (x : FVec F S32x256x4096 .f32) : FVec F S32x256x1 .f32 :=
  Host.rsqrt (addf (Host.divf (broadcastInDim S32x256x1 ![0, 1] bcast_S32x256_S32x256x1_0_1 (Host.reduceAdd (mulf x x) (constant S_ .f32 0x00000000#32) reducesTo_S32x256x4096_S32x256_d2 h_S_)) (broadcastInDim S32x256x1 ![] bcast_S_S32x256x1 (constant S_ .f32 0x45800000#32))) (broadcastInDim S32x256x1 ![] bcast_S_S32x256x1 (constant S_ .f32 0x358637BD#32)))

/-- The prompt pass's token rows normalised, with the gain. -/
def promptNormed (x : FVec F S32x256x4096 .f32) (s : FVec F S32x256x1 .f32) (n : FVec F S4096 .f32) : FVec F S32x256x4096 .f32 :=
  mulf (mulf x (broadcastInDim S32x256x4096 ![0, 1, 2] bcast_S32x256x1_S32x256x4096_0_1_2 s)) (broadcastInDim S32x256x4096 ![0, 1, 2] bcast_S1x1x4096_S32x256x4096_0_1_2 (broadcastInDim S1x1x4096 ![2] bcast_S4096_S1x1x4096_2 n))

/-- The prompt pass's token rows scaled and shifted by their modulations. -/
def promptModulated (h : FVec F S32x256x4096 .f32) (g : FVec F S16x24576 .f32) : FVec F S32x256x4096 .f32 :=
  addf (mulf h (broadcastInDim S32x256x4096 ![0, 1, 2] bcast_S1x1x4096_S32x256x4096_0_1_2 (addf (broadcastInDim S1x1x4096 ![] bcast_S_S1x1x4096 (constant S_ .f32 0x3F800000#32)) (broadcastInDim S1x1x4096 ![0, 2] bcast_S1x4096_S1x1x4096_0_2 (extractStridedSlice S1x4096 ![0, 4096] (extractStridedSlice S1x24576 ![0, 0] g slices_S16x24576_S1x24576_0_0) slices_S1x24576_S1x4096_0_4096))))) (broadcastInDim S32x256x4096 ![0, 1, 2] bcast_S1x1x4096_S32x256x4096_0_1_2 (broadcastInDim S1x1x4096 ![0, 2] bcast_S1x4096_S1x1x4096_0_2 (extractStridedSlice S1x4096 ![0, 0] (extractStridedSlice S1x24576 ![0, 0] g slices_S16x24576_S1x24576_0_0) slices_S1x24576_S1x4096_0_0)))

/-- The prompt pass's product with the first layer's weight. -/
def promptProduct (h : FVec F S32x256x4096 .f32) (w : FVec F S2x4096x7776 .f32) : FVec F S32x256x7776 .f32 :=
  Host.dotGeneral dot_S32x256x4096_S4096x7776_S32x256x7776_2_0_01_1_n_n none h (shapeCast _ (extractStridedSlice S1x4096x7776 ![0, 0, 0] w slices_S2x4096x7776_S1x4096x7776_0_0_0) shapeCasts_S1x4096x7776_S4096x7776)

/-- The prompt pass's projection. -/
def promptProjection (x : FVec F S16384x4096 .f32) (g : FVec F S16x24576 .f32) (n : FVec F S4096 .f32) (w : FVec F S2x4096x7776 .f32) : FVec F S32x256x7776 .f32 :=
  promptProduct (promptModulated (promptNormed (promptRows x) (promptScale (promptRows x)) n) g) w

/-- The sample pass's token rows. -/
def sampleRows (x : FVec F S16384x4096 .f32) : FVec F S8x1024x4096 .f32 :=
  shapeCast _ (extractStridedSlice S8192x4096 ![8192, 0] x slices_S16384x4096_S8192x4096_8192_0) shapeCasts_S8192x4096_S8x1024x4096

/-- The sample pass's reciprocal root mean squares. -/
def sampleScale (x : FVec F S8x1024x4096 .f32) : FVec F S8x1024x1 .f32 :=
  Host.rsqrt (addf (Host.divf (broadcastInDim S8x1024x1 ![0, 1] bcast_S8x1024_S8x1024x1_0_1 (Host.reduceAdd (mulf x x) (constant S_ .f32 0x00000000#32) reducesTo_S8x1024x4096_S8x1024_d2 h_S_)) (broadcastInDim S8x1024x1 ![] bcast_S_S8x1024x1 (constant S_ .f32 0x45800000#32))) (broadcastInDim S8x1024x1 ![] bcast_S_S8x1024x1 (constant S_ .f32 0x358637BD#32)))

/-- The sample pass's token rows normalised, with the gain. -/
def sampleNormed (x : FVec F S8x1024x4096 .f32) (s : FVec F S8x1024x1 .f32) (n : FVec F S4096 .f32) : FVec F S8x1024x4096 .f32 :=
  mulf (mulf x (broadcastInDim S8x1024x4096 ![0, 1, 2] bcast_S8x1024x1_S8x1024x4096_0_1_2 s)) (broadcastInDim S8x1024x4096 ![0, 1, 2] bcast_S1x1x4096_S8x1024x4096_0_1_2 (broadcastInDim S1x1x4096 ![2] bcast_S4096_S1x1x4096_2 n))

/-- The sample pass's token rows scaled and shifted by their modulations. -/
def sampleModulated (h : FVec F S8x1024x4096 .f32) (g : FVec F S16x24576 .f32) : FVec F S8x1024x4096 .f32 :=
  addf (mulf h (broadcastInDim S8x1024x4096 ![0, 1, 2] bcast_S8x1x4096_S8x1024x4096_0_1_2 (addf (broadcastInDim S8x1x4096 ![] bcast_S_S8x1x4096 (constant S_ .f32 0x3F800000#32)) (broadcastInDim S8x1x4096 ![0, 2] bcast_S8x4096_S8x1x4096_0_2 (extractStridedSlice S8x4096 ![0, 4096] (extractStridedSlice S8x24576 ![1, 0] g slices_S16x24576_S8x24576_1_0) slices_S8x24576_S8x4096_0_4096))))) (broadcastInDim S8x1024x4096 ![0, 1, 2] bcast_S8x1x4096_S8x1024x4096_0_1_2 (broadcastInDim S8x1x4096 ![0, 2] bcast_S8x4096_S8x1x4096_0_2 (extractStridedSlice S8x4096 ![0, 0] (extractStridedSlice S8x24576 ![1, 0] g slices_S16x24576_S8x24576_1_0) slices_S8x24576_S8x4096_0_0)))

/-- The sample pass's product with the first layer's weight. -/
def sampleProduct (h : FVec F S8x1024x4096 .f32) (w : FVec F S2x4096x7776 .f32) : FVec F S8x1024x7776 .f32 :=
  Host.dotGeneral dot_S8x1024x4096_S4096x7776_S8x1024x7776_2_0_01_1_n_n none h (shapeCast _ (extractStridedSlice S1x4096x7776 ![0, 0, 0] w slices_S2x4096x7776_S1x4096x7776_0_0_0) shapeCasts_S1x4096x7776_S4096x7776)

/-- The sample pass's projection. -/
def sampleProjection (x : FVec F S16384x4096 .f32) (g : FVec F S16x24576 .f32) (n : FVec F S4096 .f32) (w : FVec F S2x4096x7776 .f32) : FVec F S8x1024x7776 .f32 :=
  sampleProduct (sampleModulated (sampleNormed (sampleRows x) (sampleScale (sampleRows x)) n) g) w

/-- Both passes' projections, the prompt's first. -/
def bothPasses (p : FVec F S32x256x7776 .f32) (s : FVec F S8x1024x7776 .f32) : FVec F S16384x7776 .f32 :=
  concatenate S16384x7776 0 [⟨S8192x7776, shapeCast _ p shapeCasts_S32x256x7776_S8192x7776⟩, ⟨S8192x7776, shapeCast _ s shapeCasts_S8x1024x7776_S8192x7776⟩] concatenates_S8192x7776_S8192x7776_S16384x7776_d0

/-- The columns in the packed order. -/
def inOrder (p : FVec F S16384x7776 .f32) : FVec F S16384x8192 .f32 :=
  concatenate S16384x8192 1 [⟨S16384x4096, extractStridedSlice S16384x4096 ![0, 0] p slices_S16384x7776_S16384x4096_0_0⟩,
    ⟨S16384x1024, extractStridedSlice S16384x1024 ![0, 4128] p slices_S16384x7776_S16384x1024_0_4128⟩,
    ⟨S16384x1536, extractStridedSlice S16384x1536 ![0, 5152] p slices_S16384x7776_S16384x1536_0_5152⟩,
    ⟨S16384x256, broadcastInDim S16384x256 ![] bcast_S_S16384x256 (constant S_ .f32 0x00000000#32)⟩,
    ⟨S16384x1024, extractStridedSlice S16384x1024 ![0, 6688] p slices_S16384x7776_S16384x1024_0_6688⟩,
    ⟨S16384x64, extractStridedSlice S16384x64 ![0, 7712] p slices_S16384x7776_S16384x64_0_7712⟩,
    ⟨S16384x32, extractStridedSlice S16384x32 ![0, 4096] p slices_S16384x7776_S16384x32_0_4096⟩,
    ⟨S16384x160, broadcastInDim S16384x160 ![] bcast_S_S16384x160 (constant S_ .f32 0x00000000#32)⟩]
    concatenates_S16384x4096_S16384x1024_S16384x1536_S16384x256_S16384x1024_S16384x64_S16384x32_S16384x160_S16384x8192_d1

/-- The reference's first result. -/
def result (x : FVec F S16384x4096 .f32) (g : FVec F S16x24576 .f32) (n : FVec F S4096 .f32) (w : FVec F S2x4096x7776 .f32) : FVec F S16384x8192 .f32 :=
  inOrder (bothPasses (promptProjection x g n w) (sampleProjection x g n w))

/-- The second: the attention's value columns of the prompt pass. -/
def values (p : FVec F S32x256x7776 .f32) : FVec F S32x256x2x128 .f32 :=
  shapeCast _ (extractStridedSlice S32x256x256 ![0, 0, 6432] p slices_S32x256x7776_S32x256x256_0_0_6432) shapeCasts_S32x256x256_S32x256x2x128

/-- The third: the latent attention's rotary key columns of the prompt pass. -/
def ropes (p : FVec F S32x256x7776 .f32) : FVec F S32x256x64 .f32 :=
  extractStridedSlice S32x256x64 ![0, 0, 7712] p slices_S32x256x7776_S32x256x64_0_0_7712

theorem promptRows_at (x : FVec Ideal S16384x4096 .f32) (b : Fin 32) (i : Fin 256) (k : Fin 4096) :
    promptRows x (ix3 b i k) = x (ix2 ⟨b.val * 256 + i.val, by omega⟩ k) := by
  pointwise [promptRows]

theorem promptScale_at (x : FVec Ideal S32x256x4096 .f32) (b : Fin 32) (i : Fin 256) :
    promptScale x (ix3 b i 0) = Ideal.rsqrt (Ideal.div (∑ l : Fin 4096, x (ix3 b i l) * x (ix3 b i l)) (Ideal.ofBits .f32 0x45800000#32) + Ideal.ofBits .f32 0x358637BD#32) := by
  pointwise [promptScale]

theorem promptNormed_at (x : FVec Ideal S32x256x4096 .f32) (s : FVec Ideal S32x256x1 .f32) (n : FVec Ideal S4096 .f32) (b : Fin 32) (i : Fin 256) (k : Fin 4096) :
    promptNormed x s n (ix3 b i k) = x (ix3 b i k) * s (ix3 b i 0) * n (ix1 k) := by
  pointwise [promptNormed]

theorem promptModulated_at (h : FVec Ideal S32x256x4096 .f32) (g : FVec Ideal S16x24576 .f32) (b : Fin 32) (i : Fin 256) (k : Fin 4096) :
    promptModulated h g (ix3 b i k) = h (ix3 b i k) * (1 + g (ix2 0 ⟨4096 + k.val, by omega⟩)) + g (ix2 0 ⟨k.val, by omega⟩) := by
  pointwise [promptModulated]

theorem promptProduct_at (h : FVec Ideal S32x256x4096 .f32) (w : FVec Ideal S2x4096x7776 .f32) (b : Fin 32) (i : Fin 256) (q : Fin 7776) :
    promptProduct h w (ix3 b i q) = ∑ k : Fin 4096, h (ix3 b i k) * w (ix3 0 k q) := by
  pointwise [promptProduct]

theorem promptProjection_at (x : FVec Ideal S16384x4096 .f32) (g : FVec Ideal S16x24576 .f32) (n : FVec Ideal S4096 .f32) (w : FVec Ideal S2x4096x7776 .f32)
    (b : Fin 32) (i : Fin 256) (q : Fin 7776) :
    promptProjection x g n w (ix3 b i q) = ∑ k : Fin 4096, modulated (fun l => x (ix2 ⟨b.val * 256 + i.val, by omega⟩ l)) (fun l => n (ix1 l))
      (fun l => g (ix2 0 ⟨4096 + l.val, by omega⟩)) (fun l => g (ix2 0 ⟨l.val, by omega⟩)) k * w (ix3 0 k q) := by
  unfold promptProjection
  rw [promptProduct_at]
  simp only [promptModulated_at, promptNormed_at, promptScale_at, promptRows_at]
  rfl

theorem sampleRows_at (x : FVec Ideal S16384x4096 .f32) (b : Fin 8) (i : Fin 1024) (k : Fin 4096) :
    sampleRows x (ix3 b i k) = x (ix2 ⟨8192 + (b.val * 1024 + i.val), by omega⟩ k) := by
  pointwise [sampleRows]

theorem sampleScale_at (x : FVec Ideal S8x1024x4096 .f32) (b : Fin 8) (i : Fin 1024) :
    sampleScale x (ix3 b i 0) = Ideal.rsqrt (Ideal.div (∑ l : Fin 4096, x (ix3 b i l) * x (ix3 b i l)) (Ideal.ofBits .f32 0x45800000#32) + Ideal.ofBits .f32 0x358637BD#32) := by
  pointwise [sampleScale]

theorem sampleNormed_at (x : FVec Ideal S8x1024x4096 .f32) (s : FVec Ideal S8x1024x1 .f32) (n : FVec Ideal S4096 .f32) (b : Fin 8) (i : Fin 1024) (k : Fin 4096) :
    sampleNormed x s n (ix3 b i k) = x (ix3 b i k) * s (ix3 b i 0) * n (ix1 k) := by
  pointwise [sampleNormed]

theorem sampleModulated_at (h : FVec Ideal S8x1024x4096 .f32) (g : FVec Ideal S16x24576 .f32) (b : Fin 8) (i : Fin 1024) (k : Fin 4096) :
    sampleModulated h g (ix3 b i k) = h (ix3 b i k) * (1 + g (ix2 ⟨1 + b.val, by omega⟩ ⟨4096 + k.val, by omega⟩)) + g (ix2 ⟨1 + b.val, by omega⟩ ⟨k.val, by omega⟩) := by
  pointwise [sampleModulated]

theorem sampleProduct_at (h : FVec Ideal S8x1024x4096 .f32) (w : FVec Ideal S2x4096x7776 .f32) (b : Fin 8) (i : Fin 1024) (q : Fin 7776) :
    sampleProduct h w (ix3 b i q) = ∑ k : Fin 4096, h (ix3 b i k) * w (ix3 0 k q) := by
  pointwise [sampleProduct]

theorem sampleProjection_at (x : FVec Ideal S16384x4096 .f32) (g : FVec Ideal S16x24576 .f32) (n : FVec Ideal S4096 .f32) (w : FVec Ideal S2x4096x7776 .f32)
    (b : Fin 8) (i : Fin 1024) (q : Fin 7776) :
    sampleProjection x g n w (ix3 b i q) = ∑ k : Fin 4096, modulated (fun l => x (ix2 ⟨8192 + (b.val * 1024 + i.val), by omega⟩ l)) (fun l => n (ix1 l))
      (fun l => g (ix2 ⟨1 + b.val, by omega⟩ ⟨4096 + l.val, by omega⟩)) (fun l => g (ix2 ⟨1 + b.val, by omega⟩ ⟨l.val, by omega⟩)) k * w (ix3 0 k q) := by
  unfold sampleProjection
  rw [sampleProduct_at]
  simp only [sampleModulated_at, sampleNormed_at, sampleScale_at, sampleRows_at]
  rfl

theorem bothPasses_at (p : FVec Ideal S32x256x7776 .f32) (s : FVec Ideal S8x1024x7776 .f32) (r : Fin 16384) (q : Fin 7776) :
    bothPasses p s (ix2 r q) = if h : r.val < 8192 then p (ix3 ⟨r.val / 256, by omega⟩ ⟨r.val % 256, by omega⟩ q)
      else s (ix3 ⟨(r.val - 8192) / 1024, by omega⟩ ⟨(r.val - 8192) % 1024, by omega⟩ q) := by
  pointwise [bothPasses]

theorem inOrder_at (p : FVec Ideal S16384x7776 .f32) (r : Fin 16384) (j : Fin 8192) :
    inOrder p (ix2 r j) = packed (fun q => p (ix2 r q)) j := by
  pointwise [inOrder]
  unfold packed
  have := j.isLt
  have same : ∀ a b : Fin 7776, a.val = b.val → p (ix2 r a) = p (ix2 r b) := fun a b h => by rw [Fin.ext h]
  repeat' split
  all_goals first | (exfalso; omega) | exact same _ _ (by first | (dsimp only; omega) | rfl) | rfl

theorem values_at (p : FVec Ideal S32x256x7776 .f32) (b : Fin 32) (i : Fin 256) (h : Fin 2) (d : Fin 128) :
    values p (ix4 b i h d) = p (ix3 b i ⟨6432 + (h.val * 128 + d.val), by omega⟩) := by
  pointwise [values]

theorem ropes_at (p : FVec Ideal S32x256x7776 .f32) (b : Fin 32) (i : Fin 256) (d : Fin 64) :
    ropes p (ix3 b i d) = p (ix3 b i ⟨7712 + d.val, by omega⟩) := by
  pointwise [ropes]

set_option maxHeartbeats 4000000 in
/-- The reference's run states these stages composed. -/
theorem stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v71) = values (promptProjection (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v72) = ropes (promptProjection (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.InProjRefIdeal.Value

end
-- ==== Proof.Inproj.Value.lean ====
/-
  The input projection's results are the reference's: packing the columns before the product or after it gives the same
  array, since a column of zeros gives zero for infinite values too.
-/
module

public import proofs.«01_k».proof.Proof.Inproj.Array
public import proofs.«01_k».proof.Proof.Inproj.Ref

@[expose] public section

set_option maxRecDepth 16384

noncomputable section

open Idealize.ShloMosaic Idealize.ShloMosaic.TcCoe Idealize.SL.Sem

namespace Cert.Inproj

open Cert.InProjIdeal.Value Cert.InProjRefIdeal.Value Cert.Layer

variable (x : FVec Ideal Cert.InProjIdeal.S16384x4096 .f32) (g : FVec Ideal Cert.InProjIdeal.S16x24576 .f32)
  (n : FVec Ideal Cert.InProjIdeal.S4096 .f32) (w : FVec Ideal Cert.InProjIdeal.S2x4096x7776 .f32)

/-- The prompt pass's projection by token row. -/
theorem prompt_at (b : Fin 32) (i : Fin 256) (q : Fin 7776) :
    promptProjection x g n w (ix3 b i q) = column x g n w ⟨b.val * 256 + i.val, by omega⟩ q := by
  rw [promptProjection_at]
  unfold column tokenRow
  rw [modRow_prompt _ (show b.val * 256 + i.val < 8192 by omega)]

/-- The sample pass's projection by token row. -/
theorem sample_at (b : Fin 8) (i : Fin 1024) (q : Fin 7776) :
    sampleProjection x g n w (ix3 b i q) = column x g n w ⟨8192 + (b.val * 1024 + i.val), by omega⟩ q := by
  rw [sampleProjection_at]
  unfold column tokenRow
  have e : modRow ⟨8192 + (b.val * 1024 + i.val), by omega⟩ = ⟨1 + b.val, by omega⟩ :=
    Fin.ext ((modRow_sample _ (show 8192 ≤ 8192 + (b.val * 1024 + i.val) by omega)).trans
      (show 1 + (8192 + (b.val * 1024 + i.val) - 8192) / 1024 = 1 + b.val by omega))
  rw [e]

theorem rows_at (r : Fin 16384) (q : Fin 7776) :
    bothPasses (promptProjection x g n w) (sampleProjection x g n w) (ix2 r q) = column x g n w r q := by
  rw [bothPasses_at]
  split
  · rename_i h
    rw [prompt_at]
    exact congrArg (fun a => column x g n w a q) (Fin.ext (show r.val / 256 * 256 + r.val % 256 = r.val by omega))
  · rename_i h
    rw [sample_at]
    exact congrArg (fun a => column x g n w a q) (Fin.ext (show 8192 + ((r.val - 8192) / 1024 * 1024 + (r.val - 8192) % 1024) = r.val by omega))

/-- The packed array. -/
theorem result_eq : result x g n w = packedArray x g n w :=
  funext fun y => by
    rw [eq_ix2 y]
    refine (inOrder_at _ _ _).trans ?_
    exact congrArg (fun f => packed f (y 1)) (funext fun q => rows_at x g n w (y 0) q)

theorem valueColumns_at (p : FVec Ideal Cert.InProjIdeal.S16384x8192 .f32) (b : Fin 32) (i : Fin 256) (h : Fin 2) (d : Fin 128) :
    valueColumns p (ix4 b i h d) = p (ix2 ⟨b.val * 256 + i.val, by omega⟩ ⟨6400 + (h.val * 128 + d.val), by omega⟩) := by
  pointwise [valueColumns]

theorem ropeColumns_at (p : FVec Ideal Cert.InProjIdeal.S16384x8192 .f32) (b : Fin 32) (i : Fin 256) (d : Fin 64) :
    ropeColumns p (ix3 b i d) = p (ix2 ⟨b.val * 256 + i.val, by omega⟩ ⟨7936 + d.val, by omega⟩) := by
  pointwise [ropeColumns]

/-- A packed column between 5120 and 6656 is the projection's column 32 further right. -/
theorem packed_mixers (f : Fin 7776 → EReal) (j : Fin 8192) (q : Fin 7776) (h0 : 4096 ≤ j.val) (h1 : j.val < 6656) (h : q.val = j.val + 32) :
    packed f j = f q := by
  unfold packed
  rw [dif_neg (by omega), dif_pos h1]
  exact congrArg f (Fin.ext h.symm)

/-- A packed column between 6912 and 8000 is the projection's column 224 further left. -/
theorem packed_latent (f : Fin 7776 → EReal) (j : Fin 8192) (q : Fin 7776) (h0 : 6912 ≤ j.val) (h1 : j.val < 8000) (h : q.val = j.val - 224) :
    packed f j = f q := by
  unfold packed
  rw [dif_neg (by omega), dif_neg (by omega), dif_neg (by omega), dif_pos h1]
  exact congrArg f (Fin.ext h.symm)

/-- The value columns. -/
theorem values_eq : values (promptProjection x g n w) = valueColumns (packedArray x g n w) :=
  funext fun y => by
    have key : ∀ (b : Fin 32) (i : Fin 256) (h : Fin 2) (d : Fin 128),
        values (promptProjection x g n w) (ix4 b i h d) = valueColumns (packedArray x g n w) (ix4 b i h d) := by
      intro b i h d
      rw [values_at, prompt_at, valueColumns_at]
      exact (packed_mixers _ _ _ (show 4096 ≤ 6400 + (h.val * 128 + d.val) by omega) (show 6400 + (h.val * 128 + d.val) < 6656 by omega)
        (show 6432 + (h.val * 128 + d.val) = 6400 + (h.val * 128 + d.val) + 32 by omega)).symm
    rw [eq_ix4 y]
    exact key _ _ _ _

/-- The rotary key columns. -/
theorem ropes_eq : ropes (promptProjection x g n w) = ropeColumns (packedArray x g n w) :=
  funext fun y => by
    have key : ∀ (b : Fin 32) (i : Fin 256) (d : Fin 64),
        ropes (promptProjection x g n w) (ix3 b i d) = ropeColumns (packedArray x g n w) (ix3 b i d) := by
      intro b i d
      rw [ropes_at, prompt_at, ropeColumns_at]
      exact (packed_latent _ _ _ (show 6912 ≤ 7936 + d.val by omega) (show 7936 + d.val < 8000 by omega)
        (show 7712 + d.val = 7936 + d.val - 224 by omega)).symm
    rw [eq_ix3 y]
    exact key _ _ _

end Cert.Inproj

end
-- ==== Proof.Inproj2.Block.lean ====
/-
  What one grid point of the input projection leaves, entry by entry: at a row block's first point the scratch takes the
  normalised and modulated token rows; at every point the block is the scratch's rows times the weight's columns.
-/
module

public import proofs.«01_k».proof.Proof.Gen.InProj2Ideal.Frame
public import Idealize.ShloMosaic.Lib.Pipeline.Value
public import Idealize.ShloMosaic.Lib.Pipeline.ValueKit.Tiles
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProj2Ideal.Value

open Cert.InProj2Ideal Cert.InProj2Ideal.Gen

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A token row, root-mean-square normalised with gain `g`, scaled by `1 + sc` and shifted by `sh`. -/
def modulated (x g sc sh : Fin 4096 → EReal) (k : Fin 4096) : EReal :=
  x k * Ideal.rsqrt (Ideal.div (∑ l, x l * x l) (Ideal.ofBits .f32 0x45800000#32) + Ideal.ofBits .f32 0x358637BD#32) * g k * (1 + sc k) + sh k

variable (c : Dev nD) (i : grid0.Coords) (arg2 : Memref sig .tc .vmem S512x4096 .f32) (harg2 : arg2.IsWhole) (arg3 : Memref sig .tc .vmem S1x1x1x4096 .f32) (harg3 : arg3.IsWhole) (arg4 : Memref sig .tc .vmem S1x1x1x4096 .f32) (harg4 : arg4.IsWhole) (arg5 : Memref sig .tc .vmem S1x4096 .f32) (harg5 : arg5.IsWhole) (arg6 : Memref sig .tc .vmem S1x4096x512 .bf16) (harg6 : arg6.IsWhole) (arg7 : Memref sig .tc .vmem S512x512 .f32) (harg7 : arg7.IsWhole) (arg8 : Memref sig .tc .vmem S512x4096 .bf16) (harg8 : arg8.IsWhole)

/-- The scratch after a row block's first point. -/
theorem scratch_A (hc0 : cond0_0 i)
    (x0 : Vec Ideal S512x4096 .f32) (x1 : Vec Ideal S1x1x1x4096 .f32) (x2 : Vec Ideal S1x1x1x4096 .f32) (x3 : Vec Ideal S1x4096 .f32) (x4 : Vec Ideal S1x4096x512 .bf16) (r : Fin 512) (k : Fin 4096) :
    sout0_A_0 (F := Ideal) c i arg2 harg2 arg3 harg3 arg4 harg4 arg5 harg5 arg6 harg6 arg7 harg7 arg8 harg8 hc0 x0 x1 x2 x3 x4 (ix2 r k)
      = modulated (fun l => x0 (ix2 r l)) (fun l => x3 (ix2 0 l)) (fun l => x2 (ix4 0 0 0 l)) (fun l => x1 (ix4 0 0 0 l)) k := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread, View.ld_unit_zero (S := S512x4096) hz, View.ld_unit_zero (S := S1x4096) hz, View.ld_unit_zero (S := S1x1x1x4096) hz4]
  pointwise [k0_pay1, modulated]

/-- The block at a row block's first point: the scratch it has just filled, times the weight. -/
theorem block_A (hc0 : cond0_0 i)
    (x0 : Vec Ideal S512x4096 .f32) (x1 : Vec Ideal S1x1x1x4096 .f32) (x2 : Vec Ideal S1x1x1x4096 .f32) (x3 : Vec Ideal S1x4096 .f32) (x4 : Vec Ideal S1x4096x512 .bf16) (r d : Fin 512) :
    out0_A_5 (F := Ideal) c i arg2 harg2 arg3 harg3 arg4 harg4 arg5 harg5 arg6 harg6 arg7 harg7 arg8 harg8 hc0 x0 x1 x2 x3 x4 (ix2 r d)
      = ∑ k : Fin 4096, modulated (fun l => x0 (ix2 r l)) (fun l => x3 (ix2 0 l)) (fun l => x2 (ix4 0 0 0 l)) (fun l => x1 (ix4 0 0 0 l)) k * x4 (ix3 0 k d) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz, View.readCov_cons_unit_lit' _ _ _ _ _ (congrFun hz) (congrFun hz)]
  simp only [View.readAt_eq_ld, harg2.read_unread, harg3.read_unread, harg4.read_unread, harg5.read_unread, harg6.read_unread, View.ld_unit_zero (S := S512x4096) hz, View.ld_unit_zero (S := S1x4096) hz, View.ld_unit_zero (S := S1x1x1x4096) hz4, View.ld_unit_zero (S := S1x4096x512) hz3]
  pointwise [k0_pay1, k0_pay2, modulated]

/-- The block at any other point: the scratch as the point before left it, times the weight. -/
theorem block_B (hc0 : ¬cond0_0 i)
    (x0 : Vec Ideal S512x4096 .f32) (x1 : Vec Ideal S1x1x1x4096 .f32) (x2 : Vec Ideal S1x1x1x4096 .f32) (x3 : Vec Ideal S1x4096 .f32) (x4 : Vec Ideal S1x4096x512 .bf16) (xs0 : Vec Ideal S512x4096 .bf16) (r d : Fin 512) :
    out0_B_5 (F := Ideal) c i arg2 harg2 arg3 harg3 arg4 harg4 arg5 harg5 arg6 harg6 arg7 harg7 arg8 harg8 hc0 x0 x1 x2 x3 x4 xs0 (ix2 r d)
      = ∑ k : Fin 4096, xs0 (ix2 r k) * x4 (ix3 0 k d) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg8.read_unread, harg6.read_unread, View.ld_unit_zero (S := S512x4096) hz, View.ld_unit_zero (S := S1x4096x512) hz3]
  pointwise [k0_pay2]

end Cert.InProj2Ideal.Value

end
-- ==== Proof.Inproj2.Array.lean ====
/-
  The input projection's packed array as a function of its arguments: every grid point reads 512 token rows and 512 packed
  columns, the scratch holds the row block's modulated rows from its first point on, and the blocks tile the array.
-/
module

public import proofs.«01_k».proof.Proof.Inproj2.Block
public import proofs.«01_k».proof.Proof.Rows
public import proofs.«01_k».proof.Proof.Inproj.Array

@[expose] public section

set_option maxRecDepth 16384

noncomputable section

open Idealize.ShloMosaic Idealize.ShloMosaic.TcCoe Idealize.SL.Sem

namespace Cert.InProj2Ideal.Value

open Cert.InProj2Ideal Cert.InProj2Ideal.Gen Cert.Layer
open Cert.InProjIdeal.Value (packedWeight packedWeight_at)

/-- The normalised and modulated token row `r`: the modulations are the condition's first (shift) and second (scale). -/
def tokenRow (x : FVec Ideal S16384x4096 .f32) (g : FVec Ideal S16x24576 .f32) (n : FVec Ideal S4096 .f32) (r : Fin 16384) : Fin 4096 → EReal :=
  modulated (fun l => x (ix2 r l)) (fun l => n (ix1 l)) (fun l => g (ix2 (modRow r) ⟨4096 + l.val, by omega⟩)) (fun l => g (ix2 (modRow r) ⟨l.val, by omega⟩))

/-- The projection of token row `r` onto the weight's column `q`. -/
def column (x : FVec Ideal S16384x4096 .f32) (g : FVec Ideal S16x24576 .f32) (n : FVec Ideal S4096 .f32) (w : FVec Ideal S2x4096x7776 .f32)
    (r : Fin 16384) (q : Fin 7776) : EReal := ∑ k, tokenRow x g n r k * w (ix3 1 k q)

/-- The whole array, columns packed. -/
def packedArray (x : FVec Ideal S16384x4096 .f32) (g : FVec Ideal S16x24576 .f32) (n : FVec Ideal S4096 .f32) (w : FVec Ideal S2x4096x7776 .f32)
    (y : S16384x8192.Idx) : EReal := packed (column x g n w (y 0)) (y 1)

/-! ### Which blocks a grid point reads and writes -/

theorem points (t : Fin cfg0.N) : t.val < 512 := t.isLt

theorem index_0 : ∀ t : Fin grid0.N, win0_0.index t 0 = t.val / 16 ∧ win0_0.index t 1 = 0 := by decide +kernel
theorem index_1 : ∀ t : Fin grid0.N, win0_1.index t 0 = (if t.val / 16 < 16 then 0 else 1 + (t.val / 16 - 16) / 2)
      ∧ win0_1.index t 1 = 0 ∧ win0_1.index t 2 = 0 ∧ win0_1.index t 3 = 0 := by decide +kernel
theorem index_2 : ∀ t : Fin grid0.N, win0_2.index t 0 = (if t.val / 16 < 16 then 0 else 1 + (t.val / 16 - 16) / 2)
      ∧ win0_2.index t 1 = 1 ∧ win0_2.index t 2 = 0 ∧ win0_2.index t 3 = 0 := by decide +kernel
theorem index_3 : ∀ t : Fin grid0.N, win0_3.index t 0 = 0 ∧ win0_3.index t 1 = 0 := by decide +kernel
theorem index_4 : ∀ t : Fin grid0.N, win0_4.index t 0 = 1 ∧ win0_4.index t 1 = 0 ∧ win0_4.index t 2 = t.val % 16 := by decide +kernel
theorem index_5 : ∀ t : Fin grid0.N, win0_5.index t 0 = t.val / 16 ∧ win0_5.index t 1 = t.val % 16 := by decide +kernel

/-- The token row and the packed column of an entry of grid point `t`'s block. -/
def row (t : Fin cfg0.N) (r : Fin 512) : Fin 16384 := ⟨512 * (t.val / 16) + r.val, by have := points t; omega⟩
def col (t : Fin cfg0.N) (d : Fin 512) : Fin 8192 := ⟨512 * (t.val % 16) + d.val, by omega⟩

variable (m : (ℓ : Loc nD τ sig) → Buf (Elt Ideal) ℓ) (ρ : Dev nD → PrngReg)

theorem read_0 (c : Dev nD) (t : Fin cfg0.N) (r : Fin 512) (k : Fin 4096) :
    (iblk m c 0 t : Vec Ideal S512x4096 .f32) (ix2 r k) = (m ((c : Thread nD τ).loc main_arg0) : FVec Ideal S16384x4096 .f32) (ix2 (row t r) k) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * r.val = 512 * (t.val / 16) + r.val; rw [(index_0 t).1]; omega
  | ⟨1, _⟩ => show win0_0.index t 1 * 4096 + 1 * k.val = k.val; rw [(index_0 t).2]; omega

/-- The modulations as the call receives them: six rows of 4096 for each condition. -/
theorem modulation_rows (c : Dev nD) (i : Fin 16) (q : Fin 6) (d : Fin 4096) :
    (V m c main_v10 : FVec Ideal S16x6x1x4096 .f32) (ix4 i q 0 d)
      = (m ((c : Thread nD τ).loc main_arg1) : FVec Ideal S16x24576 .f32) (ix2 i ⟨4096 * q.val + d.val, by omega⟩) := by
  have e : (V m c main_v10 : FVec Ideal S16x6x1x4096 .f32) = shapeCast S16x6x1x4096 (m ((c : Thread nD τ).loc main_arg1) : FVec Ideal S16x24576 .f32) shapeCasts_S16x24576_S16x6x1x4096 := rfl
  rw [e]
  exact modulation_cast _ _ i q d

theorem read_1 (c : Dev nD) (t : Fin cfg0.N) (r : Fin 512) (l : Fin 4096) :
    (iblk m c 1 t : Vec Ideal S1x1x1x4096 .f32) (ix4 0 0 0 l)
      = (m ((c : Thread nD τ).loc main_arg1) : FVec Ideal S16x24576 .f32) (ix2 (modRow (row t r)) ⟨l.val, by omega⟩) := by
  have e := modulation_rows m c (modRow (row t r)) 0 l
  have e' : (⟨4096 * (0 : Fin 6).val + l.val, by show 4096 * 0 + _ < _; omega⟩ : Fin 24576) = ⟨l.val, by omega⟩ := Fin.ext (by show 4096 * 0 + l.val = l.val; omega)
  refine Eq.trans ?_ (e.trans (by rw [e']))
  unfold iblk
  rw [View.read_apply]
  show V m c main_v10 _ = V m c main_v10 _
  congr 1
  funext a
  apply Fin.ext
  have := points t
  match a with
  | ⟨0, _⟩ =>
    show win0_1.index t 0 * 1 + 1 * 0 = if 512 * (t.val / 16) + r.val < 8192 then 0 else 1 + (512 * (t.val / 16) + r.val - 8192) / 1024
    rw [(index_1 t).1]; split <;> split <;> omega
  | ⟨1, _⟩ => show win0_1.index t 1 * 1 + 1 * 0 = 0; rw [(index_1 t).2.1]
  | ⟨2, _⟩ => show win0_1.index t 2 * 1 + 1 * 0 = 0; rw [(index_1 t).2.2.1]
  | ⟨3, _⟩ => show win0_1.index t 3 * 4096 + 1 * l.val = l.val; rw [(index_1 t).2.2.2]; omega

theorem read_2 (c : Dev nD) (t : Fin cfg0.N) (r : Fin 512) (l : Fin 4096) :
    (iblk m c 2 t : Vec Ideal S1x1x1x4096 .f32) (ix4 0 0 0 l)
      = (m ((c : Thread nD τ).loc main_arg1) : FVec Ideal S16x24576 .f32) (ix2 (modRow (row t r)) ⟨4096 + l.val, by omega⟩) := by
  have e := modulation_rows m c (modRow (row t r)) 1 l
  have e' : (⟨4096 * (1 : Fin 6).val + l.val, by show 4096 * 1 + _ < _; omega⟩ : Fin 24576) = ⟨4096 + l.val, by omega⟩ := Fin.ext (by show 4096 * 1 + l.val = 4096 + l.val; omega)
  refine Eq.trans ?_ (e.trans (by rw [e']))
  unfold iblk
  rw [View.read_apply]
  show V m c main_v10 _ = V m c main_v10 _
  congr 1
  funext a
  apply Fin.ext
  have := points t
  match a with
  | ⟨0, _⟩ =>
    show win0_2.index t 0 * 1 + 1 * 0 = if 512 * (t.val / 16) + r.val < 8192 then 0 else 1 + (512 * (t.val / 16) + r.val - 8192) / 1024
    rw [(index_2 t).1]; split <;> split <;> omega
  | ⟨1, _⟩ => show win0_2.index t 1 * 1 + 1 * 0 = 1; rw [(index_2 t).2.1]
  | ⟨2, _⟩ => show win0_2.index t 2 * 1 + 1 * 0 = 0; rw [(index_2 t).2.2.1]
  | ⟨3, _⟩ => show win0_2.index t 3 * 4096 + 1 * l.val = l.val; rw [(index_2 t).2.2.2]; omega

/-- The gain as the call receives it: one row. -/
theorem gain_row (n : FVec Ideal S4096 .f32) (l : Fin 4096) : shapeCast S1x4096 n shapeCasts_S4096_S1x4096 (ix2 0 l) = n (ix1 l) := by
  pointwise

theorem read_3 (c : Dev nD) (t : Fin cfg0.N) (l : Fin 4096) :
    (iblk m c 3 t : Vec Ideal S1x4096 .f32) (ix2 0 l) = (m ((c : Thread nD τ).loc main_arg2) : FVec Ideal S4096 .f32) (ix1 l) := by
  rw [← gain_row (m ((c : Thread nD τ).loc main_arg2))]
  have e : (V m c main_v11 : FVec Ideal S1x4096 .f32) = shapeCast S1x4096 (m ((c : Thread nD τ).loc main_arg2) : FVec Ideal S4096 .f32) shapeCasts_S4096_S1x4096 := rfl
  rw [← e]
  unfold iblk
  rw [View.read_apply]
  show V m c main_v11 _ = V m c main_v11 _
  congr 1
  funext a
  apply Fin.ext
  match a with
  | ⟨0, _⟩ => show win0_3.index t 0 * 1 + 1 * 0 = 0; rw [(index_3 t).1]
  | ⟨1, _⟩ => show win0_3.index t 1 * 4096 + 1 * l.val = l.val; rw [(index_3 t).2]; omega

theorem weight_packed (c : Dev nD) : (V m c main_v9 : FVec Ideal S2x4096x8192 .bf16) = packedWeight (m ((c : Thread nD τ).loc main_arg3)) := rfl

theorem read_4 (c : Dev nD) (t : Fin cfg0.N) (k : Fin 4096) (d : Fin 512) :
    (iblk m c 4 t : Vec Ideal S1x4096x512 .bf16) (ix3 0 k d) = packed (fun q => (m ((c : Thread nD τ).loc main_arg3) : FVec Ideal S2x4096x7776 .f32) (ix3 1 k q)) (col t d) := by
  rw [← packedWeight_at, ← weight_packed m c]
  unfold iblk
  rw [View.read_apply]
  show V m c main_v9 _ = V m c main_v9 _
  congr 1
  funext a
  apply Fin.ext
  match a with
  | ⟨0, _⟩ => show win0_4.index t 0 * 1 + 1 * 0 = 1; rw [(index_4 t).1]
  | ⟨1, _⟩ => show win0_4.index t 1 * 4096 + 1 * k.val = k.val; rw [(index_4 t).2.1]; omega
  | ⟨2, _⟩ => show win0_4.index t 2 * 512 + 1 * d.val = 512 * (t.val % 16) + d.val; rw [(index_4 t).2.2]; omega

/-! ### The scratch and the blocks -/

/-- The modulated row that grid point `t`'s input blocks hold. -/
theorem blocks_row (c : Dev nD) (t : Fin cfg0.N) (r : Fin 512) :
    modulated (fun l => (iblk m c 0 t : Vec Ideal S512x4096 .f32) (ix2 r l)) (fun l => (iblk m c 3 t : Vec Ideal S1x4096 .f32) (ix2 0 l))
        (fun l => (iblk m c 2 t : Vec Ideal S1x1x1x4096 .f32) (ix4 0 0 0 l)) (fun l => (iblk m c 1 t : Vec Ideal S1x1x1x4096 .f32) (ix4 0 0 0 l))
      = tokenRow (m ((c : Thread nD τ).loc main_arg0)) (m ((c : Thread nD τ).loc main_arg1)) (m ((c : Thread nD τ).loc main_arg2)) (row t r) := by
  simp only [read_0, read_3, read_2 m c t r, read_1 m c t r]
  rfl

/-- After any point the scratch holds the modulated rows of the point's row block. -/
theorem scratch (c : Dev nD) : ∀ (n : Nat) (hn : n < cfg0.N) (r : Fin 512) (k : Fin 4096), (outsAt0 m c n hn).2 (ix2 r k)
    = tokenRow (m ((c : Thread nD τ).loc main_arg0)) (m ((c : Thread nD τ).loc main_arg1)) (m ((c : Thread nD τ).loc main_arg2)) (row ⟨n, hn⟩ r) k := by
  intro n
  induction n with
  | zero =>
    intro hn r k
    rw [show outsAt0 m c 0 hn = _ from outsAt0_A m c ⟨0, hn⟩ rfl]
    dsimp only
    rw [scratch_A, blocks_row]
  | succ n ih =>
    intro hn r k
    by_cases h0 : (n + 1) % 16 = 0
    · rw [show outsAt0 m c (n + 1) hn = _ from outsAt0_A m c ⟨n + 1, hn⟩ h0]
      dsimp only
      rw [scratch_A, blocks_row]
    · rw [show outsAt0 m c (n + 1) hn = _ from outsAt0_B m c ⟨n + 1, hn⟩ h0]
      dsimp only [sout0_B_0]
      refine (ih (Nat.lt_of_succ_lt hn) r k).trans ?_
      congr 1
      apply Fin.ext
      show 512 * (n / 16) + r.val = 512 * ((n + 1) / 16) + r.val
      omega

/-- The block that grid point `t` writes. -/
theorem block (c : Dev nD) (t : Fin cfg0.N) (r d : Fin 512) : (outsAt0 m c t.val t.isLt).1 (ix2 r d)
    = packed (column (m ((c : Thread nD τ).loc main_arg0)) (m ((c : Thread nD τ).loc main_arg1)) (m ((c : Thread nD τ).loc main_arg2)) (m ((c : Thread nD τ).loc main_arg3)) (row t r)) (col t d) := by
  unfold column
  rw [← packed_sum]
  by_cases h0 : t.val % 16 = 0
  · rw [outsAt0_A m c t h0]
    dsimp only
    rw [block_A, blocks_row]
    simp only [read_4]
  · rw [outsAt0_B m c t h0]
    dsimp only
    rw [block_B]
    have e : row ⟨t.val - 1, by have := t.isLt; omega⟩ r = row t r := Fin.ext (by show 512 * ((t.val - 1) / 16) + r.val = 512 * (t.val / 16) + r.val; omega)
    simp only [read_4, scratch, e]

/-- The packed array after the region. -/
theorem array_5 (c : Dev nD) : (dats m 0 c).arrAt 5 cfg0.N
    = packedArray (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t _ => ?_) (fun (y : S16384x8192.Idx) => ?_)
  · show (cfg0.win 5).cut (grid0.coords t) ((dats m 0 c).after 5 t) = _
    rw [after0_5]
    have place : ∀ j : S512x512.Idx, ((cfg0.win 5).blk t).view.emb j = ix2 (row t (j 0)) (col t (j 1)) := by
      intro j
      funext a
      apply Fin.ext
      match a with
      | ⟨0, _⟩ => show win0_5.index t 0 * 512 + 1 * (j 0).val = 512 * (t.val / 16) + (j 0).val; rw [(index_5 t).1]; omega
      | ⟨1, _⟩ => show win0_5.index t 1 * 512 + 1 * (j 1).val = 512 * (t.val % 16) + (j 1).val; rw [(index_5 t).2]; omega
    exact funext fun (j : S512x512.Idx) => (congrArg _ (eq_ix2 j)).trans ((block m c t (j 0) (j 1)).trans
      (congrArg (packedArray (m ((c : Thread nD τ).loc main_arg0)) (m ((c : Thread nD τ).loc main_arg1)) (m ((c : Thread nD τ).loc main_arg2))
        (m ((c : Thread nD τ).loc main_arg3))) (place j)).symm)
  · have h0 : (y 0).val < 16384 := (y 0).isLt
    have h1 : (y 1).val < 8192 := (y 1).isLt
    obtain ⟨t, ht⟩ : ∃ t : Fin cfg0.N, t.val = (y 0).val / 512 * 16 + (y 1).val / 512 := ⟨⟨_, by show _ < 512; omega⟩, rfl⟩
    refine ⟨t, flush0_5 _, ?_⟩
    show y ∈ ((View.whole main_v12).slice (win0_5.rect t)).set
    rw [View.set_slice_whole, Rect.mem_set_unit]
    intro a
    match a with
    | ⟨0, _⟩ =>
      show win0_5.index t 0 * 512 ≤ (y 0).val ∧ (y 0).val < win0_5.index t 0 * 512 + 512
      rw [(index_5 _).1]; omega
    | ⟨1, _⟩ =>
      show win0_5.index t 1 * 512 ≤ (y 1).val ∧ (y 1).val < win0_5.index t 1 * 512 + 512
      rw [(index_5 _).2]; omega

/-! ### The two further results: columns of the prompt pass's rows -/

/-- The attention's value columns of the prompt pass. -/
def valueColumns (p : FVec Ideal S16384x8192 .f32) : FVec Ideal S32x256x2x128 .f32 :=
  shapeCast S32x256x2x128 (extractStridedSlice S8192x256 ![0, 6400] p slices_S16384x8192_S8192x256_0_6400) shapeCasts_S8192x256_S32x256x2x128

/-- The latent attention's rotary key columns of the prompt pass. -/
def ropeColumns (p : FVec Ideal S16384x8192 .f32) : FVec Ideal S32x256x64 .f32 :=
  shapeCast S32x256x64 (extractStridedSlice S8192x64 ![0, 7936] p slices_S16384x8192_S8192x64_0_7936) shapeCasts_S8192x64_S32x256x64

theorem tail_values (c : Dev nD) : Pipeline.afterTail₀ cfgs (dats m) 0 (V0 m) [hostOps1] c main_v14 = valueColumns ((dats m 0 c).arrAt 5 cfg0.N) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v12) = (dats m 0 c).arrAt 5 cfg0.N :=
    (dats m 0 c).withArrays_arrAt sharedIn0 (V0 m c) (A_eq m c) 5
  rw [e]
  rfl

theorem tail_ropes (c : Dev nD) : Pipeline.afterTail₀ cfgs (dats m) 0 (V0 m) [hostOps1] c main_v16 = ropeColumns ((dats m 0 c).arrAt 5 cfg0.N) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v12) = (dats m 0 c).arrAt 5 cfg0.N :=
    (dats m 0 c).withArrays_arrAt sharedIn0 (V0 m c) (A_eq m c) 5
  rw [e]
  rfl

/-- The kernel's run, results as functions of the arguments. -/
theorem run_results : θ_run defs (onTc (τ := τ) (main (F := Ideal))) ⟨m, fun _ => 0, ρ⟩ (fun r => ∀ c : Dev nD,
      r.2.mem ((c.tc : Thread nD τ).loc main_v12) = packedArray (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v14) = valueColumns (packedArray (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v16) = ropeColumns (packedArray (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (array_5 m c),
      ((h c).2 main_v14 (Pipeline.mem_restRefs_of main_v14 (by decide) (by decide))).trans ((tail_values m c).trans (congrArg valueColumns (array_5 m c))),
      ((h c).2 main_v16 (Pipeline.mem_restRefs_of main_v16 (by decide) (by decide))).trans ((tail_ropes m c).trans (congrArg ropeColumns (array_5 m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.InProj2Ideal.Value

end
-- ==== Proof.Inproj2.Ref.lean ====
/-
  The second layer's input projection's reference: the first layer's stages around the product with the second layer's weight.
-/
module

public import proofs.«01_k».proof.Proof.Gen.InProj2RefIdeal.Run
public import proofs.«01_k».proof.Proof.Rows
public import proofs.«01_k».proof.Proof.Inproj.Ref
public import proofs.«01_k».proof.Proof.Inproj2.Array
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Inproj2

open Cert.InProjRefIdeal Cert.InProjRefIdeal.Gen Cert.InProjRefIdeal.Value Cert.Layer Cert.InProjRefIdeal.Facts
open Cert.InProj2Ideal.Value (modulated)
open Cert.InProj2RefIdeal.Facts₀ (slices_S2x4096x7776_S1x4096x7776_1_0_0)

variable {F : FTy → Type} [FloatOps F]

/-- The prompt pass's product with the second layer's weight. -/
def promptProduct (h : FVec F S32x256x4096 .f32) (w : FVec F S2x4096x7776 .f32) : FVec F S32x256x7776 .f32 :=
  Host.dotGeneral dot_S32x256x4096_S4096x7776_S32x256x7776_2_0_01_1_n_n none h (shapeCast _ (extractStridedSlice S1x4096x7776 ![1, 0, 0] w slices_S2x4096x7776_S1x4096x7776_1_0_0) shapeCasts_S1x4096x7776_S4096x7776)

/-- The prompt pass's projection. -/
def promptProjection (x : FVec F S16384x4096 .f32) (g : FVec F S16x24576 .f32) (n : FVec F S4096 .f32) (w : FVec F S2x4096x7776 .f32) : FVec F S32x256x7776 .f32 :=
  promptProduct (promptModulated (promptNormed (promptRows x) (promptScale (promptRows x)) n) g) w

/-- The sample pass's product with the second layer's weight. -/
def sampleProduct (h : FVec F S8x1024x4096 .f32) (w : FVec F S2x4096x7776 .f32) : FVec F S8x1024x7776 .f32 :=
  Host.dotGeneral dot_S8x1024x4096_S4096x7776_S8x1024x7776_2_0_01_1_n_n none h (shapeCast _ (extractStridedSlice S1x4096x7776 ![1, 0, 0] w slices_S2x4096x7776_S1x4096x7776_1_0_0) shapeCasts_S1x4096x7776_S4096x7776)

/-- The sample pass's projection. -/
def sampleProjection (x : FVec F S16384x4096 .f32) (g : FVec F S16x24576 .f32) (n : FVec F S4096 .f32) (w : FVec F S2x4096x7776 .f32) : FVec F S8x1024x7776 .f32 :=
  sampleProduct (sampleModulated (sampleNormed (sampleRows x) (sampleScale (sampleRows x)) n) g) w

/-- The reference's first result. -/
def result (x : FVec F S16384x4096 .f32) (g : FVec F S16x24576 .f32) (n : FVec F S4096 .f32) (w : FVec F S2x4096x7776 .f32) : FVec F S16384x8192 .f32 :=
  inOrder (bothPasses (promptProjection x g n w) (sampleProjection x g n w))

theorem promptProduct_at (h : FVec Ideal S32x256x4096 .f32) (w : FVec Ideal S2x4096x7776 .f32) (b : Fin 32) (i : Fin 256) (q : Fin 7776) :
    promptProduct h w (ix3 b i q) = ∑ k : Fin 4096, h (ix3 b i k) * w (ix3 1 k q) := by
  pointwise [promptProduct]

theorem promptProjection_at (x : FVec Ideal S16384x4096 .f32) (g : FVec Ideal S16x24576 .f32) (n : FVec Ideal S4096 .f32) (w : FVec Ideal S2x4096x7776 .f32)
    (b : Fin 32) (i : Fin 256) (q : Fin 7776) :
    promptProjection x g n w (ix3 b i q) = ∑ k : Fin 4096, modulated (fun l => x (ix2 ⟨b.val * 256 + i.val, by omega⟩ l)) (fun l => n (ix1 l))
      (fun l => g (ix2 0 ⟨4096 + l.val, by omega⟩)) (fun l => g (ix2 0 ⟨l.val, by omega⟩)) k * w (ix3 1 k q) := by
  unfold promptProjection
  rw [promptProduct_at]
  simp only [promptModulated_at, promptNormed_at, promptScale_at, promptRows_at]
  rfl

theorem sampleProduct_at (h : FVec Ideal S8x1024x4096 .f32) (w : FVec Ideal S2x4096x7776 .f32) (b : Fin 8) (i : Fin 1024) (q : Fin 7776) :
    sampleProduct h w (ix3 b i q) = ∑ k : Fin 4096, h (ix3 b i k) * w (ix3 1 k q) := by
  pointwise [sampleProduct]

theorem sampleProjection_at (x : FVec Ideal S16384x4096 .f32) (g : FVec Ideal S16x24576 .f32) (n : FVec Ideal S4096 .f32) (w : FVec Ideal S2x4096x7776 .f32)
    (b : Fin 8) (i : Fin 1024) (q : Fin 7776) :
    sampleProjection x g n w (ix3 b i q) = ∑ k : Fin 4096, modulated (fun l => x (ix2 ⟨8192 + (b.val * 1024 + i.val), by omega⟩ l)) (fun l => n (ix1 l))
      (fun l => g (ix2 ⟨1 + b.val, by omega⟩ ⟨4096 + l.val, by omega⟩)) (fun l => g (ix2 ⟨1 + b.val, by omega⟩ ⟨l.val, by omega⟩)) k * w (ix3 1 k q) := by
  unfold sampleProjection
  rw [sampleProduct_at]
  simp only [sampleModulated_at, sampleNormed_at, sampleScale_at, sampleRows_at]
  rfl

end Cert.Inproj2

namespace Cert.InProj2RefIdeal.Value

open Cert.InProj2RefIdeal Cert.InProj2RefIdeal.Gen
open Cert.Inproj2 (result promptProjection)
open Cert.InProjRefIdeal.Value (values ropes)

variable {F : FTy → Type} [FloatOps F]

set_option maxHeartbeats 4000000 in
/-- The reference's run states these stages composed. -/
theorem stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v71) = values (promptProjection (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v72) = ropes (promptProjection (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.InProj2RefIdeal.Value

end
-- ==== Proof.Inproj2.Value.lean ====
/-
  The input projection's results are the reference's: packing the columns before the product or after it gives the same
  array, since a column of zeros gives zero for infinite values too.
-/
module

public import proofs.«01_k».proof.Proof.Inproj.Value
public import proofs.«01_k».proof.Proof.Inproj2.Array
public import proofs.«01_k».proof.Proof.Inproj2.Ref

@[expose] public section

set_option maxRecDepth 16384

noncomputable section

open Idealize.ShloMosaic Idealize.ShloMosaic.TcCoe Idealize.SL.Sem

namespace Cert.Inproj2

open Cert.InProj2Ideal.Value Cert.Layer
open Cert.InProjRefIdeal.Value (bothPasses bothPasses_at inOrder_at values values_at ropes ropes_at)
open Cert.Inproj (packed_mixers packed_latent)

variable (x : FVec Ideal Cert.InProj2Ideal.S16384x4096 .f32) (g : FVec Ideal Cert.InProj2Ideal.S16x24576 .f32)
  (n : FVec Ideal Cert.InProj2Ideal.S4096 .f32) (w : FVec Ideal Cert.InProj2Ideal.S2x4096x7776 .f32)

/-- The prompt pass's projection by token row. -/
theorem prompt_at (b : Fin 32) (i : Fin 256) (q : Fin 7776) :
    promptProjection x g n w (ix3 b i q) = column x g n w ⟨b.val * 256 + i.val, by omega⟩ q := by
  rw [promptProjection_at]
  unfold column tokenRow
  rw [modRow_prompt _ (show b.val * 256 + i.val < 8192 by omega)]

/-- The sample pass's projection by token row. -/
theorem sample_at (b : Fin 8) (i : Fin 1024) (q : Fin 7776) :
    sampleProjection x g n w (ix3 b i q) = column x g n w ⟨8192 + (b.val * 1024 + i.val), by omega⟩ q := by
  rw [sampleProjection_at]
  unfold column tokenRow
  have e : modRow ⟨8192 + (b.val * 1024 + i.val), by omega⟩ = ⟨1 + b.val, by omega⟩ :=
    Fin.ext ((modRow_sample _ (show 8192 ≤ 8192 + (b.val * 1024 + i.val) by omega)).trans
      (show 1 + (8192 + (b.val * 1024 + i.val) - 8192) / 1024 = 1 + b.val by omega))
  rw [e]

theorem rows_at (r : Fin 16384) (q : Fin 7776) :
    bothPasses (promptProjection x g n w) (sampleProjection x g n w) (ix2 r q) = column x g n w r q := by
  rw [bothPasses_at]
  split
  · rename_i h
    rw [prompt_at]
    exact congrArg (fun a => column x g n w a q) (Fin.ext (show r.val / 256 * 256 + r.val % 256 = r.val by omega))
  · rename_i h
    rw [sample_at]
    exact congrArg (fun a => column x g n w a q) (Fin.ext (show 8192 + ((r.val - 8192) / 1024 * 1024 + (r.val - 8192) % 1024) = r.val by omega))

/-- The packed array. -/
theorem result_eq : result x g n w = packedArray x g n w :=
  funext fun y => by
    rw [eq_ix2 y]
    refine (inOrder_at _ _ _).trans ?_
    exact congrArg (fun f => packed f (y 1)) (funext fun q => rows_at x g n w (y 0) q)

theorem valueColumns_at (p : FVec Ideal Cert.InProj2Ideal.S16384x8192 .f32) (b : Fin 32) (i : Fin 256) (h : Fin 2) (d : Fin 128) :
    valueColumns p (ix4 b i h d) = p (ix2 ⟨b.val * 256 + i.val, by omega⟩ ⟨6400 + (h.val * 128 + d.val), by omega⟩) := by
  pointwise [valueColumns]

theorem ropeColumns_at (p : FVec Ideal Cert.InProj2Ideal.S16384x8192 .f32) (b : Fin 32) (i : Fin 256) (d : Fin 64) :
    ropeColumns p (ix3 b i d) = p (ix2 ⟨b.val * 256 + i.val, by omega⟩ ⟨7936 + d.val, by omega⟩) := by
  pointwise [ropeColumns]

/-- The value columns. -/
theorem values_eq : values (promptProjection x g n w) = valueColumns (packedArray x g n w) :=
  funext fun y => by
    have key : ∀ (b : Fin 32) (i : Fin 256) (h : Fin 2) (d : Fin 128),
        values (promptProjection x g n w) (ix4 b i h d) = valueColumns (packedArray x g n w) (ix4 b i h d) := by
      intro b i h d
      rw [values_at, prompt_at, valueColumns_at]
      exact (packed_mixers _ _ _ (show 4096 ≤ 6400 + (h.val * 128 + d.val) by omega) (show 6400 + (h.val * 128 + d.val) < 6656 by omega)
        (show 6432 + (h.val * 128 + d.val) = 6400 + (h.val * 128 + d.val) + 32 by omega)).symm
    rw [eq_ix4 y]
    exact key _ _ _ _

/-- The rotary key columns. -/
theorem ropes_eq : ropes (promptProjection x g n w) = ropeColumns (packedArray x g n w) :=
  funext fun y => by
    have key : ∀ (b : Fin 32) (i : Fin 256) (d : Fin 64),
        ropes (promptProjection x g n w) (ix3 b i d) = ropeColumns (packedArray x g n w) (ix3 b i d) := by
      intro b i d
      rw [ropes_at, prompt_at, ropeColumns_at]
      exact (packed_latent _ _ _ (show 6912 ≤ 7936 + d.val by omega) (show 7936 + d.val < 8000 by omega)
        (show 7712 + d.val = 7936 + d.val - 224 by omega)).symm
    rw [eq_ix3 y]
    exact key _ _ _

end Cert.Inproj2

end
-- ==== Proof.Outproj.Block.lean ====
/-
  What one grid point of the output projection leaves in its block, entry by entry: the residual plus the gate times the
  products of the four mixers' rows with their quarters of the weight.
-/
module

public import proofs.«01_k».proof.Proof.Gen.OutProjIdeal.Value
public import Idealize.ShloMosaic.Lib.Pipeline.ValueKit.Tiles
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutProjIdeal.Value

open Cert.OutProjIdeal Cert.OutProjIdeal.Gen

theorem hz : (![0, 0] : Fin 2 → Nat) = fun _ => 0 := funext fun a => by fin_cases a <;> rfl
theorem hz4 : (![0, 0, 0, 0] : Fin 4 → Nat) = fun _ => 0 := funext fun a => by fin_cases a <;> rfl

/-- One grid point's block. -/
theorem out_7 (x0 x1 x2 x3 : Vec Ideal S512x1024 .bf16) (x4 : Vec Ideal S1x4096x512 .bf16) (x5 : Vec Ideal S512x512 .f32) (x6 : Vec Ideal S1x1x1x512 .f32)
    (r d : Fin 512) :
    out0_7 (F := Ideal) x0 x1 x2 x3 x4 x5 x6 (ix2 r d)
      = x5 (ix2 r d) + x6 (ix4 0 0 0 d) * ((((∑ k : Fin 1024, x0 (ix2 r k) * x4 (ix3 0 ⟨0 + k.val, by omega⟩ d))
        + ∑ k : Fin 1024, x1 (ix2 r k) * x4 (ix3 0 ⟨1024 + k.val, by omega⟩ d))
        + ∑ k : Fin 1024, x2 (ix2 r k) * x4 (ix3 0 ⟨2048 + k.val, by omega⟩ d))
        + ∑ k : Fin 1024, x3 (ix2 r k) * x4 (ix3 0 ⟨3072 + k.val, by omega⟩ d)) := by
  unfold out0_7
  rw [View.canon_unit_zero hz]
  simp only [View.ld_unit_zero (S := S512x1024) hz, View.ld_unit_zero (S := S512x512) hz, View.ld_unit_zero (S := S1x1x1x512) hz4]
  pointwise [k0_pay1]

end Cert.OutProjIdeal.Value

end
-- ==== Proof.Outproj.Array.lean ====
/-
  The output projection's result array as a function of its arguments: every grid point reads 512 token rows and 512
  columns, and the blocks it writes tile the result.
-/
module

public import proofs.«01_k».proof.Proof.Outproj.Block
public import proofs.«01_k».proof.Proof.Rows

@[expose] public section

set_option maxRecDepth 16384

noncomputable section

open Idealize.ShloMosaic Idealize.ShloMosaic.TcCoe Idealize.SL.Sem

namespace Cert.OutProjIdeal.Value

open Cert.OutProjIdeal Cert.OutProjIdeal.Gen Cert.Layer

/-- The residual stream after the output projection at token row `r`, column `d`, in the kernel's order of operations. -/
def projected (a0 a1 a2 a3 : FVec Ideal S16384x1024 .bf16) (w : FVec Ideal S2x4096x4096 .f32) (x : FVec Ideal S16384x4096 .f32)
    (g : FVec Ideal S16x24576 .f32) (r : Fin 16384) (d : Fin 4096) : EReal :=
  x (ix2 r d) + g (ix2 (modRow r) ⟨8192 + d.val, by omega⟩) * ((((∑ k : Fin 1024, a0 (ix2 r k) * w (ix3 0 ⟨0 + k.val, by omega⟩ d))
    + ∑ k : Fin 1024, a1 (ix2 r k) * w (ix3 0 ⟨1024 + k.val, by omega⟩ d))
    + ∑ k : Fin 1024, a2 (ix2 r k) * w (ix3 0 ⟨2048 + k.val, by omega⟩ d))
    + ∑ k : Fin 1024, a3 (ix2 r k) * w (ix3 0 ⟨3072 + k.val, by omega⟩ d))

/-- The whole result. -/
def projectedArray (a0 a1 a2 a3 : FVec Ideal S16384x1024 .bf16) (w : FVec Ideal S2x4096x4096 .f32) (x : FVec Ideal S16384x4096 .f32)
    (g : FVec Ideal S16x24576 .f32) (y : S16384x4096.Idx) : EReal := projected a0 a1 a2 a3 w x g (y 0) (y 1)

/-! ### Which blocks a grid point reads and writes -/

theorem points (t : Fin cfg0.N) : t.val < 256 := t.isLt

/-- The modulation row the gate's window reads at grid point `t`. -/
def gateRow (t : Fin cfg0.N) : Fin 16 :=
  ⟨if t.val / 8 < 16 then 0 else 1 + (t.val / 8 - 16) / 2, by have := points t; split <;> omega⟩

theorem index_0 : ∀ t : Fin grid0.N, win0_0.index t 0 = t.val / 8 ∧ win0_0.index t 1 = 0 := by decide +kernel
theorem index_1 : ∀ t : Fin grid0.N, win0_1.index t 0 = t.val / 8 ∧ win0_1.index t 1 = 0 := by decide +kernel
theorem index_2 : ∀ t : Fin grid0.N, win0_2.index t 0 = t.val / 8 ∧ win0_2.index t 1 = 0 := by decide +kernel
theorem index_3 : ∀ t : Fin grid0.N, win0_3.index t 0 = t.val / 8 ∧ win0_3.index t 1 = 0 := by decide +kernel
theorem index_4 : ∀ t : Fin grid0.N, win0_4.index t 0 = 0 ∧ win0_4.index t 1 = 0 ∧ win0_4.index t 2 = t.val % 8 := by decide +kernel
theorem index_5 : ∀ t : Fin grid0.N, win0_5.index t 0 = t.val / 8 ∧ win0_5.index t 1 = t.val % 8 := by decide +kernel
theorem index_6 : ∀ t : Fin grid0.N, win0_6.index t 0 = (if t.val / 8 < 16 then 0 else 1 + (t.val / 8 - 16) / 2)
      ∧ win0_6.index t 1 = 2 ∧ win0_6.index t 2 = 0 ∧ win0_6.index t 3 = t.val % 8 := by decide +kernel
theorem index_7 : ∀ t : Fin grid0.N, win0_7.index t 0 = t.val / 8 ∧ win0_7.index t 1 = t.val % 8 := by decide +kernel

/-- The token row and the column of an entry of grid point `t`'s block. -/
def row (t : Fin cfg0.N) (r : Fin 512) : Fin 16384 := ⟨512 * (t.val / 8) + r.val, by have := points t; omega⟩
def col (t : Fin cfg0.N) (d : Fin 512) : Fin 4096 := ⟨512 * (t.val % 8) + d.val, by omega⟩

variable (m : (ℓ : Loc nD τ sig) → Buf (Elt Ideal) ℓ) (ρ : Dev nD → PrngReg)

theorem read_0 (c : Dev nD) (t : Fin cfg0.N) (r : Fin 512) (k : Fin 1024) :
    (iblk m c 0 t : Vec Ideal S512x1024 .bf16) (ix2 r k) = (m ((c : Thread nD τ).loc main_arg0) : FVec Ideal S16384x1024 .bf16) (ix2 (row t r) k) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * r.val = 512 * (t.val / 8) + r.val; rw [(index_0 t).1]; omega
  | ⟨1, _⟩ => show win0_0.index t 1 * 1024 + 1 * k.val = k.val; rw [(index_0 t).2]; omega

theorem read_1 (c : Dev nD) (t : Fin cfg0.N) (r : Fin 512) (k : Fin 1024) :
    (iblk m c 1 t : Vec Ideal S512x1024 .bf16) (ix2 r k) = (m ((c : Thread nD τ).loc main_arg1) : FVec Ideal S16384x1024 .bf16) (ix2 (row t r) k) := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 512 + 1 * r.val = 512 * (t.val / 8) + r.val; rw [(index_1 t).1]; omega
  | ⟨1, _⟩ => show win0_1.index t 1 * 1024 + 1 * k.val = k.val; rw [(index_1 t).2]; omega

theorem read_2 (c : Dev nD) (t : Fin cfg0.N) (r : Fin 512) (k : Fin 1024) :
    (iblk m c 2 t : Vec Ideal S512x1024 .bf16) (ix2 r k) = (m ((c : Thread nD τ).loc main_arg2) : FVec Ideal S16384x1024 .bf16) (ix2 (row t r) k) := by
  unfold iblk
  rw [View.read_apply]
  show V m c main_arg2 _ = m ((c : Thread nD τ).loc main_arg2) _
  rw [V_main_arg2]
  congr 1
  funext a
  apply Fin.ext
  match a with
  | ⟨0, _⟩ => show win0_2.index t 0 * 512 + 1 * r.val = 512 * (t.val / 8) + r.val; rw [(index_2 t).1]; omega
  | ⟨1, _⟩ => show win0_2.index t 1 * 1024 + 1 * k.val = k.val; rw [(index_2 t).2]; omega

theorem read_3 (c : Dev nD) (t : Fin cfg0.N) (r : Fin 512) (k : Fin 1024) :
    (iblk m c 3 t : Vec Ideal S512x1024 .bf16) (ix2 r k) = (m ((c : Thread nD τ).loc main_arg3) : FVec Ideal S16384x1024 .bf16) (ix2 (row t r) k) := by
  unfold iblk
  rw [View.read_apply]
  show V m c main_arg3 _ = m ((c : Thread nD τ).loc main_arg3) _
  rw [V_main_arg3]
  congr 1
  funext a
  apply Fin.ext
  match a with
  | ⟨0, _⟩ => show win0_3.index t 0 * 512 + 1 * r.val = 512 * (t.val / 8) + r.val; rw [(index_3 t).1]; omega
  | ⟨1, _⟩ => show win0_3.index t 1 * 1024 + 1 * k.val = k.val; rw [(index_3 t).2]; omega

/-- The weight as the call receives it: over the reals the cast changes nothing. -/
theorem weight_cast (c : Dev nD) (j : S2x4096x4096.Idx) :
    (V m c main_v0 : FVec Ideal S2x4096x4096 .bf16) j = (m ((c : Thread nD τ).loc main_arg4) : FVec Ideal S2x4096x4096 .f32) j := rfl

theorem read_4 (c : Dev nD) (t : Fin cfg0.N) (k : Fin 4096) (d : Fin 512) :
    (iblk m c 4 t : Vec Ideal S1x4096x512 .bf16) (ix3 0 k d) = (m ((c : Thread nD τ).loc main_arg4) : FVec Ideal S2x4096x4096 .f32) (ix3 0 k (col t d)) := by
  rw [← weight_cast m c]
  unfold iblk
  rw [View.read_apply]
  show V m c main_v0 _ = V m c main_v0 _
  congr 1
  funext a
  apply Fin.ext
  match a with
  | ⟨0, _⟩ => show win0_4.index t 0 * 1 + 1 * 0 = 0; rw [(index_4 t).1]
  | ⟨1, _⟩ => show win0_4.index t 1 * 4096 + 1 * k.val = k.val; rw [(index_4 t).2.1]; omega
  | ⟨2, _⟩ => show win0_4.index t 2 * 512 + 1 * d.val = 512 * (t.val % 8) + d.val; rw [(index_4 t).2.2]; omega

theorem read_5 (c : Dev nD) (t : Fin cfg0.N) (r d : Fin 512) :
    (iblk m c 5 t : Vec Ideal S512x512 .f32) (ix2 r d) = (m ((c : Thread nD τ).loc main_arg5) : FVec Ideal S16384x4096 .f32) (ix2 (row t r) (col t d)) := by
  unfold iblk
  rw [View.read_apply]
  show V m c main_arg5 _ = m ((c : Thread nD τ).loc main_arg5) _
  rw [V_main_arg5]
  congr 1
  funext a
  apply Fin.ext
  match a with
  | ⟨0, _⟩ => show win0_5.index t 0 * 512 + 1 * r.val = 512 * (t.val / 8) + r.val; rw [(index_5 t).1]; omega
  | ⟨1, _⟩ => show win0_5.index t 1 * 512 + 1 * d.val = 512 * (t.val % 8) + d.val; rw [(index_5 t).2]; omega

/-- The modulations as the call receives them: six rows of 4096 for each condition. -/
theorem modulation_rows (c : Dev nD) (i : Fin 16) (q : Fin 6) (d : Fin 4096) :
    (V m c main_v1 : FVec Ideal S16x6x1x4096 .f32) (ix4 i q 0 d)
      = (m ((c : Thread nD τ).loc main_arg6) : FVec Ideal S16x24576 .f32) (ix2 i ⟨4096 * q.val + d.val, by omega⟩) := by
  show shapeCast S16x6x1x4096 (m ((c : Thread nD τ).loc main_arg6) : FVec Ideal S16x24576 .f32) _ _ = _
  exact modulation_cast _ _ i q d

theorem read_6 (c : Dev nD) (t : Fin cfg0.N) (r d : Fin 512) :
    (iblk m c 6 t : Vec Ideal S1x1x1x512 .f32) (ix4 0 0 0 d)
      = (m ((c : Thread nD τ).loc main_arg6) : FVec Ideal S16x24576 .f32) (ix2 (modRow (row t r)) ⟨8192 + (col t d).val, by omega⟩) := by
  have e := modulation_rows m c (modRow (row t r)) 2 (col t d)
  refine Eq.trans ?_ e
  unfold iblk
  rw [View.read_apply]
  show V m c main_v1 _ = V m c main_v1 _
  congr 1
  funext a
  apply Fin.ext
  have := points t
  match a with
  | ⟨0, _⟩ =>
    show win0_6.index t 0 * 1 + 1 * 0 = if 512 * (t.val / 8) + r.val < 8192 then 0 else 1 + (512 * (t.val / 8) + r.val - 8192) / 1024
    rw [(index_6 t).1]; split <;> split <;> omega
  | ⟨1, _⟩ => show win0_6.index t 1 * 1 + 1 * 0 = 2; rw [(index_6 t).2.1]
  | ⟨2, _⟩ => show win0_6.index t 2 * 1 + 1 * 0 = 0; rw [(index_6 t).2.2.1]
  | ⟨3, _⟩ => show win0_6.index t 3 * 512 + 1 * d.val = 512 * (t.val % 8) + d.val; rw [(index_6 t).2.2.2]; omega

/-! ### The result array -/

/-- The result after the run. -/
theorem array_7 (c : Dev nD) : (dats m 0 c).arrAt 7 cfg0.N
    = projectedArray (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_cover 7 _ (fun t _ => ?_) (fun (y : S16384x4096.Idx) => ?_)
  · rw [flushed7]
    have key : ∀ r d : Fin 512, out0_7 (F := Ideal) (iblk m c 0 t) (iblk m c 1 t) (iblk m c 2 t) (iblk m c 3 t) (iblk m c 4 t) (iblk m c 5 t) (iblk m c 6 t) (ix2 r d)
        = projected (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (row t r) (col t d) := by
      intro r d
      rw [out_7]
      simp only [read_0, read_1, read_2, read_3, read_4, read_5, read_6 m c t r d]
      rfl
    have place : ∀ j : S512x512.Idx, ((cfg0.win 7).blk t).view.emb j = ix2 (row t (j 0)) (col t (j 1)) := by
      intro j
      funext a
      apply Fin.ext
      match a with
      | ⟨0, _⟩ => show win0_7.index t 0 * 512 + 1 * (j 0).val = 512 * (t.val / 8) + (j 0).val; rw [(index_7 t).1]; omega
      | ⟨1, _⟩ => show win0_7.index t 1 * 512 + 1 * (j 1).val = 512 * (t.val % 8) + (j 1).val; rw [(index_7 t).2]; omega
    exact funext fun (j : S512x512.Idx) => (congrArg _ (eq_ix2 j)).trans ((key (j 0) (j 1)).trans
      (congrArg (projectedArray (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))) (place j)).symm)
  · have h0 : (y 0).val < 16384 := (y 0).isLt
    have h1 : (y 1).val < 4096 := (y 1).isLt
    obtain ⟨t, ht⟩ : ∃ t : Fin cfg0.N, t.val = (y 0).val / 512 * 8 + (y 1).val / 512 := ⟨⟨_, by show _ < 256; omega⟩, rfl⟩
    refine ⟨t, flush0_7 _, ?_⟩
    show y ∈ ((View.whole main_v2).slice (win0_7.rect t)).set
    rw [View.set_slice_whole, Rect.mem_set_unit]
    intro a
    match a with
    | ⟨0, _⟩ =>
      show win0_7.index t 0 * 512 ≤ (y 0).val ∧ (y 0).val < win0_7.index t 0 * 512 + 512
      rw [(index_7 _).1]; omega
    | ⟨1, _⟩ =>
      show win0_7.index t 1 * 512 ≤ (y 1).val ∧ (y 1).val < win0_7.index t 1 * 512 + 512
      rw [(index_7 _).2]; omega

end Cert.OutProjIdeal.Value

end
-- ==== Proof.Outproj.Ref.lean ====
/-
  The output projection's reference, read off entry by entry: the four mixers' outputs side by side through the weight,
  gated by the token row's modulation and added to the residual.
-/
module

public import proofs.«01_k».proof.Proof.Gen.OutProjRefIdeal.Run
public import proofs.«01_k».proof.Proof.Rows
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutProjRefIdeal.Value

open Cert.OutProjRefIdeal Cert.OutProjRefIdeal.Gen Cert.Layer Facts

variable {F : FTy → Type} [FloatOps F]

/-- The four mixers' outputs side by side. -/
def sideBySide (a0 a1 a2 a3 : FVec F S16384x1024 .bf16) : FVec F S16384x4096 .bf16 :=
  concatenate S16384x4096 1 [⟨S16384x1024, a0⟩, ⟨S16384x1024, a1⟩, ⟨S16384x1024, a2⟩, ⟨S16384x1024, a3⟩] concatenates_S16384x1024_S16384x1024_S16384x1024_S16384x1024_S16384x4096_d1

/-- Their product with the first layer's weight. -/
def mix (a : FVec F S16384x4096 .bf16) (w : FVec F S2x4096x4096 .f32) : FVec F S16384x4096 .f32 :=
  Host.dotGeneral dot_S16384x4096_S4096x4096_S16384x4096_1_0_0_1_n_n none (extf .f32 a bitsLt_bf16_f32) (shapeCast _ (extractStridedSlice S1x4096x4096 ![0, 0, 0] w slices_S2x4096x4096_S1x4096x4096_0_0_0) shapeCasts_S1x4096x4096_S4096x4096)

/-- The prompt pass's token rows: residual plus gated product. -/
def promptRows (y x : FVec F S16384x4096 .f32) (g : FVec F S16x24576 .f32) : FVec F S8192x4096 .f32 :=
  shapeCast _ (addf (shapeCast _ (extractStridedSlice S8192x4096 ![0, 0] x slices_S16384x4096_S8192x4096_0_0) shapeCasts_S8192x4096_S32x256x4096) (mulf (broadcastInDim S32x256x4096 ![0, 1, 2] bcast_S1x1x4096_S32x256x4096_0_1_2 (broadcastInDim S1x1x4096 ![0, 2] bcast_S1x4096_S1x1x4096_0_2 (extractStridedSlice S1x4096 ![0, 0] (extractStridedSlice S16x4096 ![0, 8192] g slices_S16x24576_S16x4096_0_8192) slices_S16x4096_S1x4096_0_0))) (shapeCast _ (extractStridedSlice S8192x4096 ![0, 0] y slices_S16384x4096_S8192x4096_0_0) shapeCasts_S8192x4096_S32x256x4096))) shapeCasts_S32x256x4096_S8192x4096

/-- The sample pass's token rows. -/
def sampleRows (y x : FVec F S16384x4096 .f32) (g : FVec F S16x24576 .f32) : FVec F S8192x4096 .f32 :=
  shapeCast _ (addf (shapeCast _ (extractStridedSlice S8192x4096 ![8192, 0] x slices_S16384x4096_S8192x4096_8192_0) shapeCasts_S8192x4096_S8x1024x4096) (mulf (broadcastInDim S8x1024x4096 ![0, 1, 2] bcast_S8x1x4096_S8x1024x4096_0_1_2 (broadcastInDim S8x1x4096 ![0, 2] bcast_S8x4096_S8x1x4096_0_2 (extractStridedSlice S8x4096 ![1, 0] (extractStridedSlice S16x4096 ![0, 8192] g slices_S16x24576_S16x4096_0_8192) slices_S16x4096_S8x4096_1_0))) (shapeCast _ (extractStridedSlice S8192x4096 ![8192, 0] y slices_S16384x4096_S8192x4096_8192_0) shapeCasts_S8192x4096_S8x1024x4096))) shapeCasts_S8x1024x4096_S8192x4096

/-- Both passes' token rows, the prompt's first. -/
def bothPasses (p s : FVec F S8192x4096 .f32) : FVec F S16384x4096 .f32 :=
  concatenate S16384x4096 0 [⟨S8192x4096, p⟩, ⟨S8192x4096, s⟩] concatenates_S8192x4096_S8192x4096_S16384x4096_d0

/-- The reference's result: the stages composed. -/
def result (a0 a1 a2 a3 : FVec F S16384x1024 .bf16) (w : FVec F S2x4096x4096 .f32) (x : FVec F S16384x4096 .f32) (g : FVec F S16x24576 .f32) : FVec F S16384x4096 .f32 :=
  bothPasses (promptRows (mix (sideBySide a0 a1 a2 a3) w) x g) (sampleRows (mix (sideBySide a0 a1 a2 a3) w) x g)

theorem mix_at (a0 a1 a2 a3 : FVec Ideal S16384x1024 .bf16) (w : FVec Ideal S2x4096x4096 .f32) (r : Fin 16384) (d : Fin 4096) :
    mix (sideBySide a0 a1 a2 a3) w (ix2 r d) = (((∑ k : Fin 1024, a0 (ix2 r k) * w (ix3 0 ⟨0 + k.val, by omega⟩ d))
      + ∑ k : Fin 1024, a1 (ix2 r k) * w (ix3 0 ⟨1024 + k.val, by omega⟩ d))
      + ∑ k : Fin 1024, a2 (ix2 r k) * w (ix3 0 ⟨2048 + k.val, by omega⟩ d))
      + ∑ k : Fin 1024, a3 (ix2 r k) * w (ix3 0 ⟨3072 + k.val, by omega⟩ d) := by
  pointwise [mix, sideBySide, sumSplitAll]
  simp only [show ∀ n : Nat, 1024 + (1024 + n) = 2048 + n from fun n => by omega, show ∀ n : Nat, 1024 + (2048 + n) = 3072 + n from fun n => by omega]
  rw [← add_assoc, ← add_assoc]

theorem promptRows_at (y x : FVec Ideal S16384x4096 .f32) (g : FVec Ideal S16x24576 .f32) (r : Fin 8192) (d : Fin 4096) :
    promptRows y x g (ix2 r d) = x (ix2 ⟨r.val, by omega⟩ d) + g (ix2 0 ⟨8192 + d.val, by omega⟩) * y (ix2 ⟨r.val, by omega⟩ d) := by
  pointwise [promptRows]

theorem sampleRows_at (y x : FVec Ideal S16384x4096 .f32) (g : FVec Ideal S16x24576 .f32) (r : Fin 8192) (d : Fin 4096) :
    sampleRows y x g (ix2 r d) = x (ix2 ⟨8192 + r.val, by omega⟩ d) + g (ix2 ⟨1 + r.val / 1024, by omega⟩ ⟨8192 + d.val, by omega⟩) * y (ix2 ⟨8192 + r.val, by omega⟩ d) := by
  pointwise [sampleRows]

theorem bothPasses_at (p s : FVec Ideal S8192x4096 .f32) (r : Fin 16384) (d : Fin 4096) :
    bothPasses p s (ix2 r d) = if h : r.val < 8192 then p (ix2 ⟨r.val, h⟩ d) else s (ix2 ⟨r.val - 8192, by omega⟩ d) := by
  pointwise [bothPasses]

/-- The reference's run states these stages composed. -/
theorem stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.OutProjRefIdeal.Value

end
-- ==== Proof.Outproj.Value.lean ====
/-
  The output projection's result is the reference's: a product with four arrays side by side is the sum of the products
  with each, which holds for infinite values too.
-/
module

public import proofs.«01_k».proof.Proof.Outproj.Array
public import proofs.«01_k».proof.Proof.Outproj.Ref

@[expose] public section

set_option maxRecDepth 16384

noncomputable section

open Idealize.ShloMosaic Idealize.ShloMosaic.TcCoe Idealize.SL.Sem

namespace Cert.Outproj

open Cert.OutProjIdeal.Value Cert.OutProjRefIdeal.Value Cert.Layer

theorem projected_at (a0 a1 a2 a3 : FVec Ideal Cert.OutProjIdeal.S16384x1024 .bf16) (w : FVec Ideal Cert.OutProjIdeal.S2x4096x4096 .f32)
    (x : FVec Ideal Cert.OutProjIdeal.S16384x4096 .f32) (g : FVec Ideal Cert.OutProjIdeal.S16x24576 .f32) (r : Fin 16384) (d : Fin 4096) :
    result a0 a1 a2 a3 w x g (ix2 r d) = projected a0 a1 a2 a3 w x g r d := by
  unfold result projected
  rw [bothPasses_at]
  have hr := r.isLt
  split
  · rename_i h
    rw [promptRows_at, mix_at, modRow_prompt r h]
  · rename_i h
    have e : (⟨8192 + (r.val - 8192), by omega⟩ : Fin 16384) = r := Fin.ext (by dsimp only; omega)
    have em : (⟨1 + (r.val - 8192) / 1024, by omega⟩ : Fin 16) = modRow r := Fin.ext (modRow_sample r (by omega)).symm
    rw [sampleRows_at]
    dsimp only
    rw [e, em, mix_at]

/-- The reference's result is the kernel's. -/
theorem projected_eq (a0 a1 a2 a3 : FVec Ideal Cert.OutProjIdeal.S16384x1024 .bf16) (w : FVec Ideal Cert.OutProjIdeal.S2x4096x4096 .f32)
    (x : FVec Ideal Cert.OutProjIdeal.S16384x4096 .f32) (g : FVec Ideal Cert.OutProjIdeal.S16x24576 .f32) :
    result a0 a1 a2 a3 w x g = projectedArray a0 a1 a2 a3 w x g :=
  funext fun y => by rw [eq_ix2 y]; exact projected_at a0 a1 a2 a3 w x g _ _

end Cert.Outproj

end
-- ==== Proof.Outproj2.Block.lean ====
/-
  What one grid point of the output projection leaves in its block, entry by entry: the residual plus the gate times the
  products of the four mixers' rows with their quarters of the weight.
-/
module

public import proofs.«01_k».proof.Proof.Gen.OutProj2Ideal.Value
public import Idealize.ShloMosaic.Lib.Pipeline.ValueKit.Tiles
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutProj2Ideal.Value

open Cert.OutProj2Ideal Cert.OutProj2Ideal.Gen

theorem hz : (![0, 0] : Fin 2 → Nat) = fun _ => 0 := funext fun a => by fin_cases a <;> rfl
theorem hz4 : (![0, 0, 0, 0] : Fin 4 → Nat) = fun _ => 0 := funext fun a => by fin_cases a <;> rfl

/-- One grid point's block. -/
theorem out_7 (x0 x1 x2 x3 : Vec Ideal S512x1024 .bf16) (x4 : Vec Ideal S1x4096x512 .bf16) (x5 : Vec Ideal S512x512 .f32) (x6 : Vec Ideal S1x1x1x512 .f32)
    (r d : Fin 512) :
    out0_7 (F := Ideal) x0 x1 x2 x3 x4 x5 x6 (ix2 r d)
      = x5 (ix2 r d) + x6 (ix4 0 0 0 d) * ((((∑ k : Fin 1024, x0 (ix2 r k) * x4 (ix3 0 ⟨0 + k.val, by omega⟩ d))
        + ∑ k : Fin 1024, x1 (ix2 r k) * x4 (ix3 0 ⟨1024 + k.val, by omega⟩ d))
        + ∑ k : Fin 1024, x2 (ix2 r k) * x4 (ix3 0 ⟨2048 + k.val, by omega⟩ d))
        + ∑ k : Fin 1024, x3 (ix2 r k) * x4 (ix3 0 ⟨3072 + k.val, by omega⟩ d)) := by
  unfold out0_7
  rw [View.canon_unit_zero hz]
  simp only [View.ld_unit_zero (S := S512x1024) hz, View.ld_unit_zero (S := S512x512) hz, View.ld_unit_zero (S := S1x1x1x512) hz4]
  pointwise [k0_pay1]

end Cert.OutProj2Ideal.Value

end
-- ==== Proof.Outproj2.Array.lean ====
/-
  The output projection's result array as a function of its arguments: every grid point reads 512 token rows and 512
  columns, and the blocks it writes tile the result.
-/
module

public import proofs.«01_k».proof.Proof.Outproj2.Block
public import proofs.«01_k».proof.Proof.Rows

@[expose] public section

set_option maxRecDepth 16384

noncomputable section

open Idealize.ShloMosaic Idealize.ShloMosaic.TcCoe Idealize.SL.Sem

namespace Cert.OutProj2Ideal.Value

open Cert.OutProj2Ideal Cert.OutProj2Ideal.Gen Cert.Layer

/-- The residual stream after the output projection at token row `r`, column `d`, in the kernel's order of operations. -/
def projected (a0 a1 a2 a3 : FVec Ideal S16384x1024 .bf16) (w : FVec Ideal S2x4096x4096 .f32) (x : FVec Ideal S16384x4096 .f32)
    (g : FVec Ideal S16x24576 .f32) (r : Fin 16384) (d : Fin 4096) : EReal :=
  x (ix2 r d) + g (ix2 (modRow r) ⟨8192 + d.val, by omega⟩) * ((((∑ k : Fin 1024, a0 (ix2 r k) * w (ix3 1 ⟨0 + k.val, by omega⟩ d))
    + ∑ k : Fin 1024, a1 (ix2 r k) * w (ix3 1 ⟨1024 + k.val, by omega⟩ d))
    + ∑ k : Fin 1024, a2 (ix2 r k) * w (ix3 1 ⟨2048 + k.val, by omega⟩ d))
    + ∑ k : Fin 1024, a3 (ix2 r k) * w (ix3 1 ⟨3072 + k.val, by omega⟩ d))

/-- The whole result. -/
def projectedArray (a0 a1 a2 a3 : FVec Ideal S16384x1024 .bf16) (w : FVec Ideal S2x4096x4096 .f32) (x : FVec Ideal S16384x4096 .f32)
    (g : FVec Ideal S16x24576 .f32) (y : S16384x4096.Idx) : EReal := projected a0 a1 a2 a3 w x g (y 0) (y 1)

/-! ### Which blocks a grid point reads and writes -/

theorem points (t : Fin cfg0.N) : t.val < 256 := t.isLt

/-- The modulation row the gate's window reads at grid point `t`. -/
def gateRow (t : Fin cfg0.N) : Fin 16 :=
  ⟨if t.val / 8 < 16 then 0 else 1 + (t.val / 8 - 16) / 2, by have := points t; split <;> omega⟩

theorem index_0 : ∀ t : Fin grid0.N, win0_0.index t 0 = t.val / 8 ∧ win0_0.index t 1 = 0 := by decide +kernel
theorem index_1 : ∀ t : Fin grid0.N, win0_1.index t 0 = t.val / 8 ∧ win0_1.index t 1 = 0 := by decide +kernel
theorem index_2 : ∀ t : Fin grid0.N, win0_2.index t 0 = t.val / 8 ∧ win0_2.index t 1 = 0 := by decide +kernel
theorem index_3 : ∀ t : Fin grid0.N, win0_3.index t 0 = t.val / 8 ∧ win0_3.index t 1 = 0 := by decide +kernel
theorem index_4 : ∀ t : Fin grid0.N, win0_4.index t 0 = 1 ∧ win0_4.index t 1 = 0 ∧ win0_4.index t 2 = t.val % 8 := by decide +kernel
theorem index_5 : ∀ t : Fin grid0.N, win0_5.index t 0 = t.val / 8 ∧ win0_5.index t 1 = t.val % 8 := by decide +kernel
theorem index_6 : ∀ t : Fin grid0.N, win0_6.index t 0 = (if t.val / 8 < 16 then 0 else 1 + (t.val / 8 - 16) / 2)
      ∧ win0_6.index t 1 = 2 ∧ win0_6.index t 2 = 0 ∧ win0_6.index t 3 = t.val % 8 := by decide +kernel
theorem index_7 : ∀ t : Fin grid0.N, win0_7.index t 0 = t.val / 8 ∧ win0_7.index t 1 = t.val % 8 := by decide +kernel

/-- The token row and the column of an entry of grid point `t`'s block. -/
def row (t : Fin cfg0.N) (r : Fin 512) : Fin 16384 := ⟨512 * (t.val / 8) + r.val, by have := points t; omega⟩
def col (t : Fin cfg0.N) (d : Fin 512) : Fin 4096 := ⟨512 * (t.val % 8) + d.val, by omega⟩

variable (m : (ℓ : Loc nD τ sig) → Buf (Elt Ideal) ℓ) (ρ : Dev nD → PrngReg)

theorem read_0 (c : Dev nD) (t : Fin cfg0.N) (r : Fin 512) (k : Fin 1024) :
    (iblk m c 0 t : Vec Ideal S512x1024 .bf16) (ix2 r k) = (m ((c : Thread nD τ).loc main_arg0) : FVec Ideal S16384x1024 .bf16) (ix2 (row t r) k) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * r.val = 512 * (t.val / 8) + r.val; rw [(index_0 t).1]; omega
  | ⟨1, _⟩ => show win0_0.index t 1 * 1024 + 1 * k.val = k.val; rw [(index_0 t).2]; omega

theorem read_1 (c : Dev nD) (t : Fin cfg0.N) (r : Fin 512) (k : Fin 1024) :
    (iblk m c 1 t : Vec Ideal S512x1024 .bf16) (ix2 r k) = (m ((c : Thread nD τ).loc main_arg1) : FVec Ideal S16384x1024 .bf16) (ix2 (row t r) k) := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 512 + 1 * r.val = 512 * (t.val / 8) + r.val; rw [(index_1 t).1]; omega
  | ⟨1, _⟩ => show win0_1.index t 1 * 1024 + 1 * k.val = k.val; rw [(index_1 t).2]; omega

theorem read_2 (c : Dev nD) (t : Fin cfg0.N) (r : Fin 512) (k : Fin 1024) :
    (iblk m c 2 t : Vec Ideal S512x1024 .bf16) (ix2 r k) = (m ((c : Thread nD τ).loc main_arg2) : FVec Ideal S16384x1024 .bf16) (ix2 (row t r) k) := by
  unfold iblk
  rw [View.read_apply]
  show V m c main_arg2 _ = m ((c : Thread nD τ).loc main_arg2) _
  rw [V_main_arg2]
  congr 1
  funext a
  apply Fin.ext
  match a with
  | ⟨0, _⟩ => show win0_2.index t 0 * 512 + 1 * r.val = 512 * (t.val / 8) + r.val; rw [(index_2 t).1]; omega
  | ⟨1, _⟩ => show win0_2.index t 1 * 1024 + 1 * k.val = k.val; rw [(index_2 t).2]; omega

theorem read_3 (c : Dev nD) (t : Fin cfg0.N) (r : Fin 512) (k : Fin 1024) :
    (iblk m c 3 t : Vec Ideal S512x1024 .bf16) (ix2 r k) = (m ((c : Thread nD τ).loc main_arg3) : FVec Ideal S16384x1024 .bf16) (ix2 (row t r) k) := by
  unfold iblk
  rw [View.read_apply]
  show V m c main_arg3 _ = m ((c : Thread nD τ).loc main_arg3) _
  rw [V_main_arg3]
  congr 1
  funext a
  apply Fin.ext
  match a with
  | ⟨0, _⟩ => show win0_3.index t 0 * 512 + 1 * r.val = 512 * (t.val / 8) + r.val; rw [(index_3 t).1]; omega
  | ⟨1, _⟩ => show win0_3.index t 1 * 1024 + 1 * k.val = k.val; rw [(index_3 t).2]; omega

/-- The weight as the call receives it: over the reals the cast changes nothing. -/
theorem weight_cast (c : Dev nD) (j : S2x4096x4096.Idx) :
    (V m c main_v0 : FVec Ideal S2x4096x4096 .bf16) j = (m ((c : Thread nD τ).loc main_arg4) : FVec Ideal S2x4096x4096 .f32) j := rfl

theorem read_4 (c : Dev nD) (t : Fin cfg0.N) (k : Fin 4096) (d : Fin 512) :
    (iblk m c 4 t : Vec Ideal S1x4096x512 .bf16) (ix3 0 k d) = (m ((c : Thread nD τ).loc main_arg4) : FVec Ideal S2x4096x4096 .f32) (ix3 1 k (col t d)) := by
  rw [← weight_cast m c]
  unfold iblk
  rw [View.read_apply]
  show V m c main_v0 _ = V m c main_v0 _
  congr 1
  funext a
  apply Fin.ext
  match a with
  | ⟨0, _⟩ => show win0_4.index t 0 * 1 + 1 * 0 = 1; rw [(index_4 t).1]
  | ⟨1, _⟩ => show win0_4.index t 1 * 4096 + 1 * k.val = k.val; rw [(index_4 t).2.1]; omega
  | ⟨2, _⟩ => show win0_4.index t 2 * 512 + 1 * d.val = 512 * (t.val % 8) + d.val; rw [(index_4 t).2.2]; omega

theorem read_5 (c : Dev nD) (t : Fin cfg0.N) (r d : Fin 512) :
    (iblk m c 5 t : Vec Ideal S512x512 .f32) (ix2 r d) = (m ((c : Thread nD τ).loc main_arg5) : FVec Ideal S16384x4096 .f32) (ix2 (row t r) (col t d)) := by
  unfold iblk
  rw [View.read_apply]
  show V m c main_arg5 _ = m ((c : Thread nD τ).loc main_arg5) _
  rw [V_main_arg5]
  congr 1
  funext a
  apply Fin.ext
  match a with
  | ⟨0, _⟩ => show win0_5.index t 0 * 512 + 1 * r.val = 512 * (t.val / 8) + r.val; rw [(index_5 t).1]; omega
  | ⟨1, _⟩ => show win0_5.index t 1 * 512 + 1 * d.val = 512 * (t.val % 8) + d.val; rw [(index_5 t).2]; omega

/-- The modulations as the call receives them: six rows of 4096 for each condition. -/
theorem modulation_rows (c : Dev nD) (i : Fin 16) (q : Fin 6) (d : Fin 4096) :
    (V m c main_v1 : FVec Ideal S16x6x1x4096 .f32) (ix4 i q 0 d)
      = (m ((c : Thread nD τ).loc main_arg6) : FVec Ideal S16x24576 .f32) (ix2 i ⟨4096 * q.val + d.val, by omega⟩) := by
  show shapeCast S16x6x1x4096 (m ((c : Thread nD τ).loc main_arg6) : FVec Ideal S16x24576 .f32) _ _ = _
  exact modulation_cast _ _ i q d

theorem read_6 (c : Dev nD) (t : Fin cfg0.N) (r d : Fin 512) :
    (iblk m c 6 t : Vec Ideal S1x1x1x512 .f32) (ix4 0 0 0 d)
      = (m ((c : Thread nD τ).loc main_arg6) : FVec Ideal S16x24576 .f32) (ix2 (modRow (row t r)) ⟨8192 + (col t d).val, by omega⟩) := by
  have e := modulation_rows m c (modRow (row t r)) 2 (col t d)
  refine Eq.trans ?_ e
  unfold iblk
  rw [View.read_apply]
  show V m c main_v1 _ = V m c main_v1 _
  congr 1
  funext a
  apply Fin.ext
  have := points t
  match a with
  | ⟨0, _⟩ =>
    show win0_6.index t 0 * 1 + 1 * 0 = if 512 * (t.val / 8) + r.val < 8192 then 0 else 1 + (512 * (t.val / 8) + r.val - 8192) / 1024
    rw [(index_6 t).1]; split <;> split <;> omega
  | ⟨1, _⟩ => show win0_6.index t 1 * 1 + 1 * 0 = 2; rw [(index_6 t).2.1]
  | ⟨2, _⟩ => show win0_6.index t 2 * 1 + 1 * 0 = 0; rw [(index_6 t).2.2.1]
  | ⟨3, _⟩ => show win0_6.index t 3 * 512 + 1 * d.val = 512 * (t.val % 8) + d.val; rw [(index_6 t).2.2.2]; omega

/-! ### The result array -/

/-- The result after the run. -/
theorem array_7 (c : Dev nD) : (dats m 0 c).arrAt 7 cfg0.N
    = projectedArray (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_cover 7 _ (fun t _ => ?_) (fun (y : S16384x4096.Idx) => ?_)
  · rw [flushed7]
    have key : ∀ r d : Fin 512, out0_7 (F := Ideal) (iblk m c 0 t) (iblk m c 1 t) (iblk m c 2 t) (iblk m c 3 t) (iblk m c 4 t) (iblk m c 5 t) (iblk m c 6 t) (ix2 r d)
        = projected (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (row t r) (col t d) := by
      intro r d
      rw [out_7]
      simp only [read_0, read_1, read_2, read_3, read_4, read_5, read_6 m c t r d]
      rfl
    have place : ∀ j : S512x512.Idx, ((cfg0.win 7).blk t).view.emb j = ix2 (row t (j 0)) (col t (j 1)) := by
      intro j
      funext a
      apply Fin.ext
      match a with
      | ⟨0, _⟩ => show win0_7.index t 0 * 512 + 1 * (j 0).val = 512 * (t.val / 8) + (j 0).val; rw [(index_7 t).1]; omega
      | ⟨1, _⟩ => show win0_7.index t 1 * 512 + 1 * (j 1).val = 512 * (t.val % 8) + (j 1).val; rw [(index_7 t).2]; omega
    exact funext fun (j : S512x512.Idx) => (congrArg _ (eq_ix2 j)).trans ((key (j 0) (j 1)).trans
      (congrArg (projectedArray (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))) (place j)).symm)
  · have h0 : (y 0).val < 16384 := (y 0).isLt
    have h1 : (y 1).val < 4096 := (y 1).isLt
    obtain ⟨t, ht⟩ : ∃ t : Fin cfg0.N, t.val = (y 0).val / 512 * 8 + (y 1).val / 512 := ⟨⟨_, by show _ < 256; omega⟩, rfl⟩
    refine ⟨t, flush0_7 _, ?_⟩
    show y ∈ ((View.whole main_v2).slice (win0_7.rect t)).set
    rw [View.set_slice_whole, Rect.mem_set_unit]
    intro a
    match a with
    | ⟨0, _⟩ =>
      show win0_7.index t 0 * 512 ≤ (y 0).val ∧ (y 0).val < win0_7.index t 0 * 512 + 512
      rw [(index_7 _).1]; omega
    | ⟨1, _⟩ =>
      show win0_7.index t 1 * 512 ≤ (y 1).val ∧ (y 1).val < win0_7.index t 1 * 512 + 512
      rw [(index_7 _).2]; omega

end Cert.OutProj2Ideal.Value

end
-- ==== Proof.Outproj2.Ref.lean ====
/-
  The second layer's output projection's reference: the first layer's stages around the product with the second layer's
  weight.
-/
module

public import proofs.«01_k».proof.Proof.Gen.OutProj2RefIdeal.Run
public import proofs.«01_k».proof.Proof.Outproj.Ref
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Outproj2

open Cert.OutProjRefIdeal Cert.OutProjRefIdeal.Gen Cert.OutProjRefIdeal.Value Cert.Layer Cert.OutProjRefIdeal.Facts
open Cert.OutProj2RefIdeal.Facts₀ (slices_S2x4096x4096_S1x4096x4096_1_0_0)

variable {F : FTy → Type} [FloatOps F]

/-- The four mixers' outputs' product with the second layer's weight. -/
def mix (a : FVec F S16384x4096 .bf16) (w : FVec F S2x4096x4096 .f32) : FVec F S16384x4096 .f32 :=
  Host.dotGeneral dot_S16384x4096_S4096x4096_S16384x4096_1_0_0_1_n_n none (extf .f32 a bitsLt_bf16_f32) (shapeCast _ (extractStridedSlice S1x4096x4096 ![1, 0, 0] w slices_S2x4096x4096_S1x4096x4096_1_0_0) shapeCasts_S1x4096x4096_S4096x4096)

/-- The reference's result: the stages composed. -/
def result (a0 a1 a2 a3 : FVec F S16384x1024 .bf16) (w : FVec F S2x4096x4096 .f32) (x : FVec F S16384x4096 .f32) (g : FVec F S16x24576 .f32) : FVec F S16384x4096 .f32 :=
  bothPasses (promptRows (mix (sideBySide a0 a1 a2 a3) w) x g) (sampleRows (mix (sideBySide a0 a1 a2 a3) w) x g)

theorem mix_at (a0 a1 a2 a3 : FVec Ideal S16384x1024 .bf16) (w : FVec Ideal S2x4096x4096 .f32) (r : Fin 16384) (d : Fin 4096) :
    mix (sideBySide a0 a1 a2 a3) w (ix2 r d) = (((∑ k : Fin 1024, a0 (ix2 r k) * w (ix3 1 ⟨0 + k.val, by omega⟩ d))
      + ∑ k : Fin 1024, a1 (ix2 r k) * w (ix3 1 ⟨1024 + k.val, by omega⟩ d))
      + ∑ k : Fin 1024, a2 (ix2 r k) * w (ix3 1 ⟨2048 + k.val, by omega⟩ d))
      + ∑ k : Fin 1024, a3 (ix2 r k) * w (ix3 1 ⟨3072 + k.val, by omega⟩ d) := by
  pointwise [mix, sideBySide, sumSplitAll]
  simp only [show ∀ n : Nat, 1024 + (1024 + n) = 2048 + n from fun n => by omega, show ∀ n : Nat, 1024 + (2048 + n) = 3072 + n from fun n => by omega]
  rw [← add_assoc, ← add_assoc]

end Cert.Outproj2

namespace Cert.OutProj2RefIdeal.Value

open Cert.OutProj2RefIdeal Cert.OutProj2RefIdeal.Gen
open Cert.Outproj2 (result)

variable {F : FTy → Type} [FloatOps F]

/-- The reference's run states these stages composed. -/
theorem stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.OutProj2RefIdeal.Value

end
-- ==== Proof.Outproj2.Value.lean ====
/-
  The output projection's result is the reference's: a product with four arrays side by side is the sum of the products
  with each, which holds for infinite values too.
-/
module

public import proofs.«01_k».proof.Proof.Outproj2.Array
public import proofs.«01_k».proof.Proof.Outproj2.Ref

@[expose] public section

set_option maxRecDepth 16384

noncomputable section

open Idealize.ShloMosaic Idealize.ShloMosaic.TcCoe Idealize.SL.Sem

namespace Cert.Outproj2

open Cert.OutProj2Ideal.Value Cert.Layer
open Cert.OutProjRefIdeal.Value (bothPasses_at promptRows_at sampleRows_at)

theorem projected_at (a0 a1 a2 a3 : FVec Ideal Cert.OutProj2Ideal.S16384x1024 .bf16) (w : FVec Ideal Cert.OutProj2Ideal.S2x4096x4096 .f32)
    (x : FVec Ideal Cert.OutProj2Ideal.S16384x4096 .f32) (g : FVec Ideal Cert.OutProj2Ideal.S16x24576 .f32) (r : Fin 16384) (d : Fin 4096) :
    result a0 a1 a2 a3 w x g (ix2 r d) = projected a0 a1 a2 a3 w x g r d := by
  unfold result projected
  rw [bothPasses_at]
  have hr := r.isLt
  split
  · rename_i h
    rw [promptRows_at, mix_at, modRow_prompt r h]
  · rename_i h
    have e : (⟨8192 + (r.val - 8192), by omega⟩ : Fin 16384) = r := Fin.ext (by dsimp only; omega)
    have em : (⟨1 + (r.val - 8192) / 1024, by omega⟩ : Fin 16) = modRow r := Fin.ext (modRow_sample r (by omega)).symm
    rw [sampleRows_at]
    dsimp only
    rw [e, em, mix_at]

/-- The reference's result is the kernel's. -/
theorem projected_eq (a0 a1 a2 a3 : FVec Ideal Cert.OutProj2Ideal.S16384x1024 .bf16) (w : FVec Ideal Cert.OutProj2Ideal.S2x4096x4096 .f32)
    (x : FVec Ideal Cert.OutProj2Ideal.S16384x4096 .f32) (g : FVec Ideal Cert.OutProj2Ideal.S16x24576 .f32) :
    result a0 a1 a2 a3 w x g = projectedArray a0 a1 a2 a3 w x g :=
  funext fun y => by rw [eq_ix2 y]; exact projected_at a0 a1 a2 a3 w x g _ _

end Cert.Outproj2

end
-- ==== Proof.Moe.Plan.lean ====
/-
  The schedule of the expert products as natural numbers. The experts' tiles follow one another; a grid point takes the
  tiles of one expert and one column block in a row, then the next column block, then the next expert; the points that are
  left write the row blocks that no expert owns.
-/
module

public import Idealize.ShloMosaic.Lib.Routing.Ops

@[expose] public section

namespace Cert.Layer.Plan

/-- `a e` tiles for expert `e`, from tile `s e` up to tile `t e`, one expert after the other, at least one tile in all
    and at most 160. -/
structure Tiling (a s t : ℕ → ℕ) : Prop where
  zero : s 0 = 0
  stop : ∀ e, e < 32 → t e = s e + a e
  next : ∀ e, e < 31 → s (e + 1) = t e
  one : 1 ≤ t 31
  top : t 31 ≤ 160

variable (a s t : ℕ → ℕ)

/-- The step of a grid point: the point itself, or the last one with work. -/
def st (n : ℕ) : ℕ := min n (4 * t 31 - 1)
/-- The number of experts whose tiles all lie before the step. -/
def before (n : ℕ) : ℕ := Nat.count (fun e => 4 * t e ≤ st t n) 32
def ex (n : ℕ) : ℕ := min (before t n) 31
/-- The step counted from its expert's first. -/
def wi (n : ℕ) : ℕ := st t n - 4 * s (ex t n)
def de (n : ℕ) : ℕ := max (a (ex t n)) 1
/-- The column block, the row block within the expert, the row block. -/
def co (n : ℕ) : ℕ := wi s t n / de a t n
def ri (n : ℕ) : ℕ := wi s t n - co a s t n * de a t n
def ti (n : ℕ) : ℕ := s (ex t n) + ri a s t n
/-- What a grid point writes, and its flag. -/
def oR (n : ℕ) : ℕ := if n < 4 * t 31 then ti a s t n else t 31 + (n - 4 * t 31) / 4
def oC (n : ℕ) : ℕ := if n < 4 * t 31 then co a s t n else (n - 4 * t 31) % 4
def fl (n : ℕ) : ℕ := if n < 4 * t 31 then 1 + 2 * (if ri a s t n = 0 then 1 else 0) else 4

/-- Where a property goes down, its count says where it ends. -/
theorem lt_count (P : ℕ → Prop) [DecidablePred P] : ∀ N, (∀ i j, i ≤ j → j < N → P j → P i) → ∀ e, e < N → (e < Nat.count P N ↔ P e)
  | 0, _, e, he => absurd he (Nat.not_lt_zero e)
  | N + 1, h, e, he => by
    have ih := lt_count P N (fun i j hij hj => h i j hij (by omega))
    rw [Nat.count_succ]
    by_cases hN : P N
    · rw [if_pos hN]
      have hall : Nat.count P N = N := by
        rcases Nat.eq_zero_or_pos N with h0 | h0
        · subst h0; rfl
        · have := (ih (N - 1) (by omega)).2 (h (N - 1) N (by omega) (by omega) hN)
          have := Nat.count_le (p := P) (n := N)
          omega
      rw [hall]
      exact ⟨fun _ => h e N (by omega) (by omega) hN, fun _ => he⟩
    · rw [if_neg hN, Nat.add_zero]
      rcases Nat.lt_or_ge e N with hlt | hge
      · exact ih e hlt
      · obtain rfl : e = N := by omega
        have := Nat.count_le (p := P) (n := e)
        exact ⟨fun h' => absurd h' (by omega), fun h' => absurd h' hN⟩

variable {a s t}
variable (h : Tiling a s t)
include h

theorem Tiling.step_le {e : ℕ} (he : e < 31) : t e ≤ t (e + 1) := by
  have := h.stop (e + 1) (by omega); have := h.next e he; omega

theorem Tiling.mono {i j : ℕ} (hij : i ≤ j) (hj : j < 32) : t i ≤ t j := by
  induction j with
  | zero => obtain rfl : i = 0 := by omega
            exact le_rfl
  | succ j ih =>
    rcases Nat.lt_or_ge i (j + 1) with hl | hl
    · exact (ih (by omega) (by omega)).trans (h.step_le (by omega))
    · obtain rfl : i = j + 1 := by omega
      exact le_rfl

theorem Tiling.le_top {e : ℕ} (he : e < 32) : t e ≤ t 31 := h.mono (by omega) (by omega)

theorem Tiling.start_le {i j : ℕ} (hij : i < j) (hj : j < 32) : t i ≤ s j := by
  obtain ⟨k, rfl⟩ : ∃ k, j = k + 1 := ⟨j - 1, by omega⟩
  rw [h.next k (by omega)]
  exact h.mono (by omega) (by omega)

theorem st_lt (n : ℕ) : st t n < 4 * t 31 := by
  have := h.one; unfold st; omega

/-- The expert of a step is the one whose tiles hold it. -/
theorem ex_spec (n : ℕ) : ex t n < 32 ∧ 4 * s (ex t n) ≤ st t n ∧ st t n < 4 * t (ex t n) := by
  have hb := lt_count (fun e => 4 * t e ≤ st t n) 32 (fun i j hij hj hp => le_trans (Nat.mul_le_mul_left 4 (h.mono hij hj)) hp)
  have hc : before t n ≤ 31 := by
    by_contra hcon
    have h31 := (hb 31 (by omega)).1 (by unfold before at hcon; omega)
    have := st_lt h n
    omega
  have he : ex t n = before t n := by unfold ex; omega
  rw [he]
  refine ⟨by omega, ?_, ?_⟩
  · rcases Nat.eq_zero_or_pos (before t n) with h0 | h0
    · rw [h0, h.zero]; omega
    · obtain ⟨k, hk⟩ : ∃ k, before t n = k + 1 := ⟨before t n - 1, by omega⟩
      rw [hk, h.next k (by omega)]
      exact (hb k (by omega)).1 (by unfold before at hk; omega)
  · by_contra hcon
    have := (hb (before t n) (by omega)).2 (by omega)
    exact absurd this (by unfold before; omega)

/-- No two experts hold one tile. -/
theorem owner_unique {e e' x : ℕ} (he : e < 32) (he' : e' < 32) (h1 : s e ≤ x) (h2 : x < t e) (h1' : s e' ≤ x) (h2' : x < t e') : e = e' := by
  rcases Nat.lt_trichotomy e e' with hl | hl | hl
  · have := h.start_le hl he'; omega
  · exact hl
  · have := h.start_le hl he; omega

theorem ex_eq {n e : ℕ} (he : e < 32) (h1 : 4 * s e ≤ st t n) (h2 : st t n < 4 * t e) : ex t n = e := by
  obtain ⟨g0, g1, g2⟩ := ex_spec h n
  exact owner_unique h (x := st t n / 4) g0 he (by omega) (by omega) (by omega) (by omega)

theorem de_eq (n : ℕ) : de a t n = a (ex t n) ∧ 1 ≤ a (ex t n) := by
  obtain ⟨g0, g1, g2⟩ := ex_spec h n
  have := h.stop _ g0
  have h1 : 1 ≤ a (ex t n) := by omega
  exact ⟨by unfold de; omega, h1⟩

theorem wi_lt (n : ℕ) : wi s t n < 4 * a (ex t n) := by
  obtain ⟨g0, g1, g2⟩ := ex_spec h n
  have := h.stop _ g0
  unfold wi; omega

theorem co_lt (n : ℕ) : co a s t n < 4 := by
  obtain ⟨hd, h1⟩ := de_eq h n
  unfold co
  rw [hd]
  exact Nat.div_lt_of_lt_mul (by rw [Nat.mul_comm]; exact wi_lt h n)

theorem wi_split (n : ℕ) : wi s t n = co a s t n * a (ex t n) + ri a s t n := by
  obtain ⟨hd, h1⟩ := de_eq h n
  have := Nat.div_mul_le_self (wi s t n) (a (ex t n))
  unfold ri co
  rw [hd]; omega

theorem ri_eq (n : ℕ) : ri a s t n = wi s t n % a (ex t n) := by
  obtain ⟨hd, h1⟩ := de_eq h n
  have e := Nat.div_add_mod (wi s t n) (a (ex t n))
  have e' := Nat.mul_comm (a (ex t n)) (wi s t n / a (ex t n))
  unfold ri co
  rw [hd]; omega

theorem ri_lt (n : ℕ) : ri a s t n < a (ex t n) := by
  rw [ri_eq h]; exact Nat.mod_lt _ (de_eq h n).2

/-- A step's tile is one of its expert's. -/
theorem ti_owned (n : ℕ) : s (ex t n) ≤ ti a s t n ∧ ti a s t n < t (ex t n) := by
  have := ri_lt h n
  have := h.stop _ (ex_spec h n).1
  unfold ti; omega

theorem ti_lt (n : ℕ) : ti a s t n < t 31 := (ti_owned h n).2.trans_le (h.le_top (ex_spec h n).1)

theorem oR_lt {n : ℕ} (hn : n < 640) : oR a s t n < 160 := by
  have := ti_lt h n; have := h.top
  unfold oR; split <;> omega

theorem oC_lt (n : ℕ) : oC a s t n < 4 := by
  have := co_lt h n
  unfold oC; split <;> omega

theorem fl_zero : fl a s t 0 = 3 := by
  have h1 := h.one
  have : wi s t 0 = 0 := by unfold wi st; omega
  have : ri a s t 0 = 0 := by rw [ri_eq h, this, Nat.zero_mod]
  unfold fl; rw [if_pos (by omega), if_pos this]

theorem fl_cases (n : ℕ) : fl a s t n = 4 ∨ fl a s t n = 3 ∨ fl a s t n = 1 := by
  unfold fl; split
  · split <;> omega
  · omega

theorem fl_work {n : ℕ} : fl a s t n ≠ 4 ↔ n < 4 * t 31 := by
  unfold fl; split
  · split <;> omega
  · omega

/-- Where the weights are at hand, the point before took the same block of them. -/
theorem fl_one {n : ℕ} (hf : fl a s t (n + 1) = 1) : n + 1 < 4 * t 31 ∧ ex t n = ex t (n + 1) ∧ co a s t n = co a s t (n + 1) := by
  have hw : n + 1 < 4 * t 31 := (fl_work h).1 (by omega)
  have hr : ri a s t (n + 1) ≠ 0 := by
    intro h0
    unfold fl at hf
    rw [if_pos hw, if_pos h0] at hf
    omega
  obtain ⟨g0, g1, g2⟩ := ex_spec h (n + 1)
  have hs1 : st t (n + 1) = n + 1 := by unfold st; omega
  have hs0 : st t n = n := by unfold st; omega
  have hsp := wi_split h (n + 1)
  have hrl := ri_lt h (n + 1)
  have hwi1 : wi s t (n + 1) = n + 1 - 4 * s (ex t (n + 1)) := by unfold wi; rw [hs1]
  have hpos : 1 ≤ wi s t (n + 1) := by omega
  have hex : ex t n = ex t (n + 1) := ex_eq h g0 (by omega) (by omega)
  refine ⟨hw, hex, ?_⟩
  have hwi0 : wi s t n = co a s t (n + 1) * a (ex t (n + 1)) + (ri a s t (n + 1) - 1) := by
    have : wi s t n = n - 4 * s (ex t (n + 1)) := by unfold wi; rw [hs0, hex]
    omega
  have hd := (de_eq h n).1
  show wi s t n / de a t n = _
  rw [hd, hex, hwi0, Nat.mul_comm, Nat.mul_add_div (de_eq h (n + 1)).2, Nat.div_eq_of_lt (by omega), Nat.add_zero]

/-- Every block is written by some point. -/
theorem written {R C : ℕ} (hR : R < 160) (hC : C < 4) : ∃ n, n < 640 ∧ oR a s t n = R ∧ oC a s t n = C := by
  have htop := h.top
  rcases Nat.lt_or_ge R (t 31) with hl | hl
  · obtain ⟨g0, g1, g2⟩ := ex_spec h (4 * R)
    have hst : st t (4 * R) = 4 * R := by unfold st; omega
    rw [hst] at g1 g2
    generalize ex t (4 * R) = e at g0 g1 g2
    have hstop := h.stop e g0
    have hle := h.le_top g0
    have hx : C * a e + (R - s e) < 4 * a e := by
      have : C * a e ≤ 3 * a e := Nat.mul_le_mul_right _ (by omega)
      omega
    have hs : st t (4 * s e + (C * a e + (R - s e))) = 4 * s e + (C * a e + (R - s e)) := by unfold st; omega
    have hex : ex t (4 * s e + (C * a e + (R - s e))) = e := ex_eq h g0 (by omega) (by omega)
    have hwi : wi s t (4 * s e + (C * a e + (R - s e))) = C * a e + (R - s e) := by unfold wi; rw [hs, hex]; omega
    have hco : co a s t (4 * s e + (C * a e + (R - s e))) = C := by
      unfold co
      rw [(de_eq h _).1, hex, hwi, Nat.mul_comm, Nat.mul_add_div (by omega), Nat.div_eq_of_lt (by omega), Nat.add_zero]
    have hri : ri a s t (4 * s e + (C * a e + (R - s e))) = R - s e := by
      have := wi_split h (4 * s e + (C * a e + (R - s e)))
      rw [hwi, hco, hex] at this
      omega
    have hlt : 4 * s e + (C * a e + (R - s e)) < 4 * t 31 := by omega
    refine ⟨4 * s e + (C * a e + (R - s e)), by omega, ?_, ?_⟩
    · unfold oR ti
      rw [if_pos hlt, hri, hex]; omega
    · unfold oC
      rw [if_pos hlt, hco]
  · refine ⟨4 * t 31 + (4 * (R - t 31) + C), by omega, ?_, ?_⟩
    · unfold oR; rw [if_neg (by omega)]; omega
    · unfold oC; rw [if_neg (by omega)]; omega

/-- No block is written twice: there are as many points as blocks. -/
theorem written_once {n n' : ℕ} (hn : n < 640) (hn' : n' < 640) (hR : oR a s t n = oR a s t n') (hC : oC a s t n = oC a s t n') : n = n' := by
  let f : Fin 640 → Fin 160 × Fin 4 := fun i => (⟨oR a s t i.val, oR_lt h i.isLt⟩, ⟨oC a s t i.val, oC_lt h i.val⟩)
  have hf : Function.Surjective f := by
    rintro ⟨⟨R, hR⟩, ⟨C, hC⟩⟩
    obtain ⟨n, hn, e1, e2⟩ := written h hR hC
    exact ⟨⟨n, hn⟩, Prod.ext (Fin.ext e1) (Fin.ext e2)⟩
  have hb : Function.Bijective f := (Fintype.bijective_iff_surjective_and_card f).2 ⟨hf, by simp⟩
  have := hb.1 (a₁ := ⟨n, hn⟩) (a₂ := ⟨n', hn'⟩) (Prod.ext (Fin.ext hR) (Fin.ext hC))
  exact congrArg Fin.val this

end Cert.Layer.Plan
-- ==== Proof.Moe.Stages.lean ====
/-
  The schedule of the expert products as arrays of words: what the host computes from the number of tiles of each expert,
  the first tile of each and the tile after its last, for every one of the 640 grid points.
-/
module

public import Idealize.ShloMosaic.Lib.Routing.Ops
public import Idealize.ShloMosaic.Lib.Routing.OpsSearch
public import Idealize.ShloMosaic.Lib.WordCmp

@[expose] public section

set_option maxRecDepth 16384

noncomputable section

namespace Cert.Layer.Schedule

open Idealize.ShloMosaic

abbrev Sc : Shape := ⟨0, ![]⟩
abbrev One : Shape := ⟨1, ![1]⟩
abbrev Experts : Shape := ⟨1, ![32]⟩
abbrev Points : Shape := ⟨1, ![640]⟩
abbrev PointCol : Shape := ⟨2, ![640, 1]⟩
abbrev ExpertRow : Shape := ⟨2, ![1, 32]⟩
abbrev Pairs : Shape := ⟨2, ![640, 32]⟩

theorem sc_points : Sc.BroadcastsInDim Points (![] : Fin 0 → Fin Points.rank) := by decide
theorem sc_experts : Sc.BroadcastsInDim Experts (![] : Fin 0 → Fin Experts.rank) := by decide
theorem points_col : Points.BroadcastsInDim PointCol (![0] : Fin 1 → Fin PointCol.rank) := by decide
theorem experts_row : Experts.BroadcastsInDim ExpertRow (![1] : Fin 1 → Fin ExpertRow.rank) := by decide
theorem col_pairs : PointCol.BroadcastsInDim Pairs (![0, 1] : Fin 2 → Fin Pairs.rank) := by decide
theorem row_pairs : ExpertRow.BroadcastsInDim Pairs (![0, 1] : Fin 2 → Fin Pairs.rank) := by decide
theorem last_slice : Experts.Slices ![31] One := by decide
theorem one_sc : One.ShapeCasts Sc := by decide
theorem sum_experts : Pairs.ReducesTo [1] Points := by decide
theorem sc_inhabited : 0 < Sc.numel := by decide
theorem bit_word : 1 < 32 := by decide

/-- Entry `idx p` of a vector of 32 entries, at every point `p`. -/
def pick : GatherDims Experts PointCol Points where
  offsetDims := []
  collapsedSliceDims := [0]
  operandBatchingDims := []
  startIndexMap := [0]
  startIndicesBatchingDims := []
  indexVectorDim := 1
  sliceSizes := ![1]
  wf := by decide

/-- One word at every point. -/
abbrev every (x : IVec Sc 32) : IVec Points 32 := broadcastInDim Points ![] sc_points x

/-- The floor of a quotient, entry by entry. -/
def quot (x y : IVec Points 32) : IVec Points 32 :=
  select (andi (cmpi .ne (signi x) (signi y)) (cmpi .ne (Host.remsi x y) (every (constantI Sc 32 0#32))))
    (subi (Host.divsi x y) (every (constantI Sc 32 1#32))) (Host.divsi x y)

section
variable (te ts tn : IVec Experts 32)

/-- The number of tiles that hold rows. -/
def used : IVec Sc 32 := shapeCast Sc (extractStridedSlice One ![31] tn last_slice) one_sc
/-- Four grid points for each such tile. -/
def busy : IVec Sc 32 := muli (used tn) (constantI Sc 32 4#32)
def point : IVec Points 32 := iotaInDim Points 32 0
/-- The grid point, or the last one with work. -/
def step : IVec Points 32 := minsi point (every (subi (busy tn) (constantI Sc 32 1#32)))
/-- Whether the step lies behind the last of an expert's. -/
def behind : IVec Pairs 1 :=
  cmpi .sge (broadcastInDim Pairs ![0, 1] col_pairs (broadcastInDim PointCol ![0] points_col (step tn)))
    (broadcastInDim Pairs ![0, 1] row_pairs (broadcastInDim ExpertRow ![1] experts_row
      (muli tn (broadcastInDim Experts ![] sc_experts (constantI Sc 32 4#32)))))
/-- The expert of a step. -/
def expert : IVec Points 32 :=
  minsi (Host.reduce IntOp.addi (extui 32 (behind tn) bit_word) (constantI Sc 32 0#32) sum_experts sc_inhabited) (every (constantI Sc 32 31#32))
/-- The expert as an index into a vector of 32 entries. -/
def place : IVec PointCol 32 :=
  broadcastInDim PointCol ![0] points_col (select (cmpi .slt (expert tn) (every (constantI Sc 32 0#32))) (addi (expert tn) (every (constantI Sc 32 32#32))) (expert tn))
/-- The step, counted from the first of its expert's. -/
def within : IVec Points 32 := subi (step tn) (muli (Host.gather pick ts (place tn)) (every (constantI Sc 32 4#32)))
/-- The number of tiles of the step's expert, at least one. -/
def depth : IVec Points 32 := maxsi (Host.gather pick te (place tn)) (every (constantI Sc 32 1#32))
/-- The column block of a step. -/
def colBlock : IVec Points 32 := quot (within ts tn) (depth te tn)
/-- The tile of a step, counted from the first of its expert's. -/
def rowIn : IVec Points 32 := subi (within ts tn) (muli (colBlock te ts tn) (depth te tn))
/-- The tile of a step. -/
def tile : IVec Points 32 := addi (Host.gather pick ts (place tn)) (rowIn te ts tn)
/-- Whether the grid point has work. -/
def valid : IVec Points 1 := cmpi .slt point (every (busy tn))
/-- The grid point, counted from the first without work. -/
def spare : IVec Points 32 := subi point (every (busy tn))
/-- The row block that a grid point writes. -/
def outRow : IVec Points 32 :=
  select (valid tn) (tile te ts tn) (addi (every (used tn)) (Routing.pyDiv sc_points (spare tn) (constantI Sc 32 4#32)))
/-- The column block that a grid point writes. -/
def outCol : IVec Points 32 :=
  select (valid tn) (colBlock te ts tn) (Routing.pyRem sc_points (spare tn) (constantI Sc 32 4#32))
/-- 3 where the expert's weights are new, 1 where they are at hand, 4 where there is no work. -/
def flag : IVec Points 32 :=
  select (valid tn) (addi (every (constantI Sc 32 1#32)) (muli (every (constantI Sc 32 2#32))
    (extui 32 (cmpi .eq (rowIn te ts tn) (every (constantI Sc 32 0#32))) bit_word))) (every (constantI Sc 32 4#32))

end

end Cert.Layer.Schedule

end
-- ==== Proof.Moe.Words.lean ====
/-
  Every array of the schedule holds the words of the natural numbers that `Plan` names.
-/
module

public import proofs.«01_k».proof.Proof.Moe.Plan
public import proofs.«01_k».proof.Proof.Moe.Stages
public import Idealize.ShloMosaic.Lib.PlanTiles.Rows

@[expose] public section

set_option maxRecDepth 16384

noncomputable section

namespace Cert.Layer.Schedule

open Idealize.ShloMosaic Idealize.ShloMosaic.WordCmp Idealize.ShloMosaic.Routing Idealize.ShloMosaic.ValueIdx
open Cert.Layer.Plan

local notation "𝕨" => BitVec.ofNat 32

theorem add_word (a b : ℕ) : 𝕨 a + 𝕨 b = 𝕨 (a + b) := by
  apply BitVec.eq_of_toNat_eq
  simp [BitVec.toNat_add, BitVec.toNat_ofNat]

theorem mul_word (a b : ℕ) : 𝕨 a * 𝕨 b = 𝕨 (a * b) := by
  apply BitVec.eq_of_toNat_eq
  simp [BitVec.toNat_mul, BitVec.toNat_ofNat, Nat.mul_mod]

theorem sub_word {a b : ℕ} (hb : b ≤ a) (ha : a < 2 ^ 31) : 𝕨 a - 𝕨 b = 𝕨 (a - b) := by
  apply BitVec.eq_of_toNat_eq
  rw [BitVec.toNat_sub, BitVec.toNat_ofNat, BitVec.toNat_ofNat, BitVec.toNat_ofNat, Nat.mod_eq_of_lt (show a < 2 ^ 32 by omega),
    Nat.mod_eq_of_lt (show b < 2 ^ 32 by omega), Nat.mod_eq_of_lt (show a - b < 2 ^ 32 by omega)]
  omega

theorem min_word {a b : ℕ} (ha : a < 2 ^ 31) (hb : b < 2 ^ 31) : IntOp.minsi (𝕨 a) (𝕨 b) = 𝕨 (min a b) := by
  rw [PlanTiles.minsi_word ha hb, Nat.min_comm]

theorem max_word {a b : ℕ} (ha : a < 2 ^ 31) (hb : b < 2 ^ 31) : IntOp.maxsi (𝕨 a) (𝕨 b) = 𝕨 (max a b) := by
  unfold IntOp.maxsi
  rw [slt_ofNat32 hb ha]
  by_cases hl : b < a
  · simp only [hl, decide_true, if_true, Nat.max_eq_left hl.le]
  · simp only [hl, decide_false, Bool.false_eq_true, if_false, Nat.max_eq_right (Nat.le_of_not_lt hl)]

/-- The choice by a comparison of two naturals. -/
theorem select_lt {α : Type} {a b : ℕ} (ha : a < 2 ^ 31) (hb : b < 2 ^ 31) (x y : α) :
    Scalar.select (IntOp.cmpi .slt (𝕨 a) (𝕨 b)) x y = if a < b then x else y := by
  rw [cmpi_slt_ofNat (w := 32) ha hb]
  by_cases hl : a < b
  · simp [hl, Scalar.select]
  · simp [hl, Scalar.select]

theorem every_at (b : BitVec 32) (i : Points.Idx) : every (constantI Sc 32 b) i = b := bc0 _ _ _

theorem quot_at (x y : IVec Points 32) (i : Points.Idx) {a b : ℕ} (hx : x i = 𝕨 a) (hy : y i = 𝕨 b) (ha : a < 2 ^ 31) (h0 : 0 < b)
    (hb : b < 2 ^ 31) : quot x y i = 𝕨 (a / b) := by
  have hm : a % b < 2 ^ 32 := lt_of_le_of_lt (Nat.mod_le a b) (by omega)
  unfold quot
  simp only [select_at, cmpi_at, andi_at, subi_ap, Host.remsi_apply, Host.divsi_apply, signi_apply, every_at, hx, hy,
    remsi_word .host ha h0 hb, divsi_word .host ha h0 hb, msb_ofNat32 ha, msb_ofNat32 hb, if_neg (ofNat32_ne_zero h0 (show b < 2 ^ 32 by omega))]
  rcases Nat.eq_zero_or_pos a with h | h
  · subst h
    simp only [Nat.zero_mod, Nat.zero_div]
    rfl
  · rw [if_neg (ofNat32_ne_zero h (show a < 2 ^ 32 by omega))]
    simp only [Bool.false_eq_true, if_false]
    have e : IntOp.cmpi .ne (1 : BitVec 32) 1 = 0#1 := by decide
    rw [e]
    show Scalar.select (0#1 &&& _) _ _ = _
    rw [BitVec.zero_and]
    rfl

/-- What the three vectors of the experts hold. -/
structure Holds (te ts tn : IVec Experts 32) (a s t : ℕ → ℕ) : Prop where
  tiling : Tiling a s t
  te : ∀ e : Fin 32, te (ix1 e) = 𝕨 (a e.val)
  ts : ∀ e : Fin 32, ts (ix1 e) = 𝕨 (s e.val)
  tn : ∀ e : Fin 32, tn (ix1 e) = 𝕨 (t e.val)

variable {te ts tn : IVec Experts 32} {a s t : ℕ → ℕ} (H : Holds te ts tn a s t)
include H

theorem used_at : used tn ix0 = 𝕨 (t 31) := by
  have key : ∀ j : One.Idx, extractStridedSlice One ![31] tn last_slice j = 𝕨 (t 31) := fun j =>
    (extractStridedSlice_apply _ tn last_slice j (ix1 (31 : Fin 32)) fun a => by
      match a with
      | ⟨0, _⟩ =>
        have : (j 0).val < 1 := (j 0).isLt
        show 31 = 31 + (j 0).val
        omega).trans (H.tn 31)
  exact key _

theorem busy_at : busy tn ix0 = 𝕨 (4 * t 31) := by
  unfold busy
  rw [muli_ap, used_at H, constantI_at, mul_word, Nat.mul_comm]

theorem point_at (n : Fin 640) : point (ix1 n) = 𝕨 n.val := rfl

theorem step_at (n : Fin 640) : step tn (ix1 n) = 𝕨 (st t n.val) := by
  have h1 := H.tiling.one; have h2 := H.tiling.top
  unfold step
  show IntOp.minsi (point (ix1 n)) (every _ (ix1 n)) = _
  rw [point_at H, every, bc0, subi_ap, busy_at H, constantI_at, sub_word (b := 1) (by omega) (by omega), min_word (by omega) (by omega)]
  rfl

theorem expert_at (n : Fin 640) : expert tn (ix1 n) = 𝕨 (ex t n.val) := by
  have h1 := H.tiling.one; have h2 := H.tiling.top
  have hs := st_lt H.tiling n.val
  unfold expert
  show IntOp.minsi (Host.reduce _ _ _ _ _ (ix1 n)) (every _ (ix1 n)) = _
  rw [every, bc0, constantI_at, reduce_count (n := 640) (m := 32) (by decide) (behind tn) bit_word sum_experts sc_inhabited n
    (fun e => 4 * t e ≤ st t n.val) ?_, min_word (Nat.lt_of_le_of_lt (Nat.count_le _) (by decide)) (by decide)]
  · rfl
  · intro q
    have hq := H.tiling.le_top q.isLt
    unfold behind
    rw [cmpi_at, bcRows, bcCols, muli_ap, bc0, constantI_at, step_at H, H.tn, mul_word, cmpi_sge_ofNat (w := 32) (by omega) (by omega)]
    rw [ofBool_decide_eq_one_iff]
    omega

theorem place_at (n : Fin 640) : place tn (ix2 n (0 : Fin 1)) = 𝕨 (ex t n.val) := by
  have := (ex_spec H.tiling n.val).1
  unfold place
  rw [bcCol, select_at, cmpi_at, every, bc0, constantI_at, expert_at H, select_lt (by omega) (by decide), if_neg (by omega)]

theorem pick_at (x : IVec Experts 32) (n : Fin 640) :
    Host.gather pick x (place tn) (ix1 n) = x (ix1 ⟨ex t n.val, (ex_spec H.tiling n.val).1⟩) :=
  take_ap pick rfl rfl rfl rfl x (place tn) n _ (by have := (ex_spec H.tiling n.val).1; omega) (place_at H n)

theorem within_at (n : Fin 640) : within ts tn (ix1 n) = 𝕨 (wi s t n.val) := by
  have h2 := H.tiling.top
  have hs := st_lt H.tiling n.val
  obtain ⟨g0, g1, g2⟩ := ex_spec H.tiling n.val
  unfold within
  rw [subi_ap, muli_ap, pick_at H, H.ts, every, bc0, constantI_at, step_at H, mul_word, sub_word (by simp only; omega) (by omega)]
  unfold wi
  rw [Nat.mul_comm]

theorem depth_at (n : Fin 640) : depth te tn (ix1 n) = 𝕨 (de a t n.val) := by
  have h2 := H.tiling.top
  have g0 := (ex_spec H.tiling n.val).1
  have := H.tiling.stop _ g0
  have := H.tiling.le_top g0
  unfold depth
  show IntOp.maxsi (Host.gather _ _ _ (ix1 n)) (every _ (ix1 n)) = _
  rw [pick_at H, H.te, every, bc0, constantI_at, max_word (by simp only; omega) (by decide)]
  rfl

theorem small (n : ℕ) : wi s t n < 640 ∧ de a t n ≤ 160 ∧ 0 < de a t n ∧ co a s t n < 4 ∧ ex t n < 32 ∧ t (ex t n) = s (ex t n) + a (ex t n)
    ∧ t (ex t n) ≤ t 31 ∧ co a s t n * de a t n ≤ wi s t n := by
  have h2 := H.tiling.top
  have g0 := (ex_spec H.tiling n).1
  have g1 := H.tiling.stop _ g0
  have g2 := H.tiling.le_top g0
  have g3 := wi_lt H.tiling n
  have g4 := de_eq H.tiling n
  have g5 := co_lt H.tiling n
  refine ⟨by omega, by omega, by omega, g5, g0, g1, g2, ?_⟩
  unfold co
  exact Nat.div_mul_le_self _ _

theorem colBlock_at (n : Fin 640) : colBlock te ts tn (ix1 n) = 𝕨 (co a s t n.val) := by
  obtain ⟨g0, g1, g2, _⟩ := small H n.val
  exact quot_at _ _ _ (within_at H n) (depth_at H n) (by omega) g2 (by omega)

theorem rowIn_at (n : Fin 640) : rowIn te ts tn (ix1 n) = 𝕨 (ri a s t n.val) := by
  obtain ⟨g0, g1, g2, g3, g4, g5, g6, g7⟩ := small H n.val
  unfold rowIn
  rw [subi_ap, muli_ap, within_at H, colBlock_at H, depth_at H, mul_word, sub_word g7 (by omega)]
  rfl

theorem tile_at (n : Fin 640) : tile te ts tn (ix1 n) = 𝕨 (ti a s t n.val) := by
  unfold tile
  rw [addi_ap, pick_at H, H.ts, rowIn_at H, add_word]
  rfl

theorem valid_at (n : Fin 640) {α : Type} (x y : α) : Scalar.select (valid tn (ix1 n)) x y = if n.val < 4 * t 31 then x else y := by
  have h2 := H.tiling.top
  unfold valid
  rw [cmpi_at, point_at H, every, bc0, busy_at H, select_lt (by omega) (by omega)]

theorem spare_at (n : Fin 640) (hn : 4 * t 31 ≤ n.val) : spare tn (ix1 n) = 𝕨 (n.val - 4 * t 31) := by
  unfold spare
  rw [subi_ap, point_at H, every, bc0, busy_at H, sub_word hn (by omega)]

theorem outRow_at (n : Fin 640) : outRow te ts tn (ix1 n) = 𝕨 (oR a s t n.val) := by
  unfold outRow oR
  rw [select_at, valid_at H]
  split
  · exact tile_at H n
  · rename_i hn
    rw [addi_ap, every, bc0, used_at H, pyDiv_ap sc_points (spare tn) _ (ix1 n) (spare_at H n (by omega)) (constantI_at _ _) (by omega) (by decide) (by decide), add_word]

theorem outCol_at (n : Fin 640) : outCol te ts tn (ix1 n) = 𝕨 (oC a s t n.val) := by
  unfold outCol oC
  rw [select_at, valid_at H]
  split
  · exact colBlock_at H n
  · rename_i hn
    rw [pyRem_ap sc_points (spare tn) _ (ix1 n) (spare_at H n (by omega)) (constantI_at _ _) (by omega) (by decide) (by decide)]

theorem flag_at (n : Fin 640) : flag te ts tn (ix1 n) = 𝕨 (fl a s t n.val) := by
  obtain ⟨g0, g1, g2, g3, g4, g5, g6, g7⟩ := small H n.val
  have hr := ri_lt H.tiling n.val
  have h2 := H.tiling.top
  unfold flag fl
  rw [select_at, valid_at H]
  split
  · rw [addi_ap, muli_ap, extui_at, cmpi_at, rowIn_at H]
    simp only [every_at]
    rw [show (0#32 : BitVec 32) = 𝕨 0 from rfl, cmpi_eq_ofNat (w := 32) (by omega) (by decide), setWidth_ofBool, mul_word, add_word]
  · simp only [every_at]

end Cert.Layer.Schedule

end
-- ==== Proof.Moe.Pre.lean ====
/-
  What the preconditions of the expert products say of their first three arguments: the experts' tiles follow one another.
-/
module

public import proofs.«01_k».proof.Proof.Gen.Pre_down_tiles
public import proofs.«01_k».proof.Proof.Gen.Pre_up_tiles
public import proofs.«01_k».proof.Proof.Moe.Words

@[expose] public section

set_option maxRecDepth 16384

noncomputable section

namespace Cert.Layer.Schedule

open Idealize.ShloMosaic Idealize.ShloMosaic.WordCmp Idealize.ShloMosaic.Routing Idealize.ShloMosaic.ValueIdx
open Cert.Layer.Plan

theorem both_bits (a b : BitVec 1) : IntOp.andi a b = 1#1 ↔ a = 1#1 ∧ b = 1#1 := by revert a b; decide

theorem range_word (x : BitVec 32) (h : IntOp.andi (IntOp.cmpi .sge x 0#32) (IntOp.cmpi .sle x 160#32) = 1#1) : x.toNat ≤ 160 := by
  rw [both_bits] at h
  obtain ⟨h0, h1⟩ := h
  simp only [IntOp.cmpi, BitVec.sle, ofBool_eq_one_iff, decide_eq_true_eq, BitVec.toInt, BitVec.toNat_ofNat] at h0 h1
  have := x.isLt
  split at h1 <;> simp at h0 h1 <;> omega

theorem eq_word (x y : BitVec 32) (h : IntOp.cmpi .eq x y = 1#1) : x = y := by
  rw [cmpi_eq_eq_toNat, ofBool_decide_eq_one_iff] at h
  exact BitVec.eq_of_toNat_eq h

theorem one_word (x : BitVec 32) (hx : x.toNat ≤ 160) (h : IntOp.cmpi .sge x 1#32 = 1#1) : 1 ≤ x.toNat := by
  rw [cmpi_sge_of_lt (by omega) (by decide), ofBool_decide_eq_one_iff] at h
  exact h

/-- A vector of 32 words as a function of the naturals. -/
def nat (x : IVec Experts 32) (e : ℕ) : ℕ := if he : e < 32 then (x (ix1 ⟨e, he⟩)).toNat else 0

theorem nat_at (x : IVec Experts 32) (e : ℕ) (he : e < 32) : nat x e = (x (ix1 ⟨e, he⟩)).toNat := dif_pos he

theorem holds_of (te ts tn : IVec Experts 32)
    (h0 : ∀ e : Fin 32, (te (ix1 e)).toNat ≤ 160) (h1 : ∀ e : Fin 32, (ts (ix1 e)).toNat ≤ 160) (h2 : ∀ e : Fin 32, (tn (ix1 e)).toNat ≤ 160)
    (h3 : ∀ e : Fin 32, tn (ix1 e) = ts (ix1 e) + te (ix1 e))
    (h4 : ∀ e : ℕ, (he : e < 31) → ts (ix1 ⟨1 + e, by omega⟩) = tn (ix1 ⟨0 + e, by omega⟩))
    (h5 : ts (ix1 0) = 0#32) (h6 : 1 ≤ (tn (ix1 31)).toNat) : Holds te ts tn (nat te) (nat ts) (nat tn) where
  tiling := {
    zero := by rw [nat_at _ 0 (by decide)]; exact congrArg BitVec.toNat h5
    stop := fun e he => by
      rw [nat_at _ e he, nat_at _ e he, nat_at _ e he, h3, BitVec.toNat_add]
      have := h0 ⟨e, he⟩; have := h1 ⟨e, he⟩
      omega
    next := fun e he => by
      rw [nat_at _ (e + 1) (by omega), nat_at _ e (by omega)]
      have := congrArg BitVec.toNat (h4 e he)
      simp only [Nat.add_comm 1 e, Nat.zero_add] at this
      exact this
    one := by rw [nat_at _ 31 (by decide)]; exact h6
    top := by rw [nat_at _ 31 (by decide)]; exact h2 31 }
  te := fun e => by rw [nat_at _ e.val e.isLt]; exact (BitVec.eq_of_toNat_eq (by rw [BitVec.toNat_ofNat]; exact (Nat.mod_eq_of_lt (BitVec.isLt _)).symm))
  ts := fun e => by rw [nat_at _ e.val e.isLt]; exact (BitVec.eq_of_toNat_eq (by rw [BitVec.toNat_ofNat]; exact (Nat.mod_eq_of_lt (BitVec.isLt _)).symm))
  tn := fun e => by rw [nat_at _ e.val e.isLt]; exact (BitVec.eq_of_toNat_eq (by rw [BitVec.toNat_ofNat]; exact (Nat.mod_eq_of_lt (BitVec.isLt _)).symm))

theorem down_holds {F : FTy → Type} [FloatOps F] (te ts tn : IVec Experts 32) (x y z)
    (h : (Pre_down_tiles.fn (F := F) te ts tn x y z).1 = (fun _ => 1#1) ∧ (Pre_down_tiles.fn (F := F) te ts tn x y z).2.1 = (fun _ => 1#1)
      ∧ (Pre_down_tiles.fn (F := F) te ts tn x y z).2.2.1 = (fun _ => 1#1) ∧ (Pre_down_tiles.fn (F := F) te ts tn x y z).2.2.2.1 = (fun _ => 1#1)
      ∧ (Pre_down_tiles.fn (F := F) te ts tn x y z).2.2.2.2.1 = (fun _ => 1#1) ∧ (Pre_down_tiles.fn (F := F) te ts tn x y z).2.2.2.2.2.1 = (fun _ => 1#1)
      ∧ (Pre_down_tiles.fn (F := F) te ts tn x y z).2.2.2.2.2.2 = (fun _ => 1#1)) :
    Holds te ts tn (nat te) (nat ts) (nat tn) := by
  obtain ⟨g0, g1, g2, g3, g4, g5, g6⟩ := h
  have h2 : ∀ e : Fin 32, (tn (ix1 e)).toNat ≤ 160 := fun e => range_word _ (congrFun g2 (ix1 e))
  refine holds_of te ts tn (fun e => range_word _ (congrFun g0 (ix1 e))) (fun e => range_word _ (congrFun g1 (ix1 e))) h2
    (fun e => eq_word _ _ (congrFun g3 (ix1 e))) (fun e he => ?_) ?_ ?_
  · have g := eq_word _ _ (congrFun g4 (ix1 (⟨e, he⟩ : Fin 31)))
    have k1 := extractStridedSlice_apply _ ts Pre_down_tiles.Facts.slices_S32_S31_1 (ix1 (⟨e, he⟩ : Fin 31)) (ix1 ⟨1 + e, by omega⟩) (fun a => by match a with | ⟨0, _⟩ => rfl)
    have k2 := extractStridedSlice_apply _ tn Pre_down_tiles.Facts.slices_S32_S31_0 (ix1 (⟨e, he⟩ : Fin 31)) (ix1 ⟨0 + e, by omega⟩) (fun a => by match a with | ⟨0, _⟩ => rfl)
    exact k1.symm.trans (Eq.trans g k2)
  · have g := eq_word _ _ (congrFun g5 (ix1 (0 : Fin 1)))
    have k := extractStridedSlice_apply _ ts Pre_down_tiles.Facts.slices_S32_S1_0 (ix1 (0 : Fin 1)) (ix1 (0 : Fin 32)) (fun a => by match a with | ⟨0, _⟩ => rfl)
    exact k.symm.trans g
  · refine one_word _ (h2 31) ?_
    have g := congrFun g6 (ix1 (0 : Fin 1))
    have k := extractStridedSlice_apply _ tn Pre_down_tiles.Facts.slices_S32_S1_31 (ix1 (0 : Fin 1)) (ix1 (31 : Fin 32)) (fun a => by match a with | ⟨0, _⟩ => rfl)
    rw [← k]
    exact g

theorem up_holds {F : FTy → Type} [FloatOps F] (te ts tn : IVec Experts 32) (x y z u v)
    (h : (Pre_up_tiles.fn (F := F) te ts tn x y z u v).1 = (fun _ => 1#1) ∧ (Pre_up_tiles.fn (F := F) te ts tn x y z u v).2.1 = (fun _ => 1#1)
      ∧ (Pre_up_tiles.fn (F := F) te ts tn x y z u v).2.2.1 = (fun _ => 1#1) ∧ (Pre_up_tiles.fn (F := F) te ts tn x y z u v).2.2.2.1 = (fun _ => 1#1)
      ∧ (Pre_up_tiles.fn (F := F) te ts tn x y z u v).2.2.2.2.1 = (fun _ => 1#1) ∧ (Pre_up_tiles.fn (F := F) te ts tn x y z u v).2.2.2.2.2.1 = (fun _ => 1#1)
      ∧ (Pre_up_tiles.fn (F := F) te ts tn x y z u v).2.2.2.2.2.2 = (fun _ => 1#1)) :
    Holds te ts tn (nat te) (nat ts) (nat tn) := by
  obtain ⟨g0, g1, g2, g3, g4, g5, g6⟩ := h
  have h2 : ∀ e : Fin 32, (tn (ix1 e)).toNat ≤ 160 := fun e => range_word _ (congrFun g2 (ix1 e))
  refine holds_of te ts tn (fun e => range_word _ (congrFun g0 (ix1 e))) (fun e => range_word _ (congrFun g1 (ix1 e))) h2
    (fun e => eq_word _ _ (congrFun g3 (ix1 e))) (fun e he => ?_) ?_ ?_
  · have g := eq_word _ _ (congrFun g4 (ix1 (⟨e, he⟩ : Fin 31)))
    have k1 := extractStridedSlice_apply _ ts Pre_up_tiles.Facts.slices_S32_S31_1 (ix1 (⟨e, he⟩ : Fin 31)) (ix1 ⟨1 + e, by omega⟩) (fun a => by match a with | ⟨0, _⟩ => rfl)
    have k2 := extractStridedSlice_apply _ tn Pre_up_tiles.Facts.slices_S32_S31_0 (ix1 (⟨e, he⟩ : Fin 31)) (ix1 ⟨0 + e, by omega⟩) (fun a => by match a with | ⟨0, _⟩ => rfl)
    exact k1.symm.trans (Eq.trans g k2)
  · have g := eq_word _ _ (congrFun g5 (ix1 (0 : Fin 1)))
    have k := extractStridedSlice_apply _ ts Pre_up_tiles.Facts.slices_S32_S1_0 (ix1 (0 : Fin 1)) (ix1 (0 : Fin 32)) (fun a => by match a with | ⟨0, _⟩ => rfl)
    exact k.symm.trans g
  · refine one_word _ (h2 31) ?_
    have g := congrFun g6 (ix1 (0 : Fin 1))
    have k := extractStridedSlice_apply _ tn Pre_up_tiles.Facts.slices_S32_S1_31 (ix1 (0 : Fin 1)) (ix1 (31 : Fin 32)) (fun a => by match a with | ⟨0, _⟩ => rfl)
    rw [← k]
    exact g

end Cert.Layer.Schedule

end
-- ==== Proof.Moe.DownRef.lean ====
/-
  The down product's reference, read off entry by entry: every expert's product and bias on every row, and of them the
  sum of those whose expert owns the row.
-/
module

public import proofs.«01_k».proof.Proof.Gen.MoeDownRefIdeal.Run
public import proofs.«01_k».proof.Proof.Moe.Words
public import Idealize.ShloMosaic.Lib.Pointwise
public import Idealize.ShloMosaic.Lib.WordCmp
public import Idealize.ShloMosaic.Lib.Tactic

@[expose] public section

set_option maxRecDepth 16384

noncomputable section

namespace Cert.MoeDownRefIdeal.Value

open Idealize.ShloMosaic Idealize.ShloMosaic.TcCoe Idealize.ShloMosaic.WordCmp Idealize.SL.Sem
open Cert.MoeDownRefIdeal Cert.MoeDownRefIdeal.Gen Facts
open Cert.Layer

variable {F : FTy → Type} [FloatOps F]

/-- The rows at or after 512 times a word of the experts' column. -/
def bound (x : IVec S32 32) : IVec S32x81920 32 :=
  broadcastInDim S32x81920 ![0, 1] bcast_S32x1_S32x81920_0_1 (muli (broadcastInDim S32x1 ![] bcast_S_S32x1 (constantI S_ 32 512#32)) (broadcastInDim S32x1 ![0] bcast_S32_S32x1_0 x))

def rowNumber : IVec S32x81920 32 :=
  broadcastInDim S32x81920 ![0, 1] bcast_S1x81920_S32x81920_0_1 (broadcastInDim S1x81920 ![1] bcast_S81920_S1x81920_1 (iotaInDim S81920 32 0))

/-- Which rows an expert owns. -/
def owned (ts tn : IVec S32 32) : IVec S32x81920 1 :=
  andi (cmpi .sge rowNumber (bound ts)) (cmpi .slt rowNumber (bound tn))

/-- Every expert's product and bias on every row. -/
def everyExpert (x : FVec F S81920x2048 .bf16) (w : FVec F S2x32x2048x4096 .f32) (b : FVec F S2x32x4096 .f32) : FVec F S32x81920x4096 .f32 :=
  addf (transpose S32x81920x4096 [0, 2, 1] (Host.dotGeneral dot_S32x2048x4096_S81920x2048_S32x4096x81920_1_1_02_0_n_n none (shapeCast _ (extractStridedSlice S1x32x2048x4096 ![0, 0, 0, 0] w slices_S2x32x2048x4096_S1x32x2048x4096_0_0_0_0) shapeCasts_S1x32x2048x4096_S32x2048x4096) (extf .f32 x bitsLt_bf16_f32)) transposes_S32x4096x81920_S32x81920x4096_0_2_1)
    (broadcastInDim S32x81920x4096 ![0, 1, 2] bcast_S32x1x4096_S32x81920x4096_0_1_2 (broadcastInDim S32x1x4096 ![0, 2] bcast_S32x4096_S32x1x4096_0_2 (shapeCast _ (extractStridedSlice S1x32x4096 ![0, 0, 0] b slices_S2x32x4096_S1x32x4096_0_0_0) shapeCasts_S1x32x4096_S32x4096)))

/-- Of them those whose expert owns the row, zeros elsewhere. -/
def chosen (k : IVec S32x81920 1) (y : FVec F S32x81920x4096 .f32) : FVec F S32x81920x4096 .f32 :=
  select (broadcastInDim S32x81920x4096 ![0, 1, 2] bcast_S32x81920x1_S32x81920x4096_0_1_2 (broadcastInDim S32x81920x1 ![0, 1] bcast_S32x81920_S32x81920x1_0_1 k)) y
    (broadcastInDim S32x81920x4096 ![] bcast_S_S32x81920x4096 (constant S_ .f32 0x00000000#32))

def summed (y : FVec F S32x81920x4096 .f32) : FVec F S81920x4096 .f32 :=
  Host.reduceAdd y (constant S_ .f32 0x00000000#32) reducesTo_S32x81920x4096_S81920x4096_d0 h_S_

/-- The reference's result: the stages composed. -/
def result (ts tn : IVec S32 32) (x : FVec F S81920x2048 .bf16) (w : FVec F S2x32x2048x4096 .f32) (b : FVec F S2x32x4096 .f32) : FVec F S81920x4096 .f32 :=
  summed (chosen (owned ts tn) (everyExpert x w b))

theorem same_ix1 (e : Fin 32) : (ix1 e : S32.Idx) = ValueIdx.ix1 e := rfl

theorem bound_at (x : IVec S32 32) (e : Fin 32) (r : Fin 81920) : bound x (ix2 e r) = 512#32 * x (ix1 e) := by
  pointwise [bound]
  rfl

theorem rowNumber_at (e : Fin 32) (r : Fin 81920) : rowNumber (ix2 e r) = BitVec.ofNat 32 r.val := by
  pointwise [rowNumber]

theorem everyExpert_at (x : FVec Ideal S81920x2048 .bf16) (w : FVec Ideal S2x32x2048x4096 .f32) (b : FVec Ideal S2x32x4096 .f32)
    (e : Fin 32) (r : Fin 81920) (d : Fin 4096) :
    everyExpert x w b (ix3 e r d) = (∑ k : Fin 2048, w (ix4 0 e k d) * x (ix2 r k)) + b (ix3 0 e d) := by
  pointwise [everyExpert]

theorem chosen_at (k : IVec S32x81920 1) (y : FVec Ideal S32x81920x4096 .f32) (e : Fin 32) (r : Fin 81920) (d : Fin 4096) :
    chosen k y (ix3 e r d) = if k (ix2 e r) = 1#1 then y (ix3 e r d) else 0 := by
  pointwise [chosen]
  rfl

theorem summed_at (y : FVec Ideal S32x81920x4096 .f32) (r : Fin 81920) (d : Fin 4096) :
    summed y (ix2 r d) = ∑ e : Fin 32, y (ix3 e r d) := by
  pointwise [summed]

theorem owned_at {te ts tn : IVec S32 32} {a s t : ℕ → ℕ} (h : Schedule.Holds te ts tn a s t) (e : Fin 32) (r : Fin 81920) :
    owned ts tn (ix2 e r) = 1#1 ↔ 512 * s e.val ≤ r.val ∧ r.val < 512 * t e.val := by
  have ht := h.tiling.le_top e.isLt
  have htop := h.tiling.top
  have hs := h.tiling.stop e.val e.isLt
  have e1 : bound ts (ix2 e r) = BitVec.ofNat 32 (512 * s e.val) := by rw [bound_at, same_ix1, h.ts e]; exact Schedule.mul_word 512 _
  have e2 : bound tn (ix2 e r) = BitVec.ofNat 32 (512 * t e.val) := by rw [bound_at, same_ix1, h.tn e]; exact Schedule.mul_word 512 _
  have n1 : (BitVec.ofNat 32 (512 * s e.val)).toNat = 512 * s e.val := by rw [BitVec.toNat_ofNat]; omega
  have n2 : (BitVec.ofNat 32 (512 * t e.val)).toNat = 512 * t e.val := by rw [BitVec.toNat_ofNat]; omega
  have n3 : (BitVec.ofNat 32 r.val).toNat = r.val := by rw [BitVec.toNat_ofNat]; omega
  show IntOp.andi (IntOp.cmpi .sge (rowNumber (ix2 e r)) (bound ts (ix2 e r))) (IntOp.cmpi .slt (rowNumber (ix2 e r)) (bound tn (ix2 e r))) = 1#1 ↔ _
  rw [e1, e2, rowNumber_at, cmpi_sge_of_lt (by omega) (by omega), cmpi_slt_of_lt (by omega) (by omega), n1, n2, n3]
  have both : ∀ p q : Bool, IntOp.andi (BitVec.ofBool p) (BitVec.ofBool q) = 1#1 ↔ p = true ∧ q = true := by decide
  rw [both, decide_eq_true_eq, decide_eq_true_eq]

/-- The reference's run states these stages composed. -/
theorem stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = result (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.MoeDownRefIdeal.Value

end
-- ==== Proof.Moe.MoeDownIdeal.Setup.lean ====
/-
  The schedule that the host computes and the kernel call reads: the arrays as the call finds them, the six tables, and
  the blocks that the tables select.
-/
module

public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeDownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.MoeDownIdeal Cert.MoeDownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The host's operations before the call -/

/-- A buffer of core `c` once every host operation before the call has run. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11]) (fun b => m (c, b)) b

set_option maxHeartbeats 800000 in
/-- The whole program is these host operations and then the call. -/
theorem main_shape (𝒱 : Variants) : Pipeline.HMainP (Ix := Unit) (Name := ℕ) (U := UR sig nD τ) (Lvl := ℕ) pcfgs 0 defs₀ 𝒱 m (main (F := F)) (V m) :=
  Pipeline.hmainP_prefixes pcfgs 0 defs₀ 𝒱 m main [hostOps0, hostOps0_1, hostOps0_2, hostOps0_3, hostOps0_4, hostOps0_5, hostOps0_6, hostOps0_7, hostOps0_8, hostOps0_9, hostOps0_10, hostOps0_11]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; repeat' constructor) main_chain

set_option maxHeartbeats 4000000 in
/-- No host operation writes an argument. -/
theorem V_args (c : Dev nD) : V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5) := by
  refine ⟨?_, ?_, ?_, ?_, ?_, ?_⟩ <;> refine StableHlo.after_of_forall_not_mem _ _ (List.forall_iff_forall_mem.mp ?_)
  all_goals
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem V_arg0 (c : Dev nD) : V m c main_arg0 = m ((c : Thread nD τ).loc main_arg0) := (V_args m c).1
theorem V_arg1 (c : Dev nD) : V m c main_arg1 = m ((c : Thread nD τ).loc main_arg1) := (V_args m c).2.1
theorem V_arg2 (c : Dev nD) : V m c main_arg2 = m ((c : Thread nD τ).loc main_arg2) := (V_args m c).2.2.1
theorem V_arg3 (c : Dev nD) : V m c main_arg3 = m ((c : Thread nD τ).loc main_arg3) := (V_args m c).2.2.2.1
theorem V_arg4 (c : Dev nD) : V m c main_arg4 = m ((c : Thread nD τ).loc main_arg4) := (V_args m c).2.2.2.2.1
theorem V_arg5 (c : Dev nD) : V m c main_arg5 = m ((c : Thread nD τ).loc main_arg5) := (V_args m c).2.2.2.2.2

/-! ### The tables -/

/-- The six tables as the call finds them. -/
def tables : pre0.Contents (Elt F) := fun j => V m (0 : Dev nD) (pre0.ref j)

theorem V_tables (c : Dev nD) (j : Fin 6) : V m c (pre0.ref j) = tables m j := by
  obtain rfl : c = 0 := Subsingleton.elim _ _; rfl

/-- Every block that the tables select lies in its array. -/
abbrev Ok : Prop := ok0 (F := F) (tables m)
abbrev adm (hO : Ok m) : (pcfg0 (F := F)).Adm := ⟨tables m, hO⟩
abbrev cfgT (hO : Ok m) : Pipeline.Cfg sig Λ₀ := cfg0 (adm m hO)

abbrev table0 : Memref sig .tc .smem S640 .i32 := Memref.whole main_v17
abbrev table1 : Memref sig .tc .smem S640 .i32 := Memref.whole main_v37
abbrev table2 : Memref sig .tc .smem S640 .i32 := Memref.whole main_v47
abbrev table3 : Memref sig .tc .smem S640 .i32 := Memref.whole main_v57
abbrev table4 : Memref sig .tc .smem S640 .i32 := Memref.whole main_v59
abbrev table5 : Memref sig .tc .smem S640 .i32 := Memref.whole main_v67

/-- The half of a table that the body may read. -/
abbrev TBuf (c : Dev nD) {S : Shape} {e : EltTy} (M : Memref sig .tc .smem S e) : Type := Buf (Elt F) (M.view.loc (c : Thread nD τ))
abbrev half (c : Dev nD) {S : Shape} {e : EltTy} (M : Memref sig .tc .smem S e) (f : TBuf (F := F) c M) : sProp 𝕄 :=
  M.view.loc (c : Thread nD τ) ↦{fullShare.right} f

theorem halves (c : Dev nD) : (Pipeline.ΦT pre0 (tables m) c : sProp 𝕄) = iprop(half c table0 (tables m 0) ∗ half c table1 (tables m 1)
    ∗ half c table2 (tables m 2) ∗ half c table3 (tables m 3) ∗ half c table4 (tables m 4) ∗ half c table5 (tables m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-! ### The blocks -/

/-- The block of window `w` at point `t`, of its array as the call finds it. -/
def blockAt (hO : Ok m) (c : Dev nD) (w : Fin (cfgT m hO).W) (t : Fin (cfgT m hO).N) : (((cfgT m hO).win w).xblock ((cfgT m hO).grid.coords t)).Idx → Elt F ((cfgT m hO).win w).elt :=
  (((cfgT m hO).win w).blk t).view.read (Elt F) (V m c (Pipeline.arrRef spec0 w))

theorem held_0 (hO : Ok m) {c : Dev nD} (dat : Dat τ (Elt F) Unit ℕ (UR sig nD τ) ℕ (cfgT m hO) c) (hA : dat.A 0 = V m c (Pipeline.arrRef spec0 0))
    (hafter : ∀ t, dat.after 0 t = blockAt m hO c 0 t) (t : Fin (cfgT m hO).N) (d) : dat.before 0 t d = blockAt m hO c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1 (hO : Ok m) {c : Dev nD} (dat : Dat τ (Elt F) Unit ℕ (UR sig nD τ) ℕ (cfgT m hO) c) (hA : dat.A 1 = V m c (Pipeline.arrRef spec0 1))
    (hafter : ∀ t, dat.after 1 t = blockAt m hO c 1 t) (t : Fin (cfgT m hO).N) (d) : dat.before 1 t d = blockAt m hO c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2 (hO : Ok m) {c : Dev nD} (dat : Dat τ (Elt F) Unit ℕ (UR sig nD τ) ℕ (cfgT m hO) c) (hA : dat.A 2 = V m c (Pipeline.arrRef spec0 2))
    (hafter : ∀ t, dat.after 2 t = blockAt m hO c 2 t) (t : Fin (cfgT m hO).N) (d) : dat.before 2 t d = blockAt m hO c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ### The staging buffers at a point, and the scratch -/

abbrev stage_0 (hO : Ok m) (t : Fin (cfgT m hO).N) : Memref sig .tc .vmem S512x2048 .bf16 := spec0_0.stage ((cfgT m hO).slots t 0)
abbrev stage_1 (hO : Ok m) (t : Fin (cfgT m hO).N) : Memref sig .tc .vmem S1x1x2048x1024 .f32 := spec0_1.stage ((cfgT m hO).slots t 1)
abbrev stage_2 (hO : Ok m) (t : Fin (cfgT m hO).N) : Memref sig .tc .vmem S1x1x1x1024 .f32 := spec0_2.stage ((cfgT m hO).slots t 2)
abbrev stage_3 (hO : Ok m) (t : Fin (cfgT m hO).N) : Memref sig .tc .vmem S512x1024 .f32 := spec0_3.stage ((cfgT m hO).slots t 3)
abbrev scratch0 : Memref sig .tc .vmem S2048x1024 .bf16 := Memref.whole cc0_scratch0

theorem rest_eq (c : Dev nD) :
    (Pipeline.ΦA spec0 c : sProp 𝕄) = iprop(iprop((∃ d, owns (c : Thread nD τ) scratch0 fullShare d)) ∗ (∃ r, prngReg c r)) := by
  unfold Pipeline.ΦA; rw [scopedRest0_eq]; simp only [scratch0, owns_whole]; try rfl

/-- The body at point `t`. -/
abbrev bodyAt (a : (pcfg0 (F := F)).Adm) (t : Fin (cfg0 a).N) : Prog (TpuEff nD τ sig (Elt F) Λ₀ .tc) PUnit :=
  cc0_moe_down (grid0.coords t) (Memref.whole main_v17) (Memref.isWhole_whole _) (Memref.whole main_v37) (Memref.isWhole_whole _) (Memref.whole main_v47) (Memref.isWhole_whole _) (Memref.whole main_v57) (Memref.isWhole_whole _) (Memref.whole main_v59) (Memref.isWhole_whole _) (Memref.whole main_v67) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

theorem body_row (hO : Ok m) (t : Fin (cfgT m hO).N) :
    defs₀ (F := F) .tc (cfgT m hO).body ((cfgT m hO).bodyArgs t ((cfgT m hO).slots t)) = bodyAt (adm m hO) t := by
  unfold defs₀; rw [Defs.onTc_tc]

end Cert.MoeDownIdeal.Tiles

end
-- ==== Proof.Moe.MoeDownIdeal.Body.lean ====
/-
  One grid point of the call: what the kernel's body leaves in the output's buffer and in the scratch, by the point's flag.
-/
module

public import proofs.«01_k».proof.Proof.Moe.MoeDownIdeal.Setup
public import Idealize.ShloMosaic.Lib.VecWindow

@[expose] public section

set_option maxRecDepth 16384

noncomputable section

namespace Cert.MoeDownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.MoeDownIdeal Cert.MoeDownIdeal.Gen

variable {F : FTy → Type} [FloatOps F]

local notation "𝕄" => MT nD τ sig Unit (Elt F) ℕ (UR sig nD τ) ℕ

/-- The word the body loads is the table's entry at the point. -/
theorem flag_word (T : pre0.Contents (Elt F)) (i : grid0.Coords) :
    View.readAt (Elt F) table5.view (Rect.unit (s := S640) (k0_off1 i) S1.size (k0_off1_inb i)).toLoadRect (T 5) (Shape.Idx.first (numel1_S1 ▸ Nat.one_pos))
      = T.atD 5 (k0_off1 i) := by
  have h : ∀ a, k0_off1 i a + 1 ≤ (pre0.ref 5).ty.shape.size a := by
    intro (a : Fin 1)
    obtain rfl : a = 0 := Subsingleton.elim _ _
    exact k0_off1_inb i 0
  refine Eq.trans ?_ (dif_pos h).symm
  refine congrArg (T 5) (funext fun (a : Fin 1) => ?_)
  obtain rfl : a = 0 := Subsingleton.elim _ _
  exact Fin.ext (Nat.add_zero _)

/-- The scratch after a point: the expert's weights, cast, at the first tile of a run (flag 3); what it held otherwise. -/
def keep (w : BitVec 32) (x1 : Vec F S1x1x2048x1024 .f32) (s : Vec F S2048x1024 .bf16) : Vec F S2048x1024 .bf16 :=
  if w = 3#32 then k0_pay2 x1 else s

/-- The output's buffer after a point: zeros at a spare block (flag 4), the product and the bias otherwise. -/
def left (w : BitVec 32) (x0 : Vec F S512x2048 .bf16) (s : Vec F S2048x1024 .bf16) (x2 : Vec F S1x1x1x1024 .f32) : Vec F S512x1024 .f32 :=
  if w = 4#32 then k0_pay1 else k0_pay3 x0 s x2

/-- The three flags and the conditions they decide. -/
theorem conds (w : BitVec 32) (h : w = 4#32 ∨ w = 3#32 ∨ w = 1#32) :
    ((w = 4#32 ∧ k0_cond1 w = 1#1 ∧ ¬ k0_cond3 w = 1#1 ∧ ¬ Scalar.cmpi .ne (Scalar.extui (Scalar.cmpi .ne (Scalar.andi w 2#32) 0#32) : BitVec 32) 0#32 = 1#1)
      ∨ (w = 3#32 ∧ ¬ k0_cond1 w = 1#1 ∧ k0_cond3 w = 1#1 ∧ Scalar.cmpi .ne (Scalar.extui (Scalar.cmpi .ne (Scalar.andi w 2#32) 0#32) : BitVec 32) 0#32 = 1#1)
      ∨ (w = 1#32 ∧ ¬ k0_cond1 w = 1#1 ∧ k0_cond3 w = 1#1 ∧ ¬ Scalar.cmpi .ne (Scalar.extui (Scalar.cmpi .ne (Scalar.andi w 2#32) 0#32) : BitVec 32) 0#32 = 1#1)) := by
  rcases h with rfl | rfl | rfl
  · left; decide
  · right; left; decide
  · right; right; decide

set_option maxHeartbeats 2000000 in
/-- The body at a point whose flag is 4, 3 or 1. -/
theorem body_runs (c : Dev nD) (i : grid0.Coords) (arg7 : Memref sig .tc .vmem S512x2048 .bf16) (harg7 : arg7.IsWhole) (arg8 : Memref sig .tc .vmem S1x1x2048x1024 .f32) (harg8 : arg8.IsWhole) (arg9 : Memref sig .tc .vmem S1x1x1x1024 .f32) (harg9 : arg9.IsWhole) (arg10 : Memref sig .tc .vmem S512x1024 .f32) (harg10 : arg10.IsWhole) (arg11 : Memref sig .tc .vmem S2048x1024 .bf16) (harg11 : arg11.IsWhole)
    (x0 : Vec F S512x2048 .bf16) (x1 : Vec F S1x1x2048x1024 .f32) (x2 : Vec F S1x1x1x1024 .f32) (s : Vec F S2048x1024 .bf16)
    (T : pre0.Contents (Elt F)) (w : BitVec 32) (hT : T.atD 5 (k0_off1 i) = w) (hw : w = 4#32 ∨ w = 3#32 ∨ w = 1#32)
    (E : Set ℕ) (K : PUnit → sProp 𝕄) :
        iprop(owns (c : Thread nD τ) arg7 fullShare x0 ∗ owns (c : Thread nD τ) arg8 fullShare x1 ∗ owns (c : Thread nD τ) arg9 fullShare x2 ∗ (∃ d, owns (c : Thread nD τ) arg10 fullShare d) ∗ owns (c : Thread nD τ) arg11 fullShare s ∗ half c table5 (T 5)
            ∗ (iprop(owns (c : Thread nD τ) arg7 fullShare x0 ∗ owns (c : Thread nD τ) arg8 fullShare x1 ∗ owns (c : Thread nD τ) arg9 fullShare x2 ∗ owns (c : Thread nD τ) arg10 fullShare (left w x0 (keep w x1 s) x2) ∗ owns (c : Thread nD τ) arg11 fullShare (keep w x1 s) ∗ half c table5 (T 5)) -∗ K ⟨⟩))
          ⊢ wp frame (wpE (defs₀ (F := F)) Variants.none c none) E (cc0_moe_down i table0 (Memref.isWhole_whole _) table1 (Memref.isWhole_whole _) table2 (Memref.isWhole_whole _) table3 (Memref.isWhole_whole _) table4 (Memref.isWhole_whole _) table5 (Memref.isWhole_whole _) arg7 harg7 arg8 harg8 arg9 harg9 arg10 harg10 arg11 harg11) K := by
    simp only [cc0_moe_down_eq_skeleton]; unfold cc0_moe_down_skel
    unfold owns
    iintro ⟨⟨%f0, %hf0, H0⟩, ⟨%f1, %hf1, H1⟩, ⟨%f2, %hf2, H2⟩, ⟨%d3, %f3, -, H3⟩, ⟨%fs0, %hs0, HS0⟩, HT5, Hk⟩
    obtain rfl := harg7.eq_unread hf0; obtain rfl := harg8.eq_unread hf1; obtain rfl := harg9.eq_unread hf2; obtain rfl := harg11.eq_unread hs0
    sl_exec
    have hr : body_runs.sl.r i T = w := (flag_word T i).trans hT
    have hv9 : body_runs.sl.v9 i T = Scalar.cmpi .ne (Scalar.extui (Scalar.cmpi .ne (Scalar.andi w 2#32) 0#32) : BitVec 32) 0#32 := by
      rw [← hr]; rfl
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; swap; · iexact H3
      ipureintro
      unfold body_runs.sl.v15
      rw [hr, hv9]
      unfold left keep
      rcases conds w hw with ⟨rfl, h1, h3, h2⟩ | ⟨rfl, h1, h3, h2⟩ | ⟨rfl, h1, h3, h2⟩
      · rw [dif_neg h3, dif_pos h1, if_pos rfl, View.read_writes_full]
      · rw [dif_pos h3, dif_pos h2, if_neg (by decide), if_pos rfl, View.read_writes_full, View.readAt_writes_full, View.readAt_full, View.readAt_full,
          View.readAt_full, hf0, hf1, hf2]
      · rw [dif_pos h3, dif_neg h2, if_neg (by decide), if_neg (by decide), View.read_writes_full, View.readAt_full, View.readAt_full, View.readAt_full, hf0, hf2, hs0]
    isplitl [HS0]
    · iexists _; isplitr; swap; · iexact HS0
      ipureintro
      rw [hv9]
      unfold keep
      rcases conds w hw with ⟨rfl, h1, h3, h2⟩ | ⟨rfl, h1, h3, h2⟩ | ⟨rfl, h1, h3, h2⟩
      · rw [dif_neg h2, if_neg (by decide), hs0]
      · rw [dif_pos h2, if_pos rfl, View.read_writes_full, View.readAt_full, hf1]
      · rw [dif_neg h2, if_neg (by decide), hs0]
    iexact HT5

end Cert.MoeDownIdeal.Tiles

end
-- ==== Proof.Moe.MoeDownIdeal.Run.lean ====
/-
  The whole call: the scratch and the output's buffer point by point, and the run of the program from any memory whose
  tables hold blocks of the arrays and one of the three flags at each point.
-/
module

public import proofs.«01_k».proof.Proof.Moe.MoeDownIdeal.Body

@[expose] public section

set_option maxRecDepth 16384

noncomputable section

namespace Cert.MoeDownIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MoeDownIdeal Cert.MoeDownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The flag that the schedule gives a grid point. -/
def flagAt (i : grid0.Coords) : BitVec 32 := (tables m).atD 5 (k0_off1 i)

/-- What the run needs of the tables: blocks inside the arrays, one of three flags at each point, and a first point that
    casts the weights. -/
structure Good : Prop where
  ok : Ok m
  flags : ∀ i, flagAt m i = 4#32 ∨ flagAt m i = 3#32 ∨ flagAt m i = 1#32
  first : flagAt m (grid0.coords ⟨0, by decide⟩) = 3#32

theorem flag_adm (hO : Ok m) (i : grid0.Coords) : (adm m hO).1.atD 5 (k0_off1 i) = flagAt m i := by
  unfold flagAt; dsimp only

variable (hG : Good m)

/-- The scratch after the point at position `n`. -/
def scr (c : Dev nD) : (n : ℕ) → n < (cfgT m hG.ok).N → Vec F S2048x1024 .bf16
  | 0, h => k0_pay2 (blockAt m hG.ok c 1 ⟨0, h⟩)
  | n + 1, h => keep (flagAt m (grid0.coords ⟨n + 1, h⟩)) (blockAt m hG.ok c 1 ⟨n + 1, h⟩) (scr c n (Nat.lt_of_succ_lt h))

/-- The output's buffer after point `t`. -/
def outAt (c : Dev nD) (t : Fin (cfgT m hG.ok).N) : Vec F S512x1024 .f32 :=
  left (flagAt m (grid0.coords t)) (blockAt m hG.ok c 0 t) (scr m hG c t.val t.isLt) (blockAt m hG.ok c 2 t)

/-- What the core holds between points besides the staged blocks: the scratch, the generator's register, its half of the
    tables. -/
def between (c : Dev nD) : (n : ℕ) → n ≤ (cfgT m hG.ok).N → sProp 𝕄
  | 0, _ => iprop(Pipeline.ΦA spec0 c ∗ Pipeline.ΦT pre0 (tables m) c)
  | n + 1, h => iprop((owns (c : Thread nD τ) scratch0 fullShare (scr m hG c n h) ∗ (∃ r, prngReg c r)) ∗ Pipeline.ΦT pre0 (tables m) c)

theorem between_pos (c : Dev nD) (n : ℕ) (h : n ≤ (cfgT m hG.ok).N) (hn : n ≠ 0) :
    between m hG c n h = iprop((owns (c : Thread nD τ) scratch0 fullShare (scr m hG c (n - 1) (by omega)) ∗ (∃ r, prngReg c r)) ∗ Pipeline.ΦT pre0 (tables m) c) := by
  cases n with
  | zero => exact absurd rfl hn
  | succ n => rfl

/-- The call's data. -/
def dats (_ : Fin 1) (c : Dev nD) : Dat τ (Elt F) Unit ℕ (UR sig nD τ) ℕ (cfgT m hG.ok) c where
  A w := V m c (Pipeline.arrRef spec0 w)
  after w t := match w with
    | ⟨0, _⟩ => blockAt m hG.ok c 0 t
    | ⟨1, _⟩ => blockAt m hG.ok c 1 t
    | ⟨2, _⟩ => blockAt m hG.ok c 2 t
    | ⟨3, _⟩ => outAt m hG c t
  Φ t := between m hG c t.val (Nat.le_of_lt_succ t.isLt)
  q _ := fullShare
  owed _ := 0

theorem A_eq (c : Dev nD) (w : Fin (cfgT m hG.ok).W) : (dats m hG 0 c).A w = V m c (Pipeline.arrRef spec0 w) := by
  dsimp only [dats]
theorem after_0 (c : Dev nD) (t : Fin (cfgT m hG.ok).N) : (dats m hG 0 c).after 0 t = blockAt m hG.ok c 0 t := by dsimp only [dats]; try rfl
theorem after_1 (c : Dev nD) (t : Fin (cfgT m hG.ok).N) : (dats m hG 0 c).after 1 t = blockAt m hG.ok c 1 t := by dsimp only [dats]; try rfl
theorem after_2 (c : Dev nD) (t : Fin (cfgT m hG.ok).N) : (dats m hG 0 c).after 2 t = blockAt m hG.ok c 2 t := by dsimp only [dats]; try rfl
theorem after_3 (c : Dev nD) (t : Fin (cfgT m hG.ok).N) : (dats m hG 0 c).after 3 t = outAt m hG c t := by dsimp only [dats]; try rfl
theorem before_0 (c : Dev nD) (t : Fin (cfgT m hG.ok).N) (d) : (dats m hG 0 c).before 0 t d = blockAt m hG.ok c 0 t :=
  held_0 m hG.ok (dats m hG 0 c) (A_eq m hG c 0) (after_0 m hG c) t d
theorem before_1 (c : Dev nD) (t : Fin (cfgT m hG.ok).N) (d) : (dats m hG 0 c).before 1 t d = blockAt m hG.ok c 1 t :=
  held_1 m hG.ok (dats m hG 0 c) (A_eq m hG c 1) (after_1 m hG c) t d
theorem before_2 (c : Dev nD) (t : Fin (cfgT m hG.ok).N) (d) : (dats m hG 0 c).before 2 t d = blockAt m hG.ok c 2 t :=
  held_2 m hG.ok (dats m hG 0 c) (A_eq m hG c 2) (after_2 m hG c) t d

/-- What the body finds at point `t` -/
def found (c : Dev nD) (t : Fin (cfgT m hG.ok).N) : sProp 𝕄 :=
  iprop((dats m hG 0 c).Φ t.castSucc ∗ (dats m hG 0 c).owesAt () t.castSucc
    ∗ (∃ d, owns (c : Thread nD τ) (stage_0 m hG.ok t) fullShare ((dats m hG 0 c).before 0 t d))
    ∗ (∃ d, owns (c : Thread nD τ) (stage_1 m hG.ok t) fullShare ((dats m hG 0 c).before 1 t d))
    ∗ (∃ d, owns (c : Thread nD τ) (stage_2 m hG.ok t) fullShare ((dats m hG 0 c).before 2 t d))
    ∗ (∃ d, owns (c : Thread nD τ) (stage_3 m hG.ok t) fullShare ((dats m hG 0 c).before 3 t d)))

/-- and what it leaves. -/
def leaves (c : Dev nD) (t : Fin (cfgT m hG.ok).N) : sProp 𝕄 :=
  iprop((dats m hG 0 c).Φ t.succ ∗ (dats m hG 0 c).owesAt () t.succ
    ∗ owns (c : Thread nD τ) (stage_0 m hG.ok t) fullShare ((dats m hG 0 c).after 0 t)
    ∗ owns (c : Thread nD τ) (stage_1 m hG.ok t) fullShare ((dats m hG 0 c).after 1 t)
    ∗ owns (c : Thread nD τ) (stage_2 m hG.ok t) fullShare ((dats m hG 0 c).after 2 t)
    ∗ owns (c : Thread nD τ) (stage_3 m hG.ok t) fullShare ((dats m hG 0 c).after 3 t))

theorem scr_eq (c : Dev nD) (t : Fin (cfgT m hG.ok).N) (ht : t.val ≠ 0) :
    scr m hG c t.val t.isLt = keep (flagAt m (grid0.coords t)) (blockAt m hG.ok c 1 t) (scr m hG c (t.val - 1) (by omega)) := by
  obtain ⟨n, hn⟩ := t
  cases n with
  | zero => exact absurd rfl ht
  | succ n => rfl

theorem scr_zero (c : Dev nD) (t : Fin (cfgT m hG.ok).N) (ht : t.val = 0) (s : Vec F S2048x1024 .bf16) :
    scr m hG c t.val t.isLt = keep (flagAt m (grid0.coords t)) (blockAt m hG.ok c 1 t) s := by
  obtain ⟨n, hn⟩ := t
  obtain rfl : n = 0 := ht
  unfold keep
  rw [if_pos hG.first]
  rfl

set_option maxHeartbeats 3200000 in
theorem body_sound (c : Dev nD) (t : Fin (cfgT m hG.ok).N) :
    found m hG c t ⊢ wp frame (wpE (defs₀ (F := F)) Variants.none c none) Set.univ (bodyAt (adm m hG.ok) t) (fun _ => leaves m hG c t) := by
  unfold found leaves bodyAt
  simp only [before_0, before_1, before_2]
  rw [show (dats m hG 0 c).owesAt () t.succ = (dats m hG 0 c).owesAt () t.castSucc from rfl,
    after_0, after_1, after_2, after_3]
  rw [show (dats m hG 0 c).Φ t.succ = iprop((owns (c : Thread nD τ) scratch0 fullShare (scr m hG c t.val t.isLt) ∗ (∃ r, prngReg c r)) ∗ Pipeline.ΦT pre0 (tables m) c) from rfl,
    show (dats m hG 0 c).Φ t.castSucc = between m hG c t.val (Nat.le_of_lt t.isLt) from rfl]
  unfold outAt
  by_cases hz : t.val = 0
  · rw [show between m hG c t.val (Nat.le_of_lt t.isLt) = iprop(Pipeline.ΦA spec0 c ∗ Pipeline.ΦT pre0 (tables m) c) from by
      obtain ⟨n, hn⟩ := t; obtain rfl : n = 0 := hz; rfl, halves, rest_eq]
    iintro ⟨⟨⟨⟨%s, HS0⟩, Hg⟩, ⟨HT0, HT1, HT2, HT3, HT4, HT5⟩⟩, Ho, ⟨%d0, H0⟩, ⟨%d1, H1⟩, ⟨%d2, H2⟩, ⟨%d3, H3⟩⟩
    rw [scr_zero m hG c t hz s]
    iapply (body_runs c (grid0.coords t) _ _ _ _ _ _ _ _ _ _ (blockAt m hG.ok c 0 t) (blockAt m hG.ok c 1 t) (blockAt m hG.ok c 2 t) s (tables m) (flagAt m (grid0.coords t)) (flag_adm m hG.ok _) (hG.flags _) Set.univ _)
    isplitl [H0]; · iexact H0
    isplitl [H1]; · iexact H1
    isplitl [H2]; · iexact H2
    isplitl [H3]; · iexists _; iexact H3
    isplitl [HS0]; · iexact HS0
    isplitl [HT5]; · iexact HT5
    iintro ⟨H0, H1, H2, H3, HS0, HT5⟩
    isplitl [HS0 Hg HT0 HT1 HT2 HT3 HT4 HT5]
    · isplitl [HS0 Hg]
      · isplitl [HS0]
        · iexact HS0
        iexact Hg
      isplitl [HT0]; · iexact HT0
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    iexact H3
  · rw [between_pos m hG c _ _ hz, halves, scr_eq m hG c t hz]
    iintro ⟨⟨⟨HS0, Hg⟩, ⟨HT0, HT1, HT2, HT3, HT4, HT5⟩⟩, Ho, ⟨%d0, H0⟩, ⟨%d1, H1⟩, ⟨%d2, H2⟩, ⟨%d3, H3⟩⟩
    iapply (body_runs c (grid0.coords t) _ _ _ _ _ _ _ _ _ _ (blockAt m hG.ok c 0 t) (blockAt m hG.ok c 1 t) (blockAt m hG.ok c 2 t) (scr m hG c (t.val - 1) (by omega)) (tables m) (flagAt m (grid0.coords t)) (flag_adm m hG.ok _) (hG.flags _) Set.univ _)
    isplitl [H0]; · iexact H0
    isplitl [H1]; · iexact H1
    isplitl [H2]; · iexact H2
    isplitl [H3]; · iexists _; iexact H3
    isplitl [HS0]; · iexact HS0
    isplitl [HT5]; · iexact HT5
    iintro ⟨H0, H1, H2, H3, HS0, HT5⟩
    isplitl [HS0 Hg HT0 HT1 HT2 HT3 HT4 HT5]
    · isplitl [HS0 Hg]
      · isplitl [HS0]
        · iexact HS0
        iexact Hg
      isplitl [HT0]; · iexact HT0
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    iexact H3

/-- A point with one of the three flags does not leave the output's buffer unwritten. -/
theorem never_idle (T : pre0.Contents (Elt F)) (i : grid0.Coords) (w : BitVec 32) (hT : T.atD 5 (k0_off1 i) = w)
    (h : w = 4#32 ∨ w = 3#32 ∨ w = 1#32) : idle0 (F := F) T 3 i = false := by
  show (!(k0_cond1 (T.atD 5 (k0_off1 i)) == 1#1) && !(k0_cond3 (T.atD 5 (k0_off1 i)) == 1#1)) = false
  rw [hT]
  rcases h with h | h | h <;> rw [h] <;> decide

theorem idle_out (a : (pcfg0 (F := F)).Adm) (t : Fin (cfg0 a).N) (b : Bool) (h : idle0 (F := F) a.1 3 (grid0.coords t) = b) :
    (cfg0 a).idle (3 : Fin 4) ((cfg0 a).grid.coords t) = b := h

theorem obligation (c : Dev nD) : BodyObligation (dats (F := F) m hG 0 c) (defs₀ (F := F)) Variants.none () Set.univ := fun t => by
  have hi : (cfgT m hG.ok).idle (3 : Fin 4) ((cfgT m hG.ok).grid.coords t) = false :=
    idle_out (adm m hG.ok) t _ (never_idle _ (grid0.coords t) (flagAt m (grid0.coords t)) (flag_adm m hG.ok _) (hG.flags _))
  rw [bigSep_W0, bigSep_W0, body_row m hG.ok]
  refine triple_restated (body_sound m hG c t) rfl .rfl fun _ => ?_
  rw [hi]
  exact .rfl

theorem first_held (c : Dev nD) : iprop(Pipeline.ΦA spec0 c ∗ Pipeline.ΦT pre0 (tables m) c) ⊢ (dats m hG 0 c).Φ 0 :=
  Entails.refl _

theorem last_held (c : Dev nD) : (dats m hG 0 c).Φ (Fin.last (cfgT m hG.ok).N) ⊢ Pipeline.ΦA spec0 c := by
  rw [show (dats m hG 0 c).Φ (Fin.last (cfgT m hG.ok).N) = between m hG c (cfgT m hG.ok).N (Nat.le_refl _) from rfl,
    between_pos m hG c _ _ (by have : (cfgT m hG.ok).N = 640 := N_0; omega), rest_eq]
  iintro ⟨⟨HS0, Hg⟩, HT⟩
  isplitl [HS0]
  · iexists _; iexact HS0
  iexact Hg

set_option backward.isDefEq.respectTransparency.types false in
/-- The program's run. -/
theorem program_runs : θ_run defs (onTc (τ := τ) (main (F := F))) (s₀ m ρ)
    (fun r => Pipeline.FramePost (Pipeline.pin pcfgs fun _ => adm m hG.ok) (dats m hG) 0 (V m) r ∧ r.2.sem = fun _ => 0) :=
  Pipeline.θ_run_frameP_track (Q' := _) pcfgs (fun _ => adm m hG.ok) (dats m hG) (0 : Fin 1) launch0 defs₀ Variants.none m ρ main
    (hbody := fun c => (obligation m hG c).loose) (hshare := fun c => (dats m hG 0 c).share_full fun _ => rfl)
    (howed := fun _ _ => rfl) (V := V m) (hmain := main_shape m Variants.none) (hA := A_eq m hG) (hpf := V_tables m)
    (hin := first_held m hG) (hout := last_held m hG)

end Cert.MoeDownIdeal.Tiles

end
-- ==== Proof.Moe.MoeDownIdeal.Frame.lean ====
/-
  The arguments after the run: no array but the result's is written.
-/
module

public import proofs.«01_k».proof.Proof.Moe.MoeDownIdeal.Run
public import Idealize.ShloMosaic.Lib.Pipeline.ValueKit.Geometry

@[expose] public section

set_option maxRecDepth 16384

noncomputable section

namespace Cert.MoeDownIdeal.Tiles

open Idealize.ShloMosaic Idealize.ShloMosaic.TcCoe Idealize.SL.Sem
open Cert.MoeDownIdeal Cert.MoeDownIdeal.Gen

variable {F : FTy → Type} [FloatOps F]
variable (m : (ℓ : Loc nD τ sig) → Buf (Elt F) ℓ) (ρ : Dev nD → PrngReg) (hG : Good m)

/-- The program's run with its post at the call's data. -/
abbrev Post (r : PUnit × MemSt nD τ sig (Elt F)) : Prop :=
  Pipeline.FramePost (Pipeline.pin pcfgs fun _ => adm m hG.ok) (dats m hG) 0 (V m) r

theorem end_0 (r) (h : Post m hG r) (c : Dev nD) : r.2.mem ((c : Thread nD τ).loc main_arg0) = m ((c : Thread nD τ).loc main_arg0) :=
  (h.rest_eq c main_arg0 (by decide : main_arg0 ∈ Pipeline.restRefs sig spec0)).trans (V_arg0 m c)
theorem end_1 (r) (h : Post m hG r) (c : Dev nD) : r.2.mem ((c : Thread nD τ).loc main_arg1) = m ((c : Thread nD τ).loc main_arg1) :=
  (h.rest_eq c main_arg1 (by decide : main_arg1 ∈ Pipeline.restRefs sig spec0)).trans (V_arg1 m c)
theorem end_2 (r) (h : Post m hG r) (c : Dev nD) : r.2.mem ((c : Thread nD τ).loc main_arg2) = m ((c : Thread nD τ).loc main_arg2) :=
  (h.rest_eq c main_arg2 (by decide : main_arg2 ∈ Pipeline.restRefs sig spec0)).trans (V_arg2 m c)
theorem end_3 (r) (h : Post m hG r) (c : Dev nD) : r.2.mem ((c : Thread nD τ).loc main_arg3) = m ((c : Thread nD τ).loc main_arg3) :=
  (h.in_eq c 0 rfl).trans ((A_eq m hG c 0).trans (V_arg3 m c))
theorem end_4 (r) (h : Post m hG r) (c : Dev nD) : r.2.mem ((c : Thread nD τ).loc main_arg4) = m ((c : Thread nD τ).loc main_arg4) :=
  (h.in_eq c 1 rfl).trans ((A_eq m hG c 1).trans (V_arg4 m c))
theorem end_5 (r) (h : Post m hG r) (c : Dev nD) : r.2.mem ((c : Thread nD τ).loc main_arg5) = m ((c : Thread nD τ).loc main_arg5) :=
  (h.rest_eq c main_arg5 (by decide : main_arg5 ∈ Pipeline.restRefs sig spec0)).trans (V_arg5 m c)

include hG in
/-- The program runs, ends with its arguments unchanged and every counter back at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨end_0 m hG r h.1 c, end_1 m hG r h.1 c, end_2 m hG r h.1 c, end_3 m hG r h.1 c,
    end_4 m hG r h.1 c, end_5 m hG r h.1 c⟩, h.2⟩) (program_runs m ρ hG)

end Cert.MoeDownIdeal.Tiles

end
-- ==== Proof.Moe.MoeDownIdeal.Tables.lean ====
/-
  The tables that the call reads are the arrays of the schedule.
-/
module

public import proofs.«01_k».proof.Proof.Moe.MoeDownIdeal.Setup
public import proofs.«01_k».proof.Proof.Moe.Stages
public import Idealize.ShloMosaic.Lib.StableHlo.RunRead

@[expose] public section

set_option maxRecDepth 65536

noncomputable section

namespace Cert.MoeDownIdeal.Tiles

open Idealize.ShloMosaic Idealize.ShloMosaic.TcCoe
open Cert.MoeDownIdeal Cert.MoeDownIdeal.Gen
open Cert.Layer

variable {F : FTy → Type} [FloatOps F]
variable (m : (ℓ : Loc nD τ sig) → Buf (Elt F) ℓ)

/-- The number of tiles of each expert, the first tile of each, the tile after the last of each. -/
def counts : IVec Schedule.Experts 32 := m (0, Proc.devRef .tc main_arg0)
def starts : IVec Schedule.Experts 32 := m (0, Proc.devRef .tc main_arg1)
def ends : IVec Schedule.Experts 32 := m (0, Proc.devRef .tc main_arg2)

set_option maxHeartbeats 1000000 in
theorem table_0 : (tables m 0 : IVec Schedule.Points 32) = Schedule.expert (ends m) := by
  show StableHlo.after _ _ (Proc.devRef .tc main_v17) = _
  after_reads_simp
  rfl
set_option maxHeartbeats 1000000 in
theorem table_1 : (tables m 1 : IVec Schedule.Points 32) = Schedule.colBlock (counts m) (starts m) (ends m) := by
  show StableHlo.after _ _ (Proc.devRef .tc main_v37) = _
  after_reads_simp
  rfl
set_option maxHeartbeats 1000000 in
theorem table_2 : (tables m 2 : IVec Schedule.Points 32) = Schedule.tile (counts m) (starts m) (ends m) := by
  show StableHlo.after _ _ (Proc.devRef .tc main_v47) = _
  after_reads_simp
  rfl
set_option maxHeartbeats 1000000 in
theorem table_3 : (tables m 3 : IVec Schedule.Points 32) = Schedule.outRow (counts m) (starts m) (ends m) := by
  show StableHlo.after _ _ (Proc.devRef .tc main_v57) = _
  after_reads_simp
  rfl
set_option maxHeartbeats 1000000 in
theorem table_4 : (tables m 4 : IVec Schedule.Points 32) = Schedule.outCol (counts m) (starts m) (ends m) := by
  show StableHlo.after _ _ (Proc.devRef .tc main_v59) = _
  after_reads_simp
  rfl
set_option maxHeartbeats 1000000 in
theorem table_5 : (tables m 5 : IVec Schedule.Points 32) = Schedule.flag (counts m) (starts m) (ends m) := by
  show StableHlo.after _ _ (Proc.devRef .tc main_v67) = _
  after_reads_simp
  rfl

end Cert.MoeDownIdeal.Tiles

end
-- ==== Proof.Moe.MoeDownIdeal.Good.lean ====
/-
  Where the schedule sends the windows: each table's entry at a grid point as a number, and from it that every block lies
  inside its array and that the flags are the three that the body knows.
-/
module

public import proofs.«01_k».proof.Proof.Moe.MoeDownIdeal.Run
public import proofs.«01_k».proof.Proof.Moe.MoeDownIdeal.Tables
public import proofs.«01_k».proof.Proof.Moe.Words

@[expose] public section

set_option maxRecDepth 16384

noncomputable section

namespace Cert.MoeDownIdeal.Tiles

open Idealize.ShloMosaic Idealize.ShloMosaic.TcCoe Idealize.ShloMosaic.ValueIdx
open Cert.MoeDownIdeal Cert.MoeDownIdeal.Gen
open Cert.Layer Cert.Layer.Plan

variable {F : FTy → Type} [FloatOps F]
variable (m : (ℓ : Loc nD τ sig) → Buf (Elt F) ℓ)

/-- A grid point's position. -/
def pos (i : grid0.Coords) : Fin 640 := i 0

/-- The word a load of one word at the grid point's position reads. -/
theorem entry_at (i : grid0.Coords) (T : IVec S640 32) (h1 : S1.numel = 1) :
    T ((Rect.unit (s := S640) (k0_off1 i) S1.size (k0_off1_inb i)).emb (Shape.Idx.first (h1.symm ▸ Nat.one_pos))) = T (ix1 (pos i)) := by
  congr 1
  funext (a : Fin 1)
  obtain rfl : a = 0 := Subsingleton.elim _ _
  apply Fin.ext
  have e : k0_off1 i 0 = (i 0).val := by rw [k0_off1_eq]; rfl
  show k0_off1 i 0 + 1 * (Shape.Idx.first (s := S1) (h1.symm ▸ Nat.one_pos) 0).val = (i 0).val
  have : (Shape.Idx.first (s := S1) (h1.symm ▸ Nat.one_pos) 0).val < 1 := Fin.isLt _
  omega

theorem flag_entry (i : grid0.Coords) : flagAt m i = (tables m 5 : IVec S640 32) (ix1 (pos i)) := by
  have e : k0_off1 i 0 = (i 0).val := by rw [k0_off1_eq]; rfl
  have hb : ∀ a, k0_off1 i a + 1 ≤ (pre0.ref 5).ty.shape.size a := fun (a : Fin 1) => by
    obtain rfl : a = 0 := Subsingleton.elim _ _
    rw [e]; exact (i 0).isLt
  refine (dif_pos hb).trans ?_
  congr 1
  funext (a : Fin 1)
  obtain rfl : a = 0 := Subsingleton.elim _ _
  exact Fin.ext e

variable {a s t : ℕ → ℕ} (hH : Schedule.Holds (counts m) (starts m) (ends m) a s t)

theorem number (n : ℕ) (h : n ≤ 640) : (BitVec.ofNat 32 n).toNat = n := by
  rw [BitVec.toNat_ofNat]; exact Nat.mod_eq_of_lt (by omega)

include hH in
theorem ex_lt (n : ℕ) : ex t n < 32 := (ex_spec hH.tiling n).1
include hH in
theorem ti_bound (n : ℕ) : ti a s t n < 160 := lt_of_lt_of_le (ti_lt hH.tiling n) hH.tiling.top

/-- The word the index maps load from a table. -/
def load (T : IVec S640 32) (i : grid0.Coords) : BitVec 32 :=
  T ((Rect.unit (s := S640) (k0_off1 i) S1.size (k0_off1_inb i)).emb (Shape.Idx.first (numel1_S1.symm ▸ Nat.one_pos)))

include hH in
theorem load_0 (i : grid0.Coords) : (load (tables m 0) i).toNat = ex t (pos i).val := by
  have e : load (tables m 0) i = BitVec.ofNat 32 (ex t (pos i).val) := (entry_at i (tables m 0) numel1_S1).trans (by rw [table_0, Schedule.expert_at hH])
  rw [e, number _ (by have := ex_lt m hH (pos i).val; omega)]
include hH in
theorem load_1 (i : grid0.Coords) : (load (tables m 1) i).toNat = co a s t (pos i).val := by
  have e : load (tables m 1) i = BitVec.ofNat 32 (co a s t (pos i).val) := (entry_at i (tables m 1) numel1_S1).trans (by rw [table_1, Schedule.colBlock_at hH])
  rw [e, number _ (by have := co_lt hH.tiling (pos i).val; omega)]
include hH in
theorem load_2 (i : grid0.Coords) : (load (tables m 2) i).toNat = ti a s t (pos i).val := by
  have e : load (tables m 2) i = BitVec.ofNat 32 (ti a s t (pos i).val) := (entry_at i (tables m 2) numel1_S1).trans (by rw [table_2, Schedule.tile_at hH])
  rw [e, number _ (by have := ti_bound m hH (pos i).val; omega)]
include hH in
theorem load_3 (i : grid0.Coords) : (load (tables m 3) i).toNat = oR a s t (pos i).val := by
  have e : load (tables m 3) i = BitVec.ofNat 32 (oR a s t (pos i).val) := (entry_at i (tables m 3) numel1_S1).trans (by rw [table_3, Schedule.outRow_at hH])
  rw [e, number _ (by have := oR_lt hH.tiling (pos i).isLt; omega)]
include hH in
theorem load_4 (i : grid0.Coords) : (load (tables m 4) i).toNat = oC a s t (pos i).val := by
  have e : load (tables m 4) i = BitVec.ofNat 32 (oC a s t (pos i).val) := (entry_at i (tables m 4) numel1_S1).trans (by rw [table_4, Schedule.outCol_at hH])
  rw [e, number _ (by have := oC_lt hH.tiling (pos i).val; omega)]

include hH in
theorem index_0 (i : grid0.Coords) : cc0_transform_0 k0_off1_inb numel1_S1 (tables m) i = ![ti a s t (pos i).val, 0] := by
  rw [← load_2 m hH i]; rfl
include hH in
theorem index_1 (i : grid0.Coords) : cc0_transform_1 k0_off1_inb numel1_S1 (tables m) i = ![0, ex t (pos i).val, 0, co a s t (pos i).val] := by
  rw [← load_0 m hH i, ← load_1 m hH i]; rfl
include hH in
theorem index_2 (i : grid0.Coords) : cc0_transform_2 k0_off1_inb numel1_S1 (tables m) i = ![0, ex t (pos i).val, 0, co a s t (pos i).val] := by
  rw [← load_0 m hH i, ← load_1 m hH i]; rfl
include hH in
theorem index_3 (i : grid0.Coords) : cc0_transform_3 k0_off1_inb numel1_S1 (tables m) i = ![oR a s t (pos i).val, oC a s t (pos i).val] := by
  rw [← load_3 m hH i, ← load_4 m hH i]; rfl

include hH in
theorem flag_number (i : grid0.Coords) : flagAt m i = BitVec.ofNat 32 (fl a s t (pos i).val) := by
  rw [flag_entry, table_5, Schedule.flag_at hH]

include hH in
theorem ok_holds : Ok m := by
  refine ⟨fun i => ⟨?_, ?_⟩, fun i => ⟨?_, .inl rfl⟩, fun i => ⟨?_, .inl rfl⟩, fun i => ⟨?_, .inl rfl⟩⟩
  · rw [index_0 m hH i]
    have := ti_bound m hH (pos i).val
    exact fun b => by
      match b with
      | ⟨0, _⟩ => show (ti a s t (pos i).val + 1) * 512 ≤ 81920; omega
      | ⟨1, _⟩ => show (0 + 1) * 2048 ≤ 2048; omega
  · exact .inr (Affine.block_words_dvd (of_decide_eq_true rfl) (by decide))
  · rw [index_1 m hH i]
    have := ex_lt m hH (pos i).val; have := co_lt hH.tiling (pos i).val
    exact fun b => by
      match b with
      | ⟨0, _⟩ => show (0 + 1) * 1 ≤ 2; omega
      | ⟨1, _⟩ => show (ex t (pos i).val + 1) * 1 ≤ 32; omega
      | ⟨2, _⟩ => show (0 + 1) * 2048 ≤ 2048; omega
      | ⟨3, _⟩ => show (co a s t (pos i).val + 1) * 1024 ≤ 4096; omega
  · rw [index_2 m hH i]
    have := ex_lt m hH (pos i).val; have := co_lt hH.tiling (pos i).val
    exact fun b => by
      match b with
      | ⟨0, _⟩ => show (0 + 1) * 1 ≤ 2; omega
      | ⟨1, _⟩ => show (ex t (pos i).val + 1) * 1 ≤ 32; omega
      | ⟨2, _⟩ => show (0 + 1) * 1 ≤ 1; omega
      | ⟨3, _⟩ => show (co a s t (pos i).val + 1) * 1024 ≤ 4096; omega
  · rw [index_3 m hH i]
    have := oR_lt hH.tiling (pos i).isLt; have := oC_lt hH.tiling (pos i).val
    exact fun b => by
      match b with
      | ⟨0, _⟩ => show (oR a s t (pos i).val + 1) * 512 ≤ 81920; omega
      | ⟨1, _⟩ => show (oC a s t (pos i).val + 1) * 1024 ≤ 4096; omega

include hH in
theorem good : Good m where
  ok := ok_holds m hH
  flags i := by
    rw [flag_number m hH]
    rcases fl_cases hH.tiling (pos i).val with h | h | h <;> rw [h] <;> simp
  first := by
    rw [flag_number m hH]
    have : (pos (grid0.coords ⟨0, by decide⟩)).val = 0 := by decide
    rw [this, fl_zero hH.tiling]

end Cert.MoeDownIdeal.Tiles

end
-- ==== Proof.Moe.Owner.lean ====
/-
  Which expert a token row belongs to: a sum over the experts in which only a row's own expert counts.
-/
module

public import proofs.«01_k».proof.Proof.Moe.Plan

@[expose] public section

namespace Cert.Layer.Plan

variable {a s t : ℕ → ℕ} (h : Tiling a s t)

include h in
/-- A row of the tile that point `n` takes belongs to the point's expert alone. -/
theorem own_row {M : Type} [AddCommMonoid M] (f : Fin 32 → M) (n i : ℕ) (hi : i < 512) :
    (∑ e : Fin 32, if 512 * s e.val ≤ 512 * ti a s t n + i ∧ 512 * ti a s t n + i < 512 * t e.val then f e else 0)
      = f ⟨ex t n, (ex_spec h n).1⟩ := by
  obtain ⟨h1, h2⟩ := ti_owned h n
  refine (Finset.sum_eq_single (⟨ex t n, (ex_spec h n).1⟩ : Fin 32) (fun e _ he => if_neg fun hc => he ?_)
    (fun hc => absurd (Finset.mem_univ _) hc)).trans (if_pos ⟨?_, ?_⟩)
  · exact Fin.ext (owner_unique h e.isLt (ex_spec h n).1 (x := ti a s t n) (by omega) (by omega) h1 h2)
  · show 512 * s (ex t n) ≤ _; omega
  · show _ < 512 * t (ex t n); omega

include h in
/-- A row past the last expert's tiles belongs to none. -/
theorem spare_row {M : Type} [AddCommMonoid M] (f : Fin 32 → M) (r : ℕ) (hr : 512 * t 31 ≤ r) :
    (∑ e : Fin 32, if 512 * s e.val ≤ r ∧ r < 512 * t e.val then f e else 0) = 0 := by
  refine Finset.sum_eq_zero fun e _ => if_neg fun hc => ?_
  have := h.le_top e.isLt
  omega

end Cert.Layer.Plan
-- ==== Proof.Moe.MoeDownIdeal.Value.lean ====
/-
  The call's result as a function of its arguments: every row is its expert's product and bias, the rows past the last
  expert's tiles are zero.
-/
module

public import proofs.«01_k».proof.Proof.Moe.MoeDownIdeal.Good
public import proofs.«01_k».proof.Proof.Moe.Owner
public import Idealize.ShloMosaic.Lib.Pipeline.ValueKit.Geometry
public import Idealize.ShloMosaic.Lib.Pipeline.ValueKit.Tiles
public import Idealize.ShloMosaic.Lib.StableHlo.RunRead
public import Idealize.ShloMosaic.Lib.Pointwise
public import Idealize.ShloMosaic.Lib.Tactic

@[expose] public section

set_option maxRecDepth 16384

noncomputable section

namespace Cert.MoeDownIdeal.Tiles

open Idealize.ShloMosaic Idealize.ShloMosaic.TcCoe Idealize.SL.Sem
open Cert.MoeDownIdeal Cert.MoeDownIdeal.Gen
open Cert.Layer Cert.Layer.Plan

/-- Expert `e`'s product and bias at token row `r`, column `d`. -/
def expertRow (x : FVec Ideal S81920x2048 .bf16) (w : FVec Ideal S2x32x2048x4096 .f32) (b : FVec Ideal S2x32x4096 .f32)
    (r : Fin 81920) (d : Fin 4096) (e : Fin 32) : EReal :=
  (∑ k : Fin 2048, x (ix2 r k) * w (ix4 0 e k d)) + b (ix3 0 e d)

/-- Each row by its own expert. -/
def routed (s t : ℕ → ℕ) (x : FVec Ideal S81920x2048 .bf16) (w : FVec Ideal S2x32x2048x4096 .f32) (b : FVec Ideal S2x32x4096 .f32)
    (r : Fin 81920) (d : Fin 4096) : EReal :=
  ∑ e : Fin 32, if 512 * s e.val ≤ r.val ∧ r.val < 512 * t e.val then expertRow x w b r d e else 0

def routedArray (s t : ℕ → ℕ) (x : FVec Ideal S81920x2048 .bf16) (w : FVec Ideal S2x32x2048x4096 .f32) (b : FVec Ideal S2x32x4096 .f32)
    (y : S81920x4096.Idx) : EReal := routed s t x w b (y 0) (y 1)

/-! ### The body's values -/

theorem zeros_at (r : Fin 512) (d : Fin 1024) : (k0_pay1 (F := Ideal)) (ix2 r d) = 0 := by
  pointwise [k0_pay1]

theorem cast_at (x : Vec Ideal S1x1x2048x1024 .f32) (k : Fin 2048) (d : Fin 1024) : k0_pay2 (F := Ideal) x (ix2 k d) = x (ix4 0 0 k d) := by
  pointwise [k0_pay2]

theorem product_at (x : Vec Ideal S512x2048 .bf16) (w : Vec Ideal S2048x1024 .bf16) (b : Vec Ideal S1x1x1x1024 .f32) (r : Fin 512) (d : Fin 1024) :
    k0_pay3 (F := Ideal) x w b (ix2 r d) = (∑ k : Fin 2048, x (ix2 r k) * w (ix2 k d)) + b (ix4 0 0 0 d) := by
  pointwise [k0_pay3]

variable (m : (ℓ : Loc nD τ sig) → Buf (Elt Ideal) ℓ)
variable {a s t : ℕ → ℕ} (hH : Schedule.Holds (counts m) (starts m) (ends m) a s t)

theorem pos_coords : ∀ n : Fin grid0.N, (pos (grid0.coords n)).val = n.val := by decide +kernel

/-! ### The blocks -/

/-- The token row and the column of an entry of point `n`'s input row block and column block. -/
def inRow (n : ℕ) (r : Fin 512) : Fin 81920 := ⟨512 * ti a s t n + r.val, by have := ti_bound m hH n; omega⟩
def inCol (n : ℕ) (d : Fin 1024) : Fin 4096 := ⟨1024 * co a s t n + d.val, by have := co_lt hH.tiling n; omega⟩
def own (n : ℕ) : Fin 32 := ⟨ex t n, ex_lt m hH n⟩

theorem emb_0 (A : (pcfg0 (F := Ideal)).Adm) (n : Fin (cfg0 A).N) (r : Fin 512) (k : Fin 2048) (R : Fin 81920) (p : ℕ)
    (e : cc0_transform_0 k0_off1_inb numel1_S1 A.1 (grid0.coords n) = ![p, 0]) (hR : R.val = 512 * p + r.val) :
    (((cfg0 A).win 0).blk n).view.emb (ix2 r k : S512x2048.Idx) = (ix2 R k : S81920x2048.Idx) := by
  funext b
  apply Fin.ext
  match b with
  | ⟨0, _⟩ =>
    show cc0_transform_0 k0_off1_inb numel1_S1 A.1 (grid0.coords n) 0 * 512 + 1 * r.val = R.val
    rw [e, hR]; show p * 512 + 1 * r.val = _; omega
  | ⟨1, _⟩ =>
    show cc0_transform_0 k0_off1_inb numel1_S1 A.1 (grid0.coords n) 1 * 2048 + 1 * k.val = k.val
    rw [e]; show 0 * 2048 + 1 * k.val = _; omega

theorem emb_1 (A : (pcfg0 (F := Ideal)).Adm) (n : Fin (cfg0 A).N) (k : Fin 2048) (d : Fin 1024) (E : Fin 32) (C : Fin 4096) (p q : ℕ)
    (e : cc0_transform_1 k0_off1_inb numel1_S1 A.1 (grid0.coords n) = ![0, p, 0, q]) (hE : E.val = p) (hC : C.val = 1024 * q + d.val) :
    (((cfg0 A).win 1).blk n).view.emb (ix4 0 0 k d : S1x1x2048x1024.Idx) = (ix4 0 E k C : S2x32x2048x4096.Idx) := by
  funext b
  apply Fin.ext
  match b with
  | ⟨0, _⟩ =>
    show cc0_transform_1 k0_off1_inb numel1_S1 A.1 (grid0.coords n) 0 * 1 + 1 * 0 = 0
    rw [e]; show 0 * 1 + 1 * 0 = 0; omega
  | ⟨1, _⟩ =>
    show cc0_transform_1 k0_off1_inb numel1_S1 A.1 (grid0.coords n) 1 * 1 + 1 * 0 = E.val
    rw [e, hE]; show p * 1 + 1 * 0 = _; omega
  | ⟨2, _⟩ =>
    show cc0_transform_1 k0_off1_inb numel1_S1 A.1 (grid0.coords n) 2 * 2048 + 1 * k.val = k.val
    rw [e]; show 0 * 2048 + 1 * k.val = _; omega
  | ⟨3, _⟩ =>
    show cc0_transform_1 k0_off1_inb numel1_S1 A.1 (grid0.coords n) 3 * 1024 + 1 * d.val = C.val
    rw [e, hC]; show q * 1024 + 1 * d.val = _; omega

theorem emb_2 (A : (pcfg0 (F := Ideal)).Adm) (n : Fin (cfg0 A).N) (d : Fin 1024) (E : Fin 32) (C : Fin 4096) (p q : ℕ)
    (e : cc0_transform_2 k0_off1_inb numel1_S1 A.1 (grid0.coords n) = ![0, p, 0, q]) (hE : E.val = p) (hC : C.val = 1024 * q + d.val) :
    (((cfg0 A).win 2).blk n).view.emb (ix4 0 0 0 d : S1x1x1x1024.Idx) = (ix4 0 E 0 C : S2x32x1x4096.Idx) := by
  funext b
  apply Fin.ext
  match b with
  | ⟨0, _⟩ =>
    show cc0_transform_2 k0_off1_inb numel1_S1 A.1 (grid0.coords n) 0 * 1 + 1 * 0 = 0
    rw [e]; show 0 * 1 + 1 * 0 = 0; omega
  | ⟨1, _⟩ =>
    show cc0_transform_2 k0_off1_inb numel1_S1 A.1 (grid0.coords n) 1 * 1 + 1 * 0 = E.val
    rw [e, hE]; show p * 1 + 1 * 0 = _; omega
  | ⟨2, _⟩ =>
    show cc0_transform_2 k0_off1_inb numel1_S1 A.1 (grid0.coords n) 2 * 1 + 1 * 0 = 0
    rw [e]; show 0 * 1 + 1 * 0 = 0; omega
  | ⟨3, _⟩ =>
    show cc0_transform_2 k0_off1_inb numel1_S1 A.1 (grid0.coords n) 3 * 1024 + 1 * d.val = C.val
    rw [e, hC]; show q * 1024 + 1 * d.val = _; omega

theorem read_0 (hO : Ok m) (c : Dev nD) (n : Fin (cfgT m hO).N) (r : Fin 512) (k : Fin 2048) :
    (blockAt m hO c 0 n : Vec Ideal S512x2048 .bf16) (ix2 r k)
      = (m ((c : Thread nD τ).loc main_arg3) : FVec Ideal S81920x2048 .bf16) (ix2 (inRow m hH n.val r) k) := by
  have e := index_0 m hH (grid0.coords n)
  rw [pos_coords] at e
  exact (View.read_apply _ _).trans ((congrArg (V m c main_arg3) (emb_0 (adm m hO) n r k (inRow m hH n.val r) _ e rfl)).trans (congrFun (V_arg3 m c) _))

theorem read_1 (hO : Ok m) (c : Dev nD) (n : Fin (cfgT m hO).N) (k : Fin 2048) (d : Fin 1024) :
    (blockAt m hO c 1 n : Vec Ideal S1x1x2048x1024 .f32) (ix4 0 0 k d)
      = (m ((c : Thread nD τ).loc main_arg4) : FVec Ideal S2x32x2048x4096 .f32) (ix4 0 (own m hH n.val) k (inCol m hH n.val d)) := by
  have e := index_1 m hH (grid0.coords n)
  rw [pos_coords] at e
  exact (View.read_apply _ _).trans ((congrArg (V m c main_arg4) (emb_1 (adm m hO) n k d (own m hH n.val) (inCol m hH n.val d) _ _ e rfl rfl)).trans (congrFun (V_arg4 m c) _))

set_option maxRecDepth 65536 in
theorem bias_row (c : Dev nD) (e : Fin 32) (d : Fin 4096) :
    (V m c main_v68 : FVec Ideal S2x32x1x4096 .f32) (ix4 0 e 0 d) = (m ((c : Thread nD τ).loc main_arg5) : FVec Ideal S2x32x4096 .f32) (ix3 0 e d) := by
  have h : (V m c main_v68 : FVec Ideal S2x32x1x4096 .f32) = shapeCast S2x32x1x4096 (m ((c : Thread nD τ).loc main_arg5) : FVec Ideal S2x32x4096 .f32) shapeCasts_S2x32x4096_S2x32x1x4096 := by
    show StableHlo.after _ _ (Proc.devRef .tc main_v68) = _
    after_reads_simp
    rfl
  rw [h]
  pointwise []

theorem read_2 (hO : Ok m) (c : Dev nD) (n : Fin (cfgT m hO).N) (d : Fin 1024) :
    (blockAt m hO c 2 n : Vec Ideal S1x1x1x1024 .f32) (ix4 0 0 0 d)
      = (m ((c : Thread nD τ).loc main_arg5) : FVec Ideal S2x32x4096 .f32) (ix3 0 (own m hH n.val) (inCol m hH n.val d)) := by
  have e := index_2 m hH (grid0.coords n)
  rw [pos_coords] at e
  exact (View.read_apply _ _).trans ((congrArg (V m c main_v68) (emb_2 (adm m hO) n d (own m hH n.val) (inCol m hH n.val d) _ _ e rfl rfl)).trans (bias_row m c _ _))

/-! ### The scratch -/

include hH in
theorem flag_at (n : Fin grid0.N) : flagAt m (grid0.coords n) = BitVec.ofNat 32 (fl a s t n.val) := by
  rw [flag_number m hH, pos_coords]

/-- While there is work the scratch holds the block of the point's own expert and columns. -/
theorem scr_at (c : Dev nD) (k : Fin 2048) (d : Fin 1024) : ∀ (n : ℕ) (h : n < (cfgT m (good m hH).ok).N), n < 4 * t 31 →
    scr m (good m hH) c n h (ix2 k d)
      = (m ((c : Thread nD τ).loc main_arg4) : FVec Ideal S2x32x2048x4096 .f32) (ix4 0 (own m hH n) k (inCol m hH n d))
  | 0, h, _ => by
    unfold scr
    exact (cast_at _ k d).trans (read_1 m hH _ c ⟨0, h⟩ k d)
  | n + 1, h, hn => by
    unfold scr
    have ih := scr_at c k d n (Nat.lt_of_succ_lt h) (by omega)
    have e := flag_at m hH ⟨n + 1, h⟩
    unfold keep
    rcases fl_cases hH.tiling (n + 1) with h4 | h3 | h1
    · exact absurd h4 ((fl_work hH.tiling).2 hn)
    · have e' : flagAt m (grid0.coords ⟨n + 1, h⟩) = 3#32 := e.trans (by show BitVec.ofNat 32 (fl a s t (n + 1)) = _; rw [h3])
      rw [if_pos e']
      exact (cast_at _ k d).trans (read_1 m hH _ c ⟨n + 1, h⟩ k d)
    · have e' : flagAt m (grid0.coords ⟨n + 1, h⟩) = 1#32 := e.trans (by show BitVec.ofNat 32 (fl a s t (n + 1)) = _; rw [h1])
      rw [if_neg (by rw [e']; decide), ih]
      obtain ⟨-, h2, h3⟩ := fl_one hH.tiling h1
      have e1 : own m hH n = own m hH (n + 1) := Fin.ext h2
      have e2 : inCol m hH n d = inCol m hH (n + 1) d := Fin.ext (by show 1024 * co a s t n + d.val = 1024 * co a s t (n + 1) + d.val; rw [h3])
      rw [e1, e2]

/-! ### The result -/

/-- The token row and the column of an entry of point `n`'s block of the result. -/
def outRow (n : Fin grid0.N) (r : Fin 512) : Fin 81920 := ⟨512 * oR a s t n.val + r.val, by have := oR_lt hH.tiling n.isLt; omega⟩
def outCol (n : Fin grid0.N) (d : Fin 1024) : Fin 4096 := ⟨1024 * oC a s t n.val + d.val, by have := oC_lt hH.tiling n.val; omega⟩

theorem out_at (c : Dev nD) (n : Fin (cfgT m (good m hH).ok).N) (r : Fin 512) (d : Fin 1024) : outAt m (good m hH) c n (ix2 r d)
    = routed s t (m ((c : Thread nD τ).loc main_arg3)) (m ((c : Thread nD τ).loc main_arg4)) (m ((c : Thread nD τ).loc main_arg5))
        (outRow m hH n r) (outCol m hH n d) := by
  have e := flag_at m hH n
  unfold outAt left routed
  by_cases hn : n.val < 4 * t 31
  · have e4 : flagAt m (grid0.coords n) ≠ 4#32 := by
      rw [e]
      rcases fl_cases hH.tiling n.val with h4 | h3 | h1
      · exact absurd h4 ((fl_work hH.tiling).2 hn)
      · rw [h3]; decide
      · rw [h1]; decide
    have hr : outRow m hH n r = inRow m hH n.val r := Fin.ext (by
      show 512 * oR a s t n.val + r.val = 512 * ti a s t n.val + r.val; unfold oR; rw [if_pos hn])
    have hc : outCol m hH n d = inCol m hH n.val d := Fin.ext (by
      show 1024 * oC a s t n.val + d.val = 1024 * co a s t n.val + d.val; unfold oC; rw [if_pos hn])
    rw [if_neg e4, hr, hc]
    refine ((product_at _ _ _ r d).trans ?_).trans (own_row hH.tiling _ n.val r.val r.isLt).symm
    unfold expertRow
    exact congr (congrArg _ (Finset.sum_congr rfl fun k _ => congr (congrArg _ (read_0 m hH _ c n r k)) (scr_at m hH c k d n.val n.isLt hn)))
      (read_2 m hH _ c n d)
  · have e4 : flagAt m (grid0.coords n) = 4#32 := by
      rw [e]
      have : fl a s t n.val = 4 := by unfold fl; rw [if_neg hn]
      rw [this]
    rw [if_pos e4, zeros_at]
    refine (spare_row hH.tiling _ _ ?_).symm
    show 512 * t 31 ≤ 512 * oR a s t n.val + r.val
    unfold oR
    rw [if_neg hn]
    omega

theorem flush_of (A : (pcfg0 (F := Ideal)).Adm) (n : Fin (cfg0 A).N)
    (h : ∀ hn : n.val + 1 < grid0.N, cc0_transform_3 k0_off1_inb numel1_S1 A.1 (grid0.coords ⟨n.val + 1, hn⟩)
      ≠ cc0_transform_3 k0_off1_inb numel1_S1 A.1 (grid0.coords n)) : ((cfg0 A).win 3).flush n = true := by
  show (true && (decide (n.val + 1 = grid0.N) || decide (∃ hn : n.val + 1 < grid0.N,
    cc0_transform_3 k0_off1_inb numel1_S1 A.1 (grid0.coords ⟨n.val + 1, hn⟩) ≠ cc0_transform_3 k0_off1_inb numel1_S1 A.1 (grid0.coords n)))) = true
  have hN : n.val < grid0.N := n.isLt
  by_cases he : n.val + 1 = grid0.N
  · simp [he]
  · have hn : n.val + 1 < grid0.N := by omega
    rw [decide_eq_true (⟨hn, h hn⟩ : ∃ hn : n.val + 1 < grid0.N, _), Bool.or_true]
    rfl

theorem emb_of (A : (pcfg0 (F := Ideal)).Adm) (n : Fin (cfg0 A).N) (y : S512x1024.Idx) (R : Fin 81920) (C : Fin 4096) (p q : ℕ)
    (e : cc0_transform_3 k0_off1_inb numel1_S1 A.1 (grid0.coords n) = ![p, q]) (hR : R.val = 512 * p + (y 0).val) (hC : C.val = 1024 * q + (y 1).val) :
    (((cfg0 A).win 3).blk n).view.emb y = ix2 R C := by
  funext b
  apply Fin.ext
  match b with
  | ⟨0, _⟩ =>
    show cc0_transform_3 k0_off1_inb numel1_S1 A.1 (grid0.coords n) 0 * 512 + 1 * (y 0).val = R.val
    rw [e, hR]; show p * 512 + 1 * (y 0).val = _; omega
  | ⟨1, _⟩ =>
    show cc0_transform_3 k0_off1_inb numel1_S1 A.1 (grid0.coords n) 1 * 1024 + 1 * (y 1).val = C.val
    rw [e, hC]; show q * 1024 + 1 * (y 1).val = _; omega

theorem mem_of (A : (pcfg0 (F := Ideal)).Adm) (n : Fin (cfg0 A).N) (y : S81920x4096.Idx) (p q : ℕ)
    (e : cc0_transform_3 k0_off1_inb numel1_S1 A.1 (grid0.coords n) = ![p, q]) (hp : (y 0).val / 512 = p) (hq : (y 1).val / 1024 = q) :
    y ∈ (((cfg0 A).win 3).blk n).view.set := by
  have h0 := Nat.div_add_mod (y 0).val 512
  have h1 := Nat.div_add_mod (y 1).val 1024
  have h := emb_of A n (ix2 ⟨(y 0).val % 512, Nat.mod_lt _ (by decide)⟩ ⟨(y 1).val % 1024, Nat.mod_lt _ (by decide)⟩ : S512x1024.Idx) (y 0) (y 1) p q e
    (by show (y 0).val = 512 * p + (y 0).val % 512; omega) (by show (y 1).val = 1024 * q + (y 1).val % 1024; omega)
  exact (h.trans (eq_ix2 y).symm) ▸ View.emb_mem_set _ _

include hH in
theorem index_at (n : Fin grid0.N) : cc0_transform_3 k0_off1_inb numel1_S1 (tables m) (grid0.coords n) = ![oR a s t n.val, oC a s t n.val] := by
  have e := index_3 m hH (grid0.coords n)
  rwa [pos_coords] at e

include hH in
/-- A point's block of the result is written back at once: the next point has another. -/
theorem flushed (n : Fin (cfgT m (good m hH).ok).N) : ((cfgT m (good m hH).ok).win 3).flush n = true := by
  refine flush_of (adm m (good m hH).ok) n fun hn hc => ?_
  have hN : grid0.N = 640 := N_0
  have e := ((index_at m hH ⟨n.val + 1, hn⟩).symm.trans hc).trans (index_at m hH n)
  have h0 : oR a s t (n.val + 1) = oR a s t n.val := congrFun e 0
  have h1 : oC a s t (n.val + 1) = oC a s t n.val := congrFun e 1
  have := written_once hH.tiling (by omega) (by omega) h0 h1
  omega

theorem array_3 (c : Dev nD) : (dats m (good m hH) 0 c).arrAt 3 (cfgT m (good m hH).ok).N
    = routedArray s t (m ((c : Thread nD τ).loc main_arg3)) (m ((c : Thread nD τ).loc main_arg4)) (m ((c : Thread nD τ).loc main_arg5)) := by
  refine (dats m (good m hH) 0 c).arrAt_eq_of_emb 3 _ (fun n _ (y : S512x1024.Idx) => ?_) (fun (y : S81920x4096.Idx) => ?_)
  · have place : (((cfgT m (good m hH).ok).win 3).blk n).view.emb y = ix2 (outRow m hH n (y 0)) (outCol m hH n (y 1)) :=
      emb_of (adm m (good m hH).ok) n y _ _ _ _ (index_at m hH n) rfl rfl
    rw [place, after_3]
    exact (congrArg _ (eq_ix2 y)).trans (out_at m hH c n (y 0) (y 1))
  · have h0 : (y 0).val < 81920 := (y 0).isLt
    have h1 : (y 1).val < 4096 := (y 1).isLt
    obtain ⟨n, hn, hR, hC⟩ := written hH.tiling (R := (y 0).val / 512) (C := (y 1).val / 1024) (by omega) (by omega)
    exact ⟨⟨n, hn⟩, flushed m hH _, mem_of (adm m (good m hH).ok) ⟨n, hn⟩ y _ _ (index_at m hH ⟨n, hn⟩) hR.symm hC.symm⟩

end Cert.MoeDownIdeal.Tiles

end
-- ==== Proof.Moe.DownValue.lean ====
/-
  The down product's claims: it runs on every tiling of the rows, its reference runs, and the two end with the same result.
  A row's sum over the experts has one term, so nothing need be finite.
-/
module

public import proofs.«01_k».proof.Defs
public import proofs.«01_k».proof.Proof.Moe.Pre
public import proofs.«01_k».proof.Proof.Moe.DownRef
public import proofs.«01_k».proof.Proof.Moe.MoeDown.Good
public import proofs.«01_k».proof.Proof.Moe.MoeDown.Frame
public import proofs.«01_k».proof.Proof.Moe.MoeDownIdeal.Frame
public import proofs.«01_k».proof.Proof.Moe.MoeDownIdeal.Value
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.Moedown

open Cert.Layer Cert.Layer.Schedule

theorem routed_at {te ts tn : IVec Cert.MoeDownRefIdeal.S32 32} {a s t : ℕ → ℕ} (h : Holds te ts tn a s t)
    (x : FVec Ideal Cert.MoeDownRefIdeal.S81920x2048 .bf16) (w : FVec Ideal Cert.MoeDownRefIdeal.S2x32x2048x4096 .f32)
    (b : FVec Ideal Cert.MoeDownRefIdeal.S2x32x4096 .f32) (r : Fin 81920) (d : Fin 4096) :
    Cert.MoeDownRefIdeal.Value.result ts tn x w b (ix2 r d) = Cert.MoeDownIdeal.Tiles.routed s t x w b r d := by
  unfold Cert.MoeDownRefIdeal.Value.result Cert.MoeDownIdeal.Tiles.routed
  rw [Cert.MoeDownRefIdeal.Value.summed_at]
  refine Finset.sum_congr rfl fun e _ => ?_
  rw [Cert.MoeDownRefIdeal.Value.chosen_at]
  refine if_congr (Cert.MoeDownRefIdeal.Value.owned_at h e _) ?_ rfl
  rw [Cert.MoeDownRefIdeal.Value.everyExpert_at]
  unfold Cert.MoeDownIdeal.Tiles.expertRow
  exact congrArg (· + _) (Finset.sum_congr rfl fun k _ => mul_comm _ _)

/-- The reference's result as a function of its arrays is the kernel's. -/
theorem routed_eq {te ts tn : IVec Cert.MoeDownRefIdeal.S32 32} {a s t : ℕ → ℕ} (h : Holds te ts tn a s t)
    (x : FVec Ideal Cert.MoeDownRefIdeal.S81920x2048 .bf16) (w : FVec Ideal Cert.MoeDownRefIdeal.S2x32x2048x4096 .f32)
    (b : FVec Ideal Cert.MoeDownRefIdeal.S2x32x4096 .f32) :
    Cert.MoeDownRefIdeal.Value.result ts tn x w b = Cert.MoeDownIdeal.Tiles.routedArray s t x w b :=
  funext fun y => by rw [eq_ix2 y]; exact routed_at h x w b _ _

theorem bits_holds (m : (ℓ : Loc Cert.MoeDown.nD Cert.MoeDown.τ Cert.MoeDown.sig) → Buf (Elt Bits) ℓ) (h : Cert.Pre_MoeDown m) :
    Holds (Cert.MoeDown.Tiles.counts m) (Cert.MoeDown.Tiles.starts m) (Cert.MoeDown.Tiles.ends m)
      (nat (Cert.MoeDown.Tiles.counts m)) (nat (Cert.MoeDown.Tiles.starts m)) (nat (Cert.MoeDown.Tiles.ends m)) :=
  down_holds (F := Bits) _ _ _ _ _ _ (h 0)

theorem ideal_holds (m : (ℓ : Loc Cert.MoeDownIdeal.nD Cert.MoeDownIdeal.τ Cert.MoeDownIdeal.sig) → Buf (Elt Ideal) ℓ) (h : Cert.Pre_MoeDownIdeal m) :
    Holds (Cert.MoeDownIdeal.Tiles.counts m) (Cert.MoeDownIdeal.Tiles.starts m) (Cert.MoeDownIdeal.Tiles.ends m)
      (nat (Cert.MoeDownIdeal.Tiles.counts m)) (nat (Cert.MoeDownIdeal.Tiles.starts m)) (nat (Cert.MoeDownIdeal.Tiles.ends m)) :=
  down_holds (F := Ideal) _ _ _ _ _ _ (h 0)

theorem kernel_frame : Cert.quiescent_MoeDown := fun m g h =>
  Cert.MoeDown.Tiles.frame_holds m g (Cert.MoeDown.Tiles.good m (bits_holds m h))

theorem ideal_frame : Cert.quiescent_MoeDownIdeal := fun m g h =>
  Cert.MoeDownIdeal.Tiles.frame_holds m g (Cert.MoeDownIdeal.Tiles.good m (ideal_holds m h))

/-- The reference runs, keeps its arguments and leaves every counter at zero. -/
theorem reference_frame : Cert.quiescent_MoeDownRefIdeal := fun m g _ =>
  (θ_run _ _ _).mono (fun r h => ⟨fun c => (h c).2, sem_eq_zero_of_no_sems (by decide) _⟩)
    (Cert.MoeDownRefIdeal.Value.stages (F := Ideal) m g)

/-- The kernel's run ends with its result the routed array of its arguments. -/
theorem kernel_value (m : (ℓ : Loc Cert.MoeDownIdeal.nD Cert.MoeDownIdeal.τ Cert.MoeDownIdeal.sig) → Buf (Elt Ideal) ℓ)
    {a s t : ℕ → ℕ} (hH : Holds (Cert.MoeDownIdeal.Tiles.counts m) (Cert.MoeDownIdeal.Tiles.starts m) (Cert.MoeDownIdeal.Tiles.ends m) a s t)
    (r) (h : Cert.MoeDownIdeal.Tiles.Post m (Cert.MoeDownIdeal.Tiles.good m hH) r) (c : Dev Cert.MoeDownIdeal.nD) :
    r.2.mem ((c.tc : Thread Cert.MoeDownIdeal.nD Cert.MoeDownIdeal.τ).loc Cert.MoeDownIdeal.main_v69)
      = Cert.MoeDownIdeal.Tiles.routedArray s t (m ((c.tc : Thread Cert.MoeDownIdeal.nD Cert.MoeDownIdeal.τ).loc Cert.MoeDownIdeal.main_arg3))
          (m ((c.tc : Thread Cert.MoeDownIdeal.nD Cert.MoeDownIdeal.τ).loc Cert.MoeDownIdeal.main_arg4))
          (m ((c.tc : Thread Cert.MoeDownIdeal.nD Cert.MoeDownIdeal.τ).loc Cert.MoeDownIdeal.main_arg5)) :=
  (h.out_eq c 3).trans (Cert.MoeDownIdeal.Tiles.array_3 m hH c)

/-- The kernel and its reference end with the same result. -/
theorem same_result : Cert.algebraic_MoeDownIdeal_MoeDownRefIdeal := by
  intro m g m' g' hpre hargs
  have hH := ideal_holds m hpre
  refine ⟨fun c => Cert.MoeDownIdeal.Tiles.routedArray (nat (Cert.MoeDownIdeal.Tiles.starts m)) (nat (Cert.MoeDownIdeal.Tiles.ends m))
      (m ((c.tc : Thread Cert.MoeDownIdeal.nD Cert.MoeDownIdeal.τ).loc Cert.MoeDownIdeal.main_arg3))
      (m ((c.tc : Thread Cert.MoeDownIdeal.nD Cert.MoeDownIdeal.τ).loc Cert.MoeDownIdeal.main_arg4))
      (m ((c.tc : Thread Cert.MoeDownIdeal.nD Cert.MoeDownIdeal.τ).loc Cert.MoeDownIdeal.main_arg5)),
    (θ_run _ _ _).mono (fun r h c => ⟨kernel_value m hH r h.1 c, Cert.MoeDownIdeal.Tiles.end_0 m _ r h.1 c, Cert.MoeDownIdeal.Tiles.end_1 m _ r h.1 c,
      Cert.MoeDownIdeal.Tiles.end_2 m _ r h.1 c, Cert.MoeDownIdeal.Tiles.end_3 m _ r h.1 c, Cert.MoeDownIdeal.Tiles.end_4 m _ r h.1 c,
      Cert.MoeDownIdeal.Tiles.end_5 m _ r h.1 c⟩) (Cert.MoeDownIdeal.Tiles.program_runs m g (Cert.MoeDownIdeal.Tiles.good m hH)),
    (θ_run _ _ _).mono (fun r h c => ?_) (Cert.MoeDownRefIdeal.Value.stages (F := Ideal) m' g')⟩
  obtain ⟨h0, hk⟩ := h c
  obtain ⟨a0, a1, a2, a3, a4, a5⟩ := hargs c
  refine ⟨h0.trans ?_, hk⟩
  obtain rfl : c = 0 := Subsingleton.elim _ _
  rw [a1, a2, a3, a4, a5]
  exact routed_eq hH _ _ _

end Cert.Moedown

end
-- ==== Proof.Moe.UpRef.lean ====
/-
  The reference of the gate and up products, read off entry by entry: every expert's two products and their activation on
  every row, and of them the sum of those whose expert owns the row.
-/
module

public import proofs.«01_k».proof.Proof.Gen.MoeUpRefIdeal.Run
public import proofs.«01_k».proof.Proof.Moe.Words
public import Idealize.ShloMosaic.Lib.Pointwise
public import Idealize.ShloMosaic.Lib.WordCmp
public import Idealize.ShloMosaic.Lib.Tactic

@[expose] public section

set_option maxRecDepth 16384

noncomputable section

namespace Cert.MoeUpRefIdeal.Value

open Idealize.ShloMosaic Idealize.ShloMosaic.TcCoe Idealize.ShloMosaic.WordCmp Idealize.SL.Sem
open Cert.MoeUpRefIdeal Cert.MoeUpRefIdeal.Gen Facts
open Cert.Layer

variable {F : FTy → Type} [FloatOps F]

/-- The rows at or after 512 times a word of the experts' column. -/
def bound (x : IVec S32 32) : IVec S32x81920 32 :=
  broadcastInDim S32x81920 ![0, 1] bcast_S32x1_S32x81920_0_1 (muli (broadcastInDim S32x1 ![] bcast_S_S32x1 (constantI S_ 32 512#32)) (broadcastInDim S32x1 ![0] bcast_S32_S32x1_0 x))

def rowNumber : IVec S32x81920 32 :=
  broadcastInDim S32x81920 ![0, 1] bcast_S1x81920_S32x81920_0_1 (broadcastInDim S1x81920 ![1] bcast_S81920_S1x81920_1 (iotaInDim S81920 32 0))

/-- Which rows an expert owns. -/
def owned (ts tn : IVec S32 32) : IVec S32x81920 1 :=
  andi (cmpi .sge rowNumber (bound ts)) (cmpi .slt rowNumber (bound tn))

/-- Every expert's product and bias on every row. -/
def everyExpert (x : FVec F S81920x4096 .bf16) (w : FVec F S2x32x4096x2048 .f32) (b : FVec F S2x32x2048 .f32) : FVec F S32x81920x2048 .f32 :=
  addf (transpose S32x81920x2048 [0, 2, 1] (Host.dotGeneral dot_S32x4096x2048_S81920x4096_S32x2048x81920_1_1_02_0_n_n none (shapeCast _ (extractStridedSlice S1x32x4096x2048 ![0, 0, 0, 0] w slices_S2x32x4096x2048_S1x32x4096x2048_0_0_0_0) shapeCasts_S1x32x4096x2048_S32x4096x2048) (extf .f32 x bitsLt_bf16_f32)) transposes_S32x2048x81920_S32x81920x2048_0_2_1)
    (broadcastInDim S32x81920x2048 ![0, 1, 2] bcast_S32x1x2048_S32x81920x2048_0_1_2 (broadcastInDim S32x1x2048 ![0, 2] bcast_S32x2048_S32x1x2048_0_2 (shapeCast _ (extractStridedSlice S1x32x2048 ![0, 0, 0] b slices_S2x32x2048_S1x32x2048_0_0_0) shapeCasts_S1x32x2048_S32x2048)))

def full (w : BitVec 32) : FVec F S32x81920x2048 .f32 := broadcastInDim S32x81920x2048 ![] bcast_S_S32x81920x2048 (constant S_ .f32 w)

def clampedGate (g : FVec F S32x81920x2048 .f32) : FVec F S32x81920x2048 .f32 := minimumf g (full 0x40E00000#32)

/-- The clamped activation of the gate and up values. -/
def activated (g u : FVec F S32x81920x2048 .f32) : FVec F S32x81920x2048 .f32 :=
  mulf (mulf (addf (minimumf (full 0x40E00000#32) (maximumf (full 0xC0E00000#32) u)) (full 0x3F800000#32)) (clampedGate g))
    (Host.divf (full 0x3F800000#32) (addf (full 0x3F800000#32) (Host.exp (Host.negf (mulf (full 0x3FD9DB23#32) (clampedGate g))))))

/-- Of them those whose expert owns the row, zeros elsewhere. -/
def chosen (k : IVec S32x81920 1) (y : FVec F S32x81920x2048 .f32) : FVec F S32x81920x2048 .f32 :=
  select (broadcastInDim S32x81920x2048 ![0, 1, 2] bcast_S32x81920x1_S32x81920x2048_0_1_2 (broadcastInDim S32x81920x1 ![0, 1] bcast_S32x81920_S32x81920x1_0_1 k)) y
    (broadcastInDim S32x81920x2048 ![] bcast_S_S32x81920x2048 (constant S_ .f32 0x00000000#32))

def summed (y : FVec F S32x81920x2048 .f32) : FVec F S81920x2048 .f32 :=
  Host.reduceAdd y (constant S_ .f32 0x00000000#32) reducesTo_S32x81920x2048_S81920x2048_d0 h_S_

/-- The reference's result: the stages composed. -/
def result (ts tn : IVec S32 32) (x : FVec F S81920x4096 .bf16) (wg wu : FVec F S2x32x4096x2048 .f32) (bg bu : FVec F S2x32x2048 .f32) : FVec F S81920x2048 .bf16 :=
  truncf .bf16 (summed (chosen (owned ts tn) (activated (everyExpert x wg bg) (everyExpert x wu bu)))) bitsLt_bf16_f32

theorem same_ix1 (e : Fin 32) : (ix1 e : S32.Idx) = ValueIdx.ix1 e := rfl

theorem bound_at (x : IVec S32 32) (e : Fin 32) (r : Fin 81920) : bound x (ix2 e r) = 512#32 * x (ix1 e) := by
  pointwise [bound]
  rfl

theorem rowNumber_at (e : Fin 32) (r : Fin 81920) : rowNumber (ix2 e r) = BitVec.ofNat 32 r.val := by
  pointwise [rowNumber]

theorem everyExpert_at (x : FVec Ideal S81920x4096 .bf16) (w : FVec Ideal S2x32x4096x2048 .f32) (b : FVec Ideal S2x32x2048 .f32)
    (e : Fin 32) (r : Fin 81920) (d : Fin 2048) :
    everyExpert x w b (ix3 e r d) = (∑ k : Fin 4096, w (ix4 0 e k d) * x (ix2 r k)) + b (ix3 0 e d) := by
  pointwise [everyExpert]

theorem activated_at (g u : FVec Ideal S32x81920x2048 .f32) (e : Fin 32) (r : Fin 81920) (d : Fin 2048) :
    activated g u (ix3 e r d)
      = (min (Ideal.ofBits FTy.f32 0x40E00000#32) (max (Ideal.ofBits FTy.f32 0xC0E00000#32) (u (ix3 e r d))) + 1)
          * min (g (ix3 e r d)) (Ideal.ofBits FTy.f32 0x40E00000#32)
        * Ideal.div 1 (1 + Ideal.exp (-(Ideal.ofBits FTy.f32 0x3FD9DB23#32 * min (g (ix3 e r d)) (Ideal.ofBits FTy.f32 0x40E00000#32)))) := by
  pointwise [activated, clampedGate, full]

theorem result_at (ts tn : IVec S32 32) (x : FVec Ideal S81920x4096 .bf16) (wg wu : FVec Ideal S2x32x4096x2048 .f32) (bg bu : FVec Ideal S2x32x2048 .f32)
    (y : S81920x2048.Idx) : result ts tn x wg wu bg bu y
      = summed (chosen (owned ts tn) (activated (everyExpert x wg bg) (everyExpert x wu bu))) y := rfl

theorem chosen_at (k : IVec S32x81920 1) (y : FVec Ideal S32x81920x2048 .f32) (e : Fin 32) (r : Fin 81920) (d : Fin 2048) :
    chosen k y (ix3 e r d) = if k (ix2 e r) = 1#1 then y (ix3 e r d) else 0 := by
  pointwise [chosen]
  rfl

theorem summed_at (y : FVec Ideal S32x81920x2048 .f32) (r : Fin 81920) (d : Fin 2048) :
    summed y (ix2 r d) = ∑ e : Fin 32, y (ix3 e r d) := by
  pointwise [summed]

theorem owned_at {te ts tn : IVec S32 32} {a s t : ℕ → ℕ} (h : Schedule.Holds te ts tn a s t) (e : Fin 32) (r : Fin 81920) :
    owned ts tn (ix2 e r) = 1#1 ↔ 512 * s e.val ≤ r.val ∧ r.val < 512 * t e.val := by
  have ht := h.tiling.le_top e.isLt
  have htop := h.tiling.top
  have hs := h.tiling.stop e.val e.isLt
  have e1 : bound ts (ix2 e r) = BitVec.ofNat 32 (512 * s e.val) := by rw [bound_at, same_ix1, h.ts e]; exact Schedule.mul_word 512 _
  have e2 : bound tn (ix2 e r) = BitVec.ofNat 32 (512 * t e.val) := by rw [bound_at, same_ix1, h.tn e]; exact Schedule.mul_word 512 _
  have n1 : (BitVec.ofNat 32 (512 * s e.val)).toNat = 512 * s e.val := by rw [BitVec.toNat_ofNat]; omega
  have n2 : (BitVec.ofNat 32 (512 * t e.val)).toNat = 512 * t e.val := by rw [BitVec.toNat_ofNat]; omega
  have n3 : (BitVec.ofNat 32 r.val).toNat = r.val := by rw [BitVec.toNat_ofNat]; omega
  show IntOp.andi (IntOp.cmpi .sge (rowNumber (ix2 e r)) (bound ts (ix2 e r))) (IntOp.cmpi .slt (rowNumber (ix2 e r)) (bound tn (ix2 e r))) = 1#1 ↔ _
  rw [e1, e2, rowNumber_at, cmpi_sge_of_lt (by omega) (by omega), cmpi_slt_of_lt (by omega) (by omega), n1, n2, n3]
  have both : ∀ p q : Bool, IntOp.andi (BitVec.ofBool p) (BitVec.ofBool q) = 1#1 ↔ p = true ∧ q = true := by decide
  rw [both, decide_eq_true_eq, decide_eq_true_eq]

/-- The reference's run states these stages composed. -/
theorem stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = result (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run m ρ

end Cert.MoeUpRefIdeal.Value

end
-- ==== Proof.Moe.MoeUpIdeal.Setup.lean ====
/-
  The schedule that the host computes and the kernel call reads: the arrays as the call finds them, the six tables, and
  the blocks that the tables select.
-/
module

public import proofs.«01_k».proof.Proof.Gen.MoeUpIdeal.Launch
public import proofs.«01_k».proof.Proof.Gen.MoeUpIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeUpIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.MoeUpIdeal Cert.MoeUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The host's operations before the call -/

/-- A buffer of core `c` once every host operation before the call has run. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11]) (fun b => m (c, b)) b

set_option maxHeartbeats 800000 in
/-- The whole program is these host operations and then the call. -/
theorem main_shape (𝒱 : Variants) : Pipeline.HMainP (Ix := Unit) (Name := ℕ) (U := UR sig nD τ) (Lvl := ℕ) pcfgs 0 defs₀ 𝒱 m (main (F := F)) (V m) :=
  Pipeline.hmainP_prefixes pcfgs 0 defs₀ 𝒱 m main [hostOps0, hostOps0_1, hostOps0_2, hostOps0_3, hostOps0_4, hostOps0_5, hostOps0_6, hostOps0_7, hostOps0_8, hostOps0_9, hostOps0_10, hostOps0_11]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; repeat' constructor) main_chain

set_option maxHeartbeats 4000000 in
/-- No host operation writes an argument. -/
theorem V_args (c : Dev nD) : V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7) := by
  refine ⟨?_, ?_, ?_, ?_, ?_, ?_, ?_, ?_⟩ <;> refine StableHlo.after_of_forall_not_mem _ _ (List.forall_iff_forall_mem.mp ?_)
  all_goals
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem V_arg0 (c : Dev nD) : V m c main_arg0 = m ((c : Thread nD τ).loc main_arg0) := (V_args m c).1
theorem V_arg1 (c : Dev nD) : V m c main_arg1 = m ((c : Thread nD τ).loc main_arg1) := (V_args m c).2.1
theorem V_arg2 (c : Dev nD) : V m c main_arg2 = m ((c : Thread nD τ).loc main_arg2) := (V_args m c).2.2.1
theorem V_arg3 (c : Dev nD) : V m c main_arg3 = m ((c : Thread nD τ).loc main_arg3) := (V_args m c).2.2.2.1
theorem V_arg4 (c : Dev nD) : V m c main_arg4 = m ((c : Thread nD τ).loc main_arg4) := (V_args m c).2.2.2.2.1
theorem V_arg5 (c : Dev nD) : V m c main_arg5 = m ((c : Thread nD τ).loc main_arg5) := (V_args m c).2.2.2.2.2.1
theorem V_arg6 (c : Dev nD) : V m c main_arg6 = m ((c : Thread nD τ).loc main_arg6) := (V_args m c).2.2.2.2.2.2.1
theorem V_arg7 (c : Dev nD) : V m c main_arg7 = m ((c : Thread nD τ).loc main_arg7) := (V_args m c).2.2.2.2.2.2.2

/-! ### The tables -/

/-- The six tables as the call finds them. -/
def tables : pre0.Contents (Elt F) := fun j => V m (0 : Dev nD) (pre0.ref j)

theorem V_tables (c : Dev nD) (j : Fin 6) : V m c (pre0.ref j) = tables m j := by
  obtain rfl : c = 0 := Subsingleton.elim _ _; rfl

/-- Every block that the tables select lies in its array. -/
abbrev Ok : Prop := ok0 (F := F) (tables m)
abbrev adm (hO : Ok m) : (pcfg0 (F := F)).Adm := ⟨tables m, hO⟩
abbrev cfgT (hO : Ok m) : Pipeline.Cfg sig Λ₀ := cfg0 (adm m hO)

abbrev table0 : Memref sig .tc .smem S640 .i32 := Memref.whole main_v17
abbrev table1 : Memref sig .tc .smem S640 .i32 := Memref.whole main_v37
abbrev table2 : Memref sig .tc .smem S640 .i32 := Memref.whole main_v47
abbrev table3 : Memref sig .tc .smem S640 .i32 := Memref.whole main_v57
abbrev table4 : Memref sig .tc .smem S640 .i32 := Memref.whole main_v59
abbrev table5 : Memref sig .tc .smem S640 .i32 := Memref.whole main_v67

/-- The half of a table that the body may read. -/
abbrev TBuf (c : Dev nD) {S : Shape} {e : EltTy} (M : Memref sig .tc .smem S e) : Type := Buf (Elt F) (M.view.loc (c : Thread nD τ))
abbrev half (c : Dev nD) {S : Shape} {e : EltTy} (M : Memref sig .tc .smem S e) (f : TBuf (F := F) c M) : sProp 𝕄 :=
  M.view.loc (c : Thread nD τ) ↦{fullShare.right} f

theorem halves (c : Dev nD) : (Pipeline.ΦT pre0 (tables m) c : sProp 𝕄) = iprop(half c table0 (tables m 0) ∗ half c table1 (tables m 1)
    ∗ half c table2 (tables m 2) ∗ half c table3 (tables m 3) ∗ half c table4 (tables m 4) ∗ half c table5 (tables m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-! ### The blocks -/

/-- The block of window `w` at point `t`, of its array as the call finds it. -/
def blockAt (hO : Ok m) (c : Dev nD) (w : Fin (cfgT m hO).W) (t : Fin (cfgT m hO).N) : (((cfgT m hO).win w).xblock ((cfgT m hO).grid.coords t)).Idx → Elt F ((cfgT m hO).win w).elt :=
  (((cfgT m hO).win w).blk t).view.read (Elt F) (V m c (Pipeline.arrRef spec0 w))

theorem held_0 (hO : Ok m) {c : Dev nD} (dat : Dat τ (Elt F) Unit ℕ (UR sig nD τ) ℕ (cfgT m hO) c) (hA : dat.A 0 = V m c (Pipeline.arrRef spec0 0))
    (hafter : ∀ t, dat.after 0 t = blockAt m hO c 0 t) (t : Fin (cfgT m hO).N) (d) : dat.before 0 t d = blockAt m hO c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1 (hO : Ok m) {c : Dev nD} (dat : Dat τ (Elt F) Unit ℕ (UR sig nD τ) ℕ (cfgT m hO) c) (hA : dat.A 1 = V m c (Pipeline.arrRef spec0 1))
    (hafter : ∀ t, dat.after 1 t = blockAt m hO c 1 t) (t : Fin (cfgT m hO).N) (d) : dat.before 1 t d = blockAt m hO c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2 (hO : Ok m) {c : Dev nD} (dat : Dat τ (Elt F) Unit ℕ (UR sig nD τ) ℕ (cfgT m hO) c) (hA : dat.A 2 = V m c (Pipeline.arrRef spec0 2))
    (hafter : ∀ t, dat.after 2 t = blockAt m hO c 2 t) (t : Fin (cfgT m hO).N) (d) : dat.before 2 t d = blockAt m hO c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3 (hO : Ok m) {c : Dev nD} (dat : Dat τ (Elt F) Unit ℕ (UR sig nD τ) ℕ (cfgT m hO) c) (hA : dat.A 3 = V m c (Pipeline.arrRef spec0 3))
    (hafter : ∀ t, dat.after 3 t = blockAt m hO c 3 t) (t : Fin (cfgT m hO).N) (d) : dat.before 3 t d = blockAt m hO c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4 (hO : Ok m) {c : Dev nD} (dat : Dat τ (Elt F) Unit ℕ (UR sig nD τ) ℕ (cfgT m hO) c) (hA : dat.A 4 = V m c (Pipeline.arrRef spec0 4))
    (hafter : ∀ t, dat.after 4 t = blockAt m hO c 4 t) (t : Fin (cfgT m hO).N) (d) : dat.before 4 t d = blockAt m hO c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ### The staging buffers at a point, and the scratch -/

abbrev stage_0 (hO : Ok m) (t : Fin (cfgT m hO).N) : Memref sig .tc .vmem S512x4096 .bf16 := spec0_0.stage ((cfgT m hO).slots t 0)
abbrev stage_1 (hO : Ok m) (t : Fin (cfgT m hO).N) : Memref sig .tc .vmem S1x1x4096x512 .f32 := spec0_1.stage ((cfgT m hO).slots t 1)
abbrev stage_2 (hO : Ok m) (t : Fin (cfgT m hO).N) : Memref sig .tc .vmem S1x1x4096x512 .f32 := spec0_2.stage ((cfgT m hO).slots t 2)
abbrev stage_3 (hO : Ok m) (t : Fin (cfgT m hO).N) : Memref sig .tc .vmem S1x1x1x512 .f32 := spec0_3.stage ((cfgT m hO).slots t 3)
abbrev stage_4 (hO : Ok m) (t : Fin (cfgT m hO).N) : Memref sig .tc .vmem S1x1x1x512 .f32 := spec0_4.stage ((cfgT m hO).slots t 4)
abbrev stage_5 (hO : Ok m) (t : Fin (cfgT m hO).N) : Memref sig .tc .vmem S512x512 .bf16 := spec0_5.stage ((cfgT m hO).slots t 5)
abbrev scratch0 : Memref sig .tc .vmem S4096x512 .bf16 := Memref.whole cc0_scratch0
abbrev scratch1 : Memref sig .tc .vmem S4096x512 .bf16 := Memref.whole cc0_scratch1

theorem rest_eq (c : Dev nD) :
    (Pipeline.ΦA spec0 c : sProp 𝕄) = iprop(iprop((∃ d, owns (c : Thread nD τ) scratch0 fullShare d) ∗ (∃ d, owns (c : Thread nD τ) scratch1 fullShare d)) ∗ (∃ r, prngReg c r)) := by
  unfold Pipeline.ΦA; rw [scopedRest0_eq]; simp only [scratch0, scratch1, owns_whole]; try rfl

/-- The body at point `t`. -/
abbrev bodyAt (a : (pcfg0 (F := F)).Adm) (t : Fin (cfg0 a).N) : Prog (TpuEff nD τ sig (Elt F) Λ₀ .tc) PUnit :=
  cc0_moe_up (grid0.coords t) (Memref.whole main_v17) (Memref.isWhole_whole _) (Memref.whole main_v37) (Memref.isWhole_whole _) (Memref.whole main_v47) (Memref.isWhole_whole _) (Memref.whole main_v57) (Memref.isWhole_whole _) (Memref.whole main_v59) (Memref.isWhole_whole _) (Memref.whole main_v67) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

theorem body_row (hO : Ok m) (t : Fin (cfgT m hO).N) :
    defs₀ (F := F) .tc (cfgT m hO).body ((cfgT m hO).bodyArgs t ((cfgT m hO).slots t)) = bodyAt (adm m hO) t := by
  unfold defs₀; rw [Defs.onTc_tc]

end Cert.MoeUpIdeal.Tiles

end
-- ==== Proof.Moe.MoeUpIdeal.Body.lean ====
/-
  One grid point of the call: what the kernel's body leaves in the output's buffer and in the scratch, by the point's flag.
-/
module

public import proofs.«01_k».proof.Proof.Moe.MoeUpIdeal.Setup
public import Idealize.ShloMosaic.Lib.VecWindow

@[expose] public section

set_option maxRecDepth 16384

noncomputable section

namespace Cert.MoeUpIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.MoeUpIdeal Cert.MoeUpIdeal.Gen

variable {F : FTy → Type} [FloatOps F]

local notation "𝕄" => MT nD τ sig Unit (Elt F) ℕ (UR sig nD τ) ℕ

/-- The word the body loads is the table's entry at the point. -/
theorem flag_word (T : pre0.Contents (Elt F)) (i : grid0.Coords) :
    View.readAt (Elt F) table5.view (Rect.unit (s := S640) (k0_off1 i) S1.size (k0_off1_inb i)).toLoadRect (T 5) (Shape.Idx.first (numel1_S1 ▸ Nat.one_pos))
      = T.atD 5 (k0_off1 i) := by
  have h : ∀ a, k0_off1 i a + 1 ≤ (pre0.ref 5).ty.shape.size a := by
    intro (a : Fin 1)
    obtain rfl : a = 0 := Subsingleton.elim _ _
    exact k0_off1_inb i 0
  refine Eq.trans ?_ (dif_pos h).symm
  refine congrArg (T 5) (funext fun (a : Fin 1) => ?_)
  obtain rfl : a = 0 := Subsingleton.elim _ _
  exact Fin.ext (Nat.add_zero _)

/-- The two scratches after a point: the expert's gate and up weights, cast, at the first tile of a run (flag 3); what
    they held otherwise. -/
def keep (w : BitVec 32) (x1 : Vec F S1x1x4096x512 .f32) (s : Vec F S4096x512 .bf16) : Vec F S4096x512 .bf16 :=
  if w = 3#32 then k0_pay2 x1 else s

def keep' (w : BitVec 32) (x2 : Vec F S1x1x4096x512 .f32) (s : Vec F S4096x512 .bf16) : Vec F S4096x512 .bf16 :=
  if w = 3#32 then k0_pay3 x2 else s

/-- The output's buffer after a point: zeros at a spare block (flag 4), the activation of the two products otherwise. -/
def left (w : BitVec 32) (x0 : Vec F S512x4096 .bf16) (s s' : Vec F S4096x512 .bf16) (x3 x4 : Vec F S1x1x1x512 .f32) : Vec F S512x512 .bf16 :=
  if w = 4#32 then k0_pay1 else k0_pay4 x0 s x3 s' x4

/-- The three flags and the conditions they decide. -/
theorem conds (w : BitVec 32) (h : w = 4#32 ∨ w = 3#32 ∨ w = 1#32) :
    ((w = 4#32 ∧ k0_cond1 w = 1#1 ∧ ¬ k0_cond3 w = 1#1 ∧ ¬ Scalar.cmpi .ne (Scalar.extui (Scalar.cmpi .ne (Scalar.andi w 2#32) 0#32) : BitVec 32) 0#32 = 1#1)
      ∨ (w = 3#32 ∧ ¬ k0_cond1 w = 1#1 ∧ k0_cond3 w = 1#1 ∧ Scalar.cmpi .ne (Scalar.extui (Scalar.cmpi .ne (Scalar.andi w 2#32) 0#32) : BitVec 32) 0#32 = 1#1)
      ∨ (w = 1#32 ∧ ¬ k0_cond1 w = 1#1 ∧ k0_cond3 w = 1#1 ∧ ¬ Scalar.cmpi .ne (Scalar.extui (Scalar.cmpi .ne (Scalar.andi w 2#32) 0#32) : BitVec 32) 0#32 = 1#1)) := by
  rcases h with rfl | rfl | rfl
  · left; decide
  · right; left; decide
  · right; right; decide

set_option maxHeartbeats 4000000 in
/-- The body at a point whose flag is 4, 3 or 1. -/
theorem body_runs (c : Dev nD) (i : grid0.Coords) (arg7 : Memref sig .tc .vmem S512x4096 .bf16) (harg7 : arg7.IsWhole) (arg8 : Memref sig .tc .vmem S1x1x4096x512 .f32) (harg8 : arg8.IsWhole) (arg9 : Memref sig .tc .vmem S1x1x4096x512 .f32) (harg9 : arg9.IsWhole) (arg10 : Memref sig .tc .vmem S1x1x1x512 .f32) (harg10 : arg10.IsWhole) (arg11 : Memref sig .tc .vmem S1x1x1x512 .f32) (harg11 : arg11.IsWhole) (arg12 : Memref sig .tc .vmem S512x512 .bf16) (harg12 : arg12.IsWhole) (arg13 : Memref sig .tc .vmem S4096x512 .bf16) (harg13 : arg13.IsWhole) (arg14 : Memref sig .tc .vmem S4096x512 .bf16) (harg14 : arg14.IsWhole)
    (x0 : Vec F S512x4096 .bf16) (x1 : Vec F S1x1x4096x512 .f32) (x2 : Vec F S1x1x4096x512 .f32) (x3 : Vec F S1x1x1x512 .f32) (x4 : Vec F S1x1x1x512 .f32) (s : Vec F S4096x512 .bf16) (s' : Vec F S4096x512 .bf16)
    (T : pre0.Contents (Elt F)) (w : BitVec 32) (hT : T.atD 5 (k0_off1 i) = w) (hw : w = 4#32 ∨ w = 3#32 ∨ w = 1#32)
    (E : Set ℕ) (K : PUnit → sProp 𝕄) :
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ (∃ d, owns (c : Thread nD τ) arg12 fullShare d) ∗ owns (c : Thread nD τ) arg13 fullShare s ∗ owns (c : Thread nD τ) arg14 fullShare s' ∗ half c table5 (T 5)
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare (left w x0 (keep w x1 s) (keep' w x2 s') x3 x4) ∗ owns (c : Thread nD τ) arg13 fullShare (keep w x1 s) ∗ owns (c : Thread nD τ) arg14 fullShare (keep' w x2 s') ∗ half c table5 (T 5)) -∗ K ⟨⟩))
          ⊢ wp frame (wpE (defs₀ (F := F)) Variants.none c none) E (cc0_moe_up i table0 (Memref.isWhole_whole _) table1 (Memref.isWhole_whole _) table2 (Memref.isWhole_whole _) table3 (Memref.isWhole_whole _) table4 (Memref.isWhole_whole _) table5 (Memref.isWhole_whole _) arg7 harg7 arg8 harg8 arg9 harg9 arg10 harg10 arg11 harg11 arg12 harg12 arg13 harg13 arg14 harg14) K := by
    simp only [cc0_moe_up_eq_skeleton]; unfold cc0_moe_up_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT5, Hk⟩
    obtain rfl := harg7.eq_unread hf0; obtain rfl := harg8.eq_unread hf1; obtain rfl := harg9.eq_unread hf2; obtain rfl := harg10.eq_unread hf3
    obtain rfl := harg11.eq_unread hf4; obtain rfl := harg13.eq_unread hs0; obtain rfl := harg14.eq_unread hs1
    sl_exec
    have hr : body_runs.sl.r i T = w := (flag_word T i).trans hT
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; · ipureintro; exact harg11.read_unread _
      iexact H4
    isplitl [H5]
    · iexists _; isplitr; swap; · iexact H5
      ipureintro
      unfold body_runs.sl.v15 body_runs.sl.v21
      rw [hr]
      unfold left keep keep'
      rcases conds w hw with ⟨rfl, h1, h3, h2⟩ | ⟨rfl, h1, h3, h2⟩ | ⟨rfl, h1, h3, h2⟩
      · rw [dif_neg h3, dif_pos h1, if_pos rfl, View.read_writes_full]
      · rw [dif_pos h3, dif_pos h2, dif_pos h2, if_neg (by decide), if_pos rfl, if_pos rfl, View.read_writes_full, View.readAt_writes_full, View.readAt_writes_full]
        unfold body_runs.sl.v14 body_runs.sl.v20
        rw [View.readAt_full, View.readAt_full, View.readAt_full, View.readAt_full, View.readAt_full, hf0, hf1, hf2, hf3, hf4]
      · rw [dif_pos h3, dif_neg h2, dif_neg h2, if_neg (by decide), if_neg (by decide), if_neg (by decide), View.read_writes_full, View.readAt_full, View.readAt_full, View.readAt_full, View.readAt_full, View.readAt_full,
          hf0, hf3, hf4, hs0, hs1]
    isplitl [HS0]
    · iexists _; isplitr; swap; · iexact HS0
      ipureintro
      rw [hr]
      unfold keep
      rcases conds w hw with ⟨rfl, h1, h3, h2⟩ | ⟨rfl, h1, h3, h2⟩ | ⟨rfl, h1, h3, h2⟩
      · rw [dif_neg h2, if_neg (by decide), hs0]
      · rw [dif_pos h2, if_pos rfl, View.read_writes_full]; unfold body_runs.sl.v14; rw [View.readAt_full, hf1]
      · rw [dif_neg h2, if_neg (by decide), hs0]
    isplitl [HS1]
    · iexists _; isplitr; swap; · iexact HS1
      ipureintro
      rw [hr]
      unfold keep'
      rcases conds w hw with ⟨rfl, h1, h3, h2⟩ | ⟨rfl, h1, h3, h2⟩ | ⟨rfl, h1, h3, h2⟩
      · rw [dif_neg h2, if_neg (by decide), hs1]
      · rw [dif_pos h2, if_pos rfl, View.read_writes_full]; unfold body_runs.sl.v20; rw [View.readAt_full, hf2]
      · rw [dif_neg h2, if_neg (by decide), hs1]
    iexact HT5

end Cert.MoeUpIdeal.Tiles

end
-- ==== Proof.Moe.MoeUpIdeal.Run.lean ====
/-
  The whole call: the scratch and the output's buffer point by point, and the run of the program from any memory whose
  tables hold blocks of the arrays and one of the three flags at each point.
-/
module

public import proofs.«01_k».proof.Proof.Moe.MoeUpIdeal.Body

@[expose] public section

set_option maxRecDepth 16384

noncomputable section

namespace Cert.MoeUpIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MoeUpIdeal Cert.MoeUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The flag that the schedule gives a grid point. -/
def flagAt (i : grid0.Coords) : BitVec 32 := (tables m).atD 5 (k0_off1 i)

/-- What the run needs of the tables: blocks inside the arrays, one of three flags at each point, and a first point that
    casts the weights. -/
structure Good : Prop where
  ok : Ok m
  flags : ∀ i, flagAt m i = 4#32 ∨ flagAt m i = 3#32 ∨ flagAt m i = 1#32
  first : flagAt m (grid0.coords ⟨0, by decide⟩) = 3#32

theorem flag_adm (hO : Ok m) (i : grid0.Coords) : (adm m hO).1.atD 5 (k0_off1 i) = flagAt m i := by
  unfold flagAt; dsimp only

variable (hG : Good m)

/-- The two scratches after the point at position `n`: gate weights, up weights. -/
def scr (c : Dev nD) : (n : ℕ) → n < (cfgT m hG.ok).N → Vec F S4096x512 .bf16
  | 0, h => k0_pay2 (blockAt m hG.ok c 1 ⟨0, h⟩)
  | n + 1, h => keep (flagAt m (grid0.coords ⟨n + 1, h⟩)) (blockAt m hG.ok c 1 ⟨n + 1, h⟩) (scr c n (Nat.lt_of_succ_lt h))

def scr' (c : Dev nD) : (n : ℕ) → n < (cfgT m hG.ok).N → Vec F S4096x512 .bf16
  | 0, h => k0_pay3 (blockAt m hG.ok c 2 ⟨0, h⟩)
  | n + 1, h => keep' (flagAt m (grid0.coords ⟨n + 1, h⟩)) (blockAt m hG.ok c 2 ⟨n + 1, h⟩) (scr' c n (Nat.lt_of_succ_lt h))

/-- The output's buffer after point `t`. -/
def outAt (c : Dev nD) (t : Fin (cfgT m hG.ok).N) : Vec F S512x512 .bf16 :=
  left (flagAt m (grid0.coords t)) (blockAt m hG.ok c 0 t) (scr m hG c t.val t.isLt) (scr' m hG c t.val t.isLt)
    (blockAt m hG.ok c 3 t) (blockAt m hG.ok c 4 t)

/-- What the core holds between points besides the staged blocks: the scratches, the generator's register, its half of the
    tables. -/
def between (c : Dev nD) : (n : ℕ) → n ≤ (cfgT m hG.ok).N → sProp 𝕄
  | 0, _ => iprop(Pipeline.ΦA spec0 c ∗ Pipeline.ΦT pre0 (tables m) c)
  | n + 1, h => iprop(((owns (c : Thread nD τ) scratch0 fullShare (scr m hG c n h) ∗ owns (c : Thread nD τ) scratch1 fullShare (scr' m hG c n h)) ∗ (∃ r, prngReg c r)) ∗ Pipeline.ΦT pre0 (tables m) c)

theorem between_pos (c : Dev nD) (n : ℕ) (h : n ≤ (cfgT m hG.ok).N) (hn : n ≠ 0) :
    between m hG c n h = iprop(((owns (c : Thread nD τ) scratch0 fullShare (scr m hG c (n - 1) (by omega)) ∗ owns (c : Thread nD τ) scratch1 fullShare (scr' m hG c (n - 1) (by omega))) ∗ (∃ r, prngReg c r)) ∗ Pipeline.ΦT pre0 (tables m) c) := by
  cases n with
  | zero => exact absurd rfl hn
  | succ n => rfl

/-- The call's data. -/
def dats (_ : Fin 1) (c : Dev nD) : Dat τ (Elt F) Unit ℕ (UR sig nD τ) ℕ (cfgT m hG.ok) c where
  A w := V m c (Pipeline.arrRef spec0 w)
  after w t := match w with
    | ⟨0, _⟩ => blockAt m hG.ok c 0 t
    | ⟨1, _⟩ => blockAt m hG.ok c 1 t
    | ⟨2, _⟩ => blockAt m hG.ok c 2 t
    | ⟨3, _⟩ => blockAt m hG.ok c 3 t
    | ⟨4, _⟩ => blockAt m hG.ok c 4 t
    | ⟨5, _⟩ => outAt m hG c t
  Φ t := between m hG c t.val (Nat.le_of_lt_succ t.isLt)
  q _ := fullShare
  owed _ := 0

theorem A_eq (c : Dev nD) (w : Fin (cfgT m hG.ok).W) : (dats m hG 0 c).A w = V m c (Pipeline.arrRef spec0 w) := by
  dsimp only [dats]
theorem after_0 (c : Dev nD) (t : Fin (cfgT m hG.ok).N) : (dats m hG 0 c).after 0 t = blockAt m hG.ok c 0 t := by dsimp only [dats]; try rfl
theorem after_1 (c : Dev nD) (t : Fin (cfgT m hG.ok).N) : (dats m hG 0 c).after 1 t = blockAt m hG.ok c 1 t := by dsimp only [dats]; try rfl
theorem after_2 (c : Dev nD) (t : Fin (cfgT m hG.ok).N) : (dats m hG 0 c).after 2 t = blockAt m hG.ok c 2 t := by dsimp only [dats]; try rfl
theorem after_3 (c : Dev nD) (t : Fin (cfgT m hG.ok).N) : (dats m hG 0 c).after 3 t = blockAt m hG.ok c 3 t := by dsimp only [dats]; try rfl
theorem after_4 (c : Dev nD) (t : Fin (cfgT m hG.ok).N) : (dats m hG 0 c).after 4 t = blockAt m hG.ok c 4 t := by dsimp only [dats]; try rfl
theorem after_5 (c : Dev nD) (t : Fin (cfgT m hG.ok).N) : (dats m hG 0 c).after 5 t = outAt m hG c t := by dsimp only [dats]; try rfl
theorem before_0 (c : Dev nD) (t : Fin (cfgT m hG.ok).N) (d) : (dats m hG 0 c).before 0 t d = blockAt m hG.ok c 0 t :=
  held_0 m hG.ok (dats m hG 0 c) (A_eq m hG c 0) (after_0 m hG c) t d
theorem before_1 (c : Dev nD) (t : Fin (cfgT m hG.ok).N) (d) : (dats m hG 0 c).before 1 t d = blockAt m hG.ok c 1 t :=
  held_1 m hG.ok (dats m hG 0 c) (A_eq m hG c 1) (after_1 m hG c) t d
theorem before_2 (c : Dev nD) (t : Fin (cfgT m hG.ok).N) (d) : (dats m hG 0 c).before 2 t d = blockAt m hG.ok c 2 t :=
  held_2 m hG.ok (dats m hG 0 c) (A_eq m hG c 2) (after_2 m hG c) t d
theorem before_3 (c : Dev nD) (t : Fin (cfgT m hG.ok).N) (d) : (dats m hG 0 c).before 3 t d = blockAt m hG.ok c 3 t :=
  held_3 m hG.ok (dats m hG 0 c) (A_eq m hG c 3) (after_3 m hG c) t d
theorem before_4 (c : Dev nD) (t : Fin (cfgT m hG.ok).N) (d) : (dats m hG 0 c).before 4 t d = blockAt m hG.ok c 4 t :=
  held_4 m hG.ok (dats m hG 0 c) (A_eq m hG c 4) (after_4 m hG c) t d

/-- What the body finds at point `t` -/
def found (c : Dev nD) (t : Fin (cfgT m hG.ok).N) : sProp 𝕄 :=
  iprop((dats m hG 0 c).Φ t.castSucc ∗ (dats m hG 0 c).owesAt () t.castSucc
    ∗ (∃ d, owns (c : Thread nD τ) (stage_0 m hG.ok t) fullShare ((dats m hG 0 c).before 0 t d))
    ∗ (∃ d, owns (c : Thread nD τ) (stage_1 m hG.ok t) fullShare ((dats m hG 0 c).before 1 t d))
    ∗ (∃ d, owns (c : Thread nD τ) (stage_2 m hG.ok t) fullShare ((dats m hG 0 c).before 2 t d))
    ∗ (∃ d, owns (c : Thread nD τ) (stage_3 m hG.ok t) fullShare ((dats m hG 0 c).before 3 t d))
    ∗ (∃ d, owns (c : Thread nD τ) (stage_4 m hG.ok t) fullShare ((dats m hG 0 c).before 4 t d))
    ∗ (∃ d, owns (c : Thread nD τ) (stage_5 m hG.ok t) fullShare ((dats m hG 0 c).before 5 t d)))

/-- and what it leaves. -/
def leaves (c : Dev nD) (t : Fin (cfgT m hG.ok).N) : sProp 𝕄 :=
  iprop((dats m hG 0 c).Φ t.succ ∗ (dats m hG 0 c).owesAt () t.succ
    ∗ owns (c : Thread nD τ) (stage_0 m hG.ok t) fullShare ((dats m hG 0 c).after 0 t)
    ∗ owns (c : Thread nD τ) (stage_1 m hG.ok t) fullShare ((dats m hG 0 c).after 1 t)
    ∗ owns (c : Thread nD τ) (stage_2 m hG.ok t) fullShare ((dats m hG 0 c).after 2 t)
    ∗ owns (c : Thread nD τ) (stage_3 m hG.ok t) fullShare ((dats m hG 0 c).after 3 t)
    ∗ owns (c : Thread nD τ) (stage_4 m hG.ok t) fullShare ((dats m hG 0 c).after 4 t)
    ∗ owns (c : Thread nD τ) (stage_5 m hG.ok t) fullShare ((dats m hG 0 c).after 5 t))

theorem scr_eq (c : Dev nD) (t : Fin (cfgT m hG.ok).N) (ht : t.val ≠ 0) :
    scr m hG c t.val t.isLt = keep (flagAt m (grid0.coords t)) (blockAt m hG.ok c 1 t) (scr m hG c (t.val - 1) (by omega)) := by
  obtain ⟨n, hn⟩ := t
  cases n with
  | zero => exact absurd rfl ht
  | succ n => rfl

theorem scr_zero (c : Dev nD) (t : Fin (cfgT m hG.ok).N) (ht : t.val = 0) (s : Vec F S4096x512 .bf16) :
    scr m hG c t.val t.isLt = keep (flagAt m (grid0.coords t)) (blockAt m hG.ok c 1 t) s := by
  obtain ⟨n, hn⟩ := t
  obtain rfl : n = 0 := ht
  unfold keep
  rw [if_pos hG.first]
  rfl

theorem scr_eq' (c : Dev nD) (t : Fin (cfgT m hG.ok).N) (ht : t.val ≠ 0) :
    scr' m hG c t.val t.isLt = keep' (flagAt m (grid0.coords t)) (blockAt m hG.ok c 2 t) (scr' m hG c (t.val - 1) (by omega)) := by
  obtain ⟨n, hn⟩ := t
  cases n with
  | zero => exact absurd rfl ht
  | succ n => rfl

theorem scr_zero' (c : Dev nD) (t : Fin (cfgT m hG.ok).N) (ht : t.val = 0) (s : Vec F S4096x512 .bf16) :
    scr' m hG c t.val t.isLt = keep' (flagAt m (grid0.coords t)) (blockAt m hG.ok c 2 t) s := by
  obtain ⟨n, hn⟩ := t
  obtain rfl : n = 0 := ht
  unfold keep'
  rw [if_pos hG.first]
  rfl

set_option maxHeartbeats 6400000 in
theorem body_sound (c : Dev nD) (t : Fin (cfgT m hG.ok).N) :
    found m hG c t ⊢ wp frame (wpE (defs₀ (F := F)) Variants.none c none) Set.univ (bodyAt (adm m hG.ok) t) (fun _ => leaves m hG c t) := by
  unfold found leaves bodyAt
  simp only [before_0, before_1, before_2, before_3, before_4]
  rw [show (dats m hG 0 c).owesAt () t.succ = (dats m hG 0 c).owesAt () t.castSucc from rfl,
    after_0, after_1, after_2, after_3, after_4, after_5]
  rw [show (dats m hG 0 c).Φ t.succ = iprop(((owns (c : Thread nD τ) scratch0 fullShare (scr m hG c t.val t.isLt) ∗ owns (c : Thread nD τ) scratch1 fullShare (scr' m hG c t.val t.isLt)) ∗ (∃ r, prngReg c r)) ∗ Pipeline.ΦT pre0 (tables m) c) from rfl,
    show (dats m hG 0 c).Φ t.castSucc = between m hG c t.val (Nat.le_of_lt t.isLt) from rfl]
  unfold outAt
  by_cases hz : t.val = 0
  · rw [show between m hG c t.val (Nat.le_of_lt t.isLt) = iprop(Pipeline.ΦA spec0 c ∗ Pipeline.ΦT pre0 (tables m) c) from by
      obtain ⟨n, hn⟩ := t; obtain rfl : n = 0 := hz; rfl, halves, rest_eq]
    iintro ⟨⟨⟨⟨⟨%s, HS0⟩, ⟨%s', HS1⟩⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩⟩
    rw [scr_zero m hG c t hz s, scr_zero' m hG c t hz s']
    iapply (body_runs c (grid0.coords t) _ _ _ _ _ _ _ _ _ _ _ _ _ _ _ _ (blockAt m hG.ok c 0 t) (blockAt m hG.ok c 1 t) (blockAt m hG.ok c 2 t) (blockAt m hG.ok c 3 t) (blockAt m hG.ok c 4 t) s s' (tables m) (flagAt m (grid0.coords t)) (flag_adm m hG.ok _) (hG.flags _) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT5]; · iexact HT5
    iintro ⟨H0, H1, H2, H3, H4, H5, HS0, HS1, HT5⟩
    isplitl [HS0 HS1 Hg HT0 HT1 HT2 HT3 HT4 HT5]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    isplitl [H3]; · iexact H3
    isplitl [H4]; · iexact H4
    iexact H5
  · rw [between_pos m hG c _ _ hz, halves, scr_eq m hG c t hz, scr_eq' m hG c t hz]
    iintro ⟨⟨⟨⟨HS0, HS1⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩⟩
    iapply (body_runs c (grid0.coords t) _ _ _ _ _ _ _ _ _ _ _ _ _ _ _ _ (blockAt m hG.ok c 0 t) (blockAt m hG.ok c 1 t) (blockAt m hG.ok c 2 t) (blockAt m hG.ok c 3 t) (blockAt m hG.ok c 4 t) (scr m hG c (t.val - 1) (by omega)) (scr' m hG c (t.val - 1) (by omega)) (tables m) (flagAt m (grid0.coords t)) (flag_adm m hG.ok _) (hG.flags _) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT5]; · iexact HT5
    iintro ⟨H0, H1, H2, H3, H4, H5, HS0, HS1, HT5⟩
    isplitl [HS0 HS1 Hg HT0 HT1 HT2 HT3 HT4 HT5]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    isplitl [H3]; · iexact H3
    isplitl [H4]; · iexact H4
    iexact H5

/-- A point with one of the three flags does not leave the output's buffer unwritten. -/
theorem never_idle (T : pre0.Contents (Elt F)) (i : grid0.Coords) (w : BitVec 32) (hT : T.atD 5 (k0_off1 i) = w)
    (h : w = 4#32 ∨ w = 3#32 ∨ w = 1#32) : idle0 (F := F) T 5 i = false := by
  show (!(k0_cond1 (T.atD 5 (k0_off1 i)) == 1#1) && !(k0_cond3 (T.atD 5 (k0_off1 i)) == 1#1)) = false
  rw [hT]
  rcases h with h | h | h <;> rw [h] <;> decide

theorem idle_out (a : (pcfg0 (F := F)).Adm) (t : Fin (cfg0 a).N) (b : Bool) (h : idle0 (F := F) a.1 5 (grid0.coords t) = b) :
    (cfg0 a).idle (5 : Fin 6) ((cfg0 a).grid.coords t) = b := h

theorem obligation (c : Dev nD) : BodyObligation (dats (F := F) m hG 0 c) (defs₀ (F := F)) Variants.none () Set.univ := fun t => by
  have hi : (cfgT m hG.ok).idle (5 : Fin 6) ((cfgT m hG.ok).grid.coords t) = false :=
    idle_out (adm m hG.ok) t _ (never_idle _ (grid0.coords t) (flagAt m (grid0.coords t)) (flag_adm m hG.ok _) (hG.flags _))
  rw [bigSep_W0, bigSep_W0, body_row m hG.ok]
  refine triple_restated (body_sound m hG c t) rfl .rfl fun _ => ?_
  rw [hi]
  exact .rfl

theorem first_held (c : Dev nD) : iprop(Pipeline.ΦA spec0 c ∗ Pipeline.ΦT pre0 (tables m) c) ⊢ (dats m hG 0 c).Φ 0 :=
  Entails.refl _

theorem last_held (c : Dev nD) : (dats m hG 0 c).Φ (Fin.last (cfgT m hG.ok).N) ⊢ Pipeline.ΦA spec0 c := by
  rw [show (dats m hG 0 c).Φ (Fin.last (cfgT m hG.ok).N) = between m hG c (cfgT m hG.ok).N (Nat.le_refl _) from rfl,
    between_pos m hG c _ _ (by have : (cfgT m hG.ok).N = 640 := N_0; omega), rest_eq]
  iintro ⟨⟨⟨HS0, HS1⟩, Hg⟩, HT⟩
  isplitl [HS0 HS1]
  · isplitl [HS0]
    · iexists _; iexact HS0
    iexists _; iexact HS1
  iexact Hg

set_option backward.isDefEq.respectTransparency.types false in
/-- The program's run. -/
theorem program_runs : θ_run defs (onTc (τ := τ) (main (F := F))) (s₀ m ρ)
    (fun r => Pipeline.FramePost (Pipeline.pin pcfgs fun _ => adm m hG.ok) (dats m hG) 0 (V m) r ∧ r.2.sem = fun _ => 0) :=
  Pipeline.θ_run_frameP_track (Q' := _) pcfgs (fun _ => adm m hG.ok) (dats m hG) (0 : Fin 1) launch0 defs₀ Variants.none m ρ main
    (hbody := fun c => (obligation m hG c).loose) (hshare := fun c => (dats m hG 0 c).share_full fun _ => rfl)
    (howed := fun _ _ => rfl) (V := V m) (hmain := main_shape m Variants.none) (hA := A_eq m hG) (hpf := V_tables m)
    (hin := first_held m hG) (hout := last_held m hG)

end Cert.MoeUpIdeal.Tiles

end
-- ==== Proof.Moe.MoeUpIdeal.Frame.lean ====
/-
  The arguments after the run: no array but the result's is written.
-/
module

public import proofs.«01_k».proof.Proof.Moe.MoeUpIdeal.Run
public import Idealize.ShloMosaic.Lib.Pipeline.ValueKit.Geometry

@[expose] public section

set_option maxRecDepth 16384

noncomputable section

namespace Cert.MoeUpIdeal.Tiles

open Idealize.ShloMosaic Idealize.ShloMosaic.TcCoe Idealize.SL.Sem
open Cert.MoeUpIdeal Cert.MoeUpIdeal.Gen

variable {F : FTy → Type} [FloatOps F]
variable (m : (ℓ : Loc nD τ sig) → Buf (Elt F) ℓ) (ρ : Dev nD → PrngReg) (hG : Good m)

/-- The program's run with its post at the call's data. -/
abbrev Post (r : PUnit × MemSt nD τ sig (Elt F)) : Prop :=
  Pipeline.FramePost (Pipeline.pin pcfgs fun _ => adm m hG.ok) (dats m hG) 0 (V m) r

theorem end_0 (r) (h : Post m hG r) (c : Dev nD) : r.2.mem ((c : Thread nD τ).loc main_arg0) = m ((c : Thread nD τ).loc main_arg0) :=
  (h.rest_eq c main_arg0 (by decide : main_arg0 ∈ Pipeline.restRefs sig spec0)).trans (V_arg0 m c)
theorem end_1 (r) (h : Post m hG r) (c : Dev nD) : r.2.mem ((c : Thread nD τ).loc main_arg1) = m ((c : Thread nD τ).loc main_arg1) :=
  (h.rest_eq c main_arg1 (by decide : main_arg1 ∈ Pipeline.restRefs sig spec0)).trans (V_arg1 m c)
theorem end_2 (r) (h : Post m hG r) (c : Dev nD) : r.2.mem ((c : Thread nD τ).loc main_arg2) = m ((c : Thread nD τ).loc main_arg2) :=
  (h.rest_eq c main_arg2 (by decide : main_arg2 ∈ Pipeline.restRefs sig spec0)).trans (V_arg2 m c)
theorem end_3 (r) (h : Post m hG r) (c : Dev nD) : r.2.mem ((c : Thread nD τ).loc main_arg3) = m ((c : Thread nD τ).loc main_arg3) :=
  (h.in_eq c 0 rfl).trans ((A_eq m hG c 0).trans (V_arg3 m c))
theorem end_4 (r) (h : Post m hG r) (c : Dev nD) : r.2.mem ((c : Thread nD τ).loc main_arg4) = m ((c : Thread nD τ).loc main_arg4) :=
  (h.in_eq c 1 rfl).trans ((A_eq m hG c 1).trans (V_arg4 m c))
theorem end_5 (r) (h : Post m hG r) (c : Dev nD) : r.2.mem ((c : Thread nD τ).loc main_arg5) = m ((c : Thread nD τ).loc main_arg5) :=
  (h.in_eq c 2 rfl).trans ((A_eq m hG c 2).trans (V_arg5 m c))
theorem end_6 (r) (h : Post m hG r) (c : Dev nD) : r.2.mem ((c : Thread nD τ).loc main_arg6) = m ((c : Thread nD τ).loc main_arg6) :=
  (h.rest_eq c main_arg6 (by decide : main_arg6 ∈ Pipeline.restRefs sig spec0)).trans (V_arg6 m c)
theorem end_7 (r) (h : Post m hG r) (c : Dev nD) : r.2.mem ((c : Thread nD τ).loc main_arg7) = m ((c : Thread nD τ).loc main_arg7) :=
  (h.rest_eq c main_arg7 (by decide : main_arg7 ∈ Pipeline.restRefs sig spec0)).trans (V_arg7 m c)

include hG in
/-- The program runs, ends with its arguments unchanged and every counter back at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨end_0 m hG r h.1 c, end_1 m hG r h.1 c, end_2 m hG r h.1 c, end_3 m hG r h.1 c,
    end_4 m hG r h.1 c, end_5 m hG r h.1 c, end_6 m hG r h.1 c, end_7 m hG r h.1 c⟩, h.2⟩) (program_runs m ρ hG)

end Cert.MoeUpIdeal.Tiles

end
-- ==== Proof.Moe.MoeUpIdeal.Tables.lean ====
/-
  The tables that the call reads are the arrays of the schedule.
-/
module

public import proofs.«01_k».proof.Proof.Moe.MoeUpIdeal.Setup
public import proofs.«01_k».proof.Proof.Moe.Stages
public import Idealize.ShloMosaic.Lib.StableHlo.RunRead

@[expose] public section

set_option maxRecDepth 65536

noncomputable section

namespace Cert.MoeUpIdeal.Tiles

open Idealize.ShloMosaic Idealize.ShloMosaic.TcCoe
open Cert.MoeUpIdeal Cert.MoeUpIdeal.Gen
open Cert.Layer

variable {F : FTy → Type} [FloatOps F]
variable (m : (ℓ : Loc nD τ sig) → Buf (Elt F) ℓ)

/-- The number of tiles of each expert, the first tile of each, the tile after the last of each. -/
def counts : IVec Schedule.Experts 32 := m (0, Proc.devRef .tc main_arg0)
def starts : IVec Schedule.Experts 32 := m (0, Proc.devRef .tc main_arg1)
def ends : IVec Schedule.Experts 32 := m (0, Proc.devRef .tc main_arg2)

set_option maxHeartbeats 1000000 in
theorem table_0 : (tables m 0 : IVec Schedule.Points 32) = Schedule.expert (ends m) := by
  show StableHlo.after _ _ (Proc.devRef .tc main_v17) = _
  after_reads_simp
  rfl
set_option maxHeartbeats 1000000 in
theorem table_1 : (tables m 1 : IVec Schedule.Points 32) = Schedule.colBlock (counts m) (starts m) (ends m) := by
  show StableHlo.after _ _ (Proc.devRef .tc main_v37) = _
  after_reads_simp
  rfl
set_option maxHeartbeats 1000000 in
theorem table_2 : (tables m 2 : IVec Schedule.Points 32) = Schedule.tile (counts m) (starts m) (ends m) := by
  show StableHlo.after _ _ (Proc.devRef .tc main_v47) = _
  after_reads_simp
  rfl
set_option maxHeartbeats 1000000 in
theorem table_3 : (tables m 3 : IVec Schedule.Points 32) = Schedule.outRow (counts m) (starts m) (ends m) := by
  show StableHlo.after _ _ (Proc.devRef .tc main_v57) = _
  after_reads_simp
  rfl
set_option maxHeartbeats 1000000 in
theorem table_4 : (tables m 4 : IVec Schedule.Points 32) = Schedule.outCol (counts m) (starts m) (ends m) := by
  show StableHlo.after _ _ (Proc.devRef .tc main_v59) = _
  after_reads_simp
  rfl
set_option maxHeartbeats 1000000 in
theorem table_5 : (tables m 5 : IVec Schedule.Points 32) = Schedule.flag (counts m) (starts m) (ends m) := by
  show StableHlo.after _ _ (Proc.devRef .tc main_v67) = _
  after_reads_simp
  rfl

end Cert.MoeUpIdeal.Tiles

end
-- ==== Proof.Moe.MoeUpIdeal.Good.lean ====
/-
  Where the schedule sends the windows: each table's entry at a grid point as a number, and from it that every block lies
  inside its array and that the flags are the three that the body knows.
-/
module

public import proofs.«01_k».proof.Proof.Moe.MoeUpIdeal.Run
public import proofs.«01_k».proof.Proof.Moe.MoeUpIdeal.Tables
public import proofs.«01_k».proof.Proof.Moe.Words

@[expose] public section

set_option maxRecDepth 16384

noncomputable section

namespace Cert.MoeUpIdeal.Tiles

open Idealize.ShloMosaic Idealize.ShloMosaic.TcCoe Idealize.ShloMosaic.ValueIdx
open Cert.MoeUpIdeal Cert.MoeUpIdeal.Gen
open Cert.Layer Cert.Layer.Plan

variable {F : FTy → Type} [FloatOps F]
variable (m : (ℓ : Loc nD τ sig) → Buf (Elt F) ℓ)

/-- A grid point's position. -/
def pos (i : grid0.Coords) : Fin 640 := i 0

/-- The word a load of one word at the grid point's position reads. -/
theorem entry_at (i : grid0.Coords) (T : IVec S640 32) (h1 : S1.numel = 1) :
    T ((Rect.unit (s := S640) (k0_off1 i) S1.size (k0_off1_inb i)).emb (Shape.Idx.first (h1.symm ▸ Nat.one_pos))) = T (ix1 (pos i)) := by
  congr 1
  funext (a : Fin 1)
  obtain rfl : a = 0 := Subsingleton.elim _ _
  apply Fin.ext
  have e : k0_off1 i 0 = (i 0).val := by rw [k0_off1_eq]; rfl
  show k0_off1 i 0 + 1 * (Shape.Idx.first (s := S1) (h1.symm ▸ Nat.one_pos) 0).val = (i 0).val
  have : (Shape.Idx.first (s := S1) (h1.symm ▸ Nat.one_pos) 0).val < 1 := Fin.isLt _
  omega

theorem flag_entry (i : grid0.Coords) : flagAt m i = (tables m 5 : IVec S640 32) (ix1 (pos i)) := by
  have e : k0_off1 i 0 = (i 0).val := by rw [k0_off1_eq]; rfl
  have hb : ∀ a, k0_off1 i a + 1 ≤ (pre0.ref 5).ty.shape.size a := fun (a : Fin 1) => by
    obtain rfl : a = 0 := Subsingleton.elim _ _
    rw [e]; exact (i 0).isLt
  refine (dif_pos hb).trans ?_
  congr 1
  funext (a : Fin 1)
  obtain rfl : a = 0 := Subsingleton.elim _ _
  exact Fin.ext e

variable {a s t : ℕ → ℕ} (hH : Schedule.Holds (counts m) (starts m) (ends m) a s t)

theorem number (n : ℕ) (h : n ≤ 640) : (BitVec.ofNat 32 n).toNat = n := by
  rw [BitVec.toNat_ofNat]; exact Nat.mod_eq_of_lt (by omega)

include hH in
theorem ex_lt (n : ℕ) : ex t n < 32 := (ex_spec hH.tiling n).1
include hH in
theorem ti_bound (n : ℕ) : ti a s t n < 160 := lt_of_lt_of_le (ti_lt hH.tiling n) hH.tiling.top

/-- The word the index maps load from a table. -/
def load (T : IVec S640 32) (i : grid0.Coords) : BitVec 32 :=
  T ((Rect.unit (s := S640) (k0_off1 i) S1.size (k0_off1_inb i)).emb (Shape.Idx.first (numel1_S1.symm ▸ Nat.one_pos)))

include hH in
theorem load_0 (i : grid0.Coords) : (load (tables m 0) i).toNat = ex t (pos i).val := by
  have e : load (tables m 0) i = BitVec.ofNat 32 (ex t (pos i).val) := (entry_at i (tables m 0) numel1_S1).trans (by rw [table_0, Schedule.expert_at hH])
  rw [e, number _ (by have := ex_lt m hH (pos i).val; omega)]
include hH in
theorem load_1 (i : grid0.Coords) : (load (tables m 1) i).toNat = co a s t (pos i).val := by
  have e : load (tables m 1) i = BitVec.ofNat 32 (co a s t (pos i).val) := (entry_at i (tables m 1) numel1_S1).trans (by rw [table_1, Schedule.colBlock_at hH])
  rw [e, number _ (by have := co_lt hH.tiling (pos i).val; omega)]
include hH in
theorem load_2 (i : grid0.Coords) : (load (tables m 2) i).toNat = ti a s t (pos i).val := by
  have e : load (tables m 2) i = BitVec.ofNat 32 (ti a s t (pos i).val) := (entry_at i (tables m 2) numel1_S1).trans (by rw [table_2, Schedule.tile_at hH])
  rw [e, number _ (by have := ti_bound m hH (pos i).val; omega)]
include hH in
theorem load_3 (i : grid0.Coords) : (load (tables m 3) i).toNat = oR a s t (pos i).val := by
  have e : load (tables m 3) i = BitVec.ofNat 32 (oR a s t (pos i).val) := (entry_at i (tables m 3) numel1_S1).trans (by rw [table_3, Schedule.outRow_at hH])
  rw [e, number _ (by have := oR_lt hH.tiling (pos i).isLt; omega)]
include hH in
theorem load_4 (i : grid0.Coords) : (load (tables m 4) i).toNat = oC a s t (pos i).val := by
  have e : load (tables m 4) i = BitVec.ofNat 32 (oC a s t (pos i).val) := (entry_at i (tables m 4) numel1_S1).trans (by rw [table_4, Schedule.outCol_at hH])
  rw [e, number _ (by have := oC_lt hH.tiling (pos i).val; omega)]

include hH in
theorem index_0 (i : grid0.Coords) : cc0_transform_0 k0_off1_inb numel1_S1 (tables m) i = ![ti a s t (pos i).val, 0] := by
  rw [← load_2 m hH i]; rfl
include hH in
theorem index_1 (i : grid0.Coords) : cc0_transform_1 k0_off1_inb numel1_S1 (tables m) i = ![0, ex t (pos i).val, 0, co a s t (pos i).val] := by
  rw [← load_0 m hH i, ← load_1 m hH i]; rfl
include hH in
theorem index_2 (i : grid0.Coords) : cc0_transform_2 k0_off1_inb numel1_S1 (tables m) i = ![0, ex t (pos i).val, 0, co a s t (pos i).val] := by
  rw [← load_0 m hH i, ← load_1 m hH i]; rfl
include hH in
theorem index_3 (i : grid0.Coords) : cc0_transform_3 k0_off1_inb numel1_S1 (tables m) i = ![0, ex t (pos i).val, 0, co a s t (pos i).val] := by
  rw [← load_0 m hH i, ← load_1 m hH i]; rfl
include hH in
theorem index_4 (i : grid0.Coords) : cc0_transform_4 k0_off1_inb numel1_S1 (tables m) i = ![0, ex t (pos i).val, 0, co a s t (pos i).val] := by
  rw [← load_0 m hH i, ← load_1 m hH i]; rfl
include hH in
theorem index_5 (i : grid0.Coords) : cc0_transform_5 k0_off1_inb numel1_S1 (tables m) i = ![oR a s t (pos i).val, oC a s t (pos i).val] := by
  rw [← load_3 m hH i, ← load_4 m hH i]; rfl

include hH in
theorem flag_number (i : grid0.Coords) : flagAt m i = BitVec.ofNat 32 (fl a s t (pos i).val) := by
  rw [flag_entry, table_5, Schedule.flag_at hH]

include hH in
theorem ok_holds : Ok m := by
  refine ⟨fun i => ⟨?_, ?_⟩, fun i => ⟨?_, .inl rfl⟩, fun i => ⟨?_, .inl rfl⟩, fun i => ⟨?_, .inl rfl⟩, fun i => ⟨?_, .inl rfl⟩, fun i => ⟨?_, ?_⟩⟩
  · rw [index_0 m hH i]
    have := ti_bound m hH (pos i).val
    exact fun b => by
      match b with
      | ⟨0, _⟩ => show (ti a s t (pos i).val + 1) * 512 ≤ 81920; omega
      | ⟨1, _⟩ => show (0 + 1) * 4096 ≤ 4096; omega
  · exact .inr (Affine.block_words_dvd (of_decide_eq_true rfl) (by decide))
  iterate 2
    · first | rw [index_1 m hH i] | rw [index_2 m hH i]
      have := ex_lt m hH (pos i).val; have := co_lt hH.tiling (pos i).val
      exact fun b => by
        match b with
        | ⟨0, _⟩ => show (0 + 1) * 1 ≤ 2; omega
        | ⟨1, _⟩ => show (ex t (pos i).val + 1) * 1 ≤ 32; omega
        | ⟨2, _⟩ => show (0 + 1) * 4096 ≤ 4096; omega
        | ⟨3, _⟩ => show (co a s t (pos i).val + 1) * 512 ≤ 2048; omega
  iterate 2
    · first | rw [index_3 m hH i] | rw [index_4 m hH i]
      have := ex_lt m hH (pos i).val; have := co_lt hH.tiling (pos i).val
      exact fun b => by
        match b with
        | ⟨0, _⟩ => show (0 + 1) * 1 ≤ 2; omega
        | ⟨1, _⟩ => show (ex t (pos i).val + 1) * 1 ≤ 32; omega
        | ⟨2, _⟩ => show (0 + 1) * 1 ≤ 1; omega
        | ⟨3, _⟩ => show (co a s t (pos i).val + 1) * 512 ≤ 2048; omega
  · rw [index_5 m hH i]
    have := oR_lt hH.tiling (pos i).isLt; have := oC_lt hH.tiling (pos i).val
    exact fun b => by
      match b with
      | ⟨0, _⟩ => show (oR a s t (pos i).val + 1) * 512 ≤ 81920; omega
      | ⟨1, _⟩ => show (oC a s t (pos i).val + 1) * 512 ≤ 2048; omega
  · exact .inr (Affine.block_words_dvd (of_decide_eq_true rfl) (by decide))

include hH in
theorem good : Good m where
  ok := ok_holds m hH
  flags i := by
    rw [flag_number m hH]
    rcases fl_cases hH.tiling (pos i).val with h | h | h <;> rw [h] <;> simp
  first := by
    rw [flag_number m hH]
    have : (pos (grid0.coords ⟨0, by decide⟩)).val = 0 := by decide
    rw [this, fl_zero hH.tiling]

end Cert.MoeUpIdeal.Tiles

end
-- ==== Proof.Moe.MoeUpIdeal.Value.lean ====
/-
  The call's result as a function of its arguments: every row is the activation of its expert's two products,
  the rows past the last expert's tiles are zero.
-/
module

public import proofs.«01_k».proof.Proof.Moe.MoeUpIdeal.Good
public import proofs.«01_k».proof.Proof.Moe.Owner
public import Idealize.ShloMosaic.Lib.Pipeline.ValueKit.Geometry
public import Idealize.ShloMosaic.Lib.Pipeline.ValueKit.Tiles
public import Idealize.ShloMosaic.Lib.StableHlo.RunRead
public import Idealize.ShloMosaic.Lib.Pointwise
public import Idealize.ShloMosaic.Lib.Tactic

@[expose] public section

set_option maxRecDepth 16384

noncomputable section

namespace Cert.MoeUpIdeal.Tiles

open Idealize.ShloMosaic Idealize.ShloMosaic.TcCoe Idealize.SL.Sem
open Cert.MoeUpIdeal Cert.MoeUpIdeal.Gen
open Cert.Layer Cert.Layer.Plan

/-- The clamped activation of a gate value and an up value. -/
def act (g u : EReal) : EReal :=
  (min (Ideal.ofBits FTy.f32 0x40E00000#32) (max (Ideal.ofBits FTy.f32 0xC0E00000#32) u) + 1) * min g (Ideal.ofBits FTy.f32 0x40E00000#32)
    * Ideal.div 1 (1 + Ideal.exp (-(Ideal.ofBits FTy.f32 0x3FD9DB23#32 * min g (Ideal.ofBits FTy.f32 0x40E00000#32))))

/-- Expert `e`'s product with one of its two weights, and the bias, at token row `r`, column `d`. -/
def expertRow (x : FVec Ideal S81920x4096 .bf16) (w : FVec Ideal S2x32x4096x2048 .f32) (b : FVec Ideal S2x32x2048 .f32)
    (r : Fin 81920) (d : Fin 2048) (e : Fin 32) : EReal :=
  (∑ k : Fin 4096, x (ix2 r k) * w (ix4 0 e k d)) + b (ix3 0 e d)

/-- Each row by its own expert. -/
def routed (s t : ℕ → ℕ) (x : FVec Ideal S81920x4096 .bf16) (wg wu : FVec Ideal S2x32x4096x2048 .f32) (bg bu : FVec Ideal S2x32x2048 .f32)
    (r : Fin 81920) (d : Fin 2048) : EReal :=
  ∑ e : Fin 32, if 512 * s e.val ≤ r.val ∧ r.val < 512 * t e.val then act (expertRow x wg bg r d e) (expertRow x wu bu r d e) else 0

def routedArray (s t : ℕ → ℕ) (x : FVec Ideal S81920x4096 .bf16) (wg wu : FVec Ideal S2x32x4096x2048 .f32) (bg bu : FVec Ideal S2x32x2048 .f32)
    (y : S81920x2048.Idx) : EReal := routed s t x wg wu bg bu (y 0) (y 1)

/-! ### The body's values -/

theorem zeros_at (r : Fin 512) (d : Fin 512) : (k0_pay1 (F := Ideal)) (ix2 r d) = 0 := by
  pointwise [k0_pay1]

theorem cast_at (x : Vec Ideal S1x1x4096x512 .f32) (k : Fin 4096) (d : Fin 512) : k0_pay2 (F := Ideal) x (ix2 k d) = x (ix4 0 0 k d) := by
  pointwise [k0_pay2]

theorem cast_at' (x : Vec Ideal S1x1x4096x512 .f32) (k : Fin 4096) (d : Fin 512) : k0_pay3 (F := Ideal) x (ix2 k d) = x (ix4 0 0 k d) := by
  pointwise [k0_pay3]

theorem product_at (x : Vec Ideal S512x4096 .bf16) (w w' : Vec Ideal S4096x512 .bf16) (b b' : Vec Ideal S1x1x1x512 .f32) (r : Fin 512) (d : Fin 512) :
    k0_pay4 (F := Ideal) x w b w' b' (ix2 r d) = act ((∑ k : Fin 4096, x (ix2 r k) * w (ix2 k d)) + b (ix4 0 0 0 d))
      ((∑ k : Fin 4096, x (ix2 r k) * w' (ix2 k d)) + b' (ix4 0 0 0 d)) := by
  unfold act
  pointwise [k0_pay4]
  rw [zero_sub]

variable (m : (ℓ : Loc nD τ sig) → Buf (Elt Ideal) ℓ)
variable {a s t : ℕ → ℕ} (hH : Schedule.Holds (counts m) (starts m) (ends m) a s t)

theorem pos_coords : ∀ n : Fin grid0.N, (pos (grid0.coords n)).val = n.val := by decide +kernel

/-! ### The blocks -/

/-- The token row and the column of an entry of point `n`'s input row block and column block. -/
def inRow (n : ℕ) (r : Fin 512) : Fin 81920 := ⟨512 * ti a s t n + r.val, by have := ti_bound m hH n; omega⟩
def inCol (n : ℕ) (d : Fin 512) : Fin 2048 := ⟨512 * co a s t n + d.val, by have := co_lt hH.tiling n; omega⟩
def own (n : ℕ) : Fin 32 := ⟨ex t n, ex_lt m hH n⟩

theorem emb_0 (A : (pcfg0 (F := Ideal)).Adm) (n : Fin (cfg0 A).N) (r : Fin 512) (k : Fin 4096) (R : Fin 81920) (p : ℕ)
    (e : cc0_transform_0 k0_off1_inb numel1_S1 A.1 (grid0.coords n) = ![p, 0]) (hR : R.val = 512 * p + r.val) :
    (((cfg0 A).win 0).blk n).view.emb (ix2 r k : S512x4096.Idx) = (ix2 R k : S81920x4096.Idx) := by
  funext b
  apply Fin.ext
  match b with
  | ⟨0, _⟩ =>
    show cc0_transform_0 k0_off1_inb numel1_S1 A.1 (grid0.coords n) 0 * 512 + 1 * r.val = R.val
    rw [e, hR]; show p * 512 + 1 * r.val = _; omega
  | ⟨1, _⟩ =>
    show cc0_transform_0 k0_off1_inb numel1_S1 A.1 (grid0.coords n) 1 * 4096 + 1 * k.val = k.val
    rw [e]; show 0 * 4096 + 1 * k.val = _; omega

theorem emb_1 (A : (pcfg0 (F := Ideal)).Adm) (n : Fin (cfg0 A).N) (k : Fin 4096) (d : Fin 512) (E : Fin 32) (C : Fin 2048) (p q : ℕ)
    (e : cc0_transform_1 k0_off1_inb numel1_S1 A.1 (grid0.coords n) = ![0, p, 0, q]) (hE : E.val = p) (hC : C.val = 512 * q + d.val) :
    (((cfg0 A).win 1).blk n).view.emb (ix4 0 0 k d : S1x1x4096x512.Idx) = (ix4 0 E k C : S2x32x4096x2048.Idx) := by
  funext b
  apply Fin.ext
  match b with
  | ⟨0, _⟩ =>
    show cc0_transform_1 k0_off1_inb numel1_S1 A.1 (grid0.coords n) 0 * 1 + 1 * 0 = 0
    rw [e]; show 0 * 1 + 1 * 0 = 0; omega
  | ⟨1, _⟩ =>
    show cc0_transform_1 k0_off1_inb numel1_S1 A.1 (grid0.coords n) 1 * 1 + 1 * 0 = E.val
    rw [e, hE]; show p * 1 + 1 * 0 = _; omega
  | ⟨2, _⟩ =>
    show cc0_transform_1 k0_off1_inb numel1_S1 A.1 (grid0.coords n) 2 * 4096 + 1 * k.val = k.val
    rw [e]; show 0 * 4096 + 1 * k.val = _; omega
  | ⟨3, _⟩ =>
    show cc0_transform_1 k0_off1_inb numel1_S1 A.1 (grid0.coords n) 3 * 512 + 1 * d.val = C.val
    rw [e, hC]; show q * 512 + 1 * d.val = _; omega

theorem emb_2 (A : (pcfg0 (F := Ideal)).Adm) (n : Fin (cfg0 A).N) (k : Fin 4096) (d : Fin 512) (E : Fin 32) (C : Fin 2048) (p q : ℕ)
    (e : cc0_transform_2 k0_off1_inb numel1_S1 A.1 (grid0.coords n) = ![0, p, 0, q]) (hE : E.val = p) (hC : C.val = 512 * q + d.val) :
    (((cfg0 A).win 2).blk n).view.emb (ix4 0 0 k d : S1x1x4096x512.Idx) = (ix4 0 E k C : S2x32x4096x2048.Idx) :=
  emb_1 A n k d E C p q e hE hC

theorem emb_3 (A : (pcfg0 (F := Ideal)).Adm) (n : Fin (cfg0 A).N) (d : Fin 512) (E : Fin 32) (C : Fin 2048) (p q : ℕ)
    (e : cc0_transform_3 k0_off1_inb numel1_S1 A.1 (grid0.coords n) = ![0, p, 0, q]) (hE : E.val = p) (hC : C.val = 512 * q + d.val) :
    (((cfg0 A).win 3).blk n).view.emb (ix4 0 0 0 d : S1x1x1x512.Idx) = (ix4 0 E 0 C : S2x32x1x2048.Idx) := by
  funext b
  apply Fin.ext
  match b with
  | ⟨0, _⟩ =>
    show cc0_transform_3 k0_off1_inb numel1_S1 A.1 (grid0.coords n) 0 * 1 + 1 * 0 = 0
    rw [e]; show 0 * 1 + 1 * 0 = 0; omega
  | ⟨1, _⟩ =>
    show cc0_transform_3 k0_off1_inb numel1_S1 A.1 (grid0.coords n) 1 * 1 + 1 * 0 = E.val
    rw [e, hE]; show p * 1 + 1 * 0 = _; omega
  | ⟨2, _⟩ =>
    show cc0_transform_3 k0_off1_inb numel1_S1 A.1 (grid0.coords n) 2 * 1 + 1 * 0 = 0
    rw [e]; show 0 * 1 + 1 * 0 = 0; omega
  | ⟨3, _⟩ =>
    show cc0_transform_3 k0_off1_inb numel1_S1 A.1 (grid0.coords n) 3 * 512 + 1 * d.val = C.val
    rw [e, hC]; show q * 512 + 1 * d.val = _; omega

theorem emb_4 (A : (pcfg0 (F := Ideal)).Adm) (n : Fin (cfg0 A).N) (d : Fin 512) (E : Fin 32) (C : Fin 2048) (p q : ℕ)
    (e : cc0_transform_4 k0_off1_inb numel1_S1 A.1 (grid0.coords n) = ![0, p, 0, q]) (hE : E.val = p) (hC : C.val = 512 * q + d.val) :
    (((cfg0 A).win 4).blk n).view.emb (ix4 0 0 0 d : S1x1x1x512.Idx) = (ix4 0 E 0 C : S2x32x1x2048.Idx) :=
  emb_3 A n d E C p q e hE hC

theorem read_0 (hO : Ok m) (c : Dev nD) (n : Fin (cfgT m hO).N) (r : Fin 512) (k : Fin 4096) :
    (blockAt m hO c 0 n : Vec Ideal S512x4096 .bf16) (ix2 r k)
      = (m ((c : Thread nD τ).loc main_arg3) : FVec Ideal S81920x4096 .bf16) (ix2 (inRow m hH n.val r) k) := by
  have e := index_0 m hH (grid0.coords n)
  rw [pos_coords] at e
  exact (View.read_apply _ _).trans ((congrArg (V m c main_arg3) (emb_0 (adm m hO) n r k (inRow m hH n.val r) _ e rfl)).trans (congrFun (V_arg3 m c) _))

theorem read_1 (hO : Ok m) (c : Dev nD) (n : Fin (cfgT m hO).N) (k : Fin 4096) (d : Fin 512) :
    (blockAt m hO c 1 n : Vec Ideal S1x1x4096x512 .f32) (ix4 0 0 k d)
      = (m ((c : Thread nD τ).loc main_arg4) : FVec Ideal S2x32x4096x2048 .f32) (ix4 0 (own m hH n.val) k (inCol m hH n.val d)) := by
  have e := index_1 m hH (grid0.coords n)
  rw [pos_coords] at e
  exact (View.read_apply _ _).trans ((congrArg (V m c main_arg4) (emb_1 (adm m hO) n k d (own m hH n.val) (inCol m hH n.val d) _ _ e rfl rfl)).trans (congrFun (V_arg4 m c) _))

theorem read_2 (hO : Ok m) (c : Dev nD) (n : Fin (cfgT m hO).N) (k : Fin 4096) (d : Fin 512) :
    (blockAt m hO c 2 n : Vec Ideal S1x1x4096x512 .f32) (ix4 0 0 k d)
      = (m ((c : Thread nD τ).loc main_arg5) : FVec Ideal S2x32x4096x2048 .f32) (ix4 0 (own m hH n.val) k (inCol m hH n.val d)) := by
  have e := index_2 m hH (grid0.coords n)
  rw [pos_coords] at e
  exact (View.read_apply _ _).trans ((congrArg (V m c main_arg5) (emb_2 (adm m hO) n k d (own m hH n.val) (inCol m hH n.val d) _ _ e rfl rfl)).trans (congrFun (V_arg5 m c) _))

set_option maxRecDepth 65536 in
theorem gate_row (c : Dev nD) (e : Fin 32) (d : Fin 2048) :
    (V m c main_v68 : FVec Ideal S2x32x1x2048 .f32) (ix4 0 e 0 d) = (m ((c : Thread nD τ).loc main_arg6) : FVec Ideal S2x32x2048 .f32) (ix3 0 e d) := by
  have h : (V m c main_v68 : FVec Ideal S2x32x1x2048 .f32) = shapeCast S2x32x1x2048 (m ((c : Thread nD τ).loc main_arg6) : FVec Ideal S2x32x2048 .f32) shapeCasts_S2x32x2048_S2x32x1x2048 := by
    show StableHlo.after _ _ (Proc.devRef .tc main_v68) = _
    after_reads_simp
    rfl
  rw [h]
  pointwise []

set_option maxRecDepth 65536 in
theorem up_row (c : Dev nD) (e : Fin 32) (d : Fin 2048) :
    (V m c main_v69 : FVec Ideal S2x32x1x2048 .f32) (ix4 0 e 0 d) = (m ((c : Thread nD τ).loc main_arg7) : FVec Ideal S2x32x2048 .f32) (ix3 0 e d) := by
  have h : (V m c main_v69 : FVec Ideal S2x32x1x2048 .f32) = shapeCast S2x32x1x2048 (m ((c : Thread nD τ).loc main_arg7) : FVec Ideal S2x32x2048 .f32) shapeCasts_S2x32x2048_S2x32x1x2048 := by
    show StableHlo.after _ _ (Proc.devRef .tc main_v69) = _
    after_reads_simp
    rfl
  rw [h]
  pointwise []

theorem read_3 (hO : Ok m) (c : Dev nD) (n : Fin (cfgT m hO).N) (d : Fin 512) :
    (blockAt m hO c 3 n : Vec Ideal S1x1x1x512 .f32) (ix4 0 0 0 d)
      = (m ((c : Thread nD τ).loc main_arg6) : FVec Ideal S2x32x2048 .f32) (ix3 0 (own m hH n.val) (inCol m hH n.val d)) := by
  have e := index_3 m hH (grid0.coords n)
  rw [pos_coords] at e
  exact (View.read_apply _ _).trans ((congrArg (V m c main_v68) (emb_3 (adm m hO) n d (own m hH n.val) (inCol m hH n.val d) _ _ e rfl rfl)).trans (gate_row m c _ _))

theorem read_4 (hO : Ok m) (c : Dev nD) (n : Fin (cfgT m hO).N) (d : Fin 512) :
    (blockAt m hO c 4 n : Vec Ideal S1x1x1x512 .f32) (ix4 0 0 0 d)
      = (m ((c : Thread nD τ).loc main_arg7) : FVec Ideal S2x32x2048 .f32) (ix3 0 (own m hH n.val) (inCol m hH n.val d)) := by
  have e := index_4 m hH (grid0.coords n)
  rw [pos_coords] at e
  exact (View.read_apply _ _).trans ((congrArg (V m c main_v69) (emb_4 (adm m hO) n d (own m hH n.val) (inCol m hH n.val d) _ _ e rfl rfl)).trans (up_row m c _ _))

/-! ### The scratch -/

include hH in
theorem flag_at (n : Fin grid0.N) : flagAt m (grid0.coords n) = BitVec.ofNat 32 (fl a s t n.val) := by
  rw [flag_number m hH, pos_coords]

/-- While there is work the scratch holds the block of the point's own expert and columns. -/
theorem scr_at (c : Dev nD) (k : Fin 4096) (d : Fin 512) : ∀ (n : ℕ) (h : n < (cfgT m (good m hH).ok).N), n < 4 * t 31 →
    scr m (good m hH) c n h (ix2 k d)
      = (m ((c : Thread nD τ).loc main_arg4) : FVec Ideal S2x32x4096x2048 .f32) (ix4 0 (own m hH n) k (inCol m hH n d))
  | 0, h, _ => by
    unfold scr
    exact (cast_at _ k d).trans (read_1 m hH _ c ⟨0, h⟩ k d)
  | n + 1, h, hn => by
    unfold scr
    have ih := scr_at c k d n (Nat.lt_of_succ_lt h) (by omega)
    have e := flag_at m hH ⟨n + 1, h⟩
    unfold keep
    rcases fl_cases hH.tiling (n + 1) with h4 | h3 | h1
    · exact absurd h4 ((fl_work hH.tiling).2 hn)
    · have e' : flagAt m (grid0.coords ⟨n + 1, h⟩) = 3#32 := e.trans (by show BitVec.ofNat 32 (fl a s t (n + 1)) = _; rw [h3])
      rw [if_pos e']
      exact (cast_at _ k d).trans (read_1 m hH _ c ⟨n + 1, h⟩ k d)
    · have e' : flagAt m (grid0.coords ⟨n + 1, h⟩) = 1#32 := e.trans (by show BitVec.ofNat 32 (fl a s t (n + 1)) = _; rw [h1])
      rw [if_neg (by rw [e']; decide), ih]
      obtain ⟨-, h2, h3⟩ := fl_one hH.tiling h1
      have e1 : own m hH n = own m hH (n + 1) := Fin.ext h2
      have e2 : inCol m hH n d = inCol m hH (n + 1) d := Fin.ext (by show 512 * co a s t n + d.val = 512 * co a s t (n + 1) + d.val; rw [h3])
      rw [e1, e2]

/-- While there is work the second scratch holds the block of the point's own expert and columns. -/
theorem scr_at' (c : Dev nD) (k : Fin 4096) (d : Fin 512) : ∀ (n : ℕ) (h : n < (cfgT m (good m hH).ok).N), n < 4 * t 31 →
    scr' m (good m hH) c n h (ix2 k d)
      = (m ((c : Thread nD τ).loc main_arg5) : FVec Ideal S2x32x4096x2048 .f32) (ix4 0 (own m hH n) k (inCol m hH n d))
  | 0, h, _ => by
    unfold scr'
    exact (cast_at' _ k d).trans (read_2 m hH _ c ⟨0, h⟩ k d)
  | n + 1, h, hn => by
    unfold scr'
    have ih := scr_at' c k d n (Nat.lt_of_succ_lt h) (by omega)
    have e := flag_at m hH ⟨n + 1, h⟩
    unfold keep'
    rcases fl_cases hH.tiling (n + 1) with h4 | h3 | h1
    · exact absurd h4 ((fl_work hH.tiling).2 hn)
    · have e' : flagAt m (grid0.coords ⟨n + 1, h⟩) = 3#32 := e.trans (by show BitVec.ofNat 32 (fl a s t (n + 1)) = _; rw [h3])
      rw [if_pos e']
      exact (cast_at' _ k d).trans (read_2 m hH _ c ⟨n + 1, h⟩ k d)
    · have e' : flagAt m (grid0.coords ⟨n + 1, h⟩) = 1#32 := e.trans (by show BitVec.ofNat 32 (fl a s t (n + 1)) = _; rw [h1])
      rw [if_neg (by rw [e']; decide), ih]
      obtain ⟨-, h2, h3⟩ := fl_one hH.tiling h1
      have e1 : own m hH n = own m hH (n + 1) := Fin.ext h2
      have e2 : inCol m hH n d = inCol m hH (n + 1) d := Fin.ext (by show 512 * co a s t n + d.val = 512 * co a s t (n + 1) + d.val; rw [h3])
      rw [e1, e2]

/-! ### The result -/

/-- The token row and the column of an entry of point `n`'s block of the result. -/
def outRow (n : Fin grid0.N) (r : Fin 512) : Fin 81920 := ⟨512 * oR a s t n.val + r.val, by have := oR_lt hH.tiling n.isLt; omega⟩
def outCol (n : Fin grid0.N) (d : Fin 512) : Fin 2048 := ⟨512 * oC a s t n.val + d.val, by have := oC_lt hH.tiling n.val; omega⟩

theorem out_at (c : Dev nD) (n : Fin (cfgT m (good m hH).ok).N) (r : Fin 512) (d : Fin 512) : outAt m (good m hH) c n (ix2 r d)
    = routed s t (m ((c : Thread nD τ).loc main_arg3)) (m ((c : Thread nD τ).loc main_arg4)) (m ((c : Thread nD τ).loc main_arg5))
        (m ((c : Thread nD τ).loc main_arg6)) (m ((c : Thread nD τ).loc main_arg7))
        (outRow m hH n r) (outCol m hH n d) := by
  have e := flag_at m hH n
  unfold outAt left routed
  by_cases hn : n.val < 4 * t 31
  · have e4 : flagAt m (grid0.coords n) ≠ 4#32 := by
      rw [e]
      rcases fl_cases hH.tiling n.val with h4 | h3 | h1
      · exact absurd h4 ((fl_work hH.tiling).2 hn)
      · rw [h3]; decide
      · rw [h1]; decide
    have hr : outRow m hH n r = inRow m hH n.val r := Fin.ext (by
      show 512 * oR a s t n.val + r.val = 512 * ti a s t n.val + r.val; unfold oR; rw [if_pos hn])
    have hc : outCol m hH n d = inCol m hH n.val d := Fin.ext (by
      show 512 * oC a s t n.val + d.val = 512 * co a s t n.val + d.val; unfold oC; rw [if_pos hn])
    rw [if_neg e4, hr, hc]
    refine ((product_at _ _ _ _ _ r d).trans ?_).trans (own_row hH.tiling _ n.val r.val r.isLt).symm
    unfold expertRow
    exact congrArg₂ act
      (congr (congrArg _ (Finset.sum_congr rfl fun k _ => congr (congrArg _ (read_0 m hH _ c n r k)) (scr_at m hH c k d n.val n.isLt hn)))
        (read_3 m hH _ c n d))
      (congr (congrArg _ (Finset.sum_congr rfl fun k _ => congr (congrArg _ (read_0 m hH _ c n r k)) (scr_at' m hH c k d n.val n.isLt hn)))
        (read_4 m hH _ c n d))
  · have e4 : flagAt m (grid0.coords n) = 4#32 := by
      rw [e]
      have : fl a s t n.val = 4 := by unfold fl; rw [if_neg hn]
      rw [this]
    rw [if_pos e4, zeros_at]
    refine (spare_row hH.tiling _ _ ?_).symm
    show 512 * t 31 ≤ 512 * oR a s t n.val + r.val
    unfold oR
    rw [if_neg hn]
    omega

theorem flush_of (A : (pcfg0 (F := Ideal)).Adm) (n : Fin (cfg0 A).N)
    (h : ∀ hn : n.val + 1 < grid0.N, cc0_transform_5 k0_off1_inb numel1_S1 A.1 (grid0.coords ⟨n.val + 1, hn⟩)
      ≠ cc0_transform_5 k0_off1_inb numel1_S1 A.1 (grid0.coords n)) : ((cfg0 A).win 5).flush n = true := by
  show (true && (decide (n.val + 1 = grid0.N) || decide (∃ hn : n.val + 1 < grid0.N,
    cc0_transform_5 k0_off1_inb numel1_S1 A.1 (grid0.coords ⟨n.val + 1, hn⟩) ≠ cc0_transform_5 k0_off1_inb numel1_S1 A.1 (grid0.coords n)))) = true
  have hN : n.val < grid0.N := n.isLt
  by_cases he : n.val + 1 = grid0.N
  · simp [he]
  · have hn : n.val + 1 < grid0.N := by omega
    rw [decide_eq_true (⟨hn, h hn⟩ : ∃ hn : n.val + 1 < grid0.N, _), Bool.or_true]
    rfl

theorem emb_of (A : (pcfg0 (F := Ideal)).Adm) (n : Fin (cfg0 A).N) (y : S512x512.Idx) (R : Fin 81920) (C : Fin 2048) (p q : ℕ)
    (e : cc0_transform_5 k0_off1_inb numel1_S1 A.1 (grid0.coords n) = ![p, q]) (hR : R.val = 512 * p + (y 0).val) (hC : C.val = 512 * q + (y 1).val) :
    (((cfg0 A).win 5).blk n).view.emb y = ix2 R C := by
  funext b
  apply Fin.ext
  match b with
  | ⟨0, _⟩ =>
    show cc0_transform_5 k0_off1_inb numel1_S1 A.1 (grid0.coords n) 0 * 512 + 1 * (y 0).val = R.val
    rw [e, hR]; show p * 512 + 1 * (y 0).val = _; omega
  | ⟨1, _⟩ =>
    show cc0_transform_5 k0_off1_inb numel1_S1 A.1 (grid0.coords n) 1 * 512 + 1 * (y 1).val = C.val
    rw [e, hC]; show q * 512 + 1 * (y 1).val = _; omega

theorem mem_of (A : (pcfg0 (F := Ideal)).Adm) (n : Fin (cfg0 A).N) (y : S81920x2048.Idx) (p q : ℕ)
    (e : cc0_transform_5 k0_off1_inb numel1_S1 A.1 (grid0.coords n) = ![p, q]) (hp : (y 0).val / 512 = p) (hq : (y 1).val / 512 = q) :
    y ∈ (((cfg0 A).win 5).blk n).view.set := by
  have h0 := Nat.div_add_mod (y 0).val 512
  have h1 := Nat.div_add_mod (y 1).val 512
  have h := emb_of A n (ix2 ⟨(y 0).val % 512, Nat.mod_lt _ (by decide)⟩ ⟨(y 1).val % 512, Nat.mod_lt _ (by decide)⟩ : S512x512.Idx) (y 0) (y 1) p q e
    (by show (y 0).val = 512 * p + (y 0).val % 512; omega) (by show (y 1).val = 512 * q + (y 1).val % 512; omega)
  exact (h.trans (eq_ix2 y).symm) ▸ View.emb_mem_set _ _

include hH in
theorem index_at (n : Fin grid0.N) : cc0_transform_5 k0_off1_inb numel1_S1 (tables m) (grid0.coords n) = ![oR a s t n.val, oC a s t n.val] := by
  have e := index_5 m hH (grid0.coords n)
  rwa [pos_coords] at e

include hH in
/-- A point's block of the result is written back at once: the next point has another. -/
theorem flushed (n : Fin (cfgT m (good m hH).ok).N) : ((cfgT m (good m hH).ok).win 5).flush n = true := by
  refine flush_of (adm m (good m hH).ok) n fun hn hc => ?_
  have hN : grid0.N = 640 := N_0
  have e := ((index_at m hH ⟨n.val + 1, hn⟩).symm.trans hc).trans (index_at m hH n)
  have h0 : oR a s t (n.val + 1) = oR a s t n.val := congrFun e 0
  have h1 : oC a s t (n.val + 1) = oC a s t n.val := congrFun e 1
  have := written_once hH.tiling (by omega) (by omega) h0 h1
  omega

theorem array_5 (c : Dev nD) : (dats m (good m hH) 0 c).arrAt 5 (cfgT m (good m hH).ok).N
    = routedArray s t (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m (good m hH) 0 c).arrAt_eq_of_emb 5 _ (fun n _ (y : S512x512.Idx) => ?_) (fun (y : S81920x2048.Idx) => ?_)
  · have place : (((cfgT m (good m hH).ok).win 5).blk n).view.emb y = ix2 (outRow m hH n (y 0)) (outCol m hH n (y 1)) :=
      emb_of (adm m (good m hH).ok) n y _ _ _ _ (index_at m hH n) rfl rfl
    rw [place, after_5]
    exact (congrArg _ (eq_ix2 y)).trans (out_at m hH c n (y 0) (y 1))
  · have h0 : (y 0).val < 81920 := (y 0).isLt
    have h1 : (y 1).val < 2048 := (y 1).isLt
    obtain ⟨n, hn, hR, hC⟩ := written hH.tiling (R := (y 0).val / 512) (C := (y 1).val / 512) (by omega) (by omega)
    exact ⟨⟨n, hn⟩, flushed m hH _, mem_of (adm m (good m hH).ok) ⟨n, hn⟩ y _ _ (index_at m hH ⟨n, hn⟩) hR.symm hC.symm⟩

end Cert.MoeUpIdeal.Tiles

end
-- ==== Proof.Moe.UpValue.lean ====
/-
  The claims of the gate and up products: it runs on every tiling of the rows, its reference runs, and the two end with the same result.
  A row's sum over the experts has one term, so nothing need be finite.
-/
module

public import proofs.«01_k».proof.Defs
public import proofs.«01_k».proof.Proof.Moe.Pre
public import proofs.«01_k».proof.Proof.Moe.UpRef
public import proofs.«01_k».proof.Proof.Moe.MoeUp.Good
public import proofs.«01_k».proof.Proof.Moe.MoeUp.Frame
public import proofs.«01_k».proof.Proof.Moe.MoeUpIdeal.Frame
public import proofs.«01_k».proof.Proof.Moe.MoeUpIdeal.Value
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.Moeup

open Cert.Layer Cert.Layer.Schedule

theorem expert_at (x : FVec Ideal Cert.MoeUpRefIdeal.S81920x4096 .bf16) (w : FVec Ideal Cert.MoeUpRefIdeal.S2x32x4096x2048 .f32)
    (b : FVec Ideal Cert.MoeUpRefIdeal.S2x32x2048 .f32) (r : Fin 81920) (d : Fin 2048) (e : Fin 32) :
    Cert.MoeUpRefIdeal.Value.everyExpert x w b (ix3 e r d) = Cert.MoeUpIdeal.Tiles.expertRow x w b r d e := by
  rw [Cert.MoeUpRefIdeal.Value.everyExpert_at]
  unfold Cert.MoeUpIdeal.Tiles.expertRow
  exact congrArg (· + _) (Finset.sum_congr rfl fun k _ => mul_comm _ _)

theorem routed_at {te ts tn : IVec Cert.MoeUpRefIdeal.S32 32} {a s t : ℕ → ℕ} (h : Holds te ts tn a s t)
    (x : FVec Ideal Cert.MoeUpRefIdeal.S81920x4096 .bf16) (wg wu : FVec Ideal Cert.MoeUpRefIdeal.S2x32x4096x2048 .f32)
    (bg bu : FVec Ideal Cert.MoeUpRefIdeal.S2x32x2048 .f32) (r : Fin 81920) (d : Fin 2048) :
    Cert.MoeUpRefIdeal.Value.result ts tn x wg wu bg bu (ix2 r d) = Cert.MoeUpIdeal.Tiles.routed s t x wg wu bg bu r d := by
  rw [Cert.MoeUpRefIdeal.Value.result_at]
  unfold Cert.MoeUpIdeal.Tiles.routed
  rw [Cert.MoeUpRefIdeal.Value.summed_at]
  refine Finset.sum_congr rfl fun e _ => ?_
  rw [Cert.MoeUpRefIdeal.Value.chosen_at]
  refine if_congr (Cert.MoeUpRefIdeal.Value.owned_at h e _) ?_ rfl
  rw [Cert.MoeUpRefIdeal.Value.activated_at, expert_at, expert_at]
  rfl

/-- The reference's result as a function of its arrays is the kernel's. -/
theorem routed_eq {te ts tn : IVec Cert.MoeUpRefIdeal.S32 32} {a s t : ℕ → ℕ} (h : Holds te ts tn a s t)
    (x : FVec Ideal Cert.MoeUpRefIdeal.S81920x4096 .bf16) (wg wu : FVec Ideal Cert.MoeUpRefIdeal.S2x32x4096x2048 .f32)
    (bg bu : FVec Ideal Cert.MoeUpRefIdeal.S2x32x2048 .f32) :
    Cert.MoeUpRefIdeal.Value.result ts tn x wg wu bg bu = Cert.MoeUpIdeal.Tiles.routedArray s t x wg wu bg bu :=
  funext fun y => by rw [eq_ix2 y]; exact routed_at h x wg wu bg bu _ _

theorem bits_holds (m : (ℓ : Loc Cert.MoeUp.nD Cert.MoeUp.τ Cert.MoeUp.sig) → Buf (Elt Bits) ℓ) (h : Cert.Pre_MoeUp m) :
    Holds (Cert.MoeUp.Tiles.counts m) (Cert.MoeUp.Tiles.starts m) (Cert.MoeUp.Tiles.ends m)
      (nat (Cert.MoeUp.Tiles.counts m)) (nat (Cert.MoeUp.Tiles.starts m)) (nat (Cert.MoeUp.Tiles.ends m)) :=
  up_holds (F := Bits) _ _ _ _ _ _ _ _ (h 0)

theorem ideal_holds (m : (ℓ : Loc Cert.MoeUpIdeal.nD Cert.MoeUpIdeal.τ Cert.MoeUpIdeal.sig) → Buf (Elt Ideal) ℓ) (h : Cert.Pre_MoeUpIdeal m) :
    Holds (Cert.MoeUpIdeal.Tiles.counts m) (Cert.MoeUpIdeal.Tiles.starts m) (Cert.MoeUpIdeal.Tiles.ends m)
      (nat (Cert.MoeUpIdeal.Tiles.counts m)) (nat (Cert.MoeUpIdeal.Tiles.starts m)) (nat (Cert.MoeUpIdeal.Tiles.ends m)) :=
  up_holds (F := Ideal) _ _ _ _ _ _ _ _ (h 0)

theorem kernel_frame : Cert.quiescent_MoeUp := fun m g h =>
  Cert.MoeUp.Tiles.frame_holds m g (Cert.MoeUp.Tiles.good m (bits_holds m h))

theorem ideal_frame : Cert.quiescent_MoeUpIdeal := fun m g h =>
  Cert.MoeUpIdeal.Tiles.frame_holds m g (Cert.MoeUpIdeal.Tiles.good m (ideal_holds m h))

/-- The reference runs, keeps its arguments and leaves every counter at zero. -/
theorem reference_frame : Cert.quiescent_MoeUpRefIdeal := fun m g _ =>
  (θ_run _ _ _).mono (fun r h => ⟨fun c => (h c).2, sem_eq_zero_of_no_sems (by decide) _⟩)
    (Cert.MoeUpRefIdeal.Value.stages (F := Ideal) m g)

/-- The kernel's run ends with its result the routed array of its arguments. -/
theorem kernel_value (m : (ℓ : Loc Cert.MoeUpIdeal.nD Cert.MoeUpIdeal.τ Cert.MoeUpIdeal.sig) → Buf (Elt Ideal) ℓ)
    {a s t : ℕ → ℕ} (hH : Holds (Cert.MoeUpIdeal.Tiles.counts m) (Cert.MoeUpIdeal.Tiles.starts m) (Cert.MoeUpIdeal.Tiles.ends m) a s t)
    (r) (h : Cert.MoeUpIdeal.Tiles.Post m (Cert.MoeUpIdeal.Tiles.good m hH) r) (c : Dev Cert.MoeUpIdeal.nD) :
    r.2.mem ((c.tc : Thread Cert.MoeUpIdeal.nD Cert.MoeUpIdeal.τ).loc Cert.MoeUpIdeal.main_v70)
      = Cert.MoeUpIdeal.Tiles.routedArray s t (m ((c.tc : Thread Cert.MoeUpIdeal.nD Cert.MoeUpIdeal.τ).loc Cert.MoeUpIdeal.main_arg3))
          (m ((c.tc : Thread Cert.MoeUpIdeal.nD Cert.MoeUpIdeal.τ).loc Cert.MoeUpIdeal.main_arg4))
          (m ((c.tc : Thread Cert.MoeUpIdeal.nD Cert.MoeUpIdeal.τ).loc Cert.MoeUpIdeal.main_arg5))
          (m ((c.tc : Thread Cert.MoeUpIdeal.nD Cert.MoeUpIdeal.τ).loc Cert.MoeUpIdeal.main_arg6))
          (m ((c.tc : Thread Cert.MoeUpIdeal.nD Cert.MoeUpIdeal.τ).loc Cert.MoeUpIdeal.main_arg7)) :=
  (h.out_eq c 5).trans (Cert.MoeUpIdeal.Tiles.array_5 m hH c)

/-- The kernel and its reference end with the same result. -/
theorem same_result : Cert.algebraic_MoeUpIdeal_MoeUpRefIdeal := by
  intro m g m' g' hpre hargs
  have hH := ideal_holds m hpre
  refine ⟨fun c => Cert.MoeUpIdeal.Tiles.routedArray (nat (Cert.MoeUpIdeal.Tiles.starts m)) (nat (Cert.MoeUpIdeal.Tiles.ends m))
      (m ((c.tc : Thread Cert.MoeUpIdeal.nD Cert.MoeUpIdeal.τ).loc Cert.MoeUpIdeal.main_arg3))
      (m ((c.tc : Thread Cert.MoeUpIdeal.nD Cert.MoeUpIdeal.τ).loc Cert.MoeUpIdeal.main_arg4))
      (m ((c.tc : Thread Cert.MoeUpIdeal.nD Cert.MoeUpIdeal.τ).loc Cert.MoeUpIdeal.main_arg5))
          (m ((c.tc : Thread Cert.MoeUpIdeal.nD Cert.MoeUpIdeal.τ).loc Cert.MoeUpIdeal.main_arg6))
          (m ((c.tc : Thread Cert.MoeUpIdeal.nD Cert.MoeUpIdeal.τ).loc Cert.MoeUpIdeal.main_arg7)),
    (θ_run _ _ _).mono (fun r h c => ⟨kernel_value m hH r h.1 c, Cert.MoeUpIdeal.Tiles.end_0 m _ r h.1 c, Cert.MoeUpIdeal.Tiles.end_1 m _ r h.1 c,
      Cert.MoeUpIdeal.Tiles.end_2 m _ r h.1 c, Cert.MoeUpIdeal.Tiles.end_3 m _ r h.1 c, Cert.MoeUpIdeal.Tiles.end_4 m _ r h.1 c,
      Cert.MoeUpIdeal.Tiles.end_5 m _ r h.1 c, Cert.MoeUpIdeal.Tiles.end_6 m _ r h.1 c, Cert.MoeUpIdeal.Tiles.end_7 m _ r h.1 c⟩) (Cert.MoeUpIdeal.Tiles.program_runs m g (Cert.MoeUpIdeal.Tiles.good m hH)),
    (θ_run _ _ _).mono (fun r h c => ?_) (Cert.MoeUpRefIdeal.Value.stages (F := Ideal) m' g')⟩
  obtain ⟨h0, hk⟩ := h c
  obtain ⟨a0, a1, a2, a3, a4, a5, a6, a7⟩ := hargs c
  refine ⟨h0.trans ?_, hk⟩
  obtain rfl : c = 0 := Subsingleton.elim _ _
  rw [a1, a2, a3, a4, a5, a6, a7]
  exact routed_eq hH _ _ _ _ _

end Cert.Moeup

end
-- ==== Proof.Moe.Up2Ref.lean ====
/-
  The reference of the gate and up products, read off entry by entry: every expert's two products and their activation on
  every row, and of them the sum of those whose expert owns the row.
-/
module

public import proofs.«01_k».proof.Proof.Gen.MoeUp2RefIdeal.Run
public import proofs.«01_k».proof.Proof.Moe.UpRef
public import Idealize.ShloMosaic.Lib.Pointwise
public import Idealize.ShloMosaic.Lib.Tactic

@[expose] public section

set_option maxRecDepth 16384

noncomputable section

namespace Cert.MoeUp2RefIdeal.Value

open Idealize.ShloMosaic Idealize.ShloMosaic.TcCoe Idealize.SL.Sem
open Cert.MoeUp2RefIdeal Cert.MoeUp2RefIdeal.Gen Facts
open Cert.Layer
open Cert.MoeUpRefIdeal.Value (owned activated chosen summed)

variable {F : FTy → Type} [FloatOps F]

/-- Every expert's product and bias on every row. -/
def everyExpert (x : FVec F S81920x4096 .bf16) (w : FVec F S2x32x4096x2048 .f32) (b : FVec F S2x32x2048 .f32) : FVec F S32x81920x2048 .f32 :=
  addf (transpose S32x81920x2048 [0, 2, 1] (Host.dotGeneral dot_S32x4096x2048_S81920x4096_S32x2048x81920_1_1_02_0_n_n none (shapeCast _ (extractStridedSlice S1x32x4096x2048 ![1, 0, 0, 0] w slices_S2x32x4096x2048_S1x32x4096x2048_1_0_0_0) shapeCasts_S1x32x4096x2048_S32x4096x2048) (extf .f32 x bitsLt_bf16_f32)) transposes_S32x2048x81920_S32x81920x2048_0_2_1)
    (broadcastInDim S32x81920x2048 ![0, 1, 2] bcast_S32x1x2048_S32x81920x2048_0_1_2 (broadcastInDim S32x1x2048 ![0, 2] bcast_S32x2048_S32x1x2048_0_2 (shapeCast _ (extractStridedSlice S1x32x2048 ![1, 0, 0] b slices_S2x32x2048_S1x32x2048_1_0_0) shapeCasts_S1x32x2048_S32x2048)))

/-- The reference's result: the stages composed. -/
def result (ts tn : IVec S32 32) (x : FVec F S81920x4096 .bf16) (wg wu : FVec F S2x32x4096x2048 .f32) (bg bu : FVec F S2x32x2048 .f32) : FVec F S81920x2048 .bf16 :=
  truncf .bf16 (summed (chosen (owned ts tn) (activated (everyExpert x wg bg) (everyExpert x wu bu)))) bitsLt_bf16_f32

theorem everyExpert_at (x : FVec Ideal S81920x4096 .bf16) (w : FVec Ideal S2x32x4096x2048 .f32) (b : FVec Ideal S2x32x2048 .f32)
    (e : Fin 32) (r : Fin 81920) (d : Fin 2048) :
    everyExpert x w b (ix3 e r d) = (∑ k : Fin 4096, w (ix4 1 e k d) * x (ix2 r k)) + b (ix3 1 e d) := by
  pointwise [everyExpert]

theorem result_at (ts tn : IVec S32 32) (x : FVec Ideal S81920x4096 .bf16) (wg wu : FVec Ideal S2x32x4096x2048 .f32) (bg bu : FVec Ideal S2x32x2048 .f32)
    (y : S81920x2048.Idx) : result ts tn x wg wu bg bu y
      = summed (chosen (owned ts tn) (activated (everyExpert x wg bg) (everyExpert x wu bu))) y := rfl

/-- The reference's run states these stages composed. -/
theorem stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = result (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run m ρ

end Cert.MoeUp2RefIdeal.Value

end
-- ==== Proof.Moe.MoeUp2Ideal.Setup.lean ====
/-
  The schedule that the host computes and the kernel call reads: the arrays as the call finds them, the six tables, and
  the blocks that the tables select.
-/
module

public import proofs.«01_k».proof.Proof.Gen.MoeUp2Ideal.Launch
public import proofs.«01_k».proof.Proof.Gen.MoeUp2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeUp2Ideal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.MoeUp2Ideal Cert.MoeUp2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The host's operations before the call -/

/-- A buffer of core `c` once every host operation before the call has run. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11]) (fun b => m (c, b)) b

set_option maxHeartbeats 800000 in
/-- The whole program is these host operations and then the call. -/
theorem main_shape (𝒱 : Variants) : Pipeline.HMainP (Ix := Unit) (Name := ℕ) (U := UR sig nD τ) (Lvl := ℕ) pcfgs 0 defs₀ 𝒱 m (main (F := F)) (V m) :=
  Pipeline.hmainP_prefixes pcfgs 0 defs₀ 𝒱 m main [hostOps0, hostOps0_1, hostOps0_2, hostOps0_3, hostOps0_4, hostOps0_5, hostOps0_6, hostOps0_7, hostOps0_8, hostOps0_9, hostOps0_10, hostOps0_11]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [List.Forall]; repeat' constructor) main_chain

set_option maxHeartbeats 4000000 in
/-- No host operation writes an argument. -/
theorem V_args (c : Dev nD) : V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7) := by
  refine ⟨?_, ?_, ?_, ?_, ?_, ?_, ?_, ?_⟩ <;> refine StableHlo.after_of_forall_not_mem _ _ (List.forall_iff_forall_mem.mp ?_)
  all_goals
    simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)
theorem V_arg0 (c : Dev nD) : V m c main_arg0 = m ((c : Thread nD τ).loc main_arg0) := (V_args m c).1
theorem V_arg1 (c : Dev nD) : V m c main_arg1 = m ((c : Thread nD τ).loc main_arg1) := (V_args m c).2.1
theorem V_arg2 (c : Dev nD) : V m c main_arg2 = m ((c : Thread nD τ).loc main_arg2) := (V_args m c).2.2.1
theorem V_arg3 (c : Dev nD) : V m c main_arg3 = m ((c : Thread nD τ).loc main_arg3) := (V_args m c).2.2.2.1
theorem V_arg4 (c : Dev nD) : V m c main_arg4 = m ((c : Thread nD τ).loc main_arg4) := (V_args m c).2.2.2.2.1
theorem V_arg5 (c : Dev nD) : V m c main_arg5 = m ((c : Thread nD τ).loc main_arg5) := (V_args m c).2.2.2.2.2.1
theorem V_arg6 (c : Dev nD) : V m c main_arg6 = m ((c : Thread nD τ).loc main_arg6) := (V_args m c).2.2.2.2.2.2.1
theorem V_arg7 (c : Dev nD) : V m c main_arg7 = m ((c : Thread nD τ).loc main_arg7) := (V_args m c).2.2.2.2.2.2.2

/-! ### The tables -/

/-- The six tables as the call finds them. -/
def tables : pre0.Contents (Elt F) := fun j => V m (0 : Dev nD) (pre0.ref j)

theorem V_tables (c : Dev nD) (j : Fin 6) : V m c (pre0.ref j) = tables m j := by
  obtain rfl : c = 0 := Subsingleton.elim _ _; rfl

/-- Every block that the tables select lies in its array. -/
abbrev Ok : Prop := ok0 (F := F) (tables m)
abbrev adm (hO : Ok m) : (pcfg0 (F := F)).Adm := ⟨tables m, hO⟩
abbrev cfgT (hO : Ok m) : Pipeline.Cfg sig Λ₀ := cfg0 (adm m hO)

abbrev table0 : Memref sig .tc .smem S640 .i32 := Memref.whole main_v17
abbrev table1 : Memref sig .tc .smem S640 .i32 := Memref.whole main_v37
abbrev table2 : Memref sig .tc .smem S640 .i32 := Memref.whole main_v47
abbrev table3 : Memref sig .tc .smem S640 .i32 := Memref.whole main_v57
abbrev table4 : Memref sig .tc .smem S640 .i32 := Memref.whole main_v59
abbrev table5 : Memref sig .tc .smem S640 .i32 := Memref.whole main_v67

/-- The half of a table that the body may read. -/
abbrev TBuf (c : Dev nD) {S : Shape} {e : EltTy} (M : Memref sig .tc .smem S e) : Type := Buf (Elt F) (M.view.loc (c : Thread nD τ))
abbrev half (c : Dev nD) {S : Shape} {e : EltTy} (M : Memref sig .tc .smem S e) (f : TBuf (F := F) c M) : sProp 𝕄 :=
  M.view.loc (c : Thread nD τ) ↦{fullShare.right} f

theorem halves (c : Dev nD) : (Pipeline.ΦT pre0 (tables m) c : sProp 𝕄) = iprop(half c table0 (tables m 0) ∗ half c table1 (tables m 1)
    ∗ half c table2 (tables m 2) ∗ half c table3 (tables m 3) ∗ half c table4 (tables m 4) ∗ half c table5 (tables m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-! ### The blocks -/

/-- The block of window `w` at point `t`, of its array as the call finds it. -/
def blockAt (hO : Ok m) (c : Dev nD) (w : Fin (cfgT m hO).W) (t : Fin (cfgT m hO).N) : (((cfgT m hO).win w).xblock ((cfgT m hO).grid.coords t)).Idx → Elt F ((cfgT m hO).win w).elt :=
  (((cfgT m hO).win w).blk t).view.read (Elt F) (V m c (Pipeline.arrRef spec0 w))

theorem held_0 (hO : Ok m) {c : Dev nD} (dat : Dat τ (Elt F) Unit ℕ (UR sig nD τ) ℕ (cfgT m hO) c) (hA : dat.A 0 = V m c (Pipeline.arrRef spec0 0))
    (hafter : ∀ t, dat.after 0 t = blockAt m hO c 0 t) (t : Fin (cfgT m hO).N) (d) : dat.before 0 t d = blockAt m hO c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1 (hO : Ok m) {c : Dev nD} (dat : Dat τ (Elt F) Unit ℕ (UR sig nD τ) ℕ (cfgT m hO) c) (hA : dat.A 1 = V m c (Pipeline.arrRef spec0 1))
    (hafter : ∀ t, dat.after 1 t = blockAt m hO c 1 t) (t : Fin (cfgT m hO).N) (d) : dat.before 1 t d = blockAt m hO c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2 (hO : Ok m) {c : Dev nD} (dat : Dat τ (Elt F) Unit ℕ (UR sig nD τ) ℕ (cfgT m hO) c) (hA : dat.A 2 = V m c (Pipeline.arrRef spec0 2))
    (hafter : ∀ t, dat.after 2 t = blockAt m hO c 2 t) (t : Fin (cfgT m hO).N) (d) : dat.before 2 t d = blockAt m hO c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3 (hO : Ok m) {c : Dev nD} (dat : Dat τ (Elt F) Unit ℕ (UR sig nD τ) ℕ (cfgT m hO) c) (hA : dat.A 3 = V m c (Pipeline.arrRef spec0 3))
    (hafter : ∀ t, dat.after 3 t = blockAt m hO c 3 t) (t : Fin (cfgT m hO).N) (d) : dat.before 3 t d = blockAt m hO c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4 (hO : Ok m) {c : Dev nD} (dat : Dat τ (Elt F) Unit ℕ (UR sig nD τ) ℕ (cfgT m hO) c) (hA : dat.A 4 = V m c (Pipeline.arrRef spec0 4))
    (hafter : ∀ t, dat.after 4 t = blockAt m hO c 4 t) (t : Fin (cfgT m hO).N) (d) : dat.before 4 t d = blockAt m hO c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ### The staging buffers at a point, and the scratch -/

abbrev stage_0 (hO : Ok m) (t : Fin (cfgT m hO).N) : Memref sig .tc .vmem S512x4096 .bf16 := spec0_0.stage ((cfgT m hO).slots t 0)
abbrev stage_1 (hO : Ok m) (t : Fin (cfgT m hO).N) : Memref sig .tc .vmem S1x1x4096x512 .f32 := spec0_1.stage ((cfgT m hO).slots t 1)
abbrev stage_2 (hO : Ok m) (t : Fin (cfgT m hO).N) : Memref sig .tc .vmem S1x1x4096x512 .f32 := spec0_2.stage ((cfgT m hO).slots t 2)
abbrev stage_3 (hO : Ok m) (t : Fin (cfgT m hO).N) : Memref sig .tc .vmem S1x1x1x512 .f32 := spec0_3.stage ((cfgT m hO).slots t 3)
abbrev stage_4 (hO : Ok m) (t : Fin (cfgT m hO).N) : Memref sig .tc .vmem S1x1x1x512 .f32 := spec0_4.stage ((cfgT m hO).slots t 4)
abbrev stage_5 (hO : Ok m) (t : Fin (cfgT m hO).N) : Memref sig .tc .vmem S512x512 .bf16 := spec0_5.stage ((cfgT m hO).slots t 5)
abbrev scratch0 : Memref sig .tc .vmem S4096x512 .bf16 := Memref.whole cc0_scratch0
abbrev scratch1 : Memref sig .tc .vmem S4096x512 .bf16 := Memref.whole cc0_scratch1

theorem rest_eq (c : Dev nD) :
    (Pipeline.ΦA spec0 c : sProp 𝕄) = iprop(iprop((∃ d, owns (c : Thread nD τ) scratch0 fullShare d) ∗ (∃ d, owns (c : Thread nD τ) scratch1 fullShare d)) ∗ (∃ r, prngReg c r)) := by
  unfold Pipeline.ΦA; rw [scopedRest0_eq]; simp only [scratch0, scratch1, owns_whole]; try rfl

/-- The body at point `t`. -/
abbrev bodyAt (a : (pcfg0 (F := F)).Adm) (t : Fin (cfg0 a).N) : Prog (TpuEff nD τ sig (Elt F) Λ₀ .tc) PUnit :=
  cc0_moe_up (grid0.coords t) (Memref.whole main_v17) (Memref.isWhole_whole _) (Memref.whole main_v37) (Memref.isWhole_whole _) (Memref.whole main_v47) (Memref.isWhole_whole _) (Memref.whole main_v57) (Memref.isWhole_whole _) (Memref.whole main_v59) (Memref.isWhole_whole _) (Memref.whole main_v67) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

theorem body_row (hO : Ok m) (t : Fin (cfgT m hO).N) :
    defs₀ (F := F) .tc (cfgT m hO).body ((cfgT m hO).bodyArgs t ((cfgT m hO).slots t)) = bodyAt (adm m hO) t := by
  unfold defs₀; rw [Defs.onTc_tc]

end Cert.MoeUp2Ideal.Tiles

end
-- ==== Proof.Moe.MoeUp2Ideal.Body.lean ====
/-
  One grid point of the call: what the kernel's body leaves in the output's buffer and in the scratch, by the point's flag.
-/
module

public import proofs.«01_k».proof.Proof.Moe.MoeUp2Ideal.Setup
public import Idealize.ShloMosaic.Lib.VecWindow

@[expose] public section

set_option maxRecDepth 16384

noncomputable section

namespace Cert.MoeUp2Ideal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.MoeUp2Ideal Cert.MoeUp2Ideal.Gen

variable {F : FTy → Type} [FloatOps F]

local notation "𝕄" => MT nD τ sig Unit (Elt F) ℕ (UR sig nD τ) ℕ

/-- The word the body loads is the table's entry at the point. -/
theorem flag_word (T : pre0.Contents (Elt F)) (i : grid0.Coords) :
    View.readAt (Elt F) table5.view (Rect.unit (s := S640) (k0_off1 i) S1.size (k0_off1_inb i)).toLoadRect (T 5) (Shape.Idx.first (numel1_S1 ▸ Nat.one_pos))
      = T.atD 5 (k0_off1 i) := by
  have h : ∀ a, k0_off1 i a + 1 ≤ (pre0.ref 5).ty.shape.size a := by
    intro (a : Fin 1)
    obtain rfl : a = 0 := Subsingleton.elim _ _
    exact k0_off1_inb i 0
  refine Eq.trans ?_ (dif_pos h).symm
  refine congrArg (T 5) (funext fun (a : Fin 1) => ?_)
  obtain rfl : a = 0 := Subsingleton.elim _ _
  exact Fin.ext (Nat.add_zero _)

/-- The two scratches after a point: the expert's gate and up weights, cast, at the first tile of a run (flag 3); what
    they held otherwise. -/
def keep (w : BitVec 32) (x1 : Vec F S1x1x4096x512 .f32) (s : Vec F S4096x512 .bf16) : Vec F S4096x512 .bf16 :=
  if w = 3#32 then k0_pay2 x1 else s

def keep' (w : BitVec 32) (x2 : Vec F S1x1x4096x512 .f32) (s : Vec F S4096x512 .bf16) : Vec F S4096x512 .bf16 :=
  if w = 3#32 then k0_pay3 x2 else s

/-- The output's buffer after a point: zeros at a spare block (flag 4), the activation of the two products otherwise. -/
def left (w : BitVec 32) (x0 : Vec F S512x4096 .bf16) (s s' : Vec F S4096x512 .bf16) (x3 x4 : Vec F S1x1x1x512 .f32) : Vec F S512x512 .bf16 :=
  if w = 4#32 then k0_pay1 else k0_pay4 x0 s x3 s' x4

/-- The three flags and the conditions they decide. -/
theorem conds (w : BitVec 32) (h : w = 4#32 ∨ w = 3#32 ∨ w = 1#32) :
    ((w = 4#32 ∧ k0_cond1 w = 1#1 ∧ ¬ k0_cond3 w = 1#1 ∧ ¬ Scalar.cmpi .ne (Scalar.extui (Scalar.cmpi .ne (Scalar.andi w 2#32) 0#32) : BitVec 32) 0#32 = 1#1)
      ∨ (w = 3#32 ∧ ¬ k0_cond1 w = 1#1 ∧ k0_cond3 w = 1#1 ∧ Scalar.cmpi .ne (Scalar.extui (Scalar.cmpi .ne (Scalar.andi w 2#32) 0#32) : BitVec 32) 0#32 = 1#1)
      ∨ (w = 1#32 ∧ ¬ k0_cond1 w = 1#1 ∧ k0_cond3 w = 1#1 ∧ ¬ Scalar.cmpi .ne (Scalar.extui (Scalar.cmpi .ne (Scalar.andi w 2#32) 0#32) : BitVec 32) 0#32 = 1#1)) := by
  rcases h with rfl | rfl | rfl
  · left; decide
  · right; left; decide
  · right; right; decide

set_option maxHeartbeats 4000000 in
/-- The body at a point whose flag is 4, 3 or 1. -/
theorem body_runs (c : Dev nD) (i : grid0.Coords) (arg7 : Memref sig .tc .vmem S512x4096 .bf16) (harg7 : arg7.IsWhole) (arg8 : Memref sig .tc .vmem S1x1x4096x512 .f32) (harg8 : arg8.IsWhole) (arg9 : Memref sig .tc .vmem S1x1x4096x512 .f32) (harg9 : arg9.IsWhole) (arg10 : Memref sig .tc .vmem S1x1x1x512 .f32) (harg10 : arg10.IsWhole) (arg11 : Memref sig .tc .vmem S1x1x1x512 .f32) (harg11 : arg11.IsWhole) (arg12 : Memref sig .tc .vmem S512x512 .bf16) (harg12 : arg12.IsWhole) (arg13 : Memref sig .tc .vmem S4096x512 .bf16) (harg13 : arg13.IsWhole) (arg14 : Memref sig .tc .vmem S4096x512 .bf16) (harg14 : arg14.IsWhole)
    (x0 : Vec F S512x4096 .bf16) (x1 : Vec F S1x1x4096x512 .f32) (x2 : Vec F S1x1x4096x512 .f32) (x3 : Vec F S1x1x1x512 .f32) (x4 : Vec F S1x1x1x512 .f32) (s : Vec F S4096x512 .bf16) (s' : Vec F S4096x512 .bf16)
    (T : pre0.Contents (Elt F)) (w : BitVec 32) (hT : T.atD 5 (k0_off1 i) = w) (hw : w = 4#32 ∨ w = 3#32 ∨ w = 1#32)
    (E : Set ℕ) (K : PUnit → sProp 𝕄) :
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ (∃ d, owns (c : Thread nD τ) arg12 fullShare d) ∗ owns (c : Thread nD τ) arg13 fullShare s ∗ owns (c : Thread nD τ) arg14 fullShare s' ∗ half c table5 (T 5)
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare (left w x0 (keep w x1 s) (keep' w x2 s') x3 x4) ∗ owns (c : Thread nD τ) arg13 fullShare (keep w x1 s) ∗ owns (c : Thread nD τ) arg14 fullShare (keep' w x2 s') ∗ half c table5 (T 5)) -∗ K ⟨⟩))
          ⊢ wp frame (wpE (defs₀ (F := F)) Variants.none c none) E (cc0_moe_up i table0 (Memref.isWhole_whole _) table1 (Memref.isWhole_whole _) table2 (Memref.isWhole_whole _) table3 (Memref.isWhole_whole _) table4 (Memref.isWhole_whole _) table5 (Memref.isWhole_whole _) arg7 harg7 arg8 harg8 arg9 harg9 arg10 harg10 arg11 harg11 arg12 harg12 arg13 harg13 arg14 harg14) K := by
    simp only [cc0_moe_up_eq_skeleton]; unfold cc0_moe_up_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT5, Hk⟩
    obtain rfl := harg7.eq_unread hf0; obtain rfl := harg8.eq_unread hf1; obtain rfl := harg9.eq_unread hf2; obtain rfl := harg10.eq_unread hf3
    obtain rfl := harg11.eq_unread hf4; obtain rfl := harg13.eq_unread hs0; obtain rfl := harg14.eq_unread hs1
    sl_exec
    have hr : body_runs.sl.r i T = w := (flag_word T i).trans hT
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; · ipureintro; exact harg11.read_unread _
      iexact H4
    isplitl [H5]
    · iexists _; isplitr; swap; · iexact H5
      ipureintro
      unfold body_runs.sl.v15 body_runs.sl.v21
      rw [hr]
      unfold left keep keep'
      rcases conds w hw with ⟨rfl, h1, h3, h2⟩ | ⟨rfl, h1, h3, h2⟩ | ⟨rfl, h1, h3, h2⟩
      · rw [dif_neg h3, dif_pos h1, if_pos rfl, View.read_writes_full]
      · rw [dif_pos h3, dif_pos h2, dif_pos h2, if_neg (by decide), if_pos rfl, if_pos rfl, View.read_writes_full, View.readAt_writes_full, View.readAt_writes_full]
        unfold body_runs.sl.v14 body_runs.sl.v20
        rw [View.readAt_full, View.readAt_full, View.readAt_full, View.readAt_full, View.readAt_full, hf0, hf1, hf2, hf3, hf4]
      · rw [dif_pos h3, dif_neg h2, dif_neg h2, if_neg (by decide), if_neg (by decide), if_neg (by decide), View.read_writes_full, View.readAt_full, View.readAt_full, View.readAt_full, View.readAt_full, View.readAt_full,
          hf0, hf3, hf4, hs0, hs1]
    isplitl [HS0]
    · iexists _; isplitr; swap; · iexact HS0
      ipureintro
      rw [hr]
      unfold keep
      rcases conds w hw with ⟨rfl, h1, h3, h2⟩ | ⟨rfl, h1, h3, h2⟩ | ⟨rfl, h1, h3, h2⟩
      · rw [dif_neg h2, if_neg (by decide), hs0]
      · rw [dif_pos h2, if_pos rfl, View.read_writes_full]; unfold body_runs.sl.v14; rw [View.readAt_full, hf1]
      · rw [dif_neg h2, if_neg (by decide), hs0]
    isplitl [HS1]
    · iexists _; isplitr; swap; · iexact HS1
      ipureintro
      rw [hr]
      unfold keep'
      rcases conds w hw with ⟨rfl, h1, h3, h2⟩ | ⟨rfl, h1, h3, h2⟩ | ⟨rfl, h1, h3, h2⟩
      · rw [dif_neg h2, if_neg (by decide), hs1]
      · rw [dif_pos h2, if_pos rfl, View.read_writes_full]; unfold body_runs.sl.v20; rw [View.readAt_full, hf2]
      · rw [dif_neg h2, if_neg (by decide), hs1]
    iexact HT5

end Cert.MoeUp2Ideal.Tiles

end
-- ==== Proof.Moe.MoeUp2Ideal.Run.lean ====
/-
  The whole call: the scratch and the output's buffer point by point, and the run of the program from any memory whose
  tables hold blocks of the arrays and one of the three flags at each point.
-/
module

public import proofs.«01_k».proof.Proof.Moe.MoeUp2Ideal.Body

@[expose] public section

set_option maxRecDepth 16384

noncomputable section

namespace Cert.MoeUp2Ideal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MoeUp2Ideal Cert.MoeUp2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The flag that the schedule gives a grid point. -/
def flagAt (i : grid0.Coords) : BitVec 32 := (tables m).atD 5 (k0_off1 i)

/-- What the run needs of the tables: blocks inside the arrays, one of three flags at each point, and a first point that
    casts the weights. -/
structure Good : Prop where
  ok : Ok m
  flags : ∀ i, flagAt m i = 4#32 ∨ flagAt m i = 3#32 ∨ flagAt m i = 1#32
  first : flagAt m (grid0.coords ⟨0, by decide⟩) = 3#32

theorem flag_adm (hO : Ok m) (i : grid0.Coords) : (adm m hO).1.atD 5 (k0_off1 i) = flagAt m i := by
  unfold flagAt; dsimp only

variable (hG : Good m)

/-- The two scratches after the point at position `n`: gate weights, up weights. -/
def scr (c : Dev nD) : (n : ℕ) → n < (cfgT m hG.ok).N → Vec F S4096x512 .bf16
  | 0, h => k0_pay2 (blockAt m hG.ok c 1 ⟨0, h⟩)
  | n + 1, h => keep (flagAt m (grid0.coords ⟨n + 1, h⟩)) (blockAt m hG.ok c 1 ⟨n + 1, h⟩) (scr c n (Nat.lt_of_succ_lt h))

def scr' (c : Dev nD) : (n : ℕ) → n < (cfgT m hG.ok).N → Vec F S4096x512 .bf16
  | 0, h => k0_pay3 (blockAt m hG.ok c 2 ⟨0, h⟩)
  | n + 1, h => keep' (flagAt m (grid0.coords ⟨n + 1, h⟩)) (blockAt m hG.ok c 2 ⟨n + 1, h⟩) (scr' c n (Nat.lt_of_succ_lt h))

/-- The output's buffer after point `t`. -/
def outAt (c : Dev nD) (t : Fin (cfgT m hG.ok).N) : Vec F S512x512 .bf16 :=
  left (flagAt m (grid0.coords t)) (blockAt m hG.ok c 0 t) (scr m hG c t.val t.isLt) (scr' m hG c t.val t.isLt)
    (blockAt m hG.ok c 3 t) (blockAt m hG.ok c 4 t)

/-- What the core holds between points besides the staged blocks: the scratches, the generator's register, its half of the
    tables. -/
def between (c : Dev nD) : (n : ℕ) → n ≤ (cfgT m hG.ok).N → sProp 𝕄
  | 0, _ => iprop(Pipeline.ΦA spec0 c ∗ Pipeline.ΦT pre0 (tables m) c)
  | n + 1, h => iprop(((owns (c : Thread nD τ) scratch0 fullShare (scr m hG c n h) ∗ owns (c : Thread nD τ) scratch1 fullShare (scr' m hG c n h)) ∗ (∃ r, prngReg c r)) ∗ Pipeline.ΦT pre0 (tables m) c)

theorem between_pos (c : Dev nD) (n : ℕ) (h : n ≤ (cfgT m hG.ok).N) (hn : n ≠ 0) :
    between m hG c n h = iprop(((owns (c : Thread nD τ) scratch0 fullShare (scr m hG c (n - 1) (by omega)) ∗ owns (c : Thread nD τ) scratch1 fullShare (scr' m hG c (n - 1) (by omega))) ∗ (∃ r, prngReg c r)) ∗ Pipeline.ΦT pre0 (tables m) c) := by
  cases n with
  | zero => exact absurd rfl hn
  | succ n => rfl

/-- The call's data. -/
def dats (_ : Fin 1) (c : Dev nD) : Dat τ (Elt F) Unit ℕ (UR sig nD τ) ℕ (cfgT m hG.ok) c where
  A w := V m c (Pipeline.arrRef spec0 w)
  after w t := match w with
    | ⟨0, _⟩ => blockAt m hG.ok c 0 t
    | ⟨1, _⟩ => blockAt m hG.ok c 1 t
    | ⟨2, _⟩ => blockAt m hG.ok c 2 t
    | ⟨3, _⟩ => blockAt m hG.ok c 3 t
    | ⟨4, _⟩ => blockAt m hG.ok c 4 t
    | ⟨5, _⟩ => outAt m hG c t
  Φ t := between m hG c t.val (Nat.le_of_lt_succ t.isLt)
  q _ := fullShare
  owed _ := 0

theorem A_eq (c : Dev nD) (w : Fin (cfgT m hG.ok).W) : (dats m hG 0 c).A w = V m c (Pipeline.arrRef spec0 w) := by
  dsimp only [dats]
theorem after_0 (c : Dev nD) (t : Fin (cfgT m hG.ok).N) : (dats m hG 0 c).after 0 t = blockAt m hG.ok c 0 t := by dsimp only [dats]; try rfl
theorem after_1 (c : Dev nD) (t : Fin (cfgT m hG.ok).N) : (dats m hG 0 c).after 1 t = blockAt m hG.ok c 1 t := by dsimp only [dats]; try rfl
theorem after_2 (c : Dev nD) (t : Fin (cfgT m hG.ok).N) : (dats m hG 0 c).after 2 t = blockAt m hG.ok c 2 t := by dsimp only [dats]; try rfl
theorem after_3 (c : Dev nD) (t : Fin (cfgT m hG.ok).N) : (dats m hG 0 c).after 3 t = blockAt m hG.ok c 3 t := by dsimp only [dats]; try rfl
theorem after_4 (c : Dev nD) (t : Fin (cfgT m hG.ok).N) : (dats m hG 0 c).after 4 t = blockAt m hG.ok c 4 t := by dsimp only [dats]; try rfl
theorem after_5 (c : Dev nD) (t : Fin (cfgT m hG.ok).N) : (dats m hG 0 c).after 5 t = outAt m hG c t := by dsimp only [dats]; try rfl
theorem before_0 (c : Dev nD) (t : Fin (cfgT m hG.ok).N) (d) : (dats m hG 0 c).before 0 t d = blockAt m hG.ok c 0 t :=
  held_0 m hG.ok (dats m hG 0 c) (A_eq m hG c 0) (after_0 m hG c) t d
theorem before_1 (c : Dev nD) (t : Fin (cfgT m hG.ok).N) (d) : (dats m hG 0 c).before 1 t d = blockAt m hG.ok c 1 t :=
  held_1 m hG.ok (dats m hG 0 c) (A_eq m hG c 1) (after_1 m hG c) t d
theorem before_2 (c : Dev nD) (t : Fin (cfgT m hG.ok).N) (d) : (dats m hG 0 c).before 2 t d = blockAt m hG.ok c 2 t :=
  held_2 m hG.ok (dats m hG 0 c) (A_eq m hG c 2) (after_2 m hG c) t d
theorem before_3 (c : Dev nD) (t : Fin (cfgT m hG.ok).N) (d) : (dats m hG 0 c).before 3 t d = blockAt m hG.ok c 3 t :=
  held_3 m hG.ok (dats m hG 0 c) (A_eq m hG c 3) (after_3 m hG c) t d
theorem before_4 (c : Dev nD) (t : Fin (cfgT m hG.ok).N) (d) : (dats m hG 0 c).before 4 t d = blockAt m hG.ok c 4 t :=
  held_4 m hG.ok (dats m hG 0 c) (A_eq m hG c 4) (after_4 m hG c) t d

/-- What the body finds at point `t` -/
def found (c : Dev nD) (t : Fin (cfgT m hG.ok).N) : sProp 𝕄 :=
  iprop((dats m hG 0 c).Φ t.castSucc ∗ (dats m hG 0 c).owesAt () t.castSucc
    ∗ (∃ d, owns (c : Thread nD τ) (stage_0 m hG.ok t) fullShare ((dats m hG 0 c).before 0 t d))
    ∗ (∃ d, owns (c : Thread nD τ) (stage_1 m hG.ok t) fullShare ((dats m hG 0 c).before 1 t d))
    ∗ (∃ d, owns (c : Thread nD τ) (stage_2 m hG.ok t) fullShare ((dats m hG 0 c).before 2 t d))
    ∗ (∃ d, owns (c : Thread nD τ) (stage_3 m hG.ok t) fullShare ((dats m hG 0 c).before 3 t d))
    ∗ (∃ d, owns (c : Thread nD τ) (stage_4 m hG.ok t) fullShare ((dats m hG 0 c).before 4 t d))
    ∗ (∃ d, owns (c : Thread nD τ) (stage_5 m hG.ok t) fullShare ((dats m hG 0 c).before 5 t d)))

/-- and what it leaves. -/
def leaves (c : Dev nD) (t : Fin (cfgT m hG.ok).N) : sProp 𝕄 :=
  iprop((dats m hG 0 c).Φ t.succ ∗ (dats m hG 0 c).owesAt () t.succ
    ∗ owns (c : Thread nD τ) (stage_0 m hG.ok t) fullShare ((dats m hG 0 c).after 0 t)
    ∗ owns (c : Thread nD τ) (stage_1 m hG.ok t) fullShare ((dats m hG 0 c).after 1 t)
    ∗ owns (c : Thread nD τ) (stage_2 m hG.ok t) fullShare ((dats m hG 0 c).after 2 t)
    ∗ owns (c : Thread nD τ) (stage_3 m hG.ok t) fullShare ((dats m hG 0 c).after 3 t)
    ∗ owns (c : Thread nD τ) (stage_4 m hG.ok t) fullShare ((dats m hG 0 c).after 4 t)
    ∗ owns (c : Thread nD τ) (stage_5 m hG.ok t) fullShare ((dats m hG 0 c).after 5 t))

theorem scr_eq (c : Dev nD) (t : Fin (cfgT m hG.ok).N) (ht : t.val ≠ 0) :
    scr m hG c t.val t.isLt = keep (flagAt m (grid0.coords t)) (blockAt m hG.ok c 1 t) (scr m hG c (t.val - 1) (by omega)) := by
  obtain ⟨n, hn⟩ := t
  cases n with
  | zero => exact absurd rfl ht
  | succ n => rfl

theorem scr_zero (c : Dev nD) (t : Fin (cfgT m hG.ok).N) (ht : t.val = 0) (s : Vec F S4096x512 .bf16) :
    scr m hG c t.val t.isLt = keep (flagAt m (grid0.coords t)) (blockAt m hG.ok c 1 t) s := by
  obtain ⟨n, hn⟩ := t
  obtain rfl : n = 0 := ht
  unfold keep
  rw [if_pos hG.first]
  rfl

theorem scr_eq' (c : Dev nD) (t : Fin (cfgT m hG.ok).N) (ht : t.val ≠ 0) :
    scr' m hG c t.val t.isLt = keep' (flagAt m (grid0.coords t)) (blockAt m hG.ok c 2 t) (scr' m hG c (t.val - 1) (by omega)) := by
  obtain ⟨n, hn⟩ := t
  cases n with
  | zero => exact absurd rfl ht
  | succ n => rfl

theorem scr_zero' (c : Dev nD) (t : Fin (cfgT m hG.ok).N) (ht : t.val = 0) (s : Vec F S4096x512 .bf16) :
    scr' m hG c t.val t.isLt = keep' (flagAt m (grid0.coords t)) (blockAt m hG.ok c 2 t) s := by
  obtain ⟨n, hn⟩ := t
  obtain rfl : n = 0 := ht
  unfold keep'
  rw [if_pos hG.first]
  rfl

set_option maxHeartbeats 6400000 in
theorem body_sound (c : Dev nD) (t : Fin (cfgT m hG.ok).N) :
    found m hG c t ⊢ wp frame (wpE (defs₀ (F := F)) Variants.none c none) Set.univ (bodyAt (adm m hG.ok) t) (fun _ => leaves m hG c t) := by
  unfold found leaves bodyAt
  simp only [before_0, before_1, before_2, before_3, before_4]
  rw [show (dats m hG 0 c).owesAt () t.succ = (dats m hG 0 c).owesAt () t.castSucc from rfl,
    after_0, after_1, after_2, after_3, after_4, after_5]
  rw [show (dats m hG 0 c).Φ t.succ = iprop(((owns (c : Thread nD τ) scratch0 fullShare (scr m hG c t.val t.isLt) ∗ owns (c : Thread nD τ) scratch1 fullShare (scr' m hG c t.val t.isLt)) ∗ (∃ r, prngReg c r)) ∗ Pipeline.ΦT pre0 (tables m) c) from rfl,
    show (dats m hG 0 c).Φ t.castSucc = between m hG c t.val (Nat.le_of_lt t.isLt) from rfl]
  unfold outAt
  by_cases hz : t.val = 0
  · rw [show between m hG c t.val (Nat.le_of_lt t.isLt) = iprop(Pipeline.ΦA spec0 c ∗ Pipeline.ΦT pre0 (tables m) c) from by
      obtain ⟨n, hn⟩ := t; obtain rfl : n = 0 := hz; rfl, halves, rest_eq]
    iintro ⟨⟨⟨⟨⟨%s, HS0⟩, ⟨%s', HS1⟩⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩⟩
    rw [scr_zero m hG c t hz s, scr_zero' m hG c t hz s']
    iapply (body_runs c (grid0.coords t) _ _ _ _ _ _ _ _ _ _ _ _ _ _ _ _ (blockAt m hG.ok c 0 t) (blockAt m hG.ok c 1 t) (blockAt m hG.ok c 2 t) (blockAt m hG.ok c 3 t) (blockAt m hG.ok c 4 t) s s' (tables m) (flagAt m (grid0.coords t)) (flag_adm m hG.ok _) (hG.flags _) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT5]; · iexact HT5
    iintro ⟨H0, H1, H2, H3, H4, H5, HS0, HS1, HT5⟩
    isplitl [HS0 HS1 Hg HT0 HT1 HT2 HT3 HT4 HT5]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    isplitl [H3]; · iexact H3
    isplitl [H4]; · iexact H4
    iexact H5
  · rw [between_pos m hG c _ _ hz, halves, scr_eq m hG c t hz, scr_eq' m hG c t hz]
    iintro ⟨⟨⟨⟨HS0, HS1⟩, Hg⟩, ⟨HT0, HT1, HT2, HT3, HT4, HT5⟩⟩, Ho, ⟨%d0, H0⟩, ⟨%d1, H1⟩, ⟨%d2, H2⟩, ⟨%d3, H3⟩, ⟨%d4, H4⟩, ⟨%d5, H5⟩⟩
    iapply (body_runs c (grid0.coords t) _ _ _ _ _ _ _ _ _ _ _ _ _ _ _ _ (blockAt m hG.ok c 0 t) (blockAt m hG.ok c 1 t) (blockAt m hG.ok c 2 t) (blockAt m hG.ok c 3 t) (blockAt m hG.ok c 4 t) (scr m hG c (t.val - 1) (by omega)) (scr' m hG c (t.val - 1) (by omega)) (tables m) (flagAt m (grid0.coords t)) (flag_adm m hG.ok _) (hG.flags _) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT5]; · iexact HT5
    iintro ⟨H0, H1, H2, H3, H4, H5, HS0, HS1, HT5⟩
    isplitl [HS0 HS1 Hg HT0 HT1 HT2 HT3 HT4 HT5]
    · isplitl [HS0 HS1 Hg]
      · isplitl [HS0 HS1]
        · isplitl [HS0]
          · iexact HS0
          iexact HS1
        iexact Hg
      isplitl [HT0]; · iexact HT0
      isplitl [HT1]; · iexact HT1
      isplitl [HT2]; · iexact HT2
      isplitl [HT3]; · iexact HT3
      isplitl [HT4]; · iexact HT4
      iexact HT5
    isplitl [Ho]; · iexact Ho
    isplitl [H0]; · iexact H0
    isplitl [H1]; · iexact H1
    isplitl [H2]; · iexact H2
    isplitl [H3]; · iexact H3
    isplitl [H4]; · iexact H4
    iexact H5

/-- A point with one of the three flags does not leave the output's buffer unwritten. -/
theorem never_idle (T : pre0.Contents (Elt F)) (i : grid0.Coords) (w : BitVec 32) (hT : T.atD 5 (k0_off1 i) = w)
    (h : w = 4#32 ∨ w = 3#32 ∨ w = 1#32) : idle0 (F := F) T 5 i = false := by
  show (!(k0_cond1 (T.atD 5 (k0_off1 i)) == 1#1) && !(k0_cond3 (T.atD 5 (k0_off1 i)) == 1#1)) = false
  rw [hT]
  rcases h with h | h | h <;> rw [h] <;> decide

theorem idle_out (a : (pcfg0 (F := F)).Adm) (t : Fin (cfg0 a).N) (b : Bool) (h : idle0 (F := F) a.1 5 (grid0.coords t) = b) :
    (cfg0 a).idle (5 : Fin 6) ((cfg0 a).grid.coords t) = b := h

theorem obligation (c : Dev nD) : BodyObligation (dats (F := F) m hG 0 c) (defs₀ (F := F)) Variants.none () Set.univ := fun t => by
  have hi : (cfgT m hG.ok).idle (5 : Fin 6) ((cfgT m hG.ok).grid.coords t) = false :=
    idle_out (adm m hG.ok) t _ (never_idle _ (grid0.coords t) (flagAt m (grid0.coords t)) (flag_adm m hG.ok _) (hG.flags _))
  rw [bigSep_W0, bigSep_W0, body_row m hG.ok]
  refine triple_restated (body_sound m hG c t) rfl .rfl fun _ => ?_
  rw [hi]
  exact .rfl

theorem first_held (c : Dev nD) : iprop(Pipeline.ΦA spec0 c ∗ Pipeline.ΦT pre0 (tables m) c) ⊢ (dats m hG 0 c).Φ 0 :=
  Entails.refl _

theorem last_held (c : Dev nD) : (dats m hG 0 c).Φ (Fin.last (cfgT m hG.ok).N) ⊢ Pipeline.ΦA spec0 c := by
  rw [show (dats m hG 0 c).Φ (Fin.last (cfgT m hG.ok).N) = between m hG c (cfgT m hG.ok).N (Nat.le_refl _) from rfl,
    between_pos m hG c _ _ (by have : (cfgT m hG.ok).N = 640 := N_0; omega), rest_eq]
  iintro ⟨⟨⟨HS0, HS1⟩, Hg⟩, HT⟩
  isplitl [HS0 HS1]
  · isplitl [HS0]
    · iexists _; iexact HS0
    iexists _; iexact HS1
  iexact Hg

set_option backward.isDefEq.respectTransparency.types false in
/-- The program's run. -/
theorem program_runs : θ_run defs (onTc (τ := τ) (main (F := F))) (s₀ m ρ)
    (fun r => Pipeline.FramePost (Pipeline.pin pcfgs fun _ => adm m hG.ok) (dats m hG) 0 (V m) r ∧ r.2.sem = fun _ => 0) :=
  Pipeline.θ_run_frameP_track (Q' := _) pcfgs (fun _ => adm m hG.ok) (dats m hG) (0 : Fin 1) launch0 defs₀ Variants.none m ρ main
    (hbody := fun c => (obligation m hG c).loose) (hshare := fun c => (dats m hG 0 c).share_full fun _ => rfl)
    (howed := fun _ _ => rfl) (V := V m) (hmain := main_shape m Variants.none) (hA := A_eq m hG) (hpf := V_tables m)
    (hin := first_held m hG) (hout := last_held m hG)

end Cert.MoeUp2Ideal.Tiles

end
-- ==== Proof.Moe.MoeUp2Ideal.Frame.lean ====
/-
  The arguments after the run: no array but the result's is written.
-/
module

public import proofs.«01_k».proof.Proof.Moe.MoeUp2Ideal.Run
public import Idealize.ShloMosaic.Lib.Pipeline.ValueKit.Geometry

@[expose] public section

set_option maxRecDepth 16384

noncomputable section

namespace Cert.MoeUp2Ideal.Tiles

open Idealize.ShloMosaic Idealize.ShloMosaic.TcCoe Idealize.SL.Sem
open Cert.MoeUp2Ideal Cert.MoeUp2Ideal.Gen

variable {F : FTy → Type} [FloatOps F]
variable (m : (ℓ : Loc nD τ sig) → Buf (Elt F) ℓ) (ρ : Dev nD → PrngReg) (hG : Good m)

/-- The program's run with its post at the call's data. -/
abbrev Post (r : PUnit × MemSt nD τ sig (Elt F)) : Prop :=
  Pipeline.FramePost (Pipeline.pin pcfgs fun _ => adm m hG.ok) (dats m hG) 0 (V m) r

theorem end_0 (r) (h : Post m hG r) (c : Dev nD) : r.2.mem ((c : Thread nD τ).loc main_arg0) = m ((c : Thread nD τ).loc main_arg0) :=
  (h.rest_eq c main_arg0 (by decide : main_arg0 ∈ Pipeline.restRefs sig spec0)).trans (V_arg0 m c)
theorem end_1 (r) (h : Post m hG r) (c : Dev nD) : r.2.mem ((c : Thread nD τ).loc main_arg1) = m ((c : Thread nD τ).loc main_arg1) :=
  (h.rest_eq c main_arg1 (by decide : main_arg1 ∈ Pipeline.restRefs sig spec0)).trans (V_arg1 m c)
theorem end_2 (r) (h : Post m hG r) (c : Dev nD) : r.2.mem ((c : Thread nD τ).loc main_arg2) = m ((c : Thread nD τ).loc main_arg2) :=
  (h.rest_eq c main_arg2 (by decide : main_arg2 ∈ Pipeline.restRefs sig spec0)).trans (V_arg2 m c)
theorem end_3 (r) (h : Post m hG r) (c : Dev nD) : r.2.mem ((c : Thread nD τ).loc main_arg3) = m ((c : Thread nD τ).loc main_arg3) :=
  (h.in_eq c 0 rfl).trans ((A_eq m hG c 0).trans (V_arg3 m c))
theorem end_4 (r) (h : Post m hG r) (c : Dev nD) : r.2.mem ((c : Thread nD τ).loc main_arg4) = m ((c : Thread nD τ).loc main_arg4) :=
  (h.in_eq c 1 rfl).trans ((A_eq m hG c 1).trans (V_arg4 m c))
theorem end_5 (r) (h : Post m hG r) (c : Dev nD) : r.2.mem ((c : Thread nD τ).loc main_arg5) = m ((c : Thread nD τ).loc main_arg5) :=
  (h.in_eq c 2 rfl).trans ((A_eq m hG c 2).trans (V_arg5 m c))
theorem end_6 (r) (h : Post m hG r) (c : Dev nD) : r.2.mem ((c : Thread nD τ).loc main_arg6) = m ((c : Thread nD τ).loc main_arg6) :=
  (h.rest_eq c main_arg6 (by decide : main_arg6 ∈ Pipeline.restRefs sig spec0)).trans (V_arg6 m c)
theorem end_7 (r) (h : Post m hG r) (c : Dev nD) : r.2.mem ((c : Thread nD τ).loc main_arg7) = m ((c : Thread nD τ).loc main_arg7) :=
  (h.rest_eq c main_arg7 (by decide : main_arg7 ∈ Pipeline.restRefs sig spec0)).trans (V_arg7 m c)

include hG in
/-- The program runs, ends with its arguments unchanged and every counter back at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨end_0 m hG r h.1 c, end_1 m hG r h.1 c, end_2 m hG r h.1 c, end_3 m hG r h.1 c,
    end_4 m hG r h.1 c, end_5 m hG r h.1 c, end_6 m hG r h.1 c, end_7 m hG r h.1 c⟩, h.2⟩) (program_runs m ρ hG)

end Cert.MoeUp2Ideal.Tiles

end
-- ==== Proof.Moe.MoeUp2Ideal.Tables.lean ====
/-
  The tables that the call reads are the arrays of the schedule.
-/
module

public import proofs.«01_k».proof.Proof.Moe.MoeUp2Ideal.Setup
public import proofs.«01_k».proof.Proof.Moe.Stages
public import Idealize.ShloMosaic.Lib.StableHlo.RunRead

@[expose] public section

set_option maxRecDepth 65536

noncomputable section

namespace Cert.MoeUp2Ideal.Tiles

open Idealize.ShloMosaic Idealize.ShloMosaic.TcCoe
open Cert.MoeUp2Ideal Cert.MoeUp2Ideal.Gen
open Cert.Layer

variable {F : FTy → Type} [FloatOps F]
variable (m : (ℓ : Loc nD τ sig) → Buf (Elt F) ℓ)

/-- The number of tiles of each expert, the first tile of each, the tile after the last of each. -/
def counts : IVec Schedule.Experts 32 := m (0, Proc.devRef .tc main_arg0)
def starts : IVec Schedule.Experts 32 := m (0, Proc.devRef .tc main_arg1)
def ends : IVec Schedule.Experts 32 := m (0, Proc.devRef .tc main_arg2)

set_option maxHeartbeats 1000000 in
theorem table_0 : (tables m 0 : IVec Schedule.Points 32) = Schedule.expert (ends m) := by
  show StableHlo.after _ _ (Proc.devRef .tc main_v17) = _
  after_reads_simp
  rfl
set_option maxHeartbeats 1000000 in
theorem table_1 : (tables m 1 : IVec Schedule.Points 32) = Schedule.colBlock (counts m) (starts m) (ends m) := by
  show StableHlo.after _ _ (Proc.devRef .tc main_v37) = _
  after_reads_simp
  rfl
set_option maxHeartbeats 1000000 in
theorem table_2 : (tables m 2 : IVec Schedule.Points 32) = Schedule.tile (counts m) (starts m) (ends m) := by
  show StableHlo.after _ _ (Proc.devRef .tc main_v47) = _
  after_reads_simp
  rfl
set_option maxHeartbeats 1000000 in
theorem table_3 : (tables m 3 : IVec Schedule.Points 32) = Schedule.outRow (counts m) (starts m) (ends m) := by
  show StableHlo.after _ _ (Proc.devRef .tc main_v57) = _
  after_reads_simp
  rfl
set_option maxHeartbeats 1000000 in
theorem table_4 : (tables m 4 : IVec Schedule.Points 32) = Schedule.outCol (counts m) (starts m) (ends m) := by
  show StableHlo.after _ _ (Proc.devRef .tc main_v59) = _
  after_reads_simp
  rfl
set_option maxHeartbeats 1000000 in
theorem table_5 : (tables m 5 : IVec Schedule.Points 32) = Schedule.flag (counts m) (starts m) (ends m) := by
  show StableHlo.after _ _ (Proc.devRef .tc main_v67) = _
  after_reads_simp
  rfl

end Cert.MoeUp2Ideal.Tiles

end
-- ==== Proof.Moe.MoeUp2Ideal.Good.lean ====
/-
  Where the schedule sends the windows: each table's entry at a grid point as a number, and from it that every block lies
  inside its array and that the flags are the three that the body knows.
-/
module

public import proofs.«01_k».proof.Proof.Moe.MoeUp2Ideal.Run
public import proofs.«01_k».proof.Proof.Moe.MoeUp2Ideal.Tables
public import proofs.«01_k».proof.Proof.Moe.Words

@[expose] public section

set_option maxRecDepth 16384

noncomputable section

namespace Cert.MoeUp2Ideal.Tiles

open Idealize.ShloMosaic Idealize.ShloMosaic.TcCoe Idealize.ShloMosaic.ValueIdx
open Cert.MoeUp2Ideal Cert.MoeUp2Ideal.Gen
open Cert.Layer Cert.Layer.Plan

variable {F : FTy → Type} [FloatOps F]
variable (m : (ℓ : Loc nD τ sig) → Buf (Elt F) ℓ)

/-- A grid point's position. -/
def pos (i : grid0.Coords) : Fin 640 := i 0

/-- The word a load of one word at the grid point's position reads. -/
theorem entry_at (i : grid0.Coords) (T : IVec S640 32) (h1 : S1.numel = 1) :
    T ((Rect.unit (s := S640) (k0_off1 i) S1.size (k0_off1_inb i)).emb (Shape.Idx.first (h1.symm ▸ Nat.one_pos))) = T (ix1 (pos i)) := by
  congr 1
  funext (a : Fin 1)
  obtain rfl : a = 0 := Subsingleton.elim _ _
  apply Fin.ext
  have e : k0_off1 i 0 = (i 0).val := by rw [k0_off1_eq]; rfl
  show k0_off1 i 0 + 1 * (Shape.Idx.first (s := S1) (h1.symm ▸ Nat.one_pos) 0).val = (i 0).val
  have : (Shape.Idx.first (s := S1) (h1.symm ▸ Nat.one_pos) 0).val < 1 := Fin.isLt _
  omega

theorem flag_entry (i : grid0.Coords) : flagAt m i = (tables m 5 : IVec S640 32) (ix1 (pos i)) := by
  have e : k0_off1 i 0 = (i 0).val := by rw [k0_off1_eq]; rfl
  have hb : ∀ a, k0_off1 i a + 1 ≤ (pre0.ref 5).ty.shape.size a := fun (a : Fin 1) => by
    obtain rfl : a = 0 := Subsingleton.elim _ _
    rw [e]; exact (i 0).isLt
  refine (dif_pos hb).trans ?_
  congr 1
  funext (a : Fin 1)
  obtain rfl : a = 0 := Subsingleton.elim _ _
  exact Fin.ext e

variable {a s t : ℕ → ℕ} (hH : Schedule.Holds (counts m) (starts m) (ends m) a s t)

theorem number (n : ℕ) (h : n ≤ 640) : (BitVec.ofNat 32 n).toNat = n := by
  rw [BitVec.toNat_ofNat]; exact Nat.mod_eq_of_lt (by omega)

include hH in
theorem ex_lt (n : ℕ) : ex t n < 32 := (ex_spec hH.tiling n).1
include hH in
theorem ti_bound (n : ℕ) : ti a s t n < 160 := lt_of_lt_of_le (ti_lt hH.tiling n) hH.tiling.top

/-- The word the index maps load from a table. -/
def load (T : IVec S640 32) (i : grid0.Coords) : BitVec 32 :=
  T ((Rect.unit (s := S640) (k0_off1 i) S1.size (k0_off1_inb i)).emb (Shape.Idx.first (numel1_S1.symm ▸ Nat.one_pos)))

include hH in
theorem load_0 (i : grid0.Coords) : (load (tables m 0) i).toNat = ex t (pos i).val := by
  have e : load (tables m 0) i = BitVec.ofNat 32 (ex t (pos i).val) := (entry_at i (tables m 0) numel1_S1).trans (by rw [table_0, Schedule.expert_at hH])
  rw [e, number _ (by have := ex_lt m hH (pos i).val; omega)]
include hH in
theorem load_1 (i : grid0.Coords) : (load (tables m 1) i).toNat = co a s t (pos i).val := by
  have e : load (tables m 1) i = BitVec.ofNat 32 (co a s t (pos i).val) := (entry_at i (tables m 1) numel1_S1).trans (by rw [table_1, Schedule.colBlock_at hH])
  rw [e, number _ (by have := co_lt hH.tiling (pos i).val; omega)]
include hH in
theorem load_2 (i : grid0.Coords) : (load (tables m 2) i).toNat = ti a s t (pos i).val := by
  have e : load (tables m 2) i = BitVec.ofNat 32 (ti a s t (pos i).val) := (entry_at i (tables m 2) numel1_S1).trans (by rw [table_2, Schedule.tile_at hH])
  rw [e, number _ (by have := ti_bound m hH (pos i).val; omega)]
include hH in
theorem load_3 (i : grid0.Coords) : (load (tables m 3) i).toNat = oR a s t (pos i).val := by
  have e : load (tables m 3) i = BitVec.ofNat 32 (oR a s t (pos i).val) := (entry_at i (tables m 3) numel1_S1).trans (by rw [table_3, Schedule.outRow_at hH])
  rw [e, number _ (by have := oR_lt hH.tiling (pos i).isLt; omega)]
include hH in
theorem load_4 (i : grid0.Coords) : (load (tables m 4) i).toNat = oC a s t (pos i).val := by
  have e : load (tables m 4) i = BitVec.ofNat 32 (oC a s t (pos i).val) := (entry_at i (tables m 4) numel1_S1).trans (by rw [table_4, Schedule.outCol_at hH])
  rw [e, number _ (by have := oC_lt hH.tiling (pos i).val; omega)]

include hH in
theorem index_0 (i : grid0.Coords) : cc0_transform_0 k0_off1_inb numel1_S1 (tables m) i = ![ti a s t (pos i).val, 0] := by
  rw [← load_2 m hH i]; rfl
include hH in
theorem index_1 (i : grid0.Coords) : cc0_transform_1 k0_off1_inb numel1_S1 (tables m) i = ![1, ex t (pos i).val, 0, co a s t (pos i).val] := by
  rw [← load_0 m hH i, ← load_1 m hH i]; rfl
include hH in
theorem index_2 (i : grid0.Coords) : cc0_transform_2 k0_off1_inb numel1_S1 (tables m) i = ![1, ex t (pos i).val, 0, co a s t (pos i).val] := by
  rw [← load_0 m hH i, ← load_1 m hH i]; rfl
include hH in
theorem index_3 (i : grid0.Coords) : cc0_transform_3 k0_off1_inb numel1_S1 (tables m) i = ![1, ex t (pos i).val, 0, co a s t (pos i).val] := by
  rw [← load_0 m hH i, ← load_1 m hH i]; rfl
include hH in
theorem index_4 (i : grid0.Coords) : cc0_transform_4 k0_off1_inb numel1_S1 (tables m) i = ![1, ex t (pos i).val, 0, co a s t (pos i).val] := by
  rw [← load_0 m hH i, ← load_1 m hH i]; rfl
include hH in
theorem index_5 (i : grid0.Coords) : cc0_transform_5 k0_off1_inb numel1_S1 (tables m) i = ![oR a s t (pos i).val, oC a s t (pos i).val] := by
  rw [← load_3 m hH i, ← load_4 m hH i]; rfl

include hH in
theorem flag_number (i : grid0.Coords) : flagAt m i = BitVec.ofNat 32 (fl a s t (pos i).val) := by
  rw [flag_entry, table_5, Schedule.flag_at hH]

include hH in
theorem ok_holds : Ok m := by
  refine ⟨fun i => ⟨?_, ?_⟩, fun i => ⟨?_, .inl rfl⟩, fun i => ⟨?_, .inl rfl⟩, fun i => ⟨?_, .inl rfl⟩, fun i => ⟨?_, .inl rfl⟩, fun i => ⟨?_, ?_⟩⟩
  · rw [index_0 m hH i]
    have := ti_bound m hH (pos i).val
    exact fun b => by
      match b with
      | ⟨0, _⟩ => show (ti a s t (pos i).val + 1) * 512 ≤ 81920; omega
      | ⟨1, _⟩ => show (0 + 1) * 4096 ≤ 4096; omega
  · exact .inr (Affine.block_words_dvd (of_decide_eq_true rfl) (by decide))
  iterate 2
    · first | rw [index_1 m hH i] | rw [index_2 m hH i]
      have := ex_lt m hH (pos i).val; have := co_lt hH.tiling (pos i).val
      exact fun b => by
        match b with
        | ⟨0, _⟩ => show (1 + 1) * 1 ≤ 2; omega
        | ⟨1, _⟩ => show (ex t (pos i).val + 1) * 1 ≤ 32; omega
        | ⟨2, _⟩ => show (0 + 1) * 4096 ≤ 4096; omega
        | ⟨3, _⟩ => show (co a s t (pos i).val + 1) * 512 ≤ 2048; omega
  iterate 2
    · first | rw [index_3 m hH i] | rw [index_4 m hH i]
      have := ex_lt m hH (pos i).val; have := co_lt hH.tiling (pos i).val
      exact fun b => by
        match b with
        | ⟨0, _⟩ => show (1 + 1) * 1 ≤ 2; omega
        | ⟨1, _⟩ => show (ex t (pos i).val + 1) * 1 ≤ 32; omega
        | ⟨2, _⟩ => show (0 + 1) * 1 ≤ 1; omega
        | ⟨3, _⟩ => show (co a s t (pos i).val + 1) * 512 ≤ 2048; omega
  · rw [index_5 m hH i]
    have := oR_lt hH.tiling (pos i).isLt; have := oC_lt hH.tiling (pos i).val
    exact fun b => by
      match b with
      | ⟨0, _⟩ => show (oR a s t (pos i).val + 1) * 512 ≤ 81920; omega
      | ⟨1, _⟩ => show (oC a s t (pos i).val + 1) * 512 ≤ 2048; omega
  · exact .inr (Affine.block_words_dvd (of_decide_eq_true rfl) (by decide))

include hH in
theorem good : Good m where
  ok := ok_holds m hH
  flags i := by
    rw [flag_number m hH]
    rcases fl_cases hH.tiling (pos i).val with h | h | h <;> rw [h] <;> simp
  first := by
    rw [flag_number m hH]
    have : (pos (grid0.coords ⟨0, by decide⟩)).val = 0 := by decide
    rw [this, fl_zero hH.tiling]

end Cert.MoeUp2Ideal.Tiles

end
-- ==== Proof.Moe.MoeUp2Ideal.Value.lean ====
/-
  The call's result as a function of its arguments: every row is the activation of its expert's two products,
  the rows past the last expert's tiles are zero.
-/
module

public import proofs.«01_k».proof.Proof.Moe.MoeUp2Ideal.Good
public import proofs.«01_k».proof.Proof.Moe.Owner
public import proofs.«01_k».proof.Proof.Moe.MoeUpIdeal.Value
public import Idealize.ShloMosaic.Lib.Pipeline.ValueKit.Geometry
public import Idealize.ShloMosaic.Lib.Pipeline.ValueKit.Tiles
public import Idealize.ShloMosaic.Lib.StableHlo.RunRead
public import Idealize.ShloMosaic.Lib.Pointwise
public import Idealize.ShloMosaic.Lib.Tactic

@[expose] public section

set_option maxRecDepth 16384

noncomputable section

namespace Cert.MoeUp2Ideal.Tiles

open Idealize.ShloMosaic Idealize.ShloMosaic.TcCoe Idealize.SL.Sem
open Cert.MoeUp2Ideal Cert.MoeUp2Ideal.Gen
open Cert.Layer Cert.Layer.Plan
open Cert.MoeUpIdeal.Tiles (act cast_at cast_at' product_at)

/-- Expert `e`'s product with one of its two weights, and the bias, at token row `r`, column `d`. -/
def expertRow (x : FVec Ideal S81920x4096 .bf16) (w : FVec Ideal S2x32x4096x2048 .f32) (b : FVec Ideal S2x32x2048 .f32)
    (r : Fin 81920) (d : Fin 2048) (e : Fin 32) : EReal :=
  (∑ k : Fin 4096, x (ix2 r k) * w (ix4 1 e k d)) + b (ix3 1 e d)

/-- Each row by its own expert. -/
def routed (s t : ℕ → ℕ) (x : FVec Ideal S81920x4096 .bf16) (wg wu : FVec Ideal S2x32x4096x2048 .f32) (bg bu : FVec Ideal S2x32x2048 .f32)
    (r : Fin 81920) (d : Fin 2048) : EReal :=
  ∑ e : Fin 32, if 512 * s e.val ≤ r.val ∧ r.val < 512 * t e.val then act (expertRow x wg bg r d e) (expertRow x wu bu r d e) else 0

def routedArray (s t : ℕ → ℕ) (x : FVec Ideal S81920x4096 .bf16) (wg wu : FVec Ideal S2x32x4096x2048 .f32) (bg bu : FVec Ideal S2x32x2048 .f32)
    (y : S81920x2048.Idx) : EReal := routed s t x wg wu bg bu (y 0) (y 1)

/-! ### The body's values -/

theorem zeros_at (r : Fin 512) (d : Fin 512) : (k0_pay1 (F := Ideal)) (ix2 r d) = 0 := by
  pointwise [k0_pay1]

variable (m : (ℓ : Loc nD τ sig) → Buf (Elt Ideal) ℓ)
variable {a s t : ℕ → ℕ} (hH : Schedule.Holds (counts m) (starts m) (ends m) a s t)

theorem pos_coords : ∀ n : Fin grid0.N, (pos (grid0.coords n)).val = n.val := by decide +kernel

/-! ### The blocks -/

/-- The token row and the column of an entry of point `n`'s input row block and column block. -/
def inRow (n : ℕ) (r : Fin 512) : Fin 81920 := ⟨512 * ti a s t n + r.val, by have := ti_bound m hH n; omega⟩
def inCol (n : ℕ) (d : Fin 512) : Fin 2048 := ⟨512 * co a s t n + d.val, by have := co_lt hH.tiling n; omega⟩
def own (n : ℕ) : Fin 32 := ⟨ex t n, ex_lt m hH n⟩

theorem emb_0 (A : (pcfg0 (F := Ideal)).Adm) (n : Fin (cfg0 A).N) (r : Fin 512) (k : Fin 4096) (R : Fin 81920) (p : ℕ)
    (e : cc0_transform_0 k0_off1_inb numel1_S1 A.1 (grid0.coords n) = ![p, 0]) (hR : R.val = 512 * p + r.val) :
    (((cfg0 A).win 0).blk n).view.emb (ix2 r k : S512x4096.Idx) = (ix2 R k : S81920x4096.Idx) := by
  funext b
  apply Fin.ext
  match b with
  | ⟨0, _⟩ =>
    show cc0_transform_0 k0_off1_inb numel1_S1 A.1 (grid0.coords n) 0 * 512 + 1 * r.val = R.val
    rw [e, hR]; show p * 512 + 1 * r.val = _; omega
  | ⟨1, _⟩ =>
    show cc0_transform_0 k0_off1_inb numel1_S1 A.1 (grid0.coords n) 1 * 4096 + 1 * k.val = k.val
    rw [e]; show 0 * 4096 + 1 * k.val = _; omega

theorem emb_1 (A : (pcfg0 (F := Ideal)).Adm) (n : Fin (cfg0 A).N) (k : Fin 4096) (d : Fin 512) (E : Fin 32) (C : Fin 2048) (p q : ℕ)
    (e : cc0_transform_1 k0_off1_inb numel1_S1 A.1 (grid0.coords n) = ![1, p, 0, q]) (hE : E.val = p) (hC : C.val = 512 * q + d.val) :
    (((cfg0 A).win 1).blk n).view.emb (ix4 0 0 k d : S1x1x4096x512.Idx) = (ix4 1 E k C : S2x32x4096x2048.Idx) := by
  funext b
  apply Fin.ext
  match b with
  | ⟨0, _⟩ =>
    show cc0_transform_1 k0_off1_inb numel1_S1 A.1 (grid0.coords n) 0 * 1 + 1 * 0 = 1
    rw [e]; show 1 * 1 + 1 * 0 = 1; omega
  | ⟨1, _⟩ =>
    show cc0_transform_1 k0_off1_inb numel1_S1 A.1 (grid0.coords n) 1 * 1 + 1 * 0 = E.val
    rw [e, hE]; show p * 1 + 1 * 0 = _; omega
  | ⟨2, _⟩ =>
    show cc0_transform_1 k0_off1_inb numel1_S1 A.1 (grid0.coords n) 2 * 4096 + 1 * k.val = k.val
    rw [e]; show 0 * 4096 + 1 * k.val = _; omega
  | ⟨3, _⟩ =>
    show cc0_transform_1 k0_off1_inb numel1_S1 A.1 (grid0.coords n) 3 * 512 + 1 * d.val = C.val
    rw [e, hC]; show q * 512 + 1 * d.val = _; omega

theorem emb_2 (A : (pcfg0 (F := Ideal)).Adm) (n : Fin (cfg0 A).N) (k : Fin 4096) (d : Fin 512) (E : Fin 32) (C : Fin 2048) (p q : ℕ)
    (e : cc0_transform_2 k0_off1_inb numel1_S1 A.1 (grid0.coords n) = ![1, p, 0, q]) (hE : E.val = p) (hC : C.val = 512 * q + d.val) :
    (((cfg0 A).win 2).blk n).view.emb (ix4 0 0 k d : S1x1x4096x512.Idx) = (ix4 1 E k C : S2x32x4096x2048.Idx) :=
  emb_1 A n k d E C p q e hE hC

theorem emb_3 (A : (pcfg0 (F := Ideal)).Adm) (n : Fin (cfg0 A).N) (d : Fin 512) (E : Fin 32) (C : Fin 2048) (p q : ℕ)
    (e : cc0_transform_3 k0_off1_inb numel1_S1 A.1 (grid0.coords n) = ![1, p, 0, q]) (hE : E.val = p) (hC : C.val = 512 * q + d.val) :
    (((cfg0 A).win 3).blk n).view.emb (ix4 0 0 0 d : S1x1x1x512.Idx) = (ix4 1 E 0 C : S2x32x1x2048.Idx) := by
  funext b
  apply Fin.ext
  match b with
  | ⟨0, _⟩ =>
    show cc0_transform_3 k0_off1_inb numel1_S1 A.1 (grid0.coords n) 0 * 1 + 1 * 0 = 1
    rw [e]; show 1 * 1 + 1 * 0 = 1; omega
  | ⟨1, _⟩ =>
    show cc0_transform_3 k0_off1_inb numel1_S1 A.1 (grid0.coords n) 1 * 1 + 1 * 0 = E.val
    rw [e, hE]; show p * 1 + 1 * 0 = _; omega
  | ⟨2, _⟩ =>
    show cc0_transform_3 k0_off1_inb numel1_S1 A.1 (grid0.coords n) 2 * 1 + 1 * 0 = 0
    rw [e]; show 0 * 1 + 1 * 0 = 0; omega
  | ⟨3, _⟩ =>
    show cc0_transform_3 k0_off1_inb numel1_S1 A.1 (grid0.coords n) 3 * 512 + 1 * d.val = C.val
    rw [e, hC]; show q * 512 + 1 * d.val = _; omega

theorem emb_4 (A : (pcfg0 (F := Ideal)).Adm) (n : Fin (cfg0 A).N) (d : Fin 512) (E : Fin 32) (C : Fin 2048) (p q : ℕ)
    (e : cc0_transform_4 k0_off1_inb numel1_S1 A.1 (grid0.coords n) = ![1, p, 0, q]) (hE : E.val = p) (hC : C.val = 512 * q + d.val) :
    (((cfg0 A).win 4).blk n).view.emb (ix4 0 0 0 d : S1x1x1x512.Idx) = (ix4 1 E 0 C : S2x32x1x2048.Idx) :=
  emb_3 A n d E C p q e hE hC

theorem read_0 (hO : Ok m) (c : Dev nD) (n : Fin (cfgT m hO).N) (r : Fin 512) (k : Fin 4096) :
    (blockAt m hO c 0 n : Vec Ideal S512x4096 .bf16) (ix2 r k)
      = (m ((c : Thread nD τ).loc main_arg3) : FVec Ideal S81920x4096 .bf16) (ix2 (inRow m hH n.val r) k) := by
  have e := index_0 m hH (grid0.coords n)
  rw [pos_coords] at e
  exact (View.read_apply _ _).trans ((congrArg (V m c main_arg3) (emb_0 (adm m hO) n r k (inRow m hH n.val r) _ e rfl)).trans (congrFun (V_arg3 m c) _))

theorem read_1 (hO : Ok m) (c : Dev nD) (n : Fin (cfgT m hO).N) (k : Fin 4096) (d : Fin 512) :
    (blockAt m hO c 1 n : Vec Ideal S1x1x4096x512 .f32) (ix4 0 0 k d)
      = (m ((c : Thread nD τ).loc main_arg4) : FVec Ideal S2x32x4096x2048 .f32) (ix4 1 (own m hH n.val) k (inCol m hH n.val d)) := by
  have e := index_1 m hH (grid0.coords n)
  rw [pos_coords] at e
  exact (View.read_apply _ _).trans ((congrArg (V m c main_arg4) (emb_1 (adm m hO) n k d (own m hH n.val) (inCol m hH n.val d) _ _ e rfl rfl)).trans (congrFun (V_arg4 m c) _))

theorem read_2 (hO : Ok m) (c : Dev nD) (n : Fin (cfgT m hO).N) (k : Fin 4096) (d : Fin 512) :
    (blockAt m hO c 2 n : Vec Ideal S1x1x4096x512 .f32) (ix4 0 0 k d)
      = (m ((c : Thread nD τ).loc main_arg5) : FVec Ideal S2x32x4096x2048 .f32) (ix4 1 (own m hH n.val) k (inCol m hH n.val d)) := by
  have e := index_2 m hH (grid0.coords n)
  rw [pos_coords] at e
  exact (View.read_apply _ _).trans ((congrArg (V m c main_arg5) (emb_2 (adm m hO) n k d (own m hH n.val) (inCol m hH n.val d) _ _ e rfl rfl)).trans (congrFun (V_arg5 m c) _))

set_option maxRecDepth 65536 in
theorem gate_row (c : Dev nD) (e : Fin 32) (d : Fin 2048) :
    (V m c main_v68 : FVec Ideal S2x32x1x2048 .f32) (ix4 1 e 0 d) = (m ((c : Thread nD τ).loc main_arg6) : FVec Ideal S2x32x2048 .f32) (ix3 1 e d) := by
  have h : (V m c main_v68 : FVec Ideal S2x32x1x2048 .f32) = shapeCast S2x32x1x2048 (m ((c : Thread nD τ).loc main_arg6) : FVec Ideal S2x32x2048 .f32) shapeCasts_S2x32x2048_S2x32x1x2048 := by
    show StableHlo.after _ _ (Proc.devRef .tc main_v68) = _
    after_reads_simp
    rfl
  rw [h]
  pointwise []

set_option maxRecDepth 65536 in
theorem up_row (c : Dev nD) (e : Fin 32) (d : Fin 2048) :
    (V m c main_v69 : FVec Ideal S2x32x1x2048 .f32) (ix4 1 e 0 d) = (m ((c : Thread nD τ).loc main_arg7) : FVec Ideal S2x32x2048 .f32) (ix3 1 e d) := by
  have h : (V m c main_v69 : FVec Ideal S2x32x1x2048 .f32) = shapeCast S2x32x1x2048 (m ((c : Thread nD τ).loc main_arg7) : FVec Ideal S2x32x2048 .f32) shapeCasts_S2x32x2048_S2x32x1x2048 := by
    show StableHlo.after _ _ (Proc.devRef .tc main_v69) = _
    after_reads_simp
    rfl
  rw [h]
  pointwise []

theorem read_3 (hO : Ok m) (c : Dev nD) (n : Fin (cfgT m hO).N) (d : Fin 512) :
    (blockAt m hO c 3 n : Vec Ideal S1x1x1x512 .f32) (ix4 0 0 0 d)
      = (m ((c : Thread nD τ).loc main_arg6) : FVec Ideal S2x32x2048 .f32) (ix3 1 (own m hH n.val) (inCol m hH n.val d)) := by
  have e := index_3 m hH (grid0.coords n)
  rw [pos_coords] at e
  exact (View.read_apply _ _).trans ((congrArg (V m c main_v68) (emb_3 (adm m hO) n d (own m hH n.val) (inCol m hH n.val d) _ _ e rfl rfl)).trans (gate_row m c _ _))

theorem read_4 (hO : Ok m) (c : Dev nD) (n : Fin (cfgT m hO).N) (d : Fin 512) :
    (blockAt m hO c 4 n : Vec Ideal S1x1x1x512 .f32) (ix4 0 0 0 d)
      = (m ((c : Thread nD τ).loc main_arg7) : FVec Ideal S2x32x2048 .f32) (ix3 1 (own m hH n.val) (inCol m hH n.val d)) := by
  have e := index_4 m hH (grid0.coords n)
  rw [pos_coords] at e
  exact (View.read_apply _ _).trans ((congrArg (V m c main_v69) (emb_4 (adm m hO) n d (own m hH n.val) (inCol m hH n.val d) _ _ e rfl rfl)).trans (up_row m c _ _))

/-! ### The scratch -/

include hH in
theorem flag_at (n : Fin grid0.N) : flagAt m (grid0.coords n) = BitVec.ofNat 32 (fl a s t n.val) := by
  rw [flag_number m hH, pos_coords]

/-- While there is work the scratch holds the block of the point's own expert and columns. -/
theorem scr_at (c : Dev nD) (k : Fin 4096) (d : Fin 512) : ∀ (n : ℕ) (h : n < (cfgT m (good m hH).ok).N), n < 4 * t 31 →
    scr m (good m hH) c n h (ix2 k d)
      = (m ((c : Thread nD τ).loc main_arg4) : FVec Ideal S2x32x4096x2048 .f32) (ix4 1 (own m hH n) k (inCol m hH n d))
  | 0, h, _ => by
    unfold scr
    exact (cast_at _ k d).trans (read_1 m hH _ c ⟨0, h⟩ k d)
  | n + 1, h, hn => by
    unfold scr
    have ih := scr_at c k d n (Nat.lt_of_succ_lt h) (by omega)
    have e := flag_at m hH ⟨n + 1, h⟩
    unfold keep
    rcases fl_cases hH.tiling (n + 1) with h4 | h3 | h1
    · exact absurd h4 ((fl_work hH.tiling).2 hn)
    · have e' : flagAt m (grid0.coords ⟨n + 1, h⟩) = 3#32 := e.trans (by show BitVec.ofNat 32 (fl a s t (n + 1)) = _; rw [h3])
      rw [if_pos e']
      exact (cast_at _ k d).trans (read_1 m hH _ c ⟨n + 1, h⟩ k d)
    · have e' : flagAt m (grid0.coords ⟨n + 1, h⟩) = 1#32 := e.trans (by show BitVec.ofNat 32 (fl a s t (n + 1)) = _; rw [h1])
      rw [if_neg (by rw [e']; decide), ih]
      obtain ⟨-, h2, h3⟩ := fl_one hH.tiling h1
      have e1 : own m hH n = own m hH (n + 1) := Fin.ext h2
      have e2 : inCol m hH n d = inCol m hH (n + 1) d := Fin.ext (by show 512 * co a s t n + d.val = 512 * co a s t (n + 1) + d.val; rw [h3])
      rw [e1, e2]

/-- While there is work the second scratch holds the block of the point's own expert and columns. -/
theorem scr_at' (c : Dev nD) (k : Fin 4096) (d : Fin 512) : ∀ (n : ℕ) (h : n < (cfgT m (good m hH).ok).N), n < 4 * t 31 →
    scr' m (good m hH) c n h (ix2 k d)
      = (m ((c : Thread nD τ).loc main_arg5) : FVec Ideal S2x32x4096x2048 .f32) (ix4 1 (own m hH n) k (inCol m hH n d))
  | 0, h, _ => by
    unfold scr'
    exact (cast_at' _ k d).trans (read_2 m hH _ c ⟨0, h⟩ k d)
  | n + 1, h, hn => by
    unfold scr'
    have ih := scr_at' c k d n (Nat.lt_of_succ_lt h) (by omega)
    have e := flag_at m hH ⟨n + 1, h⟩
    unfold keep'
    rcases fl_cases hH.tiling (n + 1) with h4 | h3 | h1
    · exact absurd h4 ((fl_work hH.tiling).2 hn)
    · have e' : flagAt m (grid0.coords ⟨n + 1, h⟩) = 3#32 := e.trans (by show BitVec.ofNat 32 (fl a s t (n + 1)) = _; rw [h3])
      rw [if_pos e']
      exact (cast_at' _ k d).trans (read_2 m hH _ c ⟨n + 1, h⟩ k d)
    · have e' : flagAt m (grid0.coords ⟨n + 1, h⟩) = 1#32 := e.trans (by show BitVec.ofNat 32 (fl a s t (n + 1)) = _; rw [h1])
      rw [if_neg (by rw [e']; decide), ih]
      obtain ⟨-, h2, h3⟩ := fl_one hH.tiling h1
      have e1 : own m hH n = own m hH (n + 1) := Fin.ext h2
      have e2 : inCol m hH n d = inCol m hH (n + 1) d := Fin.ext (by show 512 * co a s t n + d.val = 512 * co a s t (n + 1) + d.val; rw [h3])
      rw [e1, e2]

/-! ### The result -/

/-- The token row and the column of an entry of point `n`'s block of the result. -/
def outRow (n : Fin grid0.N) (r : Fin 512) : Fin 81920 := ⟨512 * oR a s t n.val + r.val, by have := oR_lt hH.tiling n.isLt; omega⟩
def outCol (n : Fin grid0.N) (d : Fin 512) : Fin 2048 := ⟨512 * oC a s t n.val + d.val, by have := oC_lt hH.tiling n.val; omega⟩

theorem out_at (c : Dev nD) (n : Fin (cfgT m (good m hH).ok).N) (r : Fin 512) (d : Fin 512) : outAt m (good m hH) c n (ix2 r d)
    = routed s t (m ((c : Thread nD τ).loc main_arg3)) (m ((c : Thread nD τ).loc main_arg4)) (m ((c : Thread nD τ).loc main_arg5))
        (m ((c : Thread nD τ).loc main_arg6)) (m ((c : Thread nD τ).loc main_arg7))
        (outRow m hH n r) (outCol m hH n d) := by
  have e := flag_at m hH n
  unfold outAt left routed
  by_cases hn : n.val < 4 * t 31
  · have e4 : flagAt m (grid0.coords n) ≠ 4#32 := by
      rw [e]
      rcases fl_cases hH.tiling n.val with h4 | h3 | h1
      · exact absurd h4 ((fl_work hH.tiling).2 hn)
      · rw [h3]; decide
      · rw [h1]; decide
    have hr : outRow m hH n r = inRow m hH n.val r := Fin.ext (by
      show 512 * oR a s t n.val + r.val = 512 * ti a s t n.val + r.val; unfold oR; rw [if_pos hn])
    have hc : outCol m hH n d = inCol m hH n.val d := Fin.ext (by
      show 512 * oC a s t n.val + d.val = 512 * co a s t n.val + d.val; unfold oC; rw [if_pos hn])
    rw [if_neg e4, hr, hc]
    refine ((product_at _ _ _ _ _ r d).trans ?_).trans (own_row hH.tiling _ n.val r.val r.isLt).symm
    unfold expertRow
    exact congrArg₂ act
      (congr (congrArg _ (Finset.sum_congr rfl fun k _ => congr (congrArg _ (read_0 m hH _ c n r k)) (scr_at m hH c k d n.val n.isLt hn)))
        (read_3 m hH _ c n d))
      (congr (congrArg _ (Finset.sum_congr rfl fun k _ => congr (congrArg _ (read_0 m hH _ c n r k)) (scr_at' m hH c k d n.val n.isLt hn)))
        (read_4 m hH _ c n d))
  · have e4 : flagAt m (grid0.coords n) = 4#32 := by
      rw [e]
      have : fl a s t n.val = 4 := by unfold fl; rw [if_neg hn]
      rw [this]
    rw [if_pos e4, zeros_at]
    refine (spare_row hH.tiling _ _ ?_).symm
    show 512 * t 31 ≤ 512 * oR a s t n.val + r.val
    unfold oR
    rw [if_neg hn]
    omega

theorem flush_of (A : (pcfg0 (F := Ideal)).Adm) (n : Fin (cfg0 A).N)
    (h : ∀ hn : n.val + 1 < grid0.N, cc0_transform_5 k0_off1_inb numel1_S1 A.1 (grid0.coords ⟨n.val + 1, hn⟩)
      ≠ cc0_transform_5 k0_off1_inb numel1_S1 A.1 (grid0.coords n)) : ((cfg0 A).win 5).flush n = true := by
  show (true && (decide (n.val + 1 = grid0.N) || decide (∃ hn : n.val + 1 < grid0.N,
    cc0_transform_5 k0_off1_inb numel1_S1 A.1 (grid0.coords ⟨n.val + 1, hn⟩) ≠ cc0_transform_5 k0_off1_inb numel1_S1 A.1 (grid0.coords n)))) = true
  have hN : n.val < grid0.N := n.isLt
  by_cases he : n.val + 1 = grid0.N
  · simp [he]
  · have hn : n.val + 1 < grid0.N := by omega
    rw [decide_eq_true (⟨hn, h hn⟩ : ∃ hn : n.val + 1 < grid0.N, _), Bool.or_true]
    rfl

theorem emb_of (A : (pcfg0 (F := Ideal)).Adm) (n : Fin (cfg0 A).N) (y : S512x512.Idx) (R : Fin 81920) (C : Fin 2048) (p q : ℕ)
    (e : cc0_transform_5 k0_off1_inb numel1_S1 A.1 (grid0.coords n) = ![p, q]) (hR : R.val = 512 * p + (y 0).val) (hC : C.val = 512 * q + (y 1).val) :
    (((cfg0 A).win 5).blk n).view.emb y = ix2 R C := by
  funext b
  apply Fin.ext
  match b with
  | ⟨0, _⟩ =>
    show cc0_transform_5 k0_off1_inb numel1_S1 A.1 (grid0.coords n) 0 * 512 + 1 * (y 0).val = R.val
    rw [e, hR]; show p * 512 + 1 * (y 0).val = _; omega
  | ⟨1, _⟩ =>
    show cc0_transform_5 k0_off1_inb numel1_S1 A.1 (grid0.coords n) 1 * 512 + 1 * (y 1).val = C.val
    rw [e, hC]; show q * 512 + 1 * (y 1).val = _; omega

theorem mem_of (A : (pcfg0 (F := Ideal)).Adm) (n : Fin (cfg0 A).N) (y : S81920x2048.Idx) (p q : ℕ)
    (e : cc0_transform_5 k0_off1_inb numel1_S1 A.1 (grid0.coords n) = ![p, q]) (hp : (y 0).val / 512 = p) (hq : (y 1).val / 512 = q) :
    y ∈ (((cfg0 A).win 5).blk n).view.set := by
  have h0 := Nat.div_add_mod (y 0).val 512
  have h1 := Nat.div_add_mod (y 1).val 512
  have h := emb_of A n (ix2 ⟨(y 0).val % 512, Nat.mod_lt _ (by decide)⟩ ⟨(y 1).val % 512, Nat.mod_lt _ (by decide)⟩ : S512x512.Idx) (y 0) (y 1) p q e
    (by show (y 0).val = 512 * p + (y 0).val % 512; omega) (by show (y 1).val = 512 * q + (y 1).val % 512; omega)
  exact (h.trans (eq_ix2 y).symm) ▸ View.emb_mem_set _ _

include hH in
theorem index_at (n : Fin grid0.N) : cc0_transform_5 k0_off1_inb numel1_S1 (tables m) (grid0.coords n) = ![oR a s t n.val, oC a s t n.val] := by
  have e := index_5 m hH (grid0.coords n)
  rwa [pos_coords] at e

include hH in
/-- A point's block of the result is written back at once: the next point has another. -/
theorem flushed (n : Fin (cfgT m (good m hH).ok).N) : ((cfgT m (good m hH).ok).win 5).flush n = true := by
  refine flush_of (adm m (good m hH).ok) n fun hn hc => ?_
  have hN : grid0.N = 640 := N_0
  have e := ((index_at m hH ⟨n.val + 1, hn⟩).symm.trans hc).trans (index_at m hH n)
  have h0 : oR a s t (n.val + 1) = oR a s t n.val := congrFun e 0
  have h1 : oC a s t (n.val + 1) = oC a s t n.val := congrFun e 1
  have := written_once hH.tiling (by omega) (by omega) h0 h1
  omega

theorem array_5 (c : Dev nD) : (dats m (good m hH) 0 c).arrAt 5 (cfgT m (good m hH).ok).N
    = routedArray s t (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m (good m hH) 0 c).arrAt_eq_of_emb 5 _ (fun n _ (y : S512x512.Idx) => ?_) (fun (y : S81920x2048.Idx) => ?_)
  · have place : (((cfgT m (good m hH).ok).win 5).blk n).view.emb y = ix2 (outRow m hH n (y 0)) (outCol m hH n (y 1)) :=
      emb_of (adm m (good m hH).ok) n y _ _ _ _ (index_at m hH n) rfl rfl
    rw [place, after_5]
    exact (congrArg _ (eq_ix2 y)).trans (out_at m hH c n (y 0) (y 1))
  · have h0 : (y 0).val < 81920 := (y 0).isLt
    have h1 : (y 1).val < 2048 := (y 1).isLt
    obtain ⟨n, hn, hR, hC⟩ := written hH.tiling (R := (y 0).val / 512) (C := (y 1).val / 512) (by omega) (by omega)
    exact ⟨⟨n, hn⟩, flushed m hH _, mem_of (adm m (good m hH).ok) ⟨n, hn⟩ y _ _ (index_at m hH ⟨n, hn⟩) hR.symm hC.symm⟩

end Cert.MoeUp2Ideal.Tiles

end
-- ==== Proof.Moe.Up2Value.lean ====
/-
  The claims of the gate and up products: it runs on every tiling of the rows, its reference runs, and the two end with the same result.
  A row's sum over the experts has one term, so nothing need be finite.
-/
module

public import proofs.«01_k».proof.Defs
public import proofs.«01_k».proof.Proof.Moe.Pre
public import proofs.«01_k».proof.Proof.Moe.Up2Ref
public import proofs.«01_k».proof.Proof.Moe.MoeUp2.Good
public import proofs.«01_k».proof.Proof.Moe.MoeUp2.Frame
public import proofs.«01_k».proof.Proof.Moe.MoeUp2Ideal.Frame
public import proofs.«01_k».proof.Proof.Moe.MoeUp2Ideal.Value
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.Moeup2

open Cert.Layer Cert.Layer.Schedule

theorem expert_at (x : FVec Ideal Cert.MoeUp2RefIdeal.S81920x4096 .bf16) (w : FVec Ideal Cert.MoeUp2RefIdeal.S2x32x4096x2048 .f32)
    (b : FVec Ideal Cert.MoeUp2RefIdeal.S2x32x2048 .f32) (r : Fin 81920) (d : Fin 2048) (e : Fin 32) :
    Cert.MoeUp2RefIdeal.Value.everyExpert x w b (ix3 e r d) = Cert.MoeUp2Ideal.Tiles.expertRow x w b r d e := by
  rw [Cert.MoeUp2RefIdeal.Value.everyExpert_at]
  unfold Cert.MoeUp2Ideal.Tiles.expertRow
  exact congrArg (· + _) (Finset.sum_congr rfl fun k _ => mul_comm _ _)

theorem routed_at {te ts tn : IVec Cert.MoeUp2RefIdeal.S32 32} {a s t : ℕ → ℕ} (h : Holds te ts tn a s t)
    (x : FVec Ideal Cert.MoeUp2RefIdeal.S81920x4096 .bf16) (wg wu : FVec Ideal Cert.MoeUp2RefIdeal.S2x32x4096x2048 .f32)
    (bg bu : FVec Ideal Cert.MoeUp2RefIdeal.S2x32x2048 .f32) (r : Fin 81920) (d : Fin 2048) :
    Cert.MoeUp2RefIdeal.Value.result ts tn x wg wu bg bu (ix2 r d) = Cert.MoeUp2Ideal.Tiles.routed s t x wg wu bg bu r d := by
  rw [Cert.MoeUp2RefIdeal.Value.result_at]
  unfold Cert.MoeUp2Ideal.Tiles.routed
  rw [Cert.MoeUpRefIdeal.Value.summed_at]
  refine Finset.sum_congr rfl fun e _ => ?_
  rw [Cert.MoeUpRefIdeal.Value.chosen_at]
  refine if_congr (Cert.MoeUpRefIdeal.Value.owned_at h e _) ?_ rfl
  rw [Cert.MoeUpRefIdeal.Value.activated_at, expert_at, expert_at]
  rfl

/-- The reference's result as a function of its arrays is the kernel's. -/
theorem routed_eq {te ts tn : IVec Cert.MoeUp2RefIdeal.S32 32} {a s t : ℕ → ℕ} (h : Holds te ts tn a s t)
    (x : FVec Ideal Cert.MoeUp2RefIdeal.S81920x4096 .bf16) (wg wu : FVec Ideal Cert.MoeUp2RefIdeal.S2x32x4096x2048 .f32)
    (bg bu : FVec Ideal Cert.MoeUp2RefIdeal.S2x32x2048 .f32) :
    Cert.MoeUp2RefIdeal.Value.result ts tn x wg wu bg bu = Cert.MoeUp2Ideal.Tiles.routedArray s t x wg wu bg bu :=
  funext fun y => by rw [eq_ix2 y]; exact routed_at h x wg wu bg bu _ _

theorem bits_holds (m : (ℓ : Loc Cert.MoeUp2.nD Cert.MoeUp2.τ Cert.MoeUp2.sig) → Buf (Elt Bits) ℓ) (h : Cert.Pre_MoeUp2 m) :
    Holds (Cert.MoeUp2.Tiles.counts m) (Cert.MoeUp2.Tiles.starts m) (Cert.MoeUp2.Tiles.ends m)
      (nat (Cert.MoeUp2.Tiles.counts m)) (nat (Cert.MoeUp2.Tiles.starts m)) (nat (Cert.MoeUp2.Tiles.ends m)) :=
  up_holds (F := Bits) _ _ _ _ _ _ _ _ (h 0)

theorem ideal_holds (m : (ℓ : Loc Cert.MoeUp2Ideal.nD Cert.MoeUp2Ideal.τ Cert.MoeUp2Ideal.sig) → Buf (Elt Ideal) ℓ) (h : Cert.Pre_MoeUp2Ideal m) :
    Holds (Cert.MoeUp2Ideal.Tiles.counts m) (Cert.MoeUp2Ideal.Tiles.starts m) (Cert.MoeUp2Ideal.Tiles.ends m)
      (nat (Cert.MoeUp2Ideal.Tiles.counts m)) (nat (Cert.MoeUp2Ideal.Tiles.starts m)) (nat (Cert.MoeUp2Ideal.Tiles.ends m)) :=
  up_holds (F := Ideal) _ _ _ _ _ _ _ _ (h 0)

theorem kernel_frame : Cert.quiescent_MoeUp2 := fun m g h =>
  Cert.MoeUp2.Tiles.frame_holds m g (Cert.MoeUp2.Tiles.good m (bits_holds m h))

theorem ideal_frame : Cert.quiescent_MoeUp2Ideal := fun m g h =>
  Cert.MoeUp2Ideal.Tiles.frame_holds m g (Cert.MoeUp2Ideal.Tiles.good m (ideal_holds m h))

/-- The reference runs, keeps its arguments and leaves every counter at zero. -/
theorem reference_frame : Cert.quiescent_MoeUp2RefIdeal := fun m g _ =>
  (θ_run _ _ _).mono (fun r h => ⟨fun c => (h c).2, sem_eq_zero_of_no_sems (by decide) _⟩)
    (Cert.MoeUp2RefIdeal.Value.stages (F := Ideal) m g)

/-- The kernel's run ends with its result the routed array of its arguments. -/
theorem kernel_value (m : (ℓ : Loc Cert.MoeUp2Ideal.nD Cert.MoeUp2Ideal.τ Cert.MoeUp2Ideal.sig) → Buf (Elt Ideal) ℓ)
    {a s t : ℕ → ℕ} (hH : Holds (Cert.MoeUp2Ideal.Tiles.counts m) (Cert.MoeUp2Ideal.Tiles.starts m) (Cert.MoeUp2Ideal.Tiles.ends m) a s t)
    (r) (h : Cert.MoeUp2Ideal.Tiles.Post m (Cert.MoeUp2Ideal.Tiles.good m hH) r) (c : Dev Cert.MoeUp2Ideal.nD) :
    r.2.mem ((c.tc : Thread Cert.MoeUp2Ideal.nD Cert.MoeUp2Ideal.τ).loc Cert.MoeUp2Ideal.main_v70)
      = Cert.MoeUp2Ideal.Tiles.routedArray s t (m ((c.tc : Thread Cert.MoeUp2Ideal.nD Cert.MoeUp2Ideal.τ).loc Cert.MoeUp2Ideal.main_arg3))
          (m ((c.tc : Thread Cert.MoeUp2Ideal.nD Cert.MoeUp2Ideal.τ).loc Cert.MoeUp2Ideal.main_arg4))
          (m ((c.tc : Thread Cert.MoeUp2Ideal.nD Cert.MoeUp2Ideal.τ).loc Cert.MoeUp2Ideal.main_arg5))
          (m ((c.tc : Thread Cert.MoeUp2Ideal.nD Cert.MoeUp2Ideal.τ).loc Cert.MoeUp2Ideal.main_arg6))
          (m ((c.tc : Thread Cert.MoeUp2Ideal.nD Cert.MoeUp2Ideal.τ).loc Cert.MoeUp2Ideal.main_arg7)) :=
  (h.out_eq c 5).trans (Cert.MoeUp2Ideal.Tiles.array_5 m hH c)

/-- The kernel and its reference end with the same result. -/
theorem same_result : Cert.algebraic_MoeUp2Ideal_MoeUp2RefIdeal := by
  intro m g m' g' hpre hargs
  have hH := ideal_holds m hpre
  refine ⟨fun c => Cert.MoeUp2Ideal.Tiles.routedArray (nat (Cert.MoeUp2Ideal.Tiles.starts m)) (nat (Cert.MoeUp2Ideal.Tiles.ends m))
      (m ((c.tc : Thread Cert.MoeUp2Ideal.nD Cert.MoeUp2Ideal.τ).loc Cert.MoeUp2Ideal.main_arg3))
      (m ((c.tc : Thread Cert.MoeUp2Ideal.nD Cert.MoeUp2Ideal.τ).loc Cert.MoeUp2Ideal.main_arg4))
      (m ((c.tc : Thread Cert.MoeUp2Ideal.nD Cert.MoeUp2Ideal.τ).loc Cert.MoeUp2Ideal.main_arg5))
          (m ((c.tc : Thread Cert.MoeUp2Ideal.nD Cert.MoeUp2Ideal.τ).loc Cert.MoeUp2Ideal.main_arg6))
          (m ((c.tc : Thread Cert.MoeUp2Ideal.nD Cert.MoeUp2Ideal.τ).loc Cert.MoeUp2Ideal.main_arg7)),
    (θ_run _ _ _).mono (fun r h c => ⟨kernel_value m hH r h.1 c, Cert.MoeUp2Ideal.Tiles.end_0 m _ r h.1 c, Cert.MoeUp2Ideal.Tiles.end_1 m _ r h.1 c,
      Cert.MoeUp2Ideal.Tiles.end_2 m _ r h.1 c, Cert.MoeUp2Ideal.Tiles.end_3 m _ r h.1 c, Cert.MoeUp2Ideal.Tiles.end_4 m _ r h.1 c,
      Cert.MoeUp2Ideal.Tiles.end_5 m _ r h.1 c, Cert.MoeUp2Ideal.Tiles.end_6 m _ r h.1 c, Cert.MoeUp2Ideal.Tiles.end_7 m _ r h.1 c⟩) (Cert.MoeUp2Ideal.Tiles.program_runs m g (Cert.MoeUp2Ideal.Tiles.good m hH)),
    (θ_run _ _ _).mono (fun r h c => ?_) (Cert.MoeUp2RefIdeal.Value.stages (F := Ideal) m' g')⟩
  obtain ⟨h0, hk⟩ := h c
  obtain ⟨a0, a1, a2, a3, a4, a5, a6, a7⟩ := hargs c
  refine ⟨h0.trans ?_, hk⟩
  obtain rfl : c = 0 := Subsingleton.elim _ _
  rw [a1, a2, a3, a4, a5, a6, a7]
  exact routed_eq hH _ _ _ _ _

end Cert.Moeup2

end
-- ==== Proof.lean ====
/-
  The proof of `Cert.Claim`: each kernel runs and leaves its arguments and semaphores as they were, its idealization and
  its reference too, and the two end with the same results (the attention's on finite gains).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.InProjRefIdeal
public import proofs.«01_k».proof.Proof.Gen.InProjRefIdeal.Run
public import proofs.«01_k».proof.Proof.Gen.OutProjRefIdeal
public import proofs.«01_k».proof.Proof.Gen.OutProjRefIdeal.Run
public import proofs.«01_k».proof.Proof.Gen.OutProjIdeal.Value
public import proofs.«01_k».proof.Proof.Gqa.Value
public import proofs.«01_k».proof.Proof.Inproj.Value
public import proofs.«01_k».proof.Proof.Inproj2.Value
public import proofs.«01_k».proof.Proof.Outproj.Value
public import proofs.«01_k».proof.Proof.Outproj2.Value
public import Idealize.ShloMosaic.Lib.Quiescent
public import Idealize.ShloMosaic.Adequacy
public import Idealize.ShloMosaic.Init
public import proofs.«01_k».proof.Proof.Moe.DownValue
public import proofs.«01_k».proof.Proof.Moe.UpValue
public import proofs.«01_k».proof.Proof.Moe.Up2Value
public import proofs.«01_k».proof.Proof.Gen.MoeDown
public import proofs.«01_k».proof.Proof.Gen.MoeUp
public import proofs.«01_k».proof.Proof.Gen.MoeUpIdeal
public import proofs.«01_k».proof.Proof.Gen.MoeUpRefIdeal
public import proofs.«01_k».proof.Proof.Gen.Pre_up_tiles
public import proofs.«01_k».proof.Proof.Gen.MoeUp.Skeleton
public import proofs.«01_k».proof.Proof.Gen.MoeUp.Launch
public import proofs.«01_k».proof.Proof.Gen.MoeUpIdeal.Skeleton
public import proofs.«01_k».proof.Proof.Gen.MoeUpIdeal.Launch
public import proofs.«01_k».proof.Proof.Gen.MoeUpRefIdeal.Run
public import proofs.«01_k».proof.Proof.Gen.MoeDown.Skeleton
public import proofs.«01_k».proof.Proof.Gen.MoeDown.Launch
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeDownRefIdeal
public import proofs.«01_k».proof.Proof.Gen.MoeDownRefIdeal.Run
public import proofs.«01_k».proof.Proof.Gen.Pre_down_tiles
public import proofs.«01_k».proof.Proof.Gen.InProj2
public import proofs.«01_k».proof.Proof.Gen.InProj2.Skeleton
public import proofs.«01_k».proof.Proof.Gen.InProj2.Launch
public import proofs.«01_k».proof.Proof.Gen.InProj2.Points
public import proofs.«01_k».proof.Proof.Gen.InProj2.Frame
public import proofs.«01_k».proof.Proof.Gen.InProj2Ideal
public import proofs.«01_k».proof.Proof.Gen.InProj2Ideal.Skeleton
public import proofs.«01_k».proof.Proof.Gen.InProj2Ideal.Launch
public import proofs.«01_k».proof.Proof.Gen.InProj2Ideal.Points
public import proofs.«01_k».proof.Proof.Gen.InProj2Ideal.Frame
public import proofs.«01_k».proof.Proof.Gen.InProj2RefIdeal
public import proofs.«01_k».proof.Proof.Gen.InProj2RefIdeal.Run
public import proofs.«01_k».proof.Proof.Gen.OutProj2
public import proofs.«01_k».proof.Proof.Gen.OutProj2.Skeleton
public import proofs.«01_k».proof.Proof.Gen.OutProj2.Launch
public import proofs.«01_k».proof.Proof.Gen.OutProj2.Points
public import proofs.«01_k».proof.Proof.Gen.OutProj2.Frame
public import proofs.«01_k».proof.Proof.Gen.OutProj2Ideal
public import proofs.«01_k».proof.Proof.Gen.OutProj2Ideal.Skeleton
public import proofs.«01_k».proof.Proof.Gen.OutProj2Ideal.Launch
public import proofs.«01_k».proof.Proof.Gen.OutProj2Ideal.Points
public import proofs.«01_k».proof.Proof.Gen.OutProj2Ideal.Frame
public import proofs.«01_k».proof.Proof.Gen.OutProj2RefIdeal
public import proofs.«01_k».proof.Proof.Gen.OutProj2RefIdeal.Run
public import proofs.«01_k».proof.Proof.Gen.OutProj2Ideal.Value
public import proofs.«01_k».proof.Proof.Gen.MoeUp2
public import proofs.«01_k».proof.Proof.Gen.MoeUp2Ideal
public import proofs.«01_k».proof.Proof.Gen.MoeUp2RefIdeal
public import proofs.«01_k».proof.Proof.Gen.MoeUp2.Skeleton
public import proofs.«01_k».proof.Proof.Gen.MoeUp2.Launch
public import proofs.«01_k».proof.Proof.Gen.MoeUp2Ideal.Skeleton
public import proofs.«01_k».proof.Proof.Gen.MoeUp2Ideal.Launch
public import proofs.«01_k».proof.Proof.Gen.MoeUp2RefIdeal.Run

@[expose] public section

noncomputable section

namespace Cert.Proof

open Idealize.ShloMosaic Idealize.ShloMosaic.TcCoe Idealize.SL.Sem

/-- The attention kernel and its reference end with the same results. -/
theorem attention [Cert.Pre_finite_gains.Facts] : Cert.algebraic_KernelIdeal_ReferenceIdeal_pre_finite_gains := by
  intro m g m' g' hpre hargs
  refine ⟨_, _, Cert.KernelIdeal.Value.run_blocks (F := Ideal) m g,
    (θ_run _ _ _).mono (fun r h c => ?_) (Cert.ReferenceIdeal.Value.run (F := Ideal) m' g')⟩
  obtain ⟨h0, h1, hk⟩ := h c
  obtain ⟨a0, a1, a2⟩ := hargs c
  refine ⟨h0.trans ?_, h1.trans ?_, hk⟩
  · rw [Cert.ReferenceIdeal.Value.stages, Cert.KernelIdeal.Value.array_5, a0, a1, a2]
    exact (Cert.Attention.attention_eq _ _ _ (fun k => (Cert.Attention.gains_real _ _ _ (hpre c) k).1)
      (fun k => (Cert.Attention.gains_real _ _ _ (hpre c) k).2)).symm
  · rw [Cert.KernelIdeal.Value.array_6, a0, a2]
    exact (Cert.Attention.keys_eq _ _).symm

/-- The input projection and its reference end with the same results. -/
theorem inproj [Cert.InProjIdeal.Facts] [Cert.InProjRefIdeal.Facts] : Cert.algebraic_InProjIdeal_InProjRefIdeal := by
  intro m g m' g' _ hargs
  refine ⟨_, _, _, Cert.InProjIdeal.Value.run_results m g,
    (θ_run _ _ _).mono (fun r h c => ?_) (Cert.InProjRefIdeal.Value.stages (F := Ideal) m' g')⟩
  obtain ⟨h0, h1, h2, hk⟩ := h c
  obtain ⟨a0, a1, a2, a3⟩ := hargs c
  refine ⟨h0.trans ?_, h1.trans ?_, h2.trans ?_, hk⟩
  · rw [a0, a1, a2, a3]
    exact Cert.Inproj.result_eq _ _ _ _
  · rw [a0, a1, a2, a3]
    exact Cert.Inproj.values_eq _ _ _ _
  · rw [a0, a1, a2, a3]
    exact Cert.Inproj.ropes_eq _ _ _ _

/-- The output projection and its reference end with the same result. -/
theorem outproj [Cert.OutProjIdeal.Facts] [Cert.OutProjRefIdeal.Facts] : Cert.algebraic_OutProjIdeal_OutProjRefIdeal := by
  intro m g m' g' _ hargs
  refine ⟨_, Cert.OutProjIdeal.Value.run_blocks (F := Ideal) m g,
    (θ_run _ _ _).mono (fun r h c => ?_) (Cert.OutProjRefIdeal.Value.stages (F := Ideal) m' g')⟩
  obtain ⟨h0, hk⟩ := h c
  obtain ⟨a0, a1, a2, a3, a4, a5, a6⟩ := hargs c
  refine ⟨h0.trans ?_, hk⟩
  rw [Cert.OutProjIdeal.Value.array_7, a0, a1, a2, a3, a4, a5, a6]
  exact Cert.Outproj.projected_eq _ _ _ _ _ _ _

/-- The second layer's input projection and its reference end with the same results. -/
theorem inproj2 [Cert.InProj2Ideal.Facts] [Cert.InProj2RefIdeal.Facts] : Cert.algebraic_InProj2Ideal_InProj2RefIdeal := by
  intro m g m' g' _ hargs
  refine ⟨_, _, _, Cert.InProj2Ideal.Value.run_results m g,
    (θ_run _ _ _).mono (fun r h c => ?_) (Cert.InProj2RefIdeal.Value.stages (F := Ideal) m' g')⟩
  obtain ⟨h0, h1, h2, hk⟩ := h c
  obtain ⟨a0, a1, a2, a3⟩ := hargs c
  refine ⟨h0.trans ?_, h1.trans ?_, h2.trans ?_, hk⟩
  · rw [a0, a1, a2, a3]
    exact Cert.Inproj2.result_eq _ _ _ _
  · rw [a0, a1, a2, a3]
    exact Cert.Inproj2.values_eq _ _ _ _
  · rw [a0, a1, a2, a3]
    exact Cert.Inproj2.ropes_eq _ _ _ _

/-- The second layer's output projection and its reference end with the same result. -/
theorem outproj2 [Cert.OutProj2Ideal.Facts] [Cert.OutProj2RefIdeal.Facts] : Cert.algebraic_OutProj2Ideal_OutProj2RefIdeal := by
  intro m g m' g' _ hargs
  refine ⟨_, Cert.OutProj2Ideal.Value.run_blocks (F := Ideal) m g,
    (θ_run _ _ _).mono (fun r h c => ?_) (Cert.OutProj2RefIdeal.Value.stages (F := Ideal) m' g')⟩
  obtain ⟨h0, hk⟩ := h c
  obtain ⟨a0, a1, a2, a3, a4, a5, a6⟩ := hargs c
  refine ⟨h0.trans ?_, hk⟩
  rw [Cert.OutProj2Ideal.Value.array_7, a0, a1, a2, a3, a4, a5, a6]
  exact Cert.Outproj2.projected_eq _ _ _ _ _ _ _

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.MoeDown.Gen.facts, Cert.MoeDownIdeal.Gen.facts, Cert.MoeDownRefIdeal.Gen.facts,
    Cert.MoeUp.Gen.facts, Cert.MoeUpIdeal.Gen.facts, Cert.MoeUpRefIdeal.Gen.facts,
    Cert.InProj2.Gen.facts, Cert.InProj2Ideal.Gen.facts, Cert.InProj2RefIdeal.Gen.facts,
    Cert.OutProj2.Gen.facts, Cert.OutProj2Ideal.Gen.facts, Cert.OutProj2RefIdeal.Gen.facts,
    Cert.MoeUp2.Gen.facts, Cert.MoeUp2Ideal.Gen.facts, Cert.MoeUp2RefIdeal.Gen.facts,
    Cert.Attention.finite_gains_facts, Cert.Pre_down_tiles.Gen.facts, Cert.Pre_up_tiles.Gen.facts,
    fun m g _ => Cert.Kernel.Gen.frame m g,
    fun m g _ => Cert.KernelIdeal.Gen.frame m g,
    fun m g _ => Cert.KernelIdeal.Gen.frame m g,
    fun m g _ => (θ_run _ _ _).mono (fun r h => ⟨fun c => (h c).2.2, sem_eq_zero_of_no_sems (by decide) _⟩) (Cert.ReferenceIdeal.Value.run (F := Ideal) m g),
    fun m g _ => (θ_run _ _ _).mono (fun r h => ⟨fun c => (h c).2.2, sem_eq_zero_of_no_sems (by decide) _⟩) (Cert.ReferenceIdeal.Value.run (F := Ideal) m g),
    fun m g _ => Cert.InProj.Gen.frame m g,
    fun m g _ => Cert.InProjIdeal.Gen.frame m g,
    fun m g _ => (θ_run _ _ _).mono (fun r h => ⟨fun c => (h c).2.2.2, sem_eq_zero_of_no_sems (by decide) _⟩) (Cert.InProjRefIdeal.Value.run (F := Ideal) m g),
    fun m g _ => Cert.OutProj.Gen.frame m g,
    fun m g _ => Cert.OutProjIdeal.Gen.frame m g,
    fun m g _ => (θ_run _ _ _).mono (fun r h => ⟨fun c => (h c).2, sem_eq_zero_of_no_sems (by decide) _⟩) (Cert.OutProjRefIdeal.Value.run (F := Ideal) m g),
    Cert.Moedown.kernel_frame,
    Cert.Moedown.ideal_frame,
    fun m g _ => Cert.Moedown.reference_frame m g trivial,
    fun m g _ => Cert.Moedown.reference_frame m g trivial,
    Cert.Moeup.kernel_frame,
    Cert.Moeup.ideal_frame,
    fun m g _ => Cert.Moeup.reference_frame m g trivial,
    fun m g _ => Cert.Moeup.reference_frame m g trivial,
    fun m g _ => Cert.InProj2.Gen.frame m g,
    fun m g _ => Cert.InProj2Ideal.Gen.frame m g,
    fun m g _ => (θ_run _ _ _).mono (fun r h => ⟨fun c => (h c).2.2.2, sem_eq_zero_of_no_sems (by decide) _⟩) (Cert.InProj2RefIdeal.Value.run (F := Ideal) m g),
    fun m g _ => Cert.OutProj2.Gen.frame m g,
    fun m g _ => Cert.OutProj2Ideal.Gen.frame m g,
    fun m g _ => (θ_run _ _ _).mono (fun r h => ⟨fun c => (h c).2, sem_eq_zero_of_no_sems (by decide) _⟩) (Cert.OutProj2RefIdeal.Value.run (F := Ideal) m g),
    Cert.Moeup2.kernel_frame,
    Cert.Moeup2.ideal_frame,
    fun m g _ => Cert.Moeup2.reference_frame m g trivial,
    fun m g _ => Cert.Moeup2.reference_frame m g trivial,
    trivial,
    @attention Cert.Attention.finite_gains_facts,
    trivial,
    inproj,
    trivial,
    outproj,
    trivial,
    Cert.Moedown.same_result,
    trivial,
    Cert.Moeup.same_result,
    trivial,
    inproj2,
    trivial,
    outproj2,
    trivial,
    Cert.Moeup2.same_result⟩

end Cert.Proof

end
